-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S160000 : Shape := ⟨1, ![160000]⟩
abbrev S160000x256 : Shape := ⟨2, ![160000, 256]⟩
abbrev S160000x3 : Shape := ⟨2, ![160000, 3]⟩
abbrev S1x256 : Shape := ⟨2, ![1, 256]⟩
abbrev S1 : Shape := ⟨1, ![1]⟩
abbrev S_ : Shape := ⟨0, ![]⟩

class Facts : Prop where
  bcast_S_S160000 : S_.BroadcastsInDim S160000 (![] : Fin 0 → Fin S160000.rank)
  reducesTo_S160000_S_d0 : S160000.ReducesTo [0] S_
  h_S_ : 0 < S_.numel
  bcast_S_S160000x256 : S_.BroadcastsInDim S160000x256 (![] : Fin 0 → Fin S160000x256.rank)
  reducesTo_S160000x256_S_d0_1 : S160000x256.ReducesTo [0, 1] S_
  bcast_S_S160000x3 : S_.BroadcastsInDim S160000x3 (![] : Fin 0 → Fin S160000x3.rank)
  reducesTo_S160000x3_S_d0_1 : S160000x3.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v15 : IVec S_ 1) (main_v16 : FVec F S1x256 .f32) : IVec S_ 1 :=
  let main_cst_5 : FVec F S_ .f32 := constant S_ .f32 0x7F800000#32
  let main_v17 : FVec F S1x256 .f32 := broadcastInDim S1x256 ![] bcast_S_S1x256 main_cst_5
  let main_v18 : IVec S1x256 1 := cmpf .olt main_v16 main_v17
  let main_c_6 : IVec S_ 1 := constantI S_ 1 1#1
  let main_v19 : IVec S_ 1 := (fun x v => Host.reduce IntOp.andi x v reducesTo_S1x256_S_d0_1 h_S_) main_v18 main_c_6
  let main_v20 : IVec S_ 1 := andi main_v15 main_v19
  let main_v21 : FVec F S1 .f32 := Host.absf main_arg4
  let main_cst_7 : FVec F S_ .f32 := constant S_ .f32 0x7F800000#32
  let main_v22 : FVec F S1 .f32 := broadcastInDim S1 ![] bcast_S_S1 main_cst_7
  let main_v23 : IVec S1 1 := cmpf .olt main_v21 main_v22
  let main_c_8 : IVec S_ 1 := constantI S_ 1 1#1
  let main_v24 : IVec S_ 1 := (fun x v => Host.reduce IntOp.andi x v reducesTo_S1_S_d0 h_S_) main_v23 main_c_8
  let main_v25 : IVec S_ 1 := andi main_v20 main_v24
  main_v25

def fn {F : FTy → Type} [FloatOps F] (main_arg0 : IVec S160000 32) (main_arg1 : FVec F S160000x256 .f32) (main_arg2 : FVec F S160000x3 .f32) (main_arg3 : FVec F S1x256 .f32) (main_arg4 : FVec F S1 .f32) : IVec S_ 1 :=
  let main_c : IVec S_ 32 := constantI S_ 32 0#32
  let main_v0 : IVec S160000 32 := broadcastInDim S160000 ![] bcast_S_S160000 main_c
  let main_v1 : IVec S160000 1 := cmpi .sge main_arg0 main_v0
  let main_c_0 : IVec S_ 32 := constantI S_ 32 1024#32
  let main_v2 : IVec S160000 32 := broadcastInDim S160000 ![] bcast_S_S160000 main_c_0
  let main_v3 : IVec S160000 1 := cmpi .slt main_arg0 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  let main_v6 : FVec F S160000x256 .f32 := Host.absf main_arg1
  let main_cst : FVec F S_ .f32 := constant S_ .f32 0x7F800000#32
  let main_v7 : FVec F S160000x256 .f32 := broadcastInDim S160000x256 ![] bcast_S_S160000x256 main_cst
  let main_v8 : IVec S160000x256 1 := cmpf .olt main_v6 main_v7
  let main_c_2 : IVec S_ 1 := constantI S_ 1 1#1
  let main_v9 : IVec S_ 1 := (fun x v => Host.reduce IntOp.andi x v reducesTo_S160000x256_S_d0_1 h_S_) main_v8 main_c_2
  let main_v10 : IVec S_ 1 := andi main_v5 main_v9
  let main_v11 : FVec F S160000x3 .f32 := Host.absf main_arg2
  let main_cst_3 : FVec F S_ .f32 := constant S_ .f32 0x7F800000#32
  let main_v12 : FVec F S160000x3 .f32 := broadcastInDim S160000x3 ![] bcast_S_S160000x3 main_cst_3
  let main_v13 : IVec S160000x3 1 := cmpf .olt main_v11 main_v12
  let main_c_4 : IVec S_ 1 := constantI S_ 1 1#1
  let main_v14 : IVec S_ 1 := (fun x v => Host.reduce IntOp.andi x v reducesTo_S160000x3_S_d0_1 h_S_) main_v13 main_c_4
  let main_v15 : IVec S_ 1 := andi main_v10 main_v14
  let main_v16 : FVec F S1x256 .f32 := Host.absf main_arg3
  fn_part1 (F := F) main_arg4 main_v15 main_v16
-- ==== Pre_in_range.lean ====
abbrev S160000 : Shape := ⟨1, ![160000]⟩
abbrev S160000x256 : Shape := ⟨2, ![160000, 256]⟩
abbrev S160000x3 : Shape := ⟨2, ![160000, 3]⟩
abbrev S1x256 : Shape := ⟨2, ![1, 256]⟩
abbrev S1 : Shape := ⟨1, ![1]⟩
abbrev S_ : Shape := ⟨0, ![]⟩

class Facts : Prop where
  bcast_S_S160000 : S_.BroadcastsInDim S160000 (![] : Fin 0 → Fin S160000.rank)
  reducesTo_S160000_S_d0 : S160000.ReducesTo [0] S_
  h_S_ : 0 < S_.numel

variable [Facts]

def fn {F : FTy → Type} [FloatOps F] (main_arg0 : IVec S160000 32) (main_arg1 : FVec F S160000x256 .f32) (main_arg2 : FVec F S160000x3 .f32) (main_arg3 : FVec F S1x256 .f32) (main_arg4 : FVec F S1 .f32) : IVec S_ 1 :=
  let main_c : IVec S_ 32 := constantI S_ 32 0#32
  let main_v0 : IVec S160000 32 := broadcastInDim S160000 ![] bcast_S_S160000 main_c
  let main_v1 : IVec S160000 1 := cmpi .sge main_arg0 main_v0
  let main_c_0 : IVec S_ 32 := constantI S_ 32 1024#32
  let main_v2 : IVec S160000 32 := broadcastInDim S160000 ![] bcast_S_S160000 main_c_0
  let main_v3 : IVec S160000 1 := cmpi .slt main_arg0 main_v2
  let main_v4 : IVec S160000 1 := andi main_v1 main_v3
  let main_c_1 : IVec S_ 1 := constantI S_ 1 1#1
  let main_v5 : IVec S_ 1 := (fun x v => Host.reduce IntOp.andi x v reducesTo_S160000_S_d0 h_S_) main_v4 main_c_1
  main_v5
-- ==== Kernel.lean ====
abbrev S160000 : Shape := ⟨1, ![160000]⟩
abbrev S160000x256 : Shape := ⟨2, ![160000, 256]⟩
abbrev S160000x3 : Shape := ⟨2, ![160000, 3]⟩
abbrev S1x256 : Shape := ⟨2, ![1, 256]⟩
abbrev S1 : Shape := ⟨1, ![1]⟩
abbrev S_ : Shape := ⟨0, ![]⟩
abbrev S768 : Shape := ⟨1, ![768]⟩
abbrev S160768 : Shape := ⟨1, ![160768]⟩
abbrev S3x160000 : Shape := ⟨2, ![3, 160000]⟩
abbrev S1x1 : Shape := ⟨2, ![1, 1]⟩
abbrev S98304 : Shape := ⟨1, ![98304]⟩
abbrev S8192x256 : Shape := ⟨2, ![8192, 256]⟩
abbrev S3x8192 : Shape := ⟨2, ![3, 8192]⟩
abbrev S8192 : Shape := ⟨1, ![8192]⟩
abbrev S1x8192 : Shape := ⟨2, ![1, 8192]⟩
abbrev S2x4096 : Shape := ⟨2, ![2, 4096]⟩
abbrev S3104 : Shape := ⟨1, ![3104]⟩
abbrev S3072 : Shape := ⟨1, ![3072]⟩
abbrev S128 : Shape := ⟨1, ![128]⟩
abbrev S4096 : Shape := ⟨1, ![4096]⟩
abbrev S16x256 : Shape := ⟨2, ![16, 256]⟩
abbrev S256 : Shape := ⟨1, ![256]⟩
abbrev S16x4096 : Shape := ⟨2, ![16, 4096]⟩
abbrev S16 : Shape := ⟨1, ![16]⟩
abbrev S15 : Shape := ⟨1, ![15]⟩
abbrev S2 : Shape := ⟨1, ![2]⟩
abbrev S14 : Shape := ⟨1, ![14]⟩
abbrev S4 : Shape := ⟨1, ![4]⟩
abbrev S12 : Shape := ⟨1, ![12]⟩
abbrev S8 : Shape := ⟨1, ![8]⟩
abbrev S1x4096 : Shape := ⟨2, ![1, 4096]⟩
abbrev S1x16 : Shape := ⟨2, ![1, 16]⟩
abbrev S62464 : Shape := ⟨1, ![62464]⟩
abbrev S1984 : Shape := ⟨1, ![1984]⟩
abbrev S1952 : Shape := ⟨1, ![1952]⟩
abbrev S1024x4 : Shape := ⟨2, ![1024, 4]⟩
abbrev S1024x1 : Shape := ⟨2, ![1024, 1]⟩
abbrev S1024 : Shape := ⟨1, ![1024]⟩
abbrev S1024x3 : Shape := ⟨2, ![1024, 3]⟩

abbrev nBuf : Table → Nat
  | .hbm => 40
  | .local .tc .vmem => 28
  | .shared => 2
  | .local .scVector .vmem => 18
  | _ => 0

abbrev bufTy : (tb : Table) → Fin (nBuf tb) → BufTy
  | .hbm, ⟨0, _⟩ => ⟨S160000, .i32⟩
  | .hbm, ⟨1, _⟩ => ⟨S160000x256, .f32⟩
  | .hbm, ⟨2, _⟩ => ⟨S160000x3, .f32⟩
  | .hbm, ⟨3, _⟩ => ⟨S1x256, .f32⟩
  | .hbm, ⟨4, _⟩ => ⟨S1, .f32⟩
  | .hbm, ⟨5, _⟩ => ⟨S_, .i32⟩
  | .hbm, ⟨6, _⟩ => ⟨S768, .i32⟩
  | .hbm, ⟨7, _⟩ => ⟨S160768, .i32⟩
  | .hbm, ⟨8, _⟩ => ⟨S3x160000, .f32⟩
  | .hbm, ⟨9, _⟩ => ⟨S1x1, .f32⟩
  | .hbm, ⟨10, _⟩ => ⟨S98304, .f32⟩
  | .hbm, ⟨11, _⟩ => ⟨S98304, .f32⟩
  | .hbm, ⟨12, _⟩ => ⟨S98304, .f32⟩
  | .hbm, ⟨13, _⟩ => ⟨S98304, .f32⟩
  | .hbm, ⟨14, _⟩ => ⟨S98304, .i32⟩
  | .hbm, ⟨15, _⟩ => ⟨S2x4096, .f32⟩
  | .hbm, ⟨16, _⟩ => ⟨S62464, .f32⟩
  | .hbm, ⟨17, _⟩ => ⟨S62464, .f32⟩
  | .hbm, ⟨18, _⟩ => ⟨S62464, .f32⟩
  | .hbm, ⟨19, _⟩ => ⟨S62464, .f32⟩
  | .hbm, ⟨20, _⟩ => ⟨S62464, .i32⟩
  | .hbm, ⟨21, _⟩ => ⟨S2x4096, .f32⟩
  | .hbm, ⟨22, _⟩ => ⟨S_, .f32⟩
  | .hbm, ⟨23, _⟩ => ⟨S4096, .f32⟩
  | .hbm, ⟨24, _⟩ => ⟨S1x4096, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S4096, .f32⟩
  | .hbm, ⟨32, _⟩ => ⟨S4096, .f32⟩
  | .hbm, ⟨33, _⟩ => ⟨S1x4096, .f32⟩
  | .hbm, ⟨34, _⟩ => ⟨S4096, .f32⟩
  | .hbm, ⟨35, _⟩ => ⟨S4096, .f32⟩
  | .hbm, ⟨36, _⟩ => ⟨S1024x4, .f32⟩
  | .hbm, ⟨37, _⟩ => ⟨S1024x1, .f32⟩
  | .hbm, ⟨38, _⟩ => ⟨S1024, .f32⟩
  | .hbm, ⟨39, _⟩ => ⟨S1024x3, .f32⟩
  | .local .tc .vmem, ⟨0, _⟩ => ⟨S8192x256, .f32⟩
  | .local .tc .vmem, ⟨1, _⟩ => ⟨S8192x256, .f32⟩
  | .local .tc .vmem, ⟨2, _⟩ => ⟨S3x8192, .f32⟩
  | .local .tc .vmem, ⟨3, _⟩ => ⟨S3x8192, .f32⟩
  | .local .tc .vmem, ⟨4, _⟩ => ⟨S1x256, .f32⟩
  | .local .tc .vmem, ⟨5, _⟩ => ⟨S1x1, .f32⟩
  | .local .tc .vmem, ⟨6, _⟩ => ⟨S8192, .f32⟩
  | .local .tc .vmem, ⟨7, _⟩ => ⟨S8192, .f32⟩
  | .local .tc .vmem, ⟨8, _⟩ => ⟨S8192, .f32⟩
  | .local .tc .vmem, ⟨9, _⟩ => ⟨S8192, .f32⟩
  | .local .tc .vmem, ⟨10, _⟩ => ⟨S8192, .f32⟩
  | .local .tc .vmem, ⟨11, _⟩ => ⟨S8192, .f32⟩
  | .local .tc .vmem, ⟨12, _⟩ => ⟨S8192, .f32⟩
  | .local .tc .vmem, ⟨13, _⟩ => ⟨S8192, .f32⟩
  | .local .tc .vmem, ⟨14, _⟩ => ⟨S8192x256, .f32⟩
  | .local .tc .vmem, ⟨15, _⟩ => ⟨S8192x256, .f32⟩
  | .local .tc .vmem, ⟨16, _⟩ => ⟨S3x8192, .f32⟩
  | .local .tc .vmem, ⟨17, _⟩ => ⟨S3x8192, .f32⟩
  | .local .tc .vmem, ⟨18, _⟩ => ⟨S1x256, .f32⟩
  | .local .tc .vmem, ⟨19, _⟩ => ⟨S1x1, .f32⟩
  | .local .tc .vmem, ⟨20, _⟩ => ⟨S8192, .f32⟩
  | .local .tc .vmem, ⟨21, _⟩ => ⟨S8192, .f32⟩
  | .local .tc .vmem, ⟨22, _⟩ => ⟨S8192, .f32⟩
  | .local .tc .vmem, ⟨23, _⟩ => ⟨S8192, .f32⟩
  | .local .tc .vmem, ⟨24, _⟩ => ⟨S8192, .f32⟩
  | .local .tc .vmem, ⟨25, _⟩ => ⟨S8192, .f32⟩
  | .local .tc .vmem, ⟨26, _⟩ => ⟨S8192, .f32⟩
  | .local .tc .vmem, ⟨27, _⟩ => ⟨S8192, .f32⟩
  | .shared, ⟨0, _⟩ => ⟨S16x4096, .f32⟩
  | .shared, ⟨1, _⟩ => ⟨S16x4096, .f32⟩
  | .local .scVector .vmem, ⟨0, _⟩ => ⟨S3104, .i32⟩
  | .local .scVector .vmem, ⟨1, _⟩ => ⟨S3072, .f32⟩
  | .local .scVector .vmem, ⟨2, _⟩ => ⟨S3072, .f32⟩
  | .local .scVector .vmem, ⟨3, _⟩ => ⟨S3072, .f32⟩
  | .local .scVector .vmem, ⟨4, _⟩ => ⟨S3072, .f32⟩
  | .local .scVector .vmem, ⟨5, _⟩ => ⟨S128, .f32⟩
  | .local .scVector .vmem, ⟨6, _⟩ => ⟨S4096, .f32⟩
  | .local .scVector .vmem, ⟨7, _⟩ => ⟨S16x256, .f32⟩
  | .local .scVector .vmem, ⟨8, _⟩ => ⟨S256, .f32⟩
  | .local .scVector .vmem, ⟨9, _⟩ => ⟨S1984, .i32⟩
  | .local .scVector .vmem, ⟨10, _⟩ => ⟨S1952, .f32⟩
  | .local .scVector .vmem, ⟨11, _⟩ => ⟨S1952, .f32⟩
  | .local .scVector .vmem, ⟨12, _⟩ => ⟨S1952, .f32⟩
  | .local .scVector .vmem, ⟨13, _⟩ => ⟨S1952, .f32⟩
  | .local .scVector .vmem, ⟨14, _⟩ => ⟨S128, .f32⟩
  | .local .scVector .vmem, ⟨15, _⟩ => ⟨S4096, .f32⟩
  | .local .scVector .vmem, ⟨16, _⟩ => ⟨S16x256, .f32⟩
  | .local .scVector .vmem, ⟨17, _⟩ => ⟨S256, .f32⟩
  | _, _ => ⟨S160000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | ⟨33, _⟩ => false
  | ⟨34, _⟩ => false
  | ⟨35, _⟩ => false
  | _ => false

abbrev sig : RefSig :=
  ofTables nBuf rfl bufTy 5 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v5_scv : Ref sig .scVector := ⟨.hbm, 14, rfl⟩
abbrev main_v4_0_scv : Ref sig .scVector := ⟨.hbm, 10, rfl⟩
abbrev main_v4_1_scv : Ref sig .scVector := ⟨.hbm, 11, rfl⟩
abbrev main_v4_2_scv : Ref sig .scVector := ⟨.hbm, 12, rfl⟩
abbrev main_v4_3_scv : Ref sig .scVector := ⟨.hbm, 13, rfl⟩
abbrev main_v6_scv : Ref sig .scVector := ⟨.hbm, 15, rfl⟩
abbrev main_v8_scv : Ref sig .scVector := ⟨.hbm, 20, rfl⟩
abbrev main_v7_0_scv : Ref sig .scVector := ⟨.hbm, 16, rfl⟩
abbrev main_v7_1_scv : Ref sig .scVector := ⟨.hbm, 17, rfl⟩
abbrev main_v7_2_scv : Ref sig .scVector := ⟨.hbm, 18, rfl⟩
abbrev main_v7_3_scv : Ref sig .scVector := ⟨.hbm, 19, rfl⟩
abbrev main_v9_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc1_scratch9 : Ref sig .scVector := ⟨.shared, 0, rfl⟩
abbrev cc3_scratch9 : Ref sig .scVector := ⟨.shared, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc3_scratch0 : Ref sig .scVector := ⟨.vmem, 9, rfl⟩
abbrev cc3_scratch1 : Ref sig .scVector := ⟨.vmem, 10, rfl⟩
abbrev cc3_scratch2 : Ref sig .scVector := ⟨.vmem, 11, rfl⟩
abbrev cc3_scratch3 : Ref sig .scVector := ⟨.vmem, 12, rfl⟩
abbrev cc3_scratch4 : Ref sig .scVector := ⟨.vmem, 13, rfl⟩
abbrev cc3_scratch5 : Ref sig .scVector := ⟨.vmem, 14, rfl⟩
abbrev cc3_scratch6 : Ref sig .scVector := ⟨.vmem, 15, rfl⟩
abbrev cc3_scratch7 : Ref sig .scVector := ⟨.vmem, 16, rfl⟩
abbrev cc3_scratch8 : Ref sig .scVector := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3072_i32 : BitVec 32 := 3072#32
  let v2 : BitVec 32 := Scalar.muli v1 c3072_i32
  ![v2.toNat]
@[reducible] def k1_t1_loop : Scf.Loop 32 :=
  let c0_i32_2 : BitVec 32 := 0#32
  let c32_i32 : BitVec 32 := 32#32
  let v16 : BitVec 32 := Scalar.addi c0_i32_2 c32_i32
  let c1_i32 : BitVec 32 := 1#32
  ⟨c0_i32_2, v16, c1_i32⟩
def k1_off2 (k1_t1 : Fin k1_t1_loop.trips) (c0_i32_16 : BitVec 32) : Fin 1 → Nat :=
  let c0_i32_2 : BitVec 32 := 0#32
  let c1_i32 : BitVec 32 := 1#32
  let arg19 : BitVec 32 := Scf.iv c0_i32_2 c1_i32 k1_t1
  let c8_i32 : BitVec 32 := 8#32
  let v36 : BitVec 32 := Scalar.muli arg19 c8_i32
  let c16_i32_15 : BitVec 32 := 16#32
  let v37 : BitVec 32 := Scalar.muli v36 c16_i32_15
  let v38 : BitVec 32 := Scalar.addi v37 c0_i32_16
  let v39 : Index := Scalar.indexCast v38
  ![v39.toNat]
@[reducible] def k1_t2_loop : Scf.Loop 32 :=
  let c0_i32_7 : BitVec 32 := 0#32
  let c96_i32 : BitVec 32 := 96#32
  let v31 : BitVec 32 := Scalar.addi c0_i32_7 c96_i32
  let c1_i32_8 : BitVec 32 := 1#32
  ⟨c0_i32_7, v31, c1_i32_8⟩
def k1_off3 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_16 : BitVec 32 := 16#32
  let v38 : BitVec 32 := Scalar.addi v37 c16_i32_16
  let v39 : Index := Scalar.indexCast v38
  ![v39.toNat]
def k1_off4 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_17 : BitVec 32 := 16#32
  let v41 : BitVec 32 := Scalar.addi v37 c16_i32_17
  let c1_i32_18 : BitVec 32 := 1#32
  let v42 : BitVec 32 := Scalar.subi v41 c1_i32_18
  let v43 : Index := Scalar.indexCast v42
  ![v43.toNat]
def k1_off5 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_19 : BitVec 32 := 16#32
  let v45 : BitVec 32 := Scalar.addi v37 c16_i32_19
  let c1_i32_20 : BitVec 32 := 1#32
  let v46 : BitVec 32 := Scalar.addi v45 c1_i32_20
  let v47 : Index := Scalar.indexCast v46
  ![v47.toNat]
def k1_off6 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let v66 : Index := Scalar.indexCast v37
  ![v66.toNat]

def k1_chk1 (v87 : IVec S16 32) : Prop :=
  (∀ a x, ((![v87] : Fin 1 → IVec S16 32) a x).toNat < S128.size a)
theorem k1_idx1_inb : ∀ (v87 : IVec S16 32) (k1_hw1 : k1_chk1 v87), ∀ a x, ((![v87] : Fin 1 → IVec S16 32) a x).toNat < S128.size a := fun v87 k1_hw1 => k1_hw1

def k1_chk2 (v90 : IVec S16 32) : Prop :=
  (∀ a x, ((![v90] : Fin 1 → IVec S16 32) a x).toNat < S4096.size a)
theorem k1_idx2_inb : ∀ (v90 : IVec S16 32) (k1_hw2 : k1_chk2 v90), ∀ a x, ((![v90] : Fin 1 → IVec S16 32) a x).toNat < S4096.size a := fun v90 k1_hw2 => k1_hw2
def k1_off7 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let v92 : Index := Scalar.indexCast v37
  ![v92.toNat]

def k1_chk3 (v113 : IVec S16 32) : Prop :=
  (∀ a x, ((![v113] : Fin 1 → IVec S16 32) a x).toNat < S128.size a)
theorem k1_idx3_inb : ∀ (v113 : IVec S16 32) (k1_hw3 : k1_chk3 v113), ∀ a x, ((![v113] : Fin 1 → IVec S16 32) a x).toNat < S128.size a := fun v113 k1_hw3 => k1_hw3

def k1_chk4 (v116 : IVec S16 32) : Prop :=
  (∀ a x, ((![v116] : Fin 1 → IVec S16 32) a x).toNat < S4096.size a)
theorem k1_idx4_inb : ∀ (v116 : IVec S16 32) (k1_hw4 : k1_chk4 v116), ∀ a x, ((![v116] : Fin 1 → IVec S16 32) a x).toNat < S4096.size a := fun v116 k1_hw4 => k1_hw4
def k1_off8 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let v118 : Index := Scalar.indexCast v37
  ![v118.toNat]

def k1_chk5 (v139 : IVec S16 32) : Prop :=
  (∀ a x, ((![v139] : Fin 1 → IVec S16 32) a x).toNat < S128.size a)
theorem k1_idx5_inb : ∀ (v139 : IVec S16 32) (k1_hw5 : k1_chk5 v139), ∀ a x, ((![v139] : Fin 1 → IVec S16 32) a x).toNat < S128.size a := fun v139 k1_hw5 => k1_hw5

def k1_chk6 (v142 : IVec S16 32) : Prop :=
  (∀ a x, ((![v142] : Fin 1 → IVec S16 32) a x).toNat < S4096.size a)
theorem k1_idx6_inb : ∀ (v142 : IVec S16 32) (k1_hw6 : k1_chk6 v142), ∀ a x, ((![v142] : Fin 1 → IVec S16 32) a x).toNat < S4096.size a := fun v142 k1_hw6 => k1_hw6
def k1_off9 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let v144 : Index := Scalar.indexCast v37
  ![v144.toNat]

def k1_chk7 (v165 : IVec S16 32) : Prop :=
  (∀ a x, ((![v165] : Fin 1 → IVec S16 32) a x).toNat < S128.size a)
theorem k1_idx7_inb : ∀ (v165 : IVec S16 32) (k1_hw7 : k1_chk7 v165), ∀ a x, ((![v165] : Fin 1 → IVec S16 32) a x).toNat < S128.size a := fun v165 k1_hw7 => k1_hw7

def k1_chk8 (v168 : IVec S16 32) : Prop :=
  (∀ a x, ((![v168] : Fin 1 → IVec S16 32) a x).toNat < S4096.size a)
theorem k1_idx8_inb : ∀ (v168 : IVec S16 32) (k1_hw8 : k1_chk8 v168), ∀ a x, ((![v168] : Fin 1 → IVec S16 32) a x).toNat < S4096.size a := fun v168 k1_hw8 => k1_hw8
def k1_off10 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let c16_i32_47 : BitVec 32 := 16#32
  let v171 : BitVec 32 := Scalar.addi v170 c16_i32_47
  let v172 : Index := Scalar.indexCast v171
  ![v172.toNat]
def k1_off11 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let c16_i32_48 : BitVec 32 := 16#32
  let v174 : BitVec 32 := Scalar.addi v170 c16_i32_48
  let c1_i32_49 : BitVec 32 := 1#32
  let v175 : BitVec 32 := Scalar.subi v174 c1_i32_49
  let v176 : Index := Scalar.indexCast v175
  ![v176.toNat]
def k1_off12 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let c16_i32_50 : BitVec 32 := 16#32
  let v178 : BitVec 32 := Scalar.addi v170 c16_i32_50
  let c1_i32_51 : BitVec 32 := 1#32
  let v179 : BitVec 32 := Scalar.addi v178 c1_i32_51
  let v180 : Index := Scalar.indexCast v179
  ![v180.toNat]
def k1_off13 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let v199 : Index := Scalar.indexCast v170
  ![v199.toNat]

def k1_chk9 (v220 : IVec S16 32) : Prop :=
  (∀ a x, ((![v220] : Fin 1 → IVec S16 32) a x).toNat < S128.size a)
theorem k1_idx9_inb : ∀ (v220 : IVec S16 32) (k1_hw9 : k1_chk9 v220), ∀ a x, ((![v220] : Fin 1 → IVec S16 32) a x).toNat < S128.size a := fun v220 k1_hw9 => k1_hw9

def k1_chk10 (v223 : IVec S16 32) : Prop :=
  (∀ a x, ((![v223] : Fin 1 → IVec S16 32) a x).toNat < S4096.size a)
theorem k1_idx10_inb : ∀ (v223 : IVec S16 32) (k1_hw10 : k1_chk10 v223), ∀ a x, ((![v223] : Fin 1 → IVec S16 32) a x).toNat < S4096.size a := fun v223 k1_hw10 => k1_hw10
def k1_off14 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let v225 : Index := Scalar.indexCast v170
  ![v225.toNat]

def k1_chk11 (v246 : IVec S16 32) : Prop :=
  (∀ a x, ((![v246] : Fin 1 → IVec S16 32) a x).toNat < S128.size a)
theorem k1_idx11_inb : ∀ (v246 : IVec S16 32) (k1_hw11 : k1_chk11 v246), ∀ a x, ((![v246] : Fin 1 → IVec S16 32) a x).toNat < S128.size a := fun v246 k1_hw11 => k1_hw11

def k1_chk12 (v249 : IVec S16 32) : Prop :=
  (∀ a x, ((![v249] : Fin 1 → IVec S16 32) a x).toNat < S4096.size a)
theorem k1_idx12_inb : ∀ (v249 : IVec S16 32) (k1_hw12 : k1_chk12 v249), ∀ a x, ((![v249] : Fin 1 → IVec S16 32) a x).toNat < S4096.size a := fun v249 k1_hw12 => k1_hw12
def k1_off15 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let v251 : Index := Scalar.indexCast v170
  ![v251.toNat]

def k1_chk13 (v272 : IVec S16 32) : Prop :=
  (∀ a x, ((![v272] : Fin 1 → IVec S16 32) a x).toNat < S128.size a)
theorem k1_idx13_inb : ∀ (v272 : IVec S16 32) (k1_hw13 : k1_chk13 v272), ∀ a x, ((![v272] : Fin 1 → IVec S16 32) a x).toNat < S128.size a := fun v272 k1_hw13 => k1_hw13

def k1_chk14 (v275 : IVec S16 32) : Prop :=
  (∀ a x, ((![v275] : Fin 1 → IVec S16 32) a x).toNat < S4096.size a)
theorem k1_idx14_inb : ∀ (v275 : IVec S16 32) (k1_hw14 : k1_chk14 v275), ∀ a x, ((![v275] : Fin 1 → IVec S16 32) a x).toNat < S4096.size a := fun v275 k1_hw14 => k1_hw14
def k1_off16 (k1_t2 : Fin k1_t2_loop.trips) : Fin 1 → Nat :=
  let c0_i32_7 : BitVec 32 := 0#32
  let c1_i32_8 : BitVec 32 := 1#32
  let arg19 : BitVec 32 := Scf.iv c0_i32_7 c1_i32_8 k1_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let v277 : Index := Scalar.indexCast v170
  ![v277.toNat]

def k1_chk15 (v298 : IVec S16 32) : Prop :=
  (∀ a x, ((![v298] : Fin 1 → IVec S16 32) a x).toNat < S128.size a)
theorem k1_idx15_inb : ∀ (v298 : IVec S16 32) (k1_hw15 : k1_chk15 v298), ∀ a x, ((![v298] : Fin 1 → IVec S16 32) a x).toNat < S128.size a := fun v298 k1_hw15 => k1_hw15

def k1_chk16 (v301 : IVec S16 32) : Prop :=
  (∀ a x, ((![v301] : Fin 1 → IVec S16 32) a x).toNat < S4096.size a)
theorem k1_idx16_inb : ∀ (v301 : IVec S16 32) (k1_hw16 : k1_chk16 v301), ∀ a x, ((![v301] : Fin 1 → IVec S16 32) a x).toNat < S4096.size a := fun v301 k1_hw16 => k1_hw16
def k1_off17 (i : grid1.Coords) : Fin 2 → Nat :=
  let arg1 : BitVec 32 := BitVec.ofNat 32 (i 1).val
  let c0_i32_15_r0 : BitVec 32 := 0#32
  ![arg1.toNat, 0]
def k1_off18 (i : grid1.Coords) : Fin 2 → Nat :=
  let c0_i32_15_r1 : BitVec 32 := 0#32
  let arg1 : BitVec 32 := BitVec.ofNat 32 (i 1).val
  let c256_i32 : BitVec 32 := 256#32
  let v33 : BitVec 32 := Scalar.muli arg1 c256_i32
  ![0, v33.toNat]
@[reducible] def k1_t3_loop : Scf.Loop 32 :=
  let c0_i32_11 : BitVec 32 := 0#32
  let c16_i32_12 : BitVec 32 := 16#32
  let v34 : BitVec 32 := Scalar.addi c0_i32_11 c16_i32_12
  let c1_i32_13 : BitVec 32 := 1#32
  ⟨c0_i32_11, v34, c1_i32_13⟩
def k1_off19 (k1_t3 : Fin k1_t3_loop.trips) : Fin 2 → Nat :=
  let c0_i32_16 : BitVec 32 := 0#32
  let v37 : Index := Scalar.indexCast c0_i32_16
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v38 : Index := Scalar.indexCast v36
  ![0, v38.toNat]
def k1_off20 (k1_t3 : Fin k1_t3_loop.trips) : Fin 2 → Nat :=
  let c1_i32_17 : BitVec 32 := 1#32
  let v40 : Index := Scalar.indexCast c1_i32_17
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v41 : Index := Scalar.indexCast v36
  ![1, v41.toNat]
def k1_off21 (k1_t3 : Fin k1_t3_loop.trips) : Fin 2 → Nat :=
  let c2_i32 : BitVec 32 := 2#32
  let v44 : Index := Scalar.indexCast c2_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v45 : Index := Scalar.indexCast v36
  ![2, v45.toNat]
def k1_off22 (k1_t3 : Fin k1_t3_loop.trips) : Fin 2 → Nat :=
  let c3_i32 : BitVec 32 := 3#32
  let v48 : Index := Scalar.indexCast c3_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v49 : Index := Scalar.indexCast v36
  ![3, v49.toNat]
def k1_off23 (k1_t3 : Fin k1_t3_loop.trips) : Fin 2 → Nat :=
  let c4_i32 : BitVec 32 := 4#32
  let v52 : Index := Scalar.indexCast c4_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v53 : Index := Scalar.indexCast v36
  ![4, v53.toNat]
def k1_off24 (k1_t3 : Fin k1_t3_loop.trips) : Fin 2 → Nat :=
  let c5_i32 : BitVec 32 := 5#32
  let v56 : Index := Scalar.indexCast c5_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v57 : Index := Scalar.indexCast v36
  ![5, v57.toNat]
def k1_off25 (k1_t3 : Fin k1_t3_loop.trips) : Fin 2 → Nat :=
  let c6_i32 : BitVec 32 := 6#32
  let v60 : Index := Scalar.indexCast c6_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v61 : Index := Scalar.indexCast v36
  ![6, v61.toNat]
def k1_off26 (k1_t3 : Fin k1_t3_loop.trips) : Fin 2 → Nat :=
  let c7_i32 : BitVec 32 := 7#32
  let v64 : Index := Scalar.indexCast c7_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v65 : Index := Scalar.indexCast v36
  ![7, v65.toNat]
def k1_off27 (k1_t3 : Fin k1_t3_loop.trips) : Fin 2 → Nat :=
  let c8_i32 : BitVec 32 := 8#32
  let v68 : Index := Scalar.indexCast c8_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v69 : Index := Scalar.indexCast v36
  ![8, v69.toNat]
def k1_off28 (k1_t3 : Fin k1_t3_loop.trips) : Fin 2 → Nat :=
  let c9_i32 : BitVec 32 := 9#32
  let v72 : Index := Scalar.indexCast c9_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v73 : Index := Scalar.indexCast v36
  ![9, v73.toNat]
def k1_off29 (k1_t3 : Fin k1_t3_loop.trips) : Fin 2 → Nat :=
  let c10_i32 : BitVec 32 := 10#32
  let v76 : Index := Scalar.indexCast c10_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v77 : Index := Scalar.indexCast v36
  ![10, v77.toNat]
def k1_off30 (k1_t3 : Fin k1_t3_loop.trips) : Fin 2 → Nat :=
  let c11_i32 : BitVec 32 := 11#32
  let v80 : Index := Scalar.indexCast c11_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v81 : Index := Scalar.indexCast v36
  ![11, v81.toNat]
def k1_off31 (k1_t3 : Fin k1_t3_loop.trips) : Fin 2 → Nat :=
  let c12_i32 : BitVec 32 := 12#32
  let v84 : Index := Scalar.indexCast c12_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v85 : Index := Scalar.indexCast v36
  ![12, v85.toNat]
def k1_off32 (k1_t3 : Fin k1_t3_loop.trips) : Fin 2 → Nat :=
  let c13_i32 : BitVec 32 := 13#32
  let v88 : Index := Scalar.indexCast c13_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v89 : Index := Scalar.indexCast v36
  ![13, v89.toNat]
def k1_off33 (k1_t3 : Fin k1_t3_loop.trips) : Fin 2 → Nat :=
  let c14_i32 : BitVec 32 := 14#32
  let v92 : Index := Scalar.indexCast c14_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v93 : Index := Scalar.indexCast v36
  ![14, v93.toNat]
def k1_off34 (k1_t3 : Fin k1_t3_loop.trips) : Fin 2 → Nat :=
  let c15_i32 : BitVec 32 := 15#32
  let v96 : Index := Scalar.indexCast c15_i32
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v97 : Index := Scalar.indexCast v36
  ![15, v97.toNat]
def k1_off35 (k1_t3 : Fin k1_t3_loop.trips) : Fin 1 → Nat :=
  let c0_i32_11 : BitVec 32 := 0#32
  let c1_i32_13 : BitVec 32 := 1#32
  let arg19 : BitVec 32 := Scf.iv c0_i32_11 c1_i32_13 k1_t3
  let c16_i32_15 : BitVec 32 := 16#32
  let v36 : BitVec 32 := Scalar.muli arg19 c16_i32_15
  let v100 : Index := Scalar.indexCast v36
  ![v100.toNat]
def k1_off36 (i : grid1.Coords) : Fin 2 → Nat :=
  let arg0 : BitVec 32 := BitVec.ofNat 32 (i 0).val
  let arg1 : BitVec 32 := BitVec.ofNat 32 (i 1).val
  let c256_i32 : BitVec 32 := 256#32
  let v33 : BitVec 32 := Scalar.muli arg1 c256_i32
  ![arg0.toNat, v33.toNat]
abbrev grid2 : Pipeline.Grid := ⟨1, ![8], ![false]⟩

def cc2_transform_0 (i : grid2.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  ![arg0.toNat]

def cc2_transform_5 (i : grid2.Coords) : Fin 1 → Nat :=
  let arg0 : BitVec 32 := BitVec.ofNat 32 (i 0).val
  let c0_i32 : BitVec 32 := 0#32
  ![arg0.toNat]

def cc2_transform_6 (i : grid2.Coords) : Fin 1 → Nat :=
  let arg0 : BitVec 32 := BitVec.ofNat 32 (i 0).val
  let c0_i32 : BitVec 32 := 0#32
  ![arg0.toNat]

def cc2_transform_7 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8192 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 16], ![false, false]⟩

def k3_off1 (i : grid3.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1952_i32 : BitVec 32 := 1952#32
  let v2 : BitVec 32 := Scalar.muli v1 c1952_i32
  ![v2.toNat]
@[reducible] def k3_t1_loop : Scf.Loop 32 :=
  let c0_i32_2 : BitVec 32 := 0#32
  let c32_i32 : BitVec 32 := 32#32
  let v16 : BitVec 32 := Scalar.addi c0_i32_2 c32_i32
  let c1_i32 : BitVec 32 := 1#32
  ⟨c0_i32_2, v16, c1_i32⟩
def k3_off2 (k3_t1 : Fin k3_t1_loop.trips) (c0_i32_16 : BitVec 32) : Fin 1 → Nat :=
  let c0_i32_2 : BitVec 32 := 0#32
  let c1_i32 : BitVec 32 := 1#32
  let arg19 : BitVec 32 := Scf.iv c0_i32_2 c1_i32 k3_t1
  let c8_i32 : BitVec 32 := 8#32
  let v36 : BitVec 32 := Scalar.muli arg19 c8_i32
  let c16_i32_15 : BitVec 32 := 16#32
  let v37 : BitVec 32 := Scalar.muli v36 c16_i32_15
  let v38 : BitVec 32 := Scalar.addi v37 c0_i32_16
  let v39 : Index := Scalar.indexCast v38
  ![v39.toNat]
@[reducible] def k3_t2_loop : Scf.Loop 32 :=
  let c0_i32_7 : BitVec 32 := 0#32
  let c61_i32 : BitVec 32 := 61#32
  let v31 : BitVec 32 := Scalar.addi c0_i32_7 c61_i32
  let c1_i32_8 : BitVec 32 := 1#32
  ⟨c0_i32_7, v31, c1_i32_8⟩
def k3_off3 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_16 : BitVec 32 := 16#32
  let v38 : BitVec 32 := Scalar.addi v37 c16_i32_16
  let v39 : Index := Scalar.indexCast v38
  ![v39.toNat]
def k3_off4 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_17 : BitVec 32 := 16#32
  let v41 : BitVec 32 := Scalar.addi v37 c16_i32_17
  let c1_i32_18 : BitVec 32 := 1#32
  let v42 : BitVec 32 := Scalar.subi v41 c1_i32_18
  let v43 : Index := Scalar.indexCast v42
  ![v43.toNat]
def k3_off5 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_19 : BitVec 32 := 16#32
  let v45 : BitVec 32 := Scalar.addi v37 c16_i32_19
  let c1_i32_20 : BitVec 32 := 1#32
  let v46 : BitVec 32 := Scalar.addi v45 c1_i32_20
  let v47 : Index := Scalar.indexCast v46
  ![v47.toNat]
def k3_off6 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let v66 : Index := Scalar.indexCast v37
  ![v66.toNat]

def k3_chk1 (v87 : IVec S16 32) : Prop :=
  (∀ a x, ((![v87] : Fin 1 → IVec S16 32) a x).toNat < S128.size a)
theorem k3_idx1_inb : ∀ (v87 : IVec S16 32) (k3_hw1 : k3_chk1 v87), ∀ a x, ((![v87] : Fin 1 → IVec S16 32) a x).toNat < S128.size a := fun v87 k3_hw1 => k3_hw1

def k3_chk2 (v90 : IVec S16 32) : Prop :=
  (∀ a x, ((![v90] : Fin 1 → IVec S16 32) a x).toNat < S4096.size a)
theorem k3_idx2_inb : ∀ (v90 : IVec S16 32) (k3_hw2 : k3_chk2 v90), ∀ a x, ((![v90] : Fin 1 → IVec S16 32) a x).toNat < S4096.size a := fun v90 k3_hw2 => k3_hw2
def k3_off7 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let v92 : Index := Scalar.indexCast v37
  ![v92.toNat]

def k3_chk3 (v113 : IVec S16 32) : Prop :=
  (∀ a x, ((![v113] : Fin 1 → IVec S16 32) a x).toNat < S128.size a)
theorem k3_idx3_inb : ∀ (v113 : IVec S16 32) (k3_hw3 : k3_chk3 v113), ∀ a x, ((![v113] : Fin 1 → IVec S16 32) a x).toNat < S128.size a := fun v113 k3_hw3 => k3_hw3

def k3_chk4 (v116 : IVec S16 32) : Prop :=
  (∀ a x, ((![v116] : Fin 1 → IVec S16 32) a x).toNat < S4096.size a)
theorem k3_idx4_inb : ∀ (v116 : IVec S16 32) (k3_hw4 : k3_chk4 v116), ∀ a x, ((![v116] : Fin 1 → IVec S16 32) a x).toNat < S4096.size a := fun v116 k3_hw4 => k3_hw4
def k3_off8 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let v118 : Index := Scalar.indexCast v37
  ![v118.toNat]

def k3_chk5 (v139 : IVec S16 32) : Prop :=
  (∀ a x, ((![v139] : Fin 1 → IVec S16 32) a x).toNat < S128.size a)
theorem k3_idx5_inb : ∀ (v139 : IVec S16 32) (k3_hw5 : k3_chk5 v139), ∀ a x, ((![v139] : Fin 1 → IVec S16 32) a x).toNat < S128.size a := fun v139 k3_hw5 => k3_hw5

def k3_chk6 (v142 : IVec S16 32) : Prop :=
  (∀ a x, ((![v142] : Fin 1 → IVec S16 32) a x).toNat < S4096.size a)
theorem k3_idx6_inb : ∀ (v142 : IVec S16 32) (k3_hw6 : k3_chk6 v142), ∀ a x, ((![v142] : Fin 1 → IVec S16 32) a x).toNat < S4096.size a := fun v142 k3_hw6 => k3_hw6
def k3_off9 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let v144 : Index := Scalar.indexCast v37
  ![v144.toNat]

def k3_chk7 (v165 : IVec S16 32) : Prop :=
  (∀ a x, ((![v165] : Fin 1 → IVec S16 32) a x).toNat < S128.size a)
theorem k3_idx7_inb : ∀ (v165 : IVec S16 32) (k3_hw7 : k3_chk7 v165), ∀ a x, ((![v165] : Fin 1 → IVec S16 32) a x).toNat < S128.size a := fun v165 k3_hw7 => k3_hw7

def k3_chk8 (v168 : IVec S16 32) : Prop :=
  (∀ a x, ((![v168] : Fin 1 → IVec S16 32) a x).toNat < S4096.size a)
theorem k3_idx8_inb : ∀ (v168 : IVec S16 32) (k3_hw8 : k3_chk8 v168), ∀ a x, ((![v168] : Fin 1 → IVec S16 32) a x).toNat < S4096.size a := fun v168 k3_hw8 => k3_hw8
def k3_off10 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let c16_i32_47 : BitVec 32 := 16#32
  let v171 : BitVec 32 := Scalar.addi v170 c16_i32_47
  let v172 : Index := Scalar.indexCast v171
  ![v172.toNat]
def k3_off11 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let c16_i32_48 : BitVec 32 := 16#32
  let v174 : BitVec 32 := Scalar.addi v170 c16_i32_48
  let c1_i32_49 : BitVec 32 := 1#32
  let v175 : BitVec 32 := Scalar.subi v174 c1_i32_49
  let v176 : Index := Scalar.indexCast v175
  ![v176.toNat]
def k3_off12 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let c16_i32_50 : BitVec 32 := 16#32
  let v178 : BitVec 32 := Scalar.addi v170 c16_i32_50
  let c1_i32_51 : BitVec 32 := 1#32
  let v179 : BitVec 32 := Scalar.addi v178 c1_i32_51
  let v180 : Index := Scalar.indexCast v179
  ![v180.toNat]
def k3_off13 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let v199 : Index := Scalar.indexCast v170
  ![v199.toNat]

def k3_chk9 (v220 : IVec S16 32) : Prop :=
  (∀ a x, ((![v220] : Fin 1 → IVec S16 32) a x).toNat < S128.size a)
theorem k3_idx9_inb : ∀ (v220 : IVec S16 32) (k3_hw9 : k3_chk9 v220), ∀ a x, ((![v220] : Fin 1 → IVec S16 32) a x).toNat < S128.size a := fun v220 k3_hw9 => k3_hw9

def k3_chk10 (v223 : IVec S16 32) : Prop :=
  (∀ a x, ((![v223] : Fin 1 → IVec S16 32) a x).toNat < S4096.size a)
theorem k3_idx10_inb : ∀ (v223 : IVec S16 32) (k3_hw10 : k3_chk10 v223), ∀ a x, ((![v223] : Fin 1 → IVec S16 32) a x).toNat < S4096.size a := fun v223 k3_hw10 => k3_hw10
def k3_off14 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let v225 : Index := Scalar.indexCast v170
  ![v225.toNat]

def k3_chk11 (v246 : IVec S16 32) : Prop :=
  (∀ a x, ((![v246] : Fin 1 → IVec S16 32) a x).toNat < S128.size a)
theorem k3_idx11_inb : ∀ (v246 : IVec S16 32) (k3_hw11 : k3_chk11 v246), ∀ a x, ((![v246] : Fin 1 → IVec S16 32) a x).toNat < S128.size a := fun v246 k3_hw11 => k3_hw11

def k3_chk12 (v249 : IVec S16 32) : Prop :=
  (∀ a x, ((![v249] : Fin 1 → IVec S16 32) a x).toNat < S4096.size a)
theorem k3_idx12_inb : ∀ (v249 : IVec S16 32) (k3_hw12 : k3_chk12 v249), ∀ a x, ((![v249] : Fin 1 → IVec S16 32) a x).toNat < S4096.size a := fun v249 k3_hw12 => k3_hw12
def k3_off15 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let v251 : Index := Scalar.indexCast v170
  ![v251.toNat]

def k3_chk13 (v272 : IVec S16 32) : Prop :=
  (∀ a x, ((![v272] : Fin 1 → IVec S16 32) a x).toNat < S128.size a)
theorem k3_idx13_inb : ∀ (v272 : IVec S16 32) (k3_hw13 : k3_chk13 v272), ∀ a x, ((![v272] : Fin 1 → IVec S16 32) a x).toNat < S128.size a := fun v272 k3_hw13 => k3_hw13

def k3_chk14 (v275 : IVec S16 32) : Prop :=
  (∀ a x, ((![v275] : Fin 1 → IVec S16 32) a x).toNat < S4096.size a)
theorem k3_idx14_inb : ∀ (v275 : IVec S16 32) (k3_hw14 : k3_chk14 v275), ∀ a x, ((![v275] : Fin 1 → IVec S16 32) a x).toNat < S4096.size a := fun v275 k3_hw14 => k3_hw14
def k3_off16 (k3_t2 : Fin k3_t2_loop.trips) : Fin 1 → Nat :=
  let c0_i32_7 : BitVec 32 := 0#32
  let c1_i32_8 : BitVec 32 := 1#32
  let arg19 : BitVec 32 := Scf.iv c0_i32_7 c1_i32_8 k3_t2
  let c2_i32 : BitVec 32 := 2#32
  let v36 : BitVec 32 := Scalar.muli arg19 c2_i32
  let c16_i32_15 : BitVec 32 := 16#32
  let v37 : BitVec 32 := Scalar.muli v36 c16_i32_15
  let c16_i32_46 : BitVec 32 := 16#32
  let v170 : BitVec 32 := Scalar.addi v37 c16_i32_46
  let v277 : Index := Scalar.indexCast v170
  ![v277.toNat]

def k3_chk15 (v298 : IVec S16 32) : Prop :=
  (∀ a x, ((![v298] : Fin 1 → IVec S16 32) a x).toNat < S128.size a)
theorem k3_idx15_inb : ∀ (v298 : IVec S16 32) (k3_hw15 : k3_chk15 v298), ∀ a x, ((![v298] : Fin 1 → IVec S16 32) a x).toNat < S128.size a := fun v298 k3_hw15 => k3_hw15

def k3_chk16 (v301 : IVec S16 32) : Prop :=
  (∀ a x, ((![v301] : Fin 1 → IVec S16 32) a x).toNat < S4096.size a)
theorem k3_idx16_inb : ∀ (v301 : IVec S16 32) (k3_hw16 : k3_chk16 v301), ∀ a x, ((![v301] : Fin 1 → IVec S16 32) a x).toNat < S4096.size a := fun v301 k3_hw16 => k3_hw16
def k3_off17 (i : grid3.Coords) : Fin 2 → Nat :=
  let arg1 : BitVec 32 := BitVec.ofNat 32 (i 1).val
  let c0_i32_15_r0 : BitVec 32 := 0#32
  ![arg1.toNat, 0]
def k3_off18 (i : grid3.Coords) : Fin 2 → Nat :=
  let c0_i32_15_r1 : BitVec 32 := 0#32
  let arg1 : BitVec 32 := BitVec.ofNat 32 (i 1).val
  let c256_i32 : BitVec 32 := 256#32
  let v33 : BitVec 32 := Scalar.muli arg1 c256_i32
  ![0, v33.toNat]
@[reducible] def k3_t3_loop : Scf.Loop 32 :=
  let c0_i32_11 : BitVec 32 := 0#32
  let c16_i32_12 : BitVec 32 := 16#32
  let v34 : BitVec 32 := Scalar.addi c0_i32_11 c16_i32_12
  let c1_i32_13 : BitVec 32 := 1#32
  ⟨c0_i32_11, v34, c1_i32_13⟩
def k3_off19 (k3_t3 : Fin k3_t3_loop.trips) : Fin 2 → Nat :=
  let c0_i32_16 : BitVec 32 := 0#32
  let v37 : Index := Scalar.indexCast c0_i32_16
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v38 : Index := Scalar.indexCast v36
  ![0, v38.toNat]
def k3_off20 (k3_t3 : Fin k3_t3_loop.trips) : Fin 2 → Nat :=
  let c1_i32_17 : BitVec 32 := 1#32
  let v40 : Index := Scalar.indexCast c1_i32_17
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v41 : Index := Scalar.indexCast v36
  ![1, v41.toNat]
def k3_off21 (k3_t3 : Fin k3_t3_loop.trips) : Fin 2 → Nat :=
  let c2_i32 : BitVec 32 := 2#32
  let v44 : Index := Scalar.indexCast c2_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v45 : Index := Scalar.indexCast v36
  ![2, v45.toNat]
def k3_off22 (k3_t3 : Fin k3_t3_loop.trips) : Fin 2 → Nat :=
  let c3_i32 : BitVec 32 := 3#32
  let v48 : Index := Scalar.indexCast c3_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v49 : Index := Scalar.indexCast v36
  ![3, v49.toNat]
def k3_off23 (k3_t3 : Fin k3_t3_loop.trips) : Fin 2 → Nat :=
  let c4_i32 : BitVec 32 := 4#32
  let v52 : Index := Scalar.indexCast c4_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v53 : Index := Scalar.indexCast v36
  ![4, v53.toNat]
def k3_off24 (k3_t3 : Fin k3_t3_loop.trips) : Fin 2 → Nat :=
  let c5_i32 : BitVec 32 := 5#32
  let v56 : Index := Scalar.indexCast c5_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v57 : Index := Scalar.indexCast v36
  ![5, v57.toNat]
def k3_off25 (k3_t3 : Fin k3_t3_loop.trips) : Fin 2 → Nat :=
  let c6_i32 : BitVec 32 := 6#32
  let v60 : Index := Scalar.indexCast c6_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v61 : Index := Scalar.indexCast v36
  ![6, v61.toNat]
def k3_off26 (k3_t3 : Fin k3_t3_loop.trips) : Fin 2 → Nat :=
  let c7_i32 : BitVec 32 := 7#32
  let v64 : Index := Scalar.indexCast c7_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v65 : Index := Scalar.indexCast v36
  ![7, v65.toNat]
def k3_off27 (k3_t3 : Fin k3_t3_loop.trips) : Fin 2 → Nat :=
  let c8_i32 : BitVec 32 := 8#32
  let v68 : Index := Scalar.indexCast c8_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v69 : Index := Scalar.indexCast v36
  ![8, v69.toNat]
def k3_off28 (k3_t3 : Fin k3_t3_loop.trips) : Fin 2 → Nat :=
  let c9_i32 : BitVec 32 := 9#32
  let v72 : Index := Scalar.indexCast c9_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v73 : Index := Scalar.indexCast v36
  ![9, v73.toNat]
def k3_off29 (k3_t3 : Fin k3_t3_loop.trips) : Fin 2 → Nat :=
  let c10_i32 : BitVec 32 := 10#32
  let v76 : Index := Scalar.indexCast c10_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v77 : Index := Scalar.indexCast v36
  ![10, v77.toNat]
def k3_off30 (k3_t3 : Fin k3_t3_loop.trips) : Fin 2 → Nat :=
  let c11_i32 : BitVec 32 := 11#32
  let v80 : Index := Scalar.indexCast c11_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v81 : Index := Scalar.indexCast v36
  ![11, v81.toNat]
def k3_off31 (k3_t3 : Fin k3_t3_loop.trips) : Fin 2 → Nat :=
  let c12_i32 : BitVec 32 := 12#32
  let v84 : Index := Scalar.indexCast c12_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v85 : Index := Scalar.indexCast v36
  ![12, v85.toNat]
def k3_off32 (k3_t3 : Fin k3_t3_loop.trips) : Fin 2 → Nat :=
  let c13_i32 : BitVec 32 := 13#32
  let v88 : Index := Scalar.indexCast c13_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v89 : Index := Scalar.indexCast v36
  ![13, v89.toNat]
def k3_off33 (k3_t3 : Fin k3_t3_loop.trips) : Fin 2 → Nat :=
  let c14_i32 : BitVec 32 := 14#32
  let v92 : Index := Scalar.indexCast c14_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v93 : Index := Scalar.indexCast v36
  ![14, v93.toNat]
def k3_off34 (k3_t3 : Fin k3_t3_loop.trips) : Fin 2 → Nat :=
  let c15_i32 : BitVec 32 := 15#32
  let v96 : Index := Scalar.indexCast c15_i32
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v97 : Index := Scalar.indexCast v36
  ![15, v97.toNat]
def k3_off35 (k3_t3 : Fin k3_t3_loop.trips) : Fin 1 → Nat :=
  let c0_i32_11 : BitVec 32 := 0#32
  let c1_i32_13 : BitVec 32 := 1#32
  let arg19 : BitVec 32 := Scf.iv c0_i32_11 c1_i32_13 k3_t3
  let c16_i32_15 : BitVec 32 := 16#32
  let v36 : BitVec 32 := Scalar.muli arg19 c16_i32_15
  let v100 : Index := Scalar.indexCast v36
  ![v100.toNat]
def k3_off36 (i : grid3.Coords) : Fin 2 → Nat :=
  let arg0 : BitVec 32 := BitVec.ofNat 32 (i 0).val
  let arg1 : BitVec 32 := BitVec.ofNat 32 (i 1).val
  let c256_i32 : BitVec 32 := 256#32
  let v33 : BitVec 32 := Scalar.muli arg1 c256_i32
  ![arg0.toNat, v33.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S160000 : Shape := ⟨1, ![160000]⟩
abbrev S160000x256 : Shape := ⟨2, ![160000, 256]⟩
abbrev S160000x3 : Shape := ⟨2, ![160000, 3]⟩
abbrev S1x256 : Shape := ⟨2, ![1, 256]⟩
abbrev S1 : Shape := ⟨1, ![1]⟩
abbrev S256x1 : Shape := ⟨2, ![256, 1]⟩
abbrev S160000x1 : Shape := ⟨2, ![160000, 1]⟩
abbrev S1x1 : Shape := ⟨2, ![1, 1]⟩
abbrev S_ : Shape := ⟨0, ![]⟩
abbrev S1024 : Shape := ⟨1, ![1024]⟩
abbrev S1024x3 : Shape := ⟨2, ![1024, 3]⟩

abbrev nBuf : Space → Nat
  | .hbm => 22
  | .vmem => 0
  | .smem => 0
  | _ => 0

abbrev bufTy : (tb : Table) → Fin (tcTables nBuf tb) → BufTy
  | .hbm, ⟨0, _⟩ => ⟨S160000, .i32⟩
  | .hbm, ⟨1, _⟩ => ⟨S160000x256, .f32⟩
  | .hbm, ⟨2, _⟩ => ⟨S160000x3, .f32⟩
  | .hbm, ⟨3, _⟩ => ⟨S1x256, .f32⟩
  | .hbm, ⟨4, _⟩ => ⟨S1, .f32⟩
  | .hbm, ⟨5, _⟩ => ⟨S256x1, .f32⟩
  | .hbm, ⟨6, _⟩ => ⟨S160000x1, .f32⟩
  | .hbm, ⟨7, _⟩ => ⟨S1x1, .f32⟩
  | .hbm, ⟨8, _⟩ => ⟨S160000x1, .f32⟩
  | .hbm, ⟨9, _⟩ => ⟨S160000x1, .f32⟩
  | .hbm, ⟨10, _⟩ => ⟨S160000, .f32⟩
  | .hbm, ⟨11, _⟩ => ⟨S_, .f32⟩
  | .hbm, ⟨12, _⟩ => ⟨S1024, .f32⟩
  | .hbm, ⟨13, _⟩ => ⟨S160000x1, .i32⟩
  | .hbm, ⟨14, _⟩ => ⟨S1024, .f32⟩
  | .hbm, ⟨15, _⟩ => ⟨S160000x1, .f32⟩
  | .hbm, ⟨16, _⟩ => ⟨S160000x3, .f32⟩
  | .hbm, ⟨17, _⟩ => ⟨S160000x3, .f32⟩
  | .hbm, ⟨18, _⟩ => ⟨S_, .f32⟩
  | .hbm, ⟨19, _⟩ => ⟨S1024x3, .f32⟩
  | .hbm, ⟨20, _⟩ => ⟨S160000x1, .i32⟩
  | .hbm, ⟨21, _⟩ => ⟨S1024x3, .f32⟩
  | _, _ => ⟨S160000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Base.lean ====
/-
  The program as the launch theorem sees it, the resource algebra, and what the two SparseCore
  calls share: the barrier of the sixteen tiles of a core, one round of its cells for each call,
  with what it carries (the cells of that call's shared scratch).
-/
module

public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

/-- The model the assertions are about. -/
abbrev MM (F : FTy → Type) := MT nD τ sig (HIx 2) (Elt F) ℕ UU ℕ

abbrev EH : Emb UH (MM F) := embL
/-- The barrier cells' rounds. -/
def EB : Emb UB (MM F) :=
  ((Emb.inl : Emb UB (UB × (UP × Counters))).trans (Emb.inr : Emb (UB × (UP × Counters)) UU)).trans
    (uEmb (nD := nD) (sig := sig) (Ix := HIx 2) (Val := Elt F) (Name := ℕ) (U := UU) (Lvl := ℕ)).toEmb
instance EB_landsIn : (EB : Emb UB (MM F)).LandsIn (upEmb : UEmb _ (MM F)) := by unfold EB; infer_instance
/-- The rounds of the pipelines' staging cells. -/
def EP : Emb UP (MM F) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 2) (Val := Elt F) (Name := ℕ) (U := UU) (Lvl := ℕ)).toEmb
instance EP_landsIn : (EP : Emb UP (MM F)).LandsIn (upEmb : UEmb _ (MM F)) := by unfold EP; infer_instance

/-! ## The pieces of the buffers that both calls cut alike -/

/-- Tile `j`'s columns of core `c`'s row of a result. -/
def outSet (c j : ℕ) : Finset S2x4096.Idx := Finset.univ.filter fun i => (i 0).val = c ∧ (i 1).val / 256 = j
/-- Row `r` of a shared scratch. -/
def shRow (r : ℕ) : Finset S16x4096.Idx := Finset.univ.filter fun i => (i 0).val = r
/-- Columns `j` of a shared scratch. -/
def shCol (j : ℕ) : Finset S16x4096.Idx := Finset.univ.filter fun i => (i 1).val / 256 = j
/-- Their common cell. -/
def shCell (r j : ℕ) : Finset S16x4096.Idx := Finset.univ.filter fun i => (i 0).val = r ∧ (i 1).val / 256 = j

/-- SparseCore `c`'s shared scratch of call `q`, as every tile of it addresses it. -/
abbrev shRefOf (q : Fin 2) (c : Fin τ.nSC) : DevRef τ sig := ⟨.shared, q, c⟩

/-! ## The barrier's cells -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- What a call may leave in a core's shared scratch once every tile has written its row. -/
abbrev ShRel (F : FTy → Type) : Type := Dev nD → Fin τ.nSC → (S16x4096.Idx → F .f32) → Prop

variable (R₀ R₁ : ShRel F)

/-- Some contents of a cell of a shared scratch that the relation allows. -/
def cellPts (q : Fin 2) (R : ShRel F) (d : Dev nD) (c : Fin τ.nSC) (s : Finset S16x4096.Idx) : sProp (MM F) :=
  match q with
  | 0 => iprop(∃ f : S16x4096.Idx → F .f32, ⌜R d c f⌝ ∗ ((d, shRefOf 0 c) : Loc nD τ sig) ↦[s]{fullShare} f)
  | 1 => iprop(∃ f : S16x4096.Idx → F .f32, ⌜R d c f⌝ ∗ ((d, shRefOf 1 c) : Loc nD τ sig) ↦[s]{fullShare} f)

instance cellPts_storable (q : Fin 2) (R : ShRel F) (d : Dev nD) (c : Fin τ.nSC) (s : Finset S16x4096.Idx) :
    BI.Storable (upEmb : UEmb _ (MM F)) (cellPts q R d c s) := by
  unfold cellPts
  match q with
  | 0 => infer_instance
  | 1 => infer_instance

/-- A duty in tile `j`'s round hands over the duty's tile's cell of the shared scratch, in `j`'s columns: of the first
    call's scratch in round 0, of the second's in round 1. -/
def bPay (g : GSem nD τ sig) (r n : ℕ) : sProp (MM F) :=
  match g, r with
  | ((d, .scVector c j), _), 0 => cellPts 0 R₀ d c (shCell n j.val)
  | ((d, .scVector c j), _), 1 => cellPts 1 R₁ d c (shCell n j.val)
  | _, _ => iprop(emp)

/-- The barrier cells' schedule: two rounds on each, of one unit duty per tile of the SparseCore. -/
def bRd : Rounds.Schedule (GSem nD τ sig) ℕ (MM F) where
  duties g r := if isBar g ∧ r < 2 then (Finset.univ : Finset (Fin τ.nSub)).image Fin.val else ∅
  amount _ _ _ := 1
  payload g r n := bPay R₀ R₁ g r n
  amount_pos _ _ _ _ := Nat.one_pos

instance bRd_payload_storable (g : GSem nD τ sig) (r n : ℕ) : BI.Storable (upEmb : UEmb _ (MM F)) ((bRd R₀ R₁).payload g r n) := by
  show BI.Storable upEmb (bPay R₀ R₁ g r n)
  unfold bPay
  split <;> infer_instance

theorem bRd_payload_0 (d : Dev nD) (c : Fin τ.nSC) (j : Fin τ.nSub) (n : ℕ) :
    (bRd R₀ R₁).payload (bcell d c j) 0 n = iprop(∃ f : S16x4096.Idx → F .f32, ⌜R₀ d c f⌝ ∗ ((d, shRefOf 0 c) : Loc nD τ sig) ↦[shCell n j.val]{fullShare} f) := rfl
theorem bRd_payload_1 (d : Dev nD) (c : Fin τ.nSC) (j : Fin τ.nSub) (n : ℕ) :
    (bRd R₀ R₁).payload (bcell d c j) 1 n = iprop(∃ f : S16x4096.Idx → F .f32, ⌜R₁ d c f⌝ ∗ ((d, shRefOf 1 c) : Loc nD τ sig) ↦[shCell n j.val]{fullShare} f) := rfl

theorem bRd_duties (d : Dev nD) (c : Fin τ.nSC) (j : Fin τ.nSub) (r : ℕ) (hr : r < 2) :
    (bRd R₀ R₁).duties (bcell d c j) r = (Finset.univ : Finset (Fin τ.nSub)).image Fin.val := by
  simp [bRd, isBar, hr]
theorem bRd_duties_end (g : GSem nD τ sig) (r : ℕ) (hr : 2 ≤ r) : (bRd R₀ R₁).duties g r = ∅ :=
  if_neg fun h => absurd h.2 (by omega)
theorem bRd_mem (d : Dev nD) (c : Fin τ.nSC) (j i : Fin τ.nSub) (r : ℕ) (hr : r < 2) : i.val ∈ (bRd R₀ R₁).duties (bcell d c j) r := by
  rw [bRd_duties _ _ _ _ _ _ hr]; exact Finset.mem_image_of_mem _ (Finset.mem_univ i)
theorem bRd_expect (d : Dev nD) (c : Fin τ.nSC) (j : Fin τ.nSub) (r : ℕ) (hr : r < 2) : 0 + 16 = (bRd R₀ R₁).expect (bcell d c j) r := by
  unfold Rounds.Schedule.expect; rw [bRd_duties _ _ _ _ _ _ hr]
  show 0 + 16 = ∑ x ∈ (Finset.univ : Finset (Fin 16)).image Fin.val, 1
  rw [Finset.sum_const, Finset.card_image_of_injective _ Fin.val_injective]; rfl

theorem bigSep_emp' {I : Type} (s : Finset I) : (bigSep s fun _ => iprop(emp)) = (iprop(emp) : sProp (MM F)) := bigSep_emp_const s

/-- A tile of the sixteen, among the chip's. -/
abbrev tileOf (j : Fin 16) : Fin τ.nSub := j.castLE hsub1

/-- What a tile owes for the barrier at call `q`: a unit on every tile's cell of its SparseCore, at the call's index. -/
def oxV (q : Fin 2) (d : Dev nD) (c : Fin τ.nSC) : CellTallies nD τ sig (HIx 2) := ∑ j : Fin 16, tallyAt (bcell d c (tileOf j)) (some q) 1

theorem oxV_none (q : Fin 2) (d : Dev nD) (c : Fin τ.nSC) (g : GSem nD τ sig) : oxV q d c g none = 0 := by
  unfold oxV
  rw [Finset.sum_apply, Finsupp.finsetSum_apply]
  exact Finset.sum_eq_zero fun j _ => by rw [tallyAt_apply, if_neg (fun e => nomatch e.2)]

theorem oxV_apply_pos {q : Fin 2} {d : Dev nD} {c : Fin τ.nSC} {g : GSem nD τ sig} {ι : HIx 2} (h : 0 < oxV q d c g ι) :
    ∃ j : Fin 16, g = bcell d c (tileOf j) ∧ ι = some q := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit for call `q`: the cells' invariants, its token in every tile's round of the call, and the
    credit for the sixteen units of its own round. -/
def bkit (q : Fin 2) (d : Dev nD) (c : Fin τ.nSC) (i : Fin τ.nSub) : sProp (MM F) :=
  iprop((∃ κ : GSem nD τ sig → ℕ, bigSep Finset.univ fun j : Fin 16 => cellInv EB (bRd R₀ R₁) (κ (bcell d c (tileOf j))) (bcell d c (tileOf j)))
    ∗ (bigSep Finset.univ fun j : Fin 16 => dutyTok EB (bcell d c (tileOf j)) q.val i.val)
    ∗ cred (tallyAt (bcell d c i) (some q) 16))

/-- Where tile `(c, i)` stands before call `q`: at the round of the call on its own cell, that round reached on every cell. -/
def bAt (q : ℕ) (d : Dev nD) (c : Fin τ.nSC) (i : Fin τ.nSub) : sProp (MM F) :=
  iprop(atPos EB (bcell d c i) q ∅ 0 ∗ bigSep Finset.univ fun j : Fin 16 => reached EB (bcell d c (tileOf j)) q)

end Cert.Proof.Scatter

end
-- ==== Proof.One.Body.lean ====
/-
  The body that computes a block of charges and charge-weighted positions: what it leaves in its
  four output blocks, from its input blocks.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit.Basic

@[expose] public section

noncomputable section

namespace Cert.Proof.Scatter.One

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- One store over the whole of a vector covers it. -/
theorem cover_all (p : Vec F S8192 .f32) (y : S8192.Idx) :
    ∃ pc ∈ ([⟨Rect.unit (s := S8192) ![0] S8192.size inb_S8192_S8192_0, p⟩] : List (View.Piece (Elt F) S8192 .f32)), y ∈ pc.1.set :=
  View.cover_of_tiled [⟨Rect.unit (s := S8192) ![0] S8192.size inb_S8192_S8192_0, p⟩] S8192.size (by rfl) y

theorem left_eq {sp : Space} (M : Memref sig .tc sp S8192 .f32) (f : M.view.ty.Contents (Elt F)) (p : Vec F S8192 .f32) :
    M.view.read (Elt F) (M.view.writes (Elt F) f [⟨Rect.unit (s := S8192) ![0] S8192.size inb_S8192_S8192_0, p⟩]) = p :=
  (View.read_writes_eq_canon _ _ _ (cover_all p)).trans (View.canon_cons_unit_lit _ _ _ (by decide))

set_option maxHeartbeats 1000000 in
theorem body_run (c : Dev nD) (E : Set ℕ) (i : grid0.Coords) (arg1 : Memref sig .tc .vmem S8192x256 .f32) (harg1 : arg1.IsWhole) (arg2 : Memref sig .tc .vmem S3x8192 .f32) (harg2 : arg2.IsWhole)
    (arg3 : Memref sig .tc .vmem S1x256 .f32) (harg3 : arg3.IsWhole) (arg4 : Memref sig .tc .vmem S1x1 .f32) (harg4 : arg4.IsWhole) (arg5 : Memref sig .tc .vmem S8192 .f32) (harg5 : arg5.IsWhole)
    (arg6 : Memref sig .tc .vmem S8192 .f32) (harg6 : arg6.IsWhole) (arg7 : Memref sig .tc .vmem S8192 .f32) (harg7 : arg7.IsWhole) (arg8 : Memref sig .tc .vmem S8192 .f32) (harg8 : arg8.IsWhole)
    (x1 : Vec F S8192x256 .f32) (x2 : Vec F S3x8192 .f32) (x3 : Vec F S1x256 .f32) (x4 : Vec F S1x1 .f32) (x5 x6 x7 x8 : Vec F S8192 .f32) (Q : PUnit → sProp (MM F)) :
    iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7 ∗ owns (c : Thread nD τ) arg8 fullShare x8
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k0_pay4 i x3 x1 x4) ∗ owns (c : Thread nD τ) arg6 fullShare (k0_pay5 i x3 x1 x4 x2)
            ∗ owns (c : Thread nD τ) arg7 fullShare (k0_pay6 i x3 x1 x4 x2) ∗ owns (c : Thread nD τ) arg8 fullShare (k0_pay7 i x3 x1 x4 x2)) -∗ Q ⟨⟩))
      ⊢ wp frame (wpE (defs₀ (F := F)) 𝒱₀ (c : Thread nD τ) none) E
          (cc0__tc_half_body i arg1 harg1 arg2 harg2 arg3 harg3 arg4 harg4 arg5 harg5 arg6 harg6 arg7 harg7 arg8 harg8) Q := by
  rw [cc0__tc_half_body_eq_skeleton]; unfold cc0__tc_half_body_skel
  unfold owns
  iintro ⟨⟨%f1, %h1, H1⟩, ⟨%f2, %h2, H2⟩, ⟨%f3, %h3, H3⟩, ⟨%f4, %h4, H4⟩, ⟨%f5, -, H5⟩, ⟨%f6, -, H6⟩, ⟨%f7, -, H7⟩, ⟨%f8, -, H8⟩, Hk⟩
  have e1 : arg1.view.readAt (Elt F) (Rect.unit (s := S8192x256) ![0, 0] S8192x256.size inb_S8192x256_S8192x256_0_0).toLoadRect f1 = x1 :=
    (View.ld_unit_lit (S := S8192x256) (off := ![0, 0]) inb_S8192x256_S8192x256_0_0 _ (by decide)).trans h1
  have e2 : arg2.view.readAt (Elt F) (Rect.unit (s := S3x8192) ![0, 0] S3x8192.size inb_S3x8192_S3x8192_0_0).toLoadRect f2 = x2 :=
    (View.ld_unit_lit (S := S3x8192) (off := ![0, 0]) inb_S3x8192_S3x8192_0_0 _ (by decide)).trans h2
  have e3 : arg3.view.readAt (Elt F) (Rect.unit (s := S1x256) ![0, 0] S1x256.size inb_S1x256_S1x256_0_0).toLoadRect f3 = x3 :=
    (View.ld_unit_lit (S := S1x256) (off := ![0, 0]) inb_S1x256_S1x256_0_0 _ (by decide)).trans h3
  have e4 : arg4.view.readAt (Elt F) (Rect.unit (s := S1x1) ![0, 0] S1x1.size inb_S1x1_S1x1_0_0).toLoadRect f4 = x4 :=
    (View.ld_unit_lit (S := S1x1) (off := ![0, 0]) inb_S1x1_S1x1_0_0 _ (by decide)).trans h4
  sl_exec
  sl_step
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists _; isplitr; swap; (· iexact H5)
    ipureintro; rw [← e1, ← e3, ← e4]; exact left_eq _ _ _
  isplitl [H6]
  · iexists _; isplitr; swap; (· iexact H6)
    ipureintro; rw [← e1, ← e2, ← e3, ← e4]; exact left_eq _ _ _
  isplitl [H7]
  · iexists _; isplitr; swap; (· iexact H7)
    ipureintro; rw [← e1, ← e2, ← e3, ← e4]; exact left_eq _ _ _
  · iexists _; isplitr; swap; (· iexact H8)
    ipureintro; rw [← e1, ← e2, ← e3, ← e4]; exact left_eq _ _ _

end Cert.Proof.Scatter.One

end
-- ==== Proof.Parts.lean ====
/-
  Buffers whose elements are dealt to the tiles of a core, or to all tiles of both cores: cut into
  the pieces and joined back, at one value or at a value for each piece.
-/
module

public import proofs.«01_k».proof.Proof.Base

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- A buffer whose elements are dealt to the pairs of a core and a tile is its pieces. -/
theorem pts_parts {ℓ : Loc nD τ sig} (f : Buf (Elt F) ℓ) (S : ℕ → ℕ → Finset (Idx ℓ))
    (hdis : ∀ (c c' : Fin 2) (j j' : Fin 16), (c, j) ≠ (c', j') → Disjoint (S c j) (S c' j')) (hcov : ∀ i, ∃ (c : Fin 2) (j : Fin 16), i ∈ S c j) :
    (bigSep Finset.univ fun c : Fin 2 => bigSep Finset.univ fun j : Fin 16 => (ℓ ↦[S c.val j.val]{fullShare} f : sProp (MM F))) = ℓ ↦{fullShare} f := by
  rw [← BI.bigSep_univ_prod (fun x : Fin 2 × Fin 16 => (ℓ ↦[S x.1.val x.2.val]{fullShare} f : sProp (MM F))),
    ← pointsTo_biUnion (Finset.univ : Finset (Fin 2 × Fin 16)) (ℓ := ℓ) (fun x => S x.1.val x.2.val) (fun x _ y _ hxy => hdis _ _ _ _ hxy)]
  congr 1
  refine Finset.eq_univ_iff_forall.mpr fun i => ?_
  obtain ⟨c, j, h⟩ := hcov i
  exact Finset.mem_biUnion.mpr ⟨(c, j), Finset.mem_univ _, h⟩

/-- The pieces at contents of their own, each with a fact about them, join. -/
theorem pts_parts_join {ℓ : Loc nD τ sig} (f₀ : Buf (Elt F) ℓ) (S : ℕ → ℕ → Finset (Idx ℓ)) (φ : ℕ → ℕ → Buf (Elt F) ℓ → Prop)
    (hφ : ∀ c j f g, (∀ i ∈ S c j, f i = g i) → φ c j f → φ c j g)
    (hdis : ∀ (c c' : Fin 2) (j j' : Fin 16), (c, j) ≠ (c', j') → Disjoint (S c j) (S c' j')) (hcov : ∀ i, ∃ (c : Fin 2) (j : Fin 16), i ∈ S c j) :
    (bigSep Finset.univ fun c : Fin 2 => bigSep Finset.univ fun j : Fin 16 => (iprop(∃ f, ⌜φ c.val j.val f⌝ ∗ ℓ ↦[S c.val j.val]{fullShare} f) : sProp (MM F)))
      ⊢ iprop(∃ f, ⌜∀ (c : Fin 2) (j : Fin 16), φ c.val j.val f⌝ ∗ ℓ ↦{fullShare} f) := by
  have : Nonempty (Buf (Elt F) ℓ) := ⟨f₀⟩
  rw [← BI.bigSep_univ_prod (fun x : Fin 2 × Fin 16 => (iprop(∃ f, ⌜φ x.1.val x.2.val f⌝ ∗ ℓ ↦[S x.1.val x.2.val]{fullShare} f) : sProp (MM F)))]
  refine (bigSep_exists_pi _ (fun (x : Fin 2 × Fin 16) (f : Buf (Elt F) ℓ) => (iprop(⌜φ x.1.val x.2.val f⌝ ∗ ℓ ↦[S x.1.val x.2.val]{fullShare} f) : sProp (MM F)))).trans ?_
  iintro ⟨%fs, H⟩
  ihave H := (bigSep_pure_sep (Finset.univ : Finset (Fin 2 × Fin 16)) (fun x => φ x.1.val x.2.val (fs x))
    (fun x => (ℓ ↦[S x.1.val x.2.val]{fullShare} fs x : sProp (MM F)))) $$ H
  icases H with ⟨%hfs, H⟩
  ihave H := (pointsTo_biUnion_join (Finset.univ : Finset (Fin 2 × Fin 16)) (fun x => S x.1.val x.2.val) fs f₀ (fun x _ y _ hxy => hdis _ _ _ _ hxy)) $$ H
  icases H with ⟨%g, %hg, H⟩
  rw [show ((Finset.univ : Finset (Fin 2 × Fin 16)).biUnion fun x => S x.1.val x.2.val) = Finset.univ from Finset.eq_univ_iff_forall.mpr fun i => by
    obtain ⟨c, j, h⟩ := hcov i
    exact Finset.mem_biUnion.mpr ⟨(c, j), Finset.mem_univ _, h⟩]
  iexists g
  isplitr
  · ipureintro
    exact fun c j => hφ c.val j.val _ _ (fun i hi => (hg (c, j) (Finset.mem_univ _) i hi).symm) (hfs (c, j) (Finset.mem_univ _))
  iexact H

theorem outSet_disj (c c' : Fin 2) (j j' : Fin 16) (h : (c, j) ≠ (c', j')) : Disjoint (outSet c.val j.val) (outSet c'.val j'.val) := by
  refine Finset.disjoint_left.mpr fun i hi hi' => h ?_
  have h1 := (Finset.mem_filter.mp hi).2
  have h2 := (Finset.mem_filter.mp hi').2
  exact Prod.ext (Fin.ext (h1.1.symm.trans h2.1)) (Fin.ext (h1.2.symm.trans h2.2))

theorem outSet_cov (i : S2x4096.Idx) : ∃ (c : Fin 2) (j : Fin 16), i ∈ outSet c.val j.val := by
  have h1 : (i 1).val < 4096 := (i 1).isLt
  exact ⟨⟨(i 0).val, (i 0).isLt⟩, ⟨(i 1).val / 256, by omega⟩, Finset.mem_filter.mpr ⟨Finset.mem_univ _, rfl, rfl⟩⟩

/-- A buffer whose elements are dealt to the tiles of a core is its pieces. -/
theorem pts_tiles {ℓ : Loc nD τ sig} (f : Buf (Elt F) ℓ) (S : ℕ → Finset (Idx ℓ))
    (hdis : ∀ j j' : Fin 16, j ≠ j' → Disjoint (S j) (S j')) (hcov : ∀ i, ∃ j : Fin 16, i ∈ S j) :
    (bigSep Finset.univ fun j : Fin 16 => (ℓ ↦[S j.val]{fullShare} f : sProp (MM F))) = ℓ ↦{fullShare} f := by
  rw [← pointsTo_biUnion (Finset.univ : Finset (Fin 16)) (ℓ := ℓ) (fun x => S x.val) (fun x _ y _ hxy => hdis _ _ hxy)]
  congr 1
  refine Finset.eq_univ_iff_forall.mpr fun i => ?_
  obtain ⟨j, h⟩ := hcov i
  exact Finset.mem_biUnion.mpr ⟨j, Finset.mem_univ _, h⟩

/-- The pieces at contents of their own join. -/
theorem pts_tiles_join {ℓ : Loc nD τ sig} (f₀ : Buf (Elt F) ℓ) (S : ℕ → Finset (Idx ℓ))
    (hdis : ∀ j j' : Fin 16, j ≠ j' → Disjoint (S j) (S j')) (hcov : ∀ i, ∃ j : Fin 16, i ∈ S j) :
    (bigSep Finset.univ fun j : Fin 16 => (iprop(∃ f, ℓ ↦[S j.val]{fullShare} f) : sProp (MM F))) ⊢ iprop(∃ f, ℓ ↦{fullShare} f) := by
  have : Nonempty (Buf (Elt F) ℓ) := ⟨f₀⟩
  refine (bigSep_exists_pi _ (fun (x : Fin 16) (f : Buf (Elt F) ℓ) => (ℓ ↦[S x.val]{fullShare} f : sProp (MM F)))).trans ?_
  iintro ⟨%fs, H⟩
  ihave H := (pointsTo_biUnion_join (Finset.univ : Finset (Fin 16)) (fun x => S x.val) fs f₀ (fun x _ y _ hxy => hdis _ _ hxy)) $$ H
  icases H with ⟨%g, -, H⟩
  rw [show ((Finset.univ : Finset (Fin 16)).biUnion fun x => S x.val) = Finset.univ from Finset.eq_univ_iff_forall.mpr fun i => by
    obtain ⟨j, h⟩ := hcov i
    exact Finset.mem_biUnion.mpr ⟨j, Finset.mem_univ _, h⟩]
  iexists g
  iexact H

theorem shRow_disj (j j' : Fin 16) (h : j ≠ j') : Disjoint (shRow j.val) (shRow j'.val) :=
  Finset.disjoint_left.mpr fun _ hi hi' => h (Fin.ext ((Finset.mem_filter.mp hi).2.symm.trans (Finset.mem_filter.mp hi').2))
theorem shRow_cov (i : S16x4096.Idx) : ∃ j : Fin 16, i ∈ shRow j.val :=
  ⟨⟨(i 0).val, (i 0).isLt⟩, Finset.mem_filter.mpr ⟨Finset.mem_univ _, rfl⟩⟩
theorem shCol_disj (j j' : Fin 16) (h : j ≠ j') : Disjoint (shCol j.val) (shCol j'.val) :=
  Finset.disjoint_left.mpr fun _ hi hi' => h (Fin.ext ((Finset.mem_filter.mp hi).2.symm.trans (Finset.mem_filter.mp hi').2))
theorem shCol_cov (i : S16x4096.Idx) : ∃ j : Fin 16, i ∈ shCol j.val := by
  have h1 : (i 1).val < 4096 := (i 1).isLt
  exact ⟨⟨(i 1).val / 256, by omega⟩, Finset.mem_filter.mpr ⟨Finset.mem_univ _, rfl⟩⟩

end Cert.Proof.Scatter

end
-- ==== Proof.One.Spec.lean ====
/-
  What the kernel computes, as pure functions over any float values: one chunk of sixteen atoms
  (run starts and ends, the prefix sums, the run contributions, the masked scatter-adds), the
  chunks of a tile in order, and the sum of the sixteen tiles' accumulators of a core. The machine
  run (Chunk, Tile, Launch) is proved to leave these values; the value claim is about them.
-/
module

public import proofs.«01_k».proof.Proof.Gen.KernelIdeal.Skeleton

@[expose] public section

noncomputable section

namespace Cert.Proof.Scatter.One

open Cert.KernelIdeal Cert.KernelIdeal.Gen
open Idealize.ShloMosaic

variable {F : FTy → Type} [FloatOps F]

/-- Lane `k` of a sixteen-lane vector. -/
abbrev lane (k : Fin 16) : S16.Idx := fun a => ⟨k.val, by rw [Fin.eq_zero a]; exact k.isLt⟩

theorem exists_lane (l : S16.Idx) : ∃ k : Fin 16, l = lane k := ⟨l 0, funext fun a => Fin.ext (by rw [Fin.eq_zero a])⟩

/-- The accumulator's element number `n`. -/
abbrev at4 (n : ℕ) (h : n < 4096) : S4096.Idx := fun a => ⟨n, by rw [Fin.eq_zero a]; exact h⟩

/-- The long vector's element number `n`. -/
abbrev atN (n : ℕ) (h : n < 98304) : S98304.Idx := fun a => ⟨n, by rw [Fin.eq_zero a]; exact h⟩

/-- Sixteen consecutive elements of a long vector from position `o` on, wrapping around. -/
def win {α : Type} (g : S98304.Idx → α) (o : ℕ) : S16.Idx → α :=
  fun l => g (atN ((o + (l 0).val) % 98304) (Nat.mod_lt _ (by decide)))

/-- The masked scatter-add into the accumulator, lanes in ascending order. -/
def scat (a : S4096.Idx → F .f32) (ix : IVec S16 32) (v : FVec F S16 .f32) (mask : IVec S16 1) : S4096.Idx → F .f32 :=
  (List.finRange 16).foldl (fun g k =>
    if mask (lane k) = 1 then fun j => if (j 0).val = (ix (lane k)).toNat then FloatOps.idxAddf (g j) (v (lane k)) else g j
    else g) a

theorem storeIdx_eq_scat (a : Vec F S4096 .f32) (ix : IVec S16 32) (v : FVec F S16 .f32) (mask : IVec S16 1)
    (h : ∀ x y, ((![ix] : Fin 1 → IVec S16 32) x y).toNat < S4096.size x) :
    storeIdx (F := F) (s := S4096) (e := .f32) a ![ix] v mask true h = scat a ix v mask := by
  unfold storeIdx scat
  show List.foldl _ a (List.finRange 16) = _
  congr 1
  funext g k
  by_cases hm : mask (lane k) = 1
  · refine (if_pos hm).trans ((if_pos hm).trans ?_).symm
    funext j
    by_cases hj : (j 0).val = (ix (lane k)).toNat
    · have hall : ∀ x, (j x).val = (idxAt ![ix] h (lane k) x).val := fun x => by rw [Fin.eq_zero x]; exact hj
      have hjj : j = idxAt ![ix] h (lane k) := funext fun x => Fin.ext (hall x)
      refine (if_pos hj).trans (Eq.trans ?_ (if_pos hall).symm)
      rw [hjj]; rfl
    · have hall : ¬ ∀ x, (j x).val = (idxAt ![ix] h (lane k) x).val := fun hh => hj (hh 0)
      exact (if_neg hj).trans (if_neg hall).symm
  · exact (if_neg hm).trans (if_neg hm).symm

/-- The lane numbers. -/
abbrev lanes : IVec S16 32 := iota .scVector S16 32 [0] iota_S16_d0_w32_scVector

/-- The last lane of each run of equal words. -/
abbrev runEnd (cur nxt : IVec S16 32) : IVec S16 1 := k1_pay7 (F := F) lanes cur nxt
/-- Each lane's run start. -/
abbrev runStart (cur prv : IVec S16 32) : IVec S16 32 := k1_pay8 (F := F) lanes cur prv
/-- Four times the segment number. -/
abbrev four (cur : IVec S16 32) : IVec S16 32 := k1_pay9 (F := F) cur
/-- The prefix sums of a chunk. -/
abbrev csum (v : FVec F S16 .f32) : FVec F S16 .f32 := k1_pay17 v
/-- The prefix sums that leave the lane itself out. -/
abbrev esum (v : FVec F S16 .f32) : FVec F S16 .f32 := subf (csum v) v

/-- Those prefix sums at each lane's run start. -/
def atStart (st : IVec S16 32) (v : FVec F S16 .f32) : FVec F S16 .f32 :=
  fun l => esum v (lane ⟨(st l).toNat % 16, Nat.mod_lt _ (by decide)⟩)
/-- What a run has summed up to each lane. -/
def runSum (st : IVec S16 32) (v : FVec F S16 .f32) : FVec F S16 .f32 := subf (csum v) (atStart st v)

/-- The accumulator's index of component `c`. -/
abbrev slot (id4 : IVec S16 32) (c : BitVec 32) : IVec S16 32 := addi id4 (broadcast S16 c)

/-- One chunk: the four components' contributions scattered onto the accumulator. -/
def chunk (em : IVec S16 1) (st id4 : IVec S16 32) (q x y z : FVec F S16 .f32) (a : S4096.Idx → F .f32) : S4096.Idx → F .f32 :=
  scat (scat (scat (scat a (slot id4 0#32) (runSum st q) em) (slot id4 1#32) (runSum st x) em)
    (slot id4 2#32) (runSum st y) em) (slot id4 3#32) (runSum st z) em

section Arrays

variable (ids : S98304.Idx → BitVec 32) (q x y z : S98304.Idx → F .f32)

/-- Chunk `C` of the whole input onto an accumulator. -/
def chunkAt (C : ℕ) (a : S4096.Idx → F .f32) : S4096.Idx → F .f32 :=
  chunk (runEnd (F := F) (win ids (16 * C)) (win ids (16 * C + 1))) (runStart (F := F) (win ids (16 * C)) (win ids (16 * C + 98303)))
    (four (F := F) (win ids (16 * C))) (win q (16 * C)) (win x (16 * C)) (win y (16 * C)) (win z (16 * C)) a

/-- Tile `w`'s accumulator after its first `n` chunks. -/
def accN (w : ℕ) : ℕ → S4096.Idx → F .f32
  | 0 => fun _ => Scalar.ofBits .f32 0x00000000#32
  | n + 1 => chunkAt ids q x y z (192 * w + n) (accN w n)

/-- Tile `w`'s accumulator at the end. -/
abbrev accT (w : ℕ) : S4096.Idx → F .f32 := accN ids q x y z w 192

/-- A core's shared scratch, row `r` tile `r`'s accumulator. -/
def shV (c : ℕ) : S16x4096.Idx → F .f32 := fun i => accT ids q x y z (16 * c + (i 0).val) (at4 (i 1).val (i 1).isLt)

/-- The sixteen rows of a core added up, first to last. -/
def colSum (sh : Fin 16 → F .f32) : F .f32 :=
  FloatOps.addf (FloatOps.addf (FloatOps.addf (FloatOps.addf (FloatOps.addf (FloatOps.addf (FloatOps.addf (FloatOps.addf
    (FloatOps.addf (FloatOps.addf (FloatOps.addf (FloatOps.addf (FloatOps.addf (FloatOps.addf (FloatOps.addf
      (sh 0) (sh 1)) (sh 2)) (sh 3)) (sh 4)) (sh 5)) (sh 6)) (sh 7)) (sh 8)) (sh 9)) (sh 10)) (sh 11)) (sh 12)) (sh 13)) (sh 14)) (sh 15)

/-- What the call leaves in its result. -/
def outV : S2x4096.Idx → F .f32 := fun i =>
  colSum fun r => accT ids q x y z (16 * (i 0).val + r.val) (at4 (i 1).val (i 1).isLt)

end Arrays

/-- The five long vectors of the call. -/
structure In (F : FTy → Type) where
  ids : S98304.Idx → BitVec 32
  q : S98304.Idx → F .f32
  x : S98304.Idx → F .f32
  y : S98304.Idx → F .f32
  z : S98304.Idx → F .f32

/-- Tile `w`'s accumulator from them. -/
abbrev accI (I : In F) (w : ℕ) : S4096.Idx → F .f32 := accT I.ids I.q I.x I.y I.z w
/-- A core's shared scratch from them. -/
abbrev shI (I : In F) (c : ℕ) : S16x4096.Idx → F .f32 := shV I.ids I.q I.x I.y I.z c

end Cert.Proof.Scatter.One

end
-- ==== Proof.One.Common.lean ====
/-
  The call's buffers as its tiles name them, the pieces its tiles work on, and what the call's
  handshakes carry: tiles may be handed different vectors, each allowed by a relation.
-/
module

public import proofs.«01_k».proof.Proof.Base
public import proofs.«01_k».proof.Proof.One.Spec

@[expose] public section

noncomputable section

namespace Cert.Proof.Scatter.One

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers, as a tile names them -/

abbrev aI : Memref sig .scVector .hbm S98304 .i32 := Memref.whole main_v5_scv
abbrev aQ : Memref sig .scVector .hbm S98304 .f32 := Memref.whole main_v4_0_scv
abbrev aX : Memref sig .scVector .hbm S98304 .f32 := Memref.whole main_v4_1_scv
abbrev aY : Memref sig .scVector .hbm S98304 .f32 := Memref.whole main_v4_2_scv
abbrev aZ : Memref sig .scVector .hbm S98304 .f32 := Memref.whole main_v4_3_scv
abbrev aO : Memref sig .scVector .hbm S2x4096 .f32 := Memref.whole main_v6_scv
abbrev sI : Memref sig .scVector .vmem S3104 .i32 := Memref.whole cc1_scratch0
abbrev sQ : Memref sig .scVector .vmem S3072 .f32 := Memref.whole cc1_scratch1
abbrev sX : Memref sig .scVector .vmem S3072 .f32 := Memref.whole cc1_scratch2
abbrev sY : Memref sig .scVector .vmem S3072 .f32 := Memref.whole cc1_scratch3
abbrev sZ : Memref sig .scVector .vmem S3072 .f32 := Memref.whole cc1_scratch4
abbrev sE : Memref sig .scVector .vmem S128 .f32 := Memref.whole cc1_scratch5
abbrev sA : Memref sig .scVector .vmem S4096 .f32 := Memref.whole cc1_scratch6
abbrev sB : Memref sig .scVector .vmem S16x256 .f32 := Memref.whole cc1_scratch7
abbrev sR : Memref sig .scVector .vmem S256 .f32 := Memref.whole cc1_scratch8
abbrev sS : Memref sig .scVector .shared S16x4096 .f32 := Memref.whole cc1_scratch9

theorem nSub_call : (K (F := F)).nSub 0 = 16 := rfl
theorem nCore_call : (K (F := F)).nCore 0 = 2 := rfl
abbrev coreOf (c : Fin ((K (F := F)).nCore 0)) : Fin τ.nSC := (K (F := F)).core 0 c

abbrev iLoc (d : Dev nD) : Loc nD τ sig := (SparseCore.T d).loc main_v5
abbrev qLoc (d : Dev nD) : Loc nD τ sig := (SparseCore.T d).loc main_v4_0
abbrev xLoc (d : Dev nD) : Loc nD τ sig := (SparseCore.T d).loc main_v4_1
abbrev yLoc (d : Dev nD) : Loc nD τ sig := (SparseCore.T d).loc main_v4_2
abbrev zLoc (d : Dev nD) : Loc nD τ sig := (SparseCore.T d).loc main_v4_3
abbrev oLoc (d : Dev nD) : Loc nD τ sig := (SparseCore.T d).loc main_v6

/-- The atoms of tile `w`. -/
def inSet (w : ℕ) : Finset S98304.Idx := Finset.univ.filter fun i => (i 0).val / 3072 = w

abbrev shLoc (d : Dev nD) (c : Fin τ.nSC) : Loc nD τ sig := (d, shRefOf 0 c)

/-- The call's round of the barrier's cells. -/
abbrev rd : ℕ := 0

variable [FloatOps F]

/-- Which vectors the call may be handed. -/
abbrev InRel (F : FTy → Type) : Type := Dev nD → In F → Prop

variable (R : InRel F) (R' : ShRel F)

/-- Every segment number is below 1024. -/
def PreOK : Prop := ∀ (d : Dev nD) (I : In F), R d I → ∀ i, (I.ids i).toNat < 1024

/-- A core's shared scratch once written: every element some allowed vectors'. -/
def Rsh : ShRel F := fun d c f => ∀ i, ∃ I, R d I ∧ f i = shI I c.val i
/-- What the call leaves at one element of its result. -/
def Rout (d : Dev nD) (o : S2x4096.Idx → F .f32) (i : S2x4096.Idx) : Prop :=
  ∃ I : Fin 16 → In F, (∀ r, R d (I r)) ∧ o i = colSum fun r => accI (I r) (16 * (i 0).val + r.val) (at4 (i 1).val (i 1).isLt)

/-- The barrier's schedule, this call's round carrying this call's scratch. -/
abbrev bR : Rounds.Schedule (GSem nD τ sig) ℕ (MM F) := bRd (Rsh R) R'
abbrev kit (d : Dev nD) (c : Fin τ.nSC) (i : Fin τ.nSub) : sProp (MM F) := bkit (Rsh R) R' 0 d c i

/-! ## What the handshakes carry -/

/-- Tile `(c, j)`'s atoms. -/
def inPts (I : In F) (d : Dev nD) (c j : ℕ) : sProp (MM F) :=
  iprop((iLoc d ↦[inSet (16 * c + j)]{fullShare} I.ids) ∗ (qLoc d ↦[inSet (16 * c + j)]{fullShare} I.q)
    ∗ (xLoc d ↦[inSet (16 * c + j)]{fullShare} I.x) ∗ (yLoc d ↦[inSet (16 * c + j)]{fullShare} I.y)
    ∗ (zLoc d ↦[inSet (16 * c + j)]{fullShare} I.z))
/-- Its part of the result. -/
def outPts (d : Dev nD) (c j : ℕ) (f : S2x4096.Idx → F .f32) : sProp (MM F) := oLoc d ↦[outSet c j]{fullShare} f

/-- What a tile is handed of the arrays: its atoms, of allowed vectors, and its part of the result. -/
def stPart (d : Dev nD) (c j : ℕ) : sProp (MM F) :=
  iprop((∃ I : In F, ⌜R d I⌝ ∗ inPts I d c j) ∗ ∃ f, outPts d c j f)
/-- Its row of the shared scratch besides. -/
def shRowPart (d : Dev nD) (c : Fin τ.nSC) (j : ℕ) : sProp (MM F) :=
  iprop(∃ f, shLoc d c ↦[shRow j]{fullShare} f)
/-- What it brings back: its part of the result written. -/
def outPart (d : Dev nD) (c j : ℕ) : sProp (MM F) :=
  iprop(∃ o, ⌜∀ i ∈ outSet c j, Rout R d o i⌝ ∗ outPts d c j o)
/-- Its columns of the shared scratch. -/
def shColPart (d : Dev nD) (c : Fin τ.nSC) (j : ℕ) : sProp (MM F) :=
  iprop(∃ f, shLoc d c ↦[shCol j]{fullShare} f)

/-- Where the tile stands on its own barrier cell after the call. -/
def endAt (d : Dev nD) (c : Fin τ.nSC) (i : Fin τ.nSub) : sProp (MM F) :=
  iprop(atPos EB (bcell d c i) 1 ∅ 0 ∗ reached EB (bcell d c i) 1)

theorem endAt_intro (κ : GSem nD τ sig → ℕ) (d : Dev nD) (c : Fin τ.nSC) (i : Fin τ.nSub) :
    iprop(cellInv EB (bR R R') (κ (bcell d c i)) (bcell d c i) ∗ atPos EB (bcell d c i) (rd + 1) ∅ 0 ∗ reached EB (bcell d c i) (rd + 1))
      ⊢ |={Set.univ}=> (endAt d c i : sProp (MM F)) := by
  iintro ⟨-, Hat, Hr⟩
  imodintro
  unfold endAt
  isplitl [Hat] <;> iassumption

omit [FloatOps F] in
instance inPts_storable (I : In F) (d : Dev nD) (c j : ℕ) : BI.Storable (upEmb : UEmb _ (MM F)) (inPts I d c j) := by
  unfold inPts; infer_instance
omit [FloatOps F] in
instance outPts_storable (d : Dev nD) (c j : ℕ) (f : S2x4096.Idx → F .f32) : BI.Storable (upEmb : UEmb _ (MM F)) (outPts d c j f) := by
  unfold outPts; infer_instance
omit [FloatOps F] in
instance stPart_storable (d : Dev nD) (c j : ℕ) : BI.Storable (upEmb : UEmb _ (MM F)) (stPart R d c j) := by
  unfold stPart; infer_instance
omit [FloatOps F] in
instance shRowPart_storable (d : Dev nD) (c : Fin τ.nSC) (j : ℕ) : BI.Storable (upEmb : UEmb _ (MM F)) (shRowPart d c j) := by
  unfold shRowPart; infer_instance
instance outPart_storable (d : Dev nD) (c j : ℕ) : BI.Storable (upEmb : UEmb _ (MM F)) (outPart R d c j) := by
  unfold outPart; infer_instance
omit [FloatOps F] in
instance shColPart_storable (d : Dev nD) (c : Fin τ.nSC) (j : ℕ) : BI.Storable (upEmb : UEmb _ (MM F)) (shColPart d c j) := by
  unfold shColPart; infer_instance
omit [FloatOps F] in
instance endAt_storable (d : Dev nD) (c : Fin τ.nSC) (i : Fin τ.nSub) : BI.Storable (upEmb : UEmb _ (MM F)) (endAt d c i) := by
  unfold endAt; infer_instance

end Cert.Proof.Scatter.One

end
-- ==== Proof.One.Runs.lean ====
/-
  The runs of equal words of a chunk: where each lane's run starts (the running maximum of the
  start positions) and which lanes end a run, as statements about natural numbers.
-/
module

public import proofs.«01_k».proof.Proof.One.Spec

@[expose] public section

noncomputable section

namespace Cert.Proof.Scatter.One

open Cert.KernelIdeal Cert.KernelIdeal.Gen
open Idealize.ShloMosaic

variable {F : FTy → Type} [FloatOps F]

theorem lanes_apply (k : Fin 16) : lanes (lane k) = BitVec.ofNat 32 k.val := by
  show BitVec.ofNat 32 (0 * _ + k.val) = _
  rw [Nat.zero_mul, Nat.zero_add]

/-- A lane where a run starts. -/
def IsStart (cur prv : IVec S16 32) (k : Fin 16) : Prop := k.val = 0 ∨ cur (lane k) ≠ prv (lane k)
/-- A lane where a run ends. -/
def IsEnd (cur nxt : IVec S16 32) (k : Fin 16) : Prop := k.val = 15 ∨ cur (lane k) ≠ nxt (lane k)

instance (cur prv : IVec S16 32) (k : Fin 16) : Decidable (IsStart cur prv k) := by unfold IsStart; infer_instance
instance (cur nxt : IVec S16 32) (k : Fin 16) : Decidable (IsEnd cur nxt k) := by unfold IsEnd; infer_instance

theorem ofBool_or_one (a b : Bool) : (IntOp.ori (BitVec.ofBool a) (BitVec.ofBool b) = 1) ↔ (a = true ∨ b = true) := by
  revert a b; decide

theorem ofNat_eq_iff {a b : ℕ} (ha : a < 16) (hb : b < 16) : (BitVec.ofNat 32 a == BitVec.ofNat 32 b) = true ↔ a = b := by
  rw [beq_iff_eq]
  constructor
  · intro h
    have := congrArg BitVec.toNat h
    rwa [BitVec.toNat_ofNat, BitVec.toNat_ofNat, Nat.mod_eq_of_lt (by omega), Nat.mod_eq_of_lt (by omega)] at this
  · rintro rfl; rfl

theorem runEnd_iff (cur nxt : IVec S16 32) (k : Fin 16) : runEnd (F := F) cur nxt (lane k) = 1 ↔ IsEnd cur nxt k := by
  show IntOp.ori (BitVec.ofBool (lanes (lane k) == BitVec.ofNat 32 15)) (BitVec.ofBool (cur (lane k) != nxt (lane k))) = 1 ↔ _
  rw [ofBool_or_one, lanes_apply, ofNat_eq_iff k.isLt (by decide), bne_iff_ne]; rfl

/-- The start mask of a chunk. -/
abbrev startMask (cur prv : IVec S16 32) : IVec S16 1 := ori (cmpi .eq lanes (broadcast S16 0#32)) (cmpi .ne cur prv)

theorem startMask_iff (cur prv : IVec S16 32) (k : Fin 16) : startMask cur prv (lane k) = 1 ↔ IsStart cur prv k := by
  show IntOp.ori (BitVec.ofBool (lanes (lane k) == BitVec.ofNat 32 0)) (BitVec.ofBool (cur (lane k) != prv (lane k))) = 1 ↔ _
  rw [ofBool_or_one, lanes_apply, ofNat_eq_iff k.isLt (by decide), bne_iff_ne]; rfl

/-- The start positions, the other lanes at zero. -/
def startPos (cur prv : IVec S16 32) (k : Fin 16) : ℕ := if IsStart cur prv k then k.val else 0

theorem startPos_lt (cur prv : IVec S16 32) (k : Fin 16) : startPos cur prv k < 16 := by
  unfold startPos; split <;> omega

theorem maxui_flip {a b : ℕ} (ha : a < 16) (hb : b < 16) :
    IntOp.maxui (BitVec.ofNat 32 a ^^^ 2147483648#32) (BitVec.ofNat 32 b ^^^ 2147483648#32) = BitVec.ofNat 32 (max a b) ^^^ 2147483648#32 := by
  have h : ∀ i j : Fin 16, IntOp.maxui (BitVec.ofNat 32 i.val ^^^ 2147483648#32) (BitVec.ofNat 32 j.val ^^^ 2147483648#32)
      = BitVec.ofNat 32 (max i.val j.val) ^^^ 2147483648#32 := by decide
  exact h ⟨a, ha⟩ ⟨b, hb⟩

theorem foldl_maxui (g : Fin 16 → ℕ) (hg : ∀ k, g k < 16) (l : List (Fin 16)) : ∀ n, n < 16 →
    l.foldl (fun r k => IntOp.maxui r (BitVec.ofNat 32 (g k) ^^^ 2147483648#32)) (BitVec.ofNat 32 n ^^^ 2147483648#32)
      = BitVec.ofNat 32 (l.foldl (fun r k => max r (g k)) n) ^^^ 2147483648#32 := by
  induction l with
  | nil => intro n _; rfl
  | cons a l ih =>
    intro n hn
    rw [List.foldl_cons, List.foldl_cons, maxui_flip hn (hg a)]
    exact ih _ (max_lt hn (hg a))

theorem foldl_max_spec (g : Fin 16 → ℕ) (l : List (Fin 16)) : ∀ n,
    n ≤ l.foldl (fun r k => max r (g k)) n ∧ (∀ k ∈ l, g k ≤ l.foldl (fun r k => max r (g k)) n)
      ∧ (l.foldl (fun r k => max r (g k)) n = n ∨ ∃ k ∈ l, l.foldl (fun r k => max r (g k)) n = g k) := by
  induction l with
  | nil => intro n; exact ⟨le_rfl, by simp, .inl rfl⟩
  | cons a l ih =>
    intro n
    rw [List.foldl_cons]
    obtain ⟨h1, h2, h3⟩ := ih (max n (g a))
    refine ⟨(le_max_left _ _).trans h1, ?_, ?_⟩
    · intro k hk
      rcases List.mem_cons.mp hk with rfl | hk
      · exact (le_max_right _ _).trans h1
      · exact h2 k hk
    · rcases h3 with h3 | ⟨k, hk, h3⟩
      · rcases max_choice n (g a) with hm | hm
        · exact .inl (h3.trans hm)
        · exact .inr ⟨a, List.mem_cons_self, h3.trans hm⟩
      · exact .inr ⟨k, List.mem_cons_of_mem _ hk, h3⟩

/-- The last run start at or before lane `j`, as the running maximum takes it. -/
def startNat (cur prv : IVec S16 32) (j : Fin 16) : ℕ :=
  ((List.finRange 16).filter fun k => decide (0 < k.val ∧ k.val ≤ j.val)).foldl (fun r k => max r (startPos cur prv k)) (startPos cur prv 0)

theorem flip_apply (cur prv : IVec S16 32) (k : Fin 16) :
    xori (select (startMask cur prv) lanes (broadcast S16 0#32)) (broadcast S16 2147483648#32) (lane k)
      = BitVec.ofNat 32 (startPos cur prv k) ^^^ 2147483648#32 := by
  show (if startMask cur prv (lane k) = 1 then lanes (lane k) else 0#32) ^^^ 2147483648#32 = _
  rw [lanes_apply]
  unfold startPos
  by_cases h : IsStart cur prv k
  · rw [if_pos h, if_pos ((startMask_iff cur prv k).mpr h)]
  · rw [if_neg h, if_neg fun hh => h ((startMask_iff cur prv k).mp hh)]

theorem runStart_apply (cur prv : IVec S16 32) (j : Fin 16) : runStart (F := F) cur prv (lane j) = BitVec.ofNat 32 (startNat cur prv j) := by
  show (((List.finRange 16).filter fun k => decide (0 < k.val ∧ k.val ≤ j.val)).foldl
      (fun r k => IntOp.maxui r (xori (select (startMask cur prv) lanes (broadcast S16 0#32)) (broadcast S16 2147483648#32) (lane k)))
      (xori (select (startMask cur prv) lanes (broadcast S16 0#32)) (broadcast S16 2147483648#32) (lane 0))) ^^^ 2147483648#32 = _
  simp only [flip_apply]
  rw [foldl_maxui _ (startPos_lt cur prv) _ _ (startPos_lt cur prv 0), BitVec.xor_assoc, BitVec.xor_self, BitVec.xor_zero]
  rfl

/-- Each lane's run start: a start, not after the lane, none between. -/
theorem startNat_spec (cur prv : IVec S16 32) (j : Fin 16) : ∃ s : Fin 16, startNat cur prv j = s.val ∧ s.val ≤ j.val ∧ IsStart cur prv s
    ∧ ∀ k : Fin 16, s.val < k.val → k.val ≤ j.val → ¬ IsStart cur prv k := by
  obtain ⟨h1, h2, h3⟩ := foldl_max_spec (startPos cur prv) ((List.finRange 16).filter fun k => decide (0 < k.val ∧ k.val ≤ j.val)) (startPos cur prv 0)
  have h0 : startPos cur prv 0 = 0 := by unfold startPos; split <;> rfl
  have hno : ∀ k : Fin 16, startNat cur prv j < k.val → k.val ≤ j.val → ¬ IsStart cur prv k := by
    intro k hk hkj hs
    have := h2 k (List.mem_filter.mpr ⟨List.mem_finRange k, by simpa using ⟨by omega, hkj⟩⟩)
    rw [show startPos cur prv k = k.val from if_pos hs] at this
    exact absurd hk (not_lt.mpr this)
  rcases h3 with h3 | ⟨k, hk, h3⟩
  · have h3' : startNat cur prv j = 0 := h3.trans h0
    refine ⟨0, h3', Nat.zero_le _, .inl rfl, fun k hk => hno k (by rw [h3']; exact hk)⟩
  · have hk' : 0 < k.val ∧ k.val ≤ j.val := by simpa using (List.mem_filter.mp hk).2
    by_cases hs : IsStart cur prv k
    · have h3' : startNat cur prv j = k.val := h3.trans (if_pos hs)
      exact ⟨k, h3', hk'.2, hs, fun i hi => hno i (by rw [h3']; exact hi)⟩
    · have h3' : startNat cur prv j = 0 := h3.trans (if_neg hs)
      exact ⟨0, h3', Nat.zero_le _, .inl rfl, fun i hi => hno i (by rw [h3']; exact hi)⟩

theorem startNat_le (cur prv : IVec S16 32) (j : Fin 16) : startNat cur prv j ≤ j.val := by
  obtain ⟨s, h, h', -⟩ := startNat_spec cur prv j; omega

theorem runStart_toNat (cur prv : IVec S16 32) (j : Fin 16) : (runStart (F := F) cur prv (lane j)).toNat = startNat cur prv j := by
  rw [runStart_apply, BitVec.toNat_ofNat]
  exact Nat.mod_eq_of_lt (by have := startNat_le cur prv j; omega)

theorem runStart_lt (cur prv : IVec S16 32) (l : S16.Idx) : (runStart (F := F) cur prv l).toNat < 16 := by
  obtain ⟨k, rfl⟩ := exists_lane l
  rw [runStart_toNat]
  exact lt_of_le_of_lt (startNat_le cur prv k) k.isLt

/-- The run starts look at the previous words of lanes one to fifteen only. -/
theorem runStart_congr (cur : IVec S16 32) {prv prv' : IVec S16 32} (h : ∀ k : Fin 16, k.val ≠ 0 → prv (lane k) = prv' (lane k)) :
    runStart (F := F) cur prv = runStart (F := F) cur prv' := by
  have hs : ∀ k, IsStart cur prv k ↔ IsStart cur prv' k := fun k => by
    unfold IsStart
    by_cases hk : k.val = 0
    · simp [hk]
    · rw [h k hk]
  have hp : startPos cur prv = startPos cur prv' := funext fun k => by unfold startPos; simp only [hs]
  funext l
  obtain ⟨k, rfl⟩ := exists_lane l
  rw [runStart_apply, runStart_apply]
  unfold startNat; rw [hp]

/-- The run ends look at the next words of lanes zero to fourteen only. -/
theorem runEnd_congr (cur : IVec S16 32) {nxt nxt' : IVec S16 32} (h : ∀ k : Fin 16, k.val ≠ 15 → nxt (lane k) = nxt' (lane k)) :
    runEnd (F := F) cur nxt = runEnd (F := F) cur nxt' := by
  funext l
  obtain ⟨k, rfl⟩ := exists_lane l
  by_cases hk : k.val = 15
  · have h1 := (runEnd_iff (F := F) cur nxt k).mpr (.inl hk)
    have h2 := (runEnd_iff (F := F) cur nxt' k).mpr (.inl hk)
    rw [h1, h2]
  · show IntOp.ori _ (BitVec.ofBool (cur (lane k) != nxt (lane k))) = IntOp.ori _ (BitVec.ofBool (cur (lane k) != nxt' (lane k)))
    rw [h k hk]

/-- Four times a small segment number and a component: the accumulator's index. -/
theorem slot_toNat (cur : IVec S16 32) (c : ℕ) (hc : c < 4) (l : S16.Idx) (h : (cur l).toNat < 1024) :
    (slot (four (F := F) cur) (BitVec.ofNat 32 c) l).toNat = 4 * (cur l).toNat + c := by
  show (cur l * 4#32 + BitVec.ofNat 32 c).toNat = _
  rw [BitVec.toNat_add, BitVec.toNat_mul, BitVec.toNat_ofNat, BitVec.toNat_ofNat]
  omega

theorem add_toNat (st : IVec S16 32) (o : ℕ) (ho : o ≤ 112) (l : S16.Idx) (h : (st l).toNat < 16) :
    (addi (broadcast S16 (BitVec.ofNat 32 o)) st l).toNat = o + (st l).toNat := by
  show (BitVec.ofNat 32 o + st l).toNat = _
  rw [BitVec.toNat_add, BitVec.toNat_ofNat]
  omega

end Cert.Proof.Scatter.One

end
-- ==== Proof.One.Chunk.lean ====
/-
  One chunk of the tile's main loop on the machine: what the loads, the store of the prefix sums,
  the gather at the run starts and the masked scatter-add leave, and one trip of the loop (two
  chunks of sixteen atoms) as a straight line of such steps.
-/
module

public import proofs.«01_k».proof.Proof.One.Common
public import proofs.«01_k».proof.Proof.One.Runs
public import Idealize.ShloMosaic.Lib.Writes

@[expose] public section

noncomputable section

namespace Cert.Proof.Scatter.One

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A tile's program at its coordinates. -/
abbrev TProg (F : FTy → Type) (L : grid1.Coords) (α : Type) : Type 1 :=
  Prog (TpuEff nD τ sig (Elt F) Λ₀ (.scVector ((L 0).castLE hcore1) ((L 1).castLE hsub1))) α

/-- One component of a chunk: the values loaded, the shifted prefix sums stored, gathered at the run
    starts, and the run sums scattered onto the accumulator at the run ends. -/
def compProg (L : grid1.Coords) (vr : Memref sig .scVector .vmem S3072 .f32) (vo : Fin 1 → ℕ) (vi : ∀ a, vo a + S16.size a ≤ S3072.size a)
    (eo : Fin 1 → ℕ) (ei : ∀ a, eo a + S16.size a ≤ S128.size a) (em : IVec S16 1) (ix1 ix2 : IVec S16 32)
    (P1 : Prop) (d1 : Decidable P1) (H1 : P1 → ∀ a x, ((![ix1] : Fin 1 → IVec S16 32) a x).toNat < S128.size a)
    (P2 : Prop) (d2 : Decidable P2) (H2 : P2 → ∀ a x, ((![ix2] : Fin 1 → IVec S16 32) a x).toNat < S4096.size a)
    (k : TProg F L (BitVec 32)) : TProg F L (BitVec 32) :=
  .op (.load vr (Rect.unit (s := S3072) vo S16.size vi).toLoadRect (View.loadsAt_vmem h_S16)) fun (v : Vec F S16 .f32) =>
  .op (.load sE (Rect.unit (s := S128) eo S16.size ei).toLoadRect (View.loadsAt_vmem h_S16)) fun (_ : Vec F S16 .f32) =>
  .op (.store sE (Rect.unit (s := S128) eo S16.size ei) (esum v) Finset.univ (View.stores_vmem_bits_univ h_S16 rfl) (.inl rfl)) fun _ =>
  .op (.assume P1 d1) fun h1 =>
  .op (.load sE (.whole S128) (View.loadsAt_whole (View.loads_vmem h_S128))) fun (f : Vec F S128 .f32) =>
  .op (.assume P2 d2) fun h2 =>
  .op (.load sA (.whole S4096) (View.loadsAt_rect (View.stores_vmem_bits_univ h_S4096 rfl : (sA.access (.whole S4096)).Stores Finset.univ).loads))
    fun (g : Vec F S4096 .f32) =>
  .op (.store sA (.whole S4096) (storeIdx (F := F) (s := S4096) (e := .f32) g ![ix2] (subf (csum v) (loadIdx (s := S128) f ![ix1] (H1 h1.down))) em true (H2 h2.down)) Finset.univ
    (View.stores_vmem_bits_univ h_S4096 rfl) (.inl rfl)) fun _ => k

set_option maxRecDepth 65536 in
/-- One trip of the main loop is two chunks, one after the other. -/
theorem t2_trip (L : grid1.Coords) (k : Fin k1_t2_loop.trips) (acc : BitVec 32) :
    k1_t2_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc1_scratch10 cc1_scoped0 cc1_scoped1 cc1_scoped2 lanes 0#32 1#32 k acc =
    .op (.load sI (Rect.unit (s := S3104) (k1_off3 k) S16.size (k1_off3_inb k)).toLoadRect (View.loadsAt_vmem h_S16)) fun (cur : Vec F S16 .i32) =>
    .op (.load sI (Rect.unit (s := S3104) (k1_off4 k) S16.size (k1_off4_inb k)).toLoadRect (View.loadsAt_vmem h_S16)) fun (prv : Vec F S16 .i32) =>
    .op (.load sI (Rect.unit (s := S3104) (k1_off5 k) S16.size (k1_off5_inb k)).toLoadRect (View.loadsAt_vmem h_S16)) fun (nxt : Vec F S16 .i32) =>
    compProg L sQ (k1_off6 k) (k1_off6_inb k) ![0] inb_S128_S16_0 (runEnd (F := F) cur nxt) (addi (broadcast S16 0#32) (runStart (F := F) cur prv)) (slot (four (F := F) cur) 0#32)
      (k1_chk1 _) (k1_chk1.dec _) (k1_idx1_inb _) (k1_chk2 _) (k1_chk2.dec _) (k1_idx2_inb _) <|
    compProg L sX (k1_off7 k) (k1_off7_inb k) ![16] inb_S128_S16_16 (runEnd (F := F) cur nxt) (addi (broadcast S16 16#32) (runStart (F := F) cur prv)) (slot (four (F := F) cur) 1#32)
      (k1_chk3 _) (k1_chk3.dec _) (k1_idx3_inb _) (k1_chk4 _) (k1_chk4.dec _) (k1_idx4_inb _) <|
    compProg L sY (k1_off8 k) (k1_off8_inb k) ![32] inb_S128_S16_32 (runEnd (F := F) cur nxt) (addi (broadcast S16 32#32) (runStart (F := F) cur prv)) (slot (four (F := F) cur) 2#32)
      (k1_chk5 _) (k1_chk5.dec _) (k1_idx5_inb _) (k1_chk6 _) (k1_chk6.dec _) (k1_idx6_inb _) <|
    compProg L sZ (k1_off9 k) (k1_off9_inb k) ![48] inb_S128_S16_48 (runEnd (F := F) cur nxt) (addi (broadcast S16 48#32) (runStart (F := F) cur prv)) (slot (four (F := F) cur) 3#32)
      (k1_chk7 _) (k1_chk7.dec _) (k1_idx7_inb _) (k1_chk8 _) (k1_chk8.dec _) (k1_idx8_inb _) <|
    .op (.load sI (Rect.unit (s := S3104) (k1_off10 k) S16.size (k1_off10_inb k)).toLoadRect (View.loadsAt_vmem h_S16)) fun (cur : Vec F S16 .i32) =>
    .op (.load sI (Rect.unit (s := S3104) (k1_off11 k) S16.size (k1_off11_inb k)).toLoadRect (View.loadsAt_vmem h_S16)) fun (prv : Vec F S16 .i32) =>
    .op (.load sI (Rect.unit (s := S3104) (k1_off12 k) S16.size (k1_off12_inb k)).toLoadRect (View.loadsAt_vmem h_S16)) fun (nxt : Vec F S16 .i32) =>
    compProg L sQ (k1_off13 k) (k1_off13_inb k) ![64] inb_S128_S16_64 (runEnd (F := F) cur nxt) (addi (broadcast S16 64#32) (runStart (F := F) cur prv)) (slot (four (F := F) cur) 0#32)
      (k1_chk9 _) (k1_chk9.dec _) (k1_idx9_inb _) (k1_chk10 _) (k1_chk10.dec _) (k1_idx10_inb _) <|
    compProg L sX (k1_off14 k) (k1_off14_inb k) ![80] inb_S128_S16_80 (runEnd (F := F) cur nxt) (addi (broadcast S16 80#32) (runStart (F := F) cur prv)) (slot (four (F := F) cur) 1#32)
      (k1_chk11 _) (k1_chk11.dec _) (k1_idx11_inb _) (k1_chk12 _) (k1_chk12.dec _) (k1_idx12_inb _) <|
    compProg L sY (k1_off15 k) (k1_off15_inb k) ![96] inb_S128_S16_96 (runEnd (F := F) cur nxt) (addi (broadcast S16 96#32) (runStart (F := F) cur prv)) (slot (four (F := F) cur) 2#32)
      (k1_chk13 _) (k1_chk13.dec _) (k1_idx13_inb _) (k1_chk14 _) (k1_chk14.dec _) (k1_idx14_inb _) <|
    compProg L sZ (k1_off16 k) (k1_off16_inb k) ![112] inb_S128_S16_112 (runEnd (F := F) cur nxt) (addi (broadcast S16 112#32) (runStart (F := F) cur prv)) (slot (four (F := F) cur) 3#32)
      (k1_chk15 _) (k1_chk15.dec _) (k1_idx15_inb _) (k1_chk16 _) (k1_chk16.dec _) (k1_idx16_inb _) <|
    .ret 0#32 := rfl

section Comp

variable (d : Dev nD) (L : grid1.Coords)

/-- The tile's thread. -/
abbrev thr : Thread nD τ := SparseCore.V d ((L 0).castLE hcore1) ((L 1).castLE hsub1)

/-- The prefix sums stored at position `o` of the sixteen-lane rows, gathered at the run starts. -/
theorem gather_eq (o : ℕ) (ho : o ≤ 112) (ei : ∀ a, (![o] : Fin 1 → ℕ) a + S16.size a ≤ S128.size a) (st : IVec S16 32) (hst : ∀ l, (st l).toNat < 16)
    (v : FVec F S16 .f32) (e : Buf (Elt F) ((sE : Memref sig .scVector .vmem S128 .f32).view.loc (thr d L)))
    (h : ∀ a x, ((![addi (broadcast S16 (BitVec.ofNat 32 o)) st] : Fin 1 → IVec S16 32) a x).toNat < S128.size a) :
    loadIdx (F := F) (s := S128) (e := .f32) ((sE : Memref sig .scVector .vmem S128 .f32).view.readAt (Elt F) (.whole S128)
        (((sE : Memref sig .scVector .vmem S128 .f32).access (Rect.unit (s := S128) ![o] S16.size ei)).write (Elt F) e (esum v) Finset.univ))
      ![addi (broadcast S16 (BitVec.ofNat 32 o)) st] h = atStart st v := by
  funext l
  show (sE : Memref sig .scVector .vmem S128 .f32).view.read (Elt F) ((sE : Memref sig .scVector .vmem S128 .f32).view.writes (Elt F) e
    [⟨Rect.unit (s := S128) ![o] S16.size ei, esum v⟩]) _ = _
  refine (View.read_writes_cons_hit_of_coords (Val := Elt F) (e := .f32) _ _ (Rect.unit (s := S128) ![o] S16.size ei) (esum v) [] (lane ⟨(st l).toNat % 16, Nat.mod_lt _ (by decide)⟩) _ ?_).trans rfl
  intro a
  obtain rfl : a = 0 := Subsingleton.elim _ _
  have h1 := add_toNat st o ho l (hst l)
  show 0 + 1 * (addi (broadcast S16 (BitVec.ofNat 32 o)) st l).toNat = o + 1 * ((st l).toNat % 16)
  rw [h1, Nat.mod_eq_of_lt (hst l)]; omega

/-- One component of a chunk: the prefix-sum scratch is used up, the accumulator gains the run sums. -/
theorem wp_comp (vr : Memref sig .scVector .vmem S3072 .f32) (vo : Fin 1 → ℕ) (vi : ∀ a, vo a + S16.size a ≤ S3072.size a)
    (o : ℕ) (ho : o ≤ 112) (ei : ∀ a, (![o] : Fin 1 → ℕ) a + S16.size a ≤ S128.size a) (em : IVec S16 1) (st ix2 : IVec S16 32)
    (P1 : Prop) (d1 : Decidable P1) (H1 : P1 → ∀ a x, ((![addi (broadcast S16 (BitVec.ofNat 32 o)) st] : Fin 1 → IVec S16 32) a x).toNat < S128.size a)
    (P2 : Prop) (d2 : Decidable P2) (H2 : P2 → ∀ a x, ((![ix2] : Fin 1 → IVec S16 32) a x).toNat < S4096.size a)
    (h1 : P1) (h2 : P2) (hst : ∀ l, (st l).toNat < 16)
    (k : TProg F L (BitVec 32)) (Q : BitVec 32 → sProp (MM F)) (v : FVec F S16 .f32) (fv : Buf (Elt F) (vr.view.loc (thr d L)))
    (hv : vr.view.readAt (Elt F) (Rect.unit (s := S3072) vo S16.size vi).toLoadRect fv = v) (a : S4096.Idx → F .f32) :
    iprop((vr.view.loc (thr d L) ↦{fullShare} fv) ∗ (∃ e, (thr d L).loc cc1_scratch5 ↦{fullShare} e) ∗ (thr d L).loc cc1_scratch6 ↦{fullShare} a)
      ⊢ iprop((iprop((vr.view.loc (thr d L) ↦{fullShare} fv) ∗ (∃ e, (thr d L).loc cc1_scratch5 ↦{fullShare} e)
            ∗ (thr d L).loc cc1_scratch6 ↦{fullShare} scat a ix2 (runSum st v) em)
          -∗ wp frame (wpE (defs₀ (F := F)) 𝒱₀ (thr d L) none) Set.univ k Q)
        -∗ wp frame (wpE (defs₀ (F := F)) 𝒱₀ (thr d L) none) Set.univ
          (compProg L vr vo vi ![o] ei em (addi (broadcast S16 (BitVec.ofNat 32 o)) st) ix2 P1 d1 H1 P2 d2 H2 k) Q) := by
  unfold compProg
  iintro ⟨Hv, ⟨%e, He⟩, Ha⟩ Hk
  iapply (wp_load 𝒱₀ (thr d L) none Set.univ (m := vr) (S := Finset.univ) (Finset.subset_univ _)) $$ Hv; iintro Hv
  rw [hv]
  iapply (wp_load 𝒱₀ (thr d L) none Set.univ (m := (sE : Memref sig .scVector .vmem S128 .f32)) (S := Finset.univ) (Finset.subset_univ _)) $$ He; iintro He
  iapply (wp_store 𝒱₀ (thr d L) none Set.univ (m := (sE : Memref sig .scVector .vmem S128 .f32)) (r := Rect.unit (s := S128) ![o] S16.size ei) (Mk := Finset.univ) (S := Finset.univ)
    (Finset.subset_univ _)) $$ He; iintro He
  rw [wp_assume_of _ _ _ _ h1]
  iapply (wp_load 𝒱₀ (thr d L) none Set.univ (m := (sE : Memref sig .scVector .vmem S128 .f32)) (S := Finset.univ) (Finset.subset_univ _)) $$ He; iintro He
  rw [wp_assume_of _ _ _ _ h2]
  iapply (wp_load_whole 𝒱₀ (thr d L) none Set.univ) $$ Ha; iintro Ha
  iapply (wp_store_whole 𝒱₀ (thr d L) none Set.univ) $$ Ha; iintro Ha
  iapply Hk
  isplitl [Hv]; · iexact Hv
  isplitl [He]; · iexists _; iexact He
  rw [storeIdx_eq_scat, gather_eq d L o ho ei st hst v e]
  iexact Ha

end Comp

end Cert.Proof.Scatter.One

end
-- ==== Proof.One.Trip.lean ====
/-
  One trip of the tile's main loop: from the tile's atoms in its scratches, the two chunks leave
  the accumulator two chunks further.
-/
module

public import proofs.«01_k».proof.Proof.One.Chunk

@[expose] public section

noncomputable section

namespace Cert.Proof.Scatter.One

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- The segment numbers of tile `w` lie in its scratch, from position 16 on. -/
def HoldsI (ids : S98304.Idx → BitVec 32) (w : ℕ) (f : S3104.Idx → BitVec 32) : Prop :=
  ∀ i : S3104.Idx, 16 ≤ (i 0).val → (i 0).val < 3088 → f i = ids (atN ((3072 * w + ((i 0).val - 16)) % 98304) (Nat.mod_lt _ (by decide)))
/-- Tile `w`'s values lie in its scratch. -/
def HoldsV {α : Type} (g : S98304.Idx → α) (w : ℕ) (f : S3072.Idx → α) : Prop :=
  ∀ i : S3072.Idx, f i = g (atN ((3072 * w + (i 0).val) % 98304) (Nat.mod_lt _ (by decide)))

theorem atN_congr {α : Type} (g : S98304.Idx → α) {n m : ℕ} (hn : n < 98304) (hm : m < 98304) (h : n = m) : g (atN n hn) = g (atN m hm) := by
  subst h; rfl

variable [FloatOps F] (d : Dev nD) (L : grid1.Coords)

section Reads
variable (ids : S98304.Idx → BitVec 32) (w C : ℕ) (f : S3104.Idx → BitVec 32)

theorem readI_apply (off : Fin 1 → ℕ) (inb : ∀ a, off a + S16.size a ≤ S3104.size a) (k : Fin 16) :
    (sI : Memref sig .scVector .vmem S3104 .i32).view.readAt (Elt F) (Rect.unit (s := S3104) off S16.size inb).toLoadRect f (lane k)
      = f (fun a => ⟨off 0 + k.val, by rw [Fin.eq_zero a]; exact lt_of_lt_of_le (Nat.add_lt_add_left k.isLt _) (inb 0)⟩) := by
  refine congrArg f (funext fun (a : Fin 1) => Fin.ext ?_)
  obtain rfl : a = 0 := Subsingleton.elim _ _
  show off 0 + 1 * k.val = off 0 + k.val
  omega

theorem readV_apply (vr : Memref sig .scVector .vmem S3072 .f32) (fv : Buf (Elt F) (vr.view.loc (thr d L))) (g : S3072.Idx → F .f32)
    (hg : vr.view.read (Elt F) fv = g) (off : Fin 1 → ℕ) (inb : ∀ a, off a + S16.size a ≤ S3072.size a) (k : Fin 16) :
    vr.view.readAt (Elt F) (Rect.unit (s := S3072) off S16.size inb).toLoadRect fv (lane k)
      = g (fun a => ⟨off 0 + k.val, by rw [Fin.eq_zero a]; exact lt_of_lt_of_le (Nat.add_lt_add_left k.isLt _) (inb 0)⟩) := by
  rw [View.readAt_apply, hg]
  refine congrArg g (funext fun a => Fin.ext ?_)
  obtain rfl : a = 0 := Subsingleton.elim _ _
  show off 0 + 1 * k.val = off 0 + k.val
  omega

variable {ids w f}

theorem readI_cur (h : HoldsI ids w f) (n : ℕ) (hn : n < 192) (hC : C = 192 * w + n) (off : Fin 1 → ℕ) (ho : off = ![16 * n + 16]) (inb : ∀ a, off a + S16.size a ≤ S3104.size a) :
    (sI : Memref sig .scVector .vmem S3104 .i32).view.readAt (Elt F) (Rect.unit (s := S3104) off S16.size inb).toLoadRect f = win ids (16 * C) := by
  subst ho
  funext l
  obtain ⟨k, rfl⟩ := exists_lane l
  rw [readI_apply (F := F), h _ (show 16 ≤ 16 * n + 16 + k.val by omega) (show 16 * n + 16 + k.val < 3088 by omega)]
  exact atN_congr ids _ _ (show (3072 * w + (16 * n + 16 + k.val - 16)) % 98304 = (16 * C + k.val) % 98304 by omega)

theorem readI_prv (h : HoldsI ids w f) (n : ℕ) (hn : n < 192) (hC : C = 192 * w + n) (off : Fin 1 → ℕ) (ho : off = ![16 * n + 15]) (inb : ∀ a, off a + S16.size a ≤ S3104.size a)
    (k : Fin 16) (hk : k.val ≠ 0) :
    (sI : Memref sig .scVector .vmem S3104 .i32).view.readAt (Elt F) (Rect.unit (s := S3104) off S16.size inb).toLoadRect f (lane k) = win ids (16 * C + 98303) (lane k) := by
  subst ho
  rw [readI_apply (F := F), h _ (show 16 ≤ 16 * n + 15 + k.val by omega) (show 16 * n + 15 + k.val < 3088 by omega)]
  exact atN_congr ids _ _ (show (3072 * w + (16 * n + 15 + k.val - 16)) % 98304 = (16 * C + 98303 + k.val) % 98304 by omega)

theorem readI_nxt (h : HoldsI ids w f) (n : ℕ) (hn : n < 192) (hC : C = 192 * w + n) (off : Fin 1 → ℕ) (ho : off = ![16 * n + 17]) (inb : ∀ a, off a + S16.size a ≤ S3104.size a)
    (k : Fin 16) (hk : k.val ≠ 15) :
    (sI : Memref sig .scVector .vmem S3104 .i32).view.readAt (Elt F) (Rect.unit (s := S3104) off S16.size inb).toLoadRect f (lane k) = win ids (16 * C + 1) (lane k) := by
  subst ho
  rw [readI_apply (F := F), h _ (show 16 ≤ 16 * n + 17 + k.val by omega) (show 16 * n + 17 + k.val < 3088 by omega)]
  exact atN_congr ids _ _ (show (3072 * w + (16 * n + 17 + k.val - 16)) % 98304 = (16 * C + 1 + k.val) % 98304 by omega)

theorem readV_win (vr : Memref sig .scVector .vmem S3072 .f32) (fv : Buf (Elt F) (vr.view.loc (thr d L))) {g : S98304.Idx → F .f32} (f' : S3072.Idx → F .f32)
    (hf : vr.view.read (Elt F) fv = f') (h : HoldsV g w f') (n : ℕ) (hC : C = 192 * w + n) (off : Fin 1 → ℕ) (ho : off = ![16 * n])
    (inb : ∀ a, off a + S16.size a ≤ S3072.size a) :
    vr.view.readAt (Elt F) (Rect.unit (s := S3072) off S16.size inb).toLoadRect fv = win g (16 * C) := by
  subst ho
  funext l
  obtain ⟨k, rfl⟩ := exists_lane l
  rw [readV_apply d L vr fv f' hf, h]
  exact atN_congr g _ _ (show (3072 * w + (16 * n + k.val)) % 98304 = (16 * C + k.val) % 98304 by omega)

end Reads

theorem chk128 (o : ℕ) (ho : o ≤ 112) (st : IVec S16 32) (hst : ∀ l, (st l).toNat < 16) :
    ∀ a x, ((![addi (broadcast S16 (BitVec.ofNat 32 o)) st] : Fin 1 → IVec S16 32) a x).toNat < S128.size a := by
  intro a x
  obtain rfl : a = 0 := Subsingleton.elim _ _
  show (addi (broadcast S16 (BitVec.ofNat 32 o)) st x).toNat < 128
  rw [add_toNat st o ho x (hst x)]
  have := hst x; omega

theorem chk4096 (c : ℕ) (hc : c < 4) (cur : IVec S16 32) (hcur : ∀ l, (cur l).toNat < 1024) :
    ∀ a x, ((![slot (four (F := F) cur) (BitVec.ofNat 32 c)] : Fin 1 → IVec S16 32) a x).toNat < S4096.size a := by
  intro a x
  obtain rfl : a = 0 := Subsingleton.elim _ _
  show (slot (four (F := F) cur) (BitVec.ofNat 32 c) x).toNat < 4096
  rw [slot_toNat cur c hc x (hcur x)]
  have := hcur x; omega

set_option maxHeartbeats 1000000 in
/-- One trip of the main loop. -/
theorem wp_trip (ids : S98304.Idx → BitVec 32) (q x y z : S98304.Idx → F .f32) (hids : ∀ i, (ids i).toNat < 1024) (w : ℕ)
    (fI : S3104.Idx → BitVec 32) (fQ fX fY fZ : S3072.Idx → F .f32)
    (hI : HoldsI ids w fI) (hQ : HoldsV q w fQ) (hX : HoldsV x w fX) (hY : HoldsV y w fY) (hZ : HoldsV z w fZ)
    (k : Fin k1_t2_loop.trips) (acc : BitVec 32) (Q : BitVec 32 → sProp (MM F)) :
    iprop(((thr d L).loc cc1_scratch0 ↦{fullShare} fI) ∗ ((thr d L).loc cc1_scratch1 ↦{fullShare} fQ) ∗ ((thr d L).loc cc1_scratch2 ↦{fullShare} fX)
        ∗ ((thr d L).loc cc1_scratch3 ↦{fullShare} fY) ∗ ((thr d L).loc cc1_scratch4 ↦{fullShare} fZ)
        ∗ (∃ e, (thr d L).loc cc1_scratch5 ↦{fullShare} e) ∗ (thr d L).loc cc1_scratch6 ↦{fullShare} accN ids q x y z w (2 * k.val))
      ⊢ iprop((iprop(((thr d L).loc cc1_scratch0 ↦{fullShare} fI) ∗ ((thr d L).loc cc1_scratch1 ↦{fullShare} fQ) ∗ ((thr d L).loc cc1_scratch2 ↦{fullShare} fX)
            ∗ ((thr d L).loc cc1_scratch3 ↦{fullShare} fY) ∗ ((thr d L).loc cc1_scratch4 ↦{fullShare} fZ)
            ∗ (∃ e, (thr d L).loc cc1_scratch5 ↦{fullShare} e) ∗ (thr d L).loc cc1_scratch6 ↦{fullShare} accN ids q x y z w (2 * (k.val + 1)))
          -∗ wp frame (wpE (defs₀ (F := F)) 𝒱₀ (thr d L) none) Set.univ (.ret 0#32) Q)
        -∗ wp frame (wpE (defs₀ (F := F)) 𝒱₀ (thr d L) none) Set.univ
          (k1_t2_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc1_scratch10 cc1_scoped0 cc1_scoped1 cc1_scoped2 lanes 0#32 1#32 k acc) Q) := by
  have hk : k.val < 96 := k.isLt
  rw [t2_trip]
  iintro ⟨HI, HQ, HX, HY, HZ, He, Ha⟩ Hk
  -- chunk 0
  iapply (wp_load 𝒱₀ (thr d L) none Set.univ (m := (sI : Memref sig .scVector .vmem S3104 .i32)) (S := Finset.univ) (Finset.subset_univ _)) $$ HI; iintro HI
  iapply (wp_load 𝒱₀ (thr d L) none Set.univ (m := (sI : Memref sig .scVector .vmem S3104 .i32)) (S := Finset.univ) (Finset.subset_univ _)) $$ HI; iintro HI
  iapply (wp_load 𝒱₀ (thr d L) none Set.univ (m := (sI : Memref sig .scVector .vmem S3104 .i32)) (S := Finset.univ) (Finset.subset_univ _)) $$ HI; iintro HI
  rw [readI_cur (F := F) (192 * w + (2 * k.val)) hI (2 * k.val) (by omega) rfl (k1_off3 k) (by rw [k1_off3_eq]; exact congrArg (fun n => ![n]) (by omega)) (k1_off3_inb k),
    runStart_congr (F := F) (win ids (16 * (192 * w + (2 * k.val)))) (readI_prv (F := F) (192 * w + (2 * k.val)) hI (2 * k.val) (by omega) rfl (k1_off4 k) (by rw [k1_off4_eq]; exact congrArg (fun n => ![n]) (by omega)) (k1_off4_inb k)),
    runEnd_congr (F := F) (win ids (16 * (192 * w + (2 * k.val)))) (readI_nxt (F := F) (192 * w + (2 * k.val)) hI (2 * k.val) (by omega) rfl (k1_off5 k) (by rw [k1_off5_eq]; exact congrArg (fun n => ![n]) (by omega)) (k1_off5_inb k))]
  iapply (wp_comp d L sQ (k1_off6 k) (k1_off6_inb k) 0 (by decide) inb_S128_S16_0 _ _ _ _ _ _ _ _ _
      (chk128 0 (by decide) _ (runStart_lt (F := F) _ _)) (chk4096 (F := F) 0 (by decide) _ fun l => hids _) (runStart_lt (F := F) _ _) _ Q
      (win q (16 * (192 * w + (2 * k.val)))) fQ (readV_win d L (192 * w + (2 * k.val)) sQ fQ fQ rfl hQ (2 * k.val) rfl (k1_off6 k) (by rw [k1_off6_eq]; exact congrArg (fun n => ![n]) (by omega)) (k1_off6_inb k)) _) $$ [HQ He Ha]
  · isplitl [HQ]; · iexact HQ
    isplitl [He]; · iexact He
    iexact Ha
  iintro ⟨HQ, He, Ha⟩
  iapply (wp_comp d L sX (k1_off7 k) (k1_off7_inb k) 16 (by decide) inb_S128_S16_16 _ _ _ _ _ _ _ _ _
      (chk128 16 (by decide) _ (runStart_lt (F := F) _ _)) (chk4096 (F := F) 1 (by decide) _ fun l => hids _) (runStart_lt (F := F) _ _) _ Q
      (win x (16 * (192 * w + (2 * k.val)))) fX (readV_win d L (192 * w + (2 * k.val)) sX fX fX rfl hX (2 * k.val) rfl (k1_off7 k) (by rw [k1_off7_eq]; exact congrArg (fun n => ![n]) (by omega)) (k1_off7_inb k)) _) $$ [HX He Ha]
  · isplitl [HX]; · iexact HX
    isplitl [He]; · iexact He
    iexact Ha
  iintro ⟨HX, He, Ha⟩
  iapply (wp_comp d L sY (k1_off8 k) (k1_off8_inb k) 32 (by decide) inb_S128_S16_32 _ _ _ _ _ _ _ _ _
      (chk128 32 (by decide) _ (runStart_lt (F := F) _ _)) (chk4096 (F := F) 2 (by decide) _ fun l => hids _) (runStart_lt (F := F) _ _) _ Q
      (win y (16 * (192 * w + (2 * k.val)))) fY (readV_win d L (192 * w + (2 * k.val)) sY fY fY rfl hY (2 * k.val) rfl (k1_off8 k) (by rw [k1_off8_eq]; exact congrArg (fun n => ![n]) (by omega)) (k1_off8_inb k)) _) $$ [HY He Ha]
  · isplitl [HY]; · iexact HY
    isplitl [He]; · iexact He
    iexact Ha
  iintro ⟨HY, He, Ha⟩
  iapply (wp_comp d L sZ (k1_off9 k) (k1_off9_inb k) 48 (by decide) inb_S128_S16_48 _ _ _ _ _ _ _ _ _
      (chk128 48 (by decide) _ (runStart_lt (F := F) _ _)) (chk4096 (F := F) 3 (by decide) _ fun l => hids _) (runStart_lt (F := F) _ _) _ Q
      (win z (16 * (192 * w + (2 * k.val)))) fZ (readV_win d L (192 * w + (2 * k.val)) sZ fZ fZ rfl hZ (2 * k.val) rfl (k1_off9 k) (by rw [k1_off9_eq]; exact congrArg (fun n => ![n]) (by omega)) (k1_off9_inb k)) _) $$ [HZ He Ha]
  · isplitl [HZ]; · iexact HZ
    isplitl [He]; · iexact He
    iexact Ha
  iintro ⟨HZ, He, Ha⟩
  -- chunk 1
  iapply (wp_load 𝒱₀ (thr d L) none Set.univ (m := (sI : Memref sig .scVector .vmem S3104 .i32)) (S := Finset.univ) (Finset.subset_univ _)) $$ HI; iintro HI
  iapply (wp_load 𝒱₀ (thr d L) none Set.univ (m := (sI : Memref sig .scVector .vmem S3104 .i32)) (S := Finset.univ) (Finset.subset_univ _)) $$ HI; iintro HI
  iapply (wp_load 𝒱₀ (thr d L) none Set.univ (m := (sI : Memref sig .scVector .vmem S3104 .i32)) (S := Finset.univ) (Finset.subset_univ _)) $$ HI; iintro HI
  rw [readI_cur (F := F) (192 * w + (2 * k.val + 1)) hI (2 * k.val + 1) (by omega) rfl (k1_off10 k) (by rw [k1_off10_eq]; exact congrArg (fun n => ![n]) (by omega)) (k1_off10_inb k),
    runStart_congr (F := F) (win ids (16 * (192 * w + (2 * k.val + 1)))) (readI_prv (F := F) (192 * w + (2 * k.val + 1)) hI (2 * k.val + 1) (by omega) rfl (k1_off11 k) (by rw [k1_off11_eq]; exact congrArg (fun n => ![n]) (by omega)) (k1_off11_inb k)),
    runEnd_congr (F := F) (win ids (16 * (192 * w + (2 * k.val + 1)))) (readI_nxt (F := F) (192 * w + (2 * k.val + 1)) hI (2 * k.val + 1) (by omega) rfl (k1_off12 k) (by rw [k1_off12_eq]; exact congrArg (fun n => ![n]) (by omega)) (k1_off12_inb k))]
  iapply (wp_comp d L sQ (k1_off13 k) (k1_off13_inb k) 64 (by decide) inb_S128_S16_64 _ _ _ _ _ _ _ _ _
      (chk128 64 (by decide) _ (runStart_lt (F := F) _ _)) (chk4096 (F := F) 0 (by decide) _ fun l => hids _) (runStart_lt (F := F) _ _) _ Q
      (win q (16 * (192 * w + (2 * k.val + 1)))) fQ (readV_win d L (192 * w + (2 * k.val + 1)) sQ fQ fQ rfl hQ (2 * k.val + 1) rfl (k1_off13 k) (by rw [k1_off13_eq]; exact congrArg (fun n => ![n]) (by omega)) (k1_off13_inb k)) _) $$ [HQ He Ha]
  · isplitl [HQ]; · iexact HQ
    isplitl [He]; · iexact He
    iexact Ha
  iintro ⟨HQ, He, Ha⟩
  iapply (wp_comp d L sX (k1_off14 k) (k1_off14_inb k) 80 (by decide) inb_S128_S16_80 _ _ _ _ _ _ _ _ _
      (chk128 80 (by decide) _ (runStart_lt (F := F) _ _)) (chk4096 (F := F) 1 (by decide) _ fun l => hids _) (runStart_lt (F := F) _ _) _ Q
      (win x (16 * (192 * w + (2 * k.val + 1)))) fX (readV_win d L (192 * w + (2 * k.val + 1)) sX fX fX rfl hX (2 * k.val + 1) rfl (k1_off14 k) (by rw [k1_off14_eq]; exact congrArg (fun n => ![n]) (by omega)) (k1_off14_inb k)) _) $$ [HX He Ha]
  · isplitl [HX]; · iexact HX
    isplitl [He]; · iexact He
    iexact Ha
  iintro ⟨HX, He, Ha⟩
  iapply (wp_comp d L sY (k1_off15 k) (k1_off15_inb k) 96 (by decide) inb_S128_S16_96 _ _ _ _ _ _ _ _ _
      (chk128 96 (by decide) _ (runStart_lt (F := F) _ _)) (chk4096 (F := F) 2 (by decide) _ fun l => hids _) (runStart_lt (F := F) _ _) _ Q
      (win y (16 * (192 * w + (2 * k.val + 1)))) fY (readV_win d L (192 * w + (2 * k.val + 1)) sY fY fY rfl hY (2 * k.val + 1) rfl (k1_off15 k) (by rw [k1_off15_eq]; exact congrArg (fun n => ![n]) (by omega)) (k1_off15_inb k)) _) $$ [HY He Ha]
  · isplitl [HY]; · iexact HY
    isplitl [He]; · iexact He
    iexact Ha
  iintro ⟨HY, He, Ha⟩
  iapply (wp_comp d L sZ (k1_off16 k) (k1_off16_inb k) 112 (by decide) inb_S128_S16_112 _ _ _ _ _ _ _ _ _
      (chk128 112 (by decide) _ (runStart_lt (F := F) _ _)) (chk4096 (F := F) 3 (by decide) _ fun l => hids _) (runStart_lt (F := F) _ _) _ Q
      (win z (16 * (192 * w + (2 * k.val + 1)))) fZ (readV_win d L (192 * w + (2 * k.val + 1)) sZ fZ fZ rfl hZ (2 * k.val + 1) rfl (k1_off16 k) (by rw [k1_off16_eq]; exact congrArg (fun n => ![n]) (by omega)) (k1_off16_inb k)) _) $$ [HZ He Ha]
  · isplitl [HZ]; · iexact HZ
    isplitl [He]; · iexact He
    iexact Ha
  iintro ⟨HZ, He, Ha⟩
  iapply Hk
  isplitl [HI]; · iexact HI
  isplitl [HQ]; · iexact HQ
  isplitl [HX]; · iexact HX
  isplitl [HY]; · iexact HY
  isplitl [HZ]; · iexact HZ
  isplitl [He]; · iexact He
  iexact Ha

end Cert.Proof.Scatter.One

end
-- ==== Proof.One.Views.lean ====
/-
  The rectangles the tile's copies name, as sets of elements: a tile's atoms, its row and its
  columns of the shared scratch, its part of the result; and what the copies leave there.
-/
module

public import proofs.«01_k».proof.Proof.One.Trip

@[expose] public section

noncomputable section

namespace Cert.Proof.Scatter.One

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

variable (d : Dev nD) (L : grid1.Coords)

abbrev cV : Fin τ.nSC := (L 0).castLE hcore1
abbrev jV : Fin τ.nSub := (L 1).castLE hsub1
/-- The tile's number among the thirty-two. -/
abbrev wN : ℕ := 16 * (L 0).val + (L 1).val

theorem L0_lt : (L 0).val < 2 := (L 0).isLt
theorem L1_lt : (L 1).val < 16 := (L 1).isLt

/-- The tile's window of the long vectors. -/
abbrev inR : Rect S98304 := Rect.unit (s := S98304) (k1_off1 L) S3072.size (k1_off1_inb L)
abbrev iK : Memref sig .scVector .hbm S3072 .i32 := (aI : Memref sig .scVector .hbm S98304 .i32).slice (inR L) (fun _ => rfl)
abbrev qK : Memref sig .scVector .hbm S3072 .f32 := (aQ : Memref sig .scVector .hbm S98304 .f32).slice (inR L) (fun _ => rfl)
abbrev xK : Memref sig .scVector .hbm S3072 .f32 := (aX : Memref sig .scVector .hbm S98304 .f32).slice (inR L) (fun _ => rfl)
abbrev yK : Memref sig .scVector .hbm S3072 .f32 := (aY : Memref sig .scVector .hbm S98304 .f32).slice (inR L) (fun _ => rfl)
abbrev zK : Memref sig .scVector .hbm S3072 .f32 := (aZ : Memref sig .scVector .hbm S98304 .f32).slice (inR L) (fun _ => rfl)
/-- The middle of the segment-number scratch. -/
abbrev sIK : Memref sig .scVector .vmem S3072 .i32 := (sI : Memref sig .scVector .vmem S3104 .i32).slice (Rect.unit (s := S3104) ![16] S3072.size inb_S3104_S3072_16) (fun _ => rfl)
/-- The tile's row of the shared scratch. -/
abbrev rowK : Memref sig .scVector .shared S4096 .f32 :=
  ((sS : Memref sig .scVector .shared S16x4096 .f32).slice (Rect.unit (s := S16x4096) (k1_off17 L) S1x4096.size (k1_off17_inb L)) (fun _ => rfl)).squeeze S4096 squeezes_S1x4096_S4096
/-- The tile's columns of the shared scratch. -/
abbrev colK : Memref sig .scVector .shared S16x256 .f32 :=
  (sS : Memref sig .scVector .shared S16x4096 .f32).slice (Rect.unit (s := S16x4096) (k1_off18 L) S16x256.size (k1_off18_inb L)) (fun _ => rfl)
/-- The tile's part of the result. -/
abbrev oK : Memref sig .scVector .hbm S256 .f32 :=
  ((aO : Memref sig .scVector .hbm S2x4096 .f32).slice (Rect.unit (s := S2x4096) (k1_off36 L) S1x256.size (k1_off36_inb L)) (fun _ => rfl)).squeeze S256 squeezes_S1x256_S256

theorem set_inR : (inR L).set = inSet (wN L) := by
  ext i
  have h0 := L0_lt L; have h1 := L1_lt L
  rw [Rect.mem_set_unit, k1_off1_eq]
  simp only [inSet, Finset.mem_filter, Finset.mem_univ, true_and, wN]
  constructor
  · intro h
    have h' : 49152 * (L 0).val + 3072 * (L 1).val ≤ (i 0).val ∧ (i 0).val < 49152 * (L 0).val + 3072 * (L 1).val + 3072 := h 0
    omega
  · intro h a
    obtain rfl : a = 0 := Subsingleton.elim _ _
    show 49152 * (L 0).val + 3072 * (L 1).val ≤ (i 0).val ∧ (i 0).val < 49152 * (L 0).val + 3072 * (L 1).val + 3072
    omega

theorem set_iK : (iK L).view.set = inSet (wN L) := (View.set_slice_whole _ _).trans (set_inR L)
theorem set_qK : (qK L).view.set = inSet (wN L) := (View.set_slice_whole _ _).trans (set_inR L)
theorem set_xK : (xK L).view.set = inSet (wN L) := (View.set_slice_whole _ _).trans (set_inR L)
theorem set_yK : (yK L).view.set = inSet (wN L) := (View.set_slice_whole _ _).trans (set_inR L)
theorem set_zK : (zK L).view.set = inSet (wN L) := (View.set_slice_whole _ _).trans (set_inR L)

theorem set_rowK : (rowK L).view.set = shRow (L 1).val := by
  show (((sS : Memref sig .scVector .shared S16x4096 .f32).view.slice (Rect.unit (s := S16x4096) (k1_off17 L) S1x4096.size (k1_off17_inb L))).reshape S4096 squeezes_S1x4096_S4096.numel_eq).set = _
  rw [View.set_reshape]
  refine (View.set_slice_whole _ _).trans ?_
  ext i
  rw [Rect.mem_set_unit, k1_off17_eq]
  simp only [shRow, Finset.mem_filter, Finset.mem_univ, true_and]
  constructor
  · intro h
    have h' : (L 1).val ≤ (i 0).val ∧ (i 0).val < (L 1).val + 1 := h 0
    omega
  · intro h a
    match a with
    | 0 => show (L 1).val ≤ (i 0).val ∧ (i 0).val < (L 1).val + 1; omega
    | 1 => show 0 ≤ (i 1).val ∧ (i 1).val < 0 + 4096; exact ⟨Nat.zero_le _, by have : (i 1).val < 4096 := (i 1).isLt; omega⟩

theorem set_colK : (colK L).view.set = shCol (L 1).val := by
  refine (View.set_slice_whole _ _).trans ?_
  ext i
  rw [Rect.mem_set_unit, k1_off18_eq]
  simp only [shCol, Finset.mem_filter, Finset.mem_univ, true_and]
  constructor
  · intro h
    have h' : 256 * (L 1).val ≤ (i 1).val ∧ (i 1).val < 256 * (L 1).val + 256 := h 1
    omega
  · intro h a
    match a with
    | 0 => show 0 ≤ (i 0).val ∧ (i 0).val < 0 + 16; exact ⟨Nat.zero_le _, by have : (i 0).val < 16 := (i 0).isLt; omega⟩
    | 1 => show 256 * (L 1).val ≤ (i 1).val ∧ (i 1).val < 256 * (L 1).val + 256; omega

theorem set_oK : (oK L).view.set = outSet (L 0).val (L 1).val := by
  show (((aO : Memref sig .scVector .hbm S2x4096 .f32).view.slice (Rect.unit (s := S2x4096) (k1_off36 L) S1x256.size (k1_off36_inb L))).reshape S256 squeezes_S1x256_S256.numel_eq).set = _
  rw [View.set_reshape]
  refine (View.set_slice_whole _ _).trans ?_
  ext i
  rw [Rect.mem_set_unit, k1_off36_eq]
  simp only [outSet, Finset.mem_filter, Finset.mem_univ, true_and]
  constructor
  · intro h
    have h0 : (L 0).val ≤ (i 0).val ∧ (i 0).val < (L 0).val + 1 := h 0
    have h1 : 256 * (L 1).val ≤ (i 1).val ∧ (i 1).val < 256 * (L 1).val + 256 := h 1
    omega
  · rintro ⟨h0, h1⟩ a
    match a with
    | 0 => show (L 0).val ≤ (i 0).val ∧ (i 0).val < (L 0).val + 1; omega
    | 1 => show 256 * (L 1).val ≤ (i 1).val ∧ (i 1).val < 256 * (L 1).val + 256; omega

/-! ## What a tile's views hold, in the launch's words -/

section Pts
variable [FloatOps F]

theorem pts_iK (f : Buf (Elt F) (iLoc d)) : ((iK L).view.loc (thr d L) ↦[(iK L).view.set]{fullShare} f : sProp (MM F)) = iLoc d ↦[inSet (wN L)]{fullShare} f := by rw [set_iK]
theorem pts_qK (f : Buf (Elt F) (qLoc d)) : ((qK L).view.loc (thr d L) ↦[(qK L).view.set]{fullShare} f : sProp (MM F)) = qLoc d ↦[inSet (wN L)]{fullShare} f := by rw [set_qK]
theorem pts_xK (f : Buf (Elt F) (xLoc d)) : ((xK L).view.loc (thr d L) ↦[(xK L).view.set]{fullShare} f : sProp (MM F)) = xLoc d ↦[inSet (wN L)]{fullShare} f := by rw [set_xK]
theorem pts_yK (f : Buf (Elt F) (yLoc d)) : ((yK L).view.loc (thr d L) ↦[(yK L).view.set]{fullShare} f : sProp (MM F)) = yLoc d ↦[inSet (wN L)]{fullShare} f := by rw [set_yK]
theorem pts_zK (f : Buf (Elt F) (zLoc d)) : ((zK L).view.loc (thr d L) ↦[(zK L).view.set]{fullShare} f : sProp (MM F)) = zLoc d ↦[inSet (wN L)]{fullShare} f := by rw [set_zK]
theorem pts_oK (f : Buf (Elt F) (oLoc d)) : ((oK L).view.loc (thr d L) ↦[(oK L).view.set]{fullShare} f : sProp (MM F)) = outPts d (L 0).val (L 1).val f := by
  unfold outPts; rw [set_oK]
theorem pts_rowK (f : Buf (Elt F) (shLoc d (cV L))) :
    ((rowK L).view.loc (thr d L) ↦[(rowK L).view.set]{fullShare} f : sProp (MM F)) = shLoc d (cV L) ↦[shRow (L 1).val]{fullShare} f := by rw [set_rowK]; rfl
theorem pts_colK (f : Buf (Elt F) (shLoc d (cV L))) :
    ((colK L).view.loc (thr d L) ↦[(colK L).view.set]{fullShare} f : sProp (MM F)) = shLoc d (cV L) ↦[shCol (L 1).val]{fullShare} f := by rw [set_colK]; rfl

end Pts

/-! ## What the copies leave -/

theorem off1_eq' : k1_off1 L 0 = 3072 * wN L := by rw [k1_off1_eq]; show 49152 * (L 0).val + 3072 * (L 1).val = _; unfold wN; omega

theorem fetch_holdsV {α : Type} (g : S98304.Idx → α) : HoldsV g (wN L) (fun i : S3072.Idx => g ((inR L).emb i)) := by
  intro i
  refine congrArg g (funext fun (a : Fin 1) => Fin.ext ?_)
  obtain rfl : a = 0 := Subsingleton.elim _ _
  have h0 := L0_lt L; have h1 := L1_lt L
  have hi : (i 0).val < 3072 := (i 0).isLt
  show k1_off1 L 0 + 1 * (i 0).val = (3072 * wN L + (i 0).val) % 98304
  rw [off1_eq']; unfold wN; omega

end Cert.Proof.Scatter.One

end
-- ==== Proof.One.Loops.lean ====
/-
  The two small loops of a tile: the accumulator set to zero, sixteen elements at a time, and the
  sixteen rows of a slab added up, sixteen columns at a time.
-/
module

public import proofs.«01_k».proof.Proof.One.Trip
public import Idealize.ShloMosaic.Lib.ValueLayout

@[expose] public section

noncomputable section

namespace Cert.Proof.Scatter.One

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

variable [FloatOps F] (d : Dev nD) (L : grid1.Coords)

/-! ## Setting the accumulator to zero -/

/-- The first `n` elements are zero. -/
def ZeroTo (n : ℕ) (f : S4096.Idx → F .f32) : Prop := ∀ i : S4096.Idx, (i 0).val < n → f i = Scalar.ofBits .f32 0x00000000#32

/-- Sixteen elements read and set to zero. -/
def zeroProg (L : grid1.Coords) (off : Fin 1 → ℕ) (inb : ∀ a, off a + S16.size a ≤ S4096.size a) (k : TProg F L (BitVec 32)) : TProg F L (BitVec 32) :=
  .op (.load sA (Rect.unit (s := S4096) off S16.size inb).toLoadRect (View.loadsAt_vmem h_S16)) fun (_ : Vec F S16 .f32) =>
  .op (.store sA (Rect.unit (s := S4096) off S16.size inb) (k1_pay54 (F := F)) Finset.univ (View.stores_vmem_bits_univ h_S16 rfl) (.inl rfl)) fun _ => k

theorem zeroTo_write (n : ℕ) (off : Fin 1 → ℕ) (ho : off = ![n]) (inb : ∀ a, off a + S16.size a ≤ S4096.size a) (f : S4096.Idx → F .f32) (h : ZeroTo n f) :
    ZeroTo (n + 16) ((sA : Memref sig .scVector .vmem S4096 .f32).view.writes (Elt F) f [⟨Rect.unit (s := S4096) off S16.size inb, k1_pay54 (F := F)⟩]) := by
  subst ho
  intro i hi
  show (sA : Memref sig .scVector .vmem S4096 .f32).view.read (Elt F) ((sA : Memref sig .scVector .vmem S4096 .f32).view.writes (Elt F) f
    [⟨Rect.unit (s := S4096) ![n] S16.size inb, k1_pay54 (F := F)⟩]) i = _
  by_cases hn : (i 0).val < n
  · refine (View.read_writes_cons_miss_of_axis (Val := Elt F) (e := .f32) _ _ _ [] i 0 n 16 rfl rfl rfl (.inl hn)).trans ?_
    exact h i hn
  · refine (View.read_writes_cons_hit_of_coords (Val := Elt F) (e := .f32) _ _ (Rect.unit (s := S4096) ![n] S16.size inb) (k1_pay54 (F := F)) []
      (lane ⟨(i 0).val - n, by omega⟩) i ?_).trans rfl
    intro a
    obtain rfl : a = 0 := Subsingleton.elim _ _
    show (i 0).val = n + 1 * ((i 0).val - n)
    omega

set_option maxHeartbeats 1000000 in
theorem wp_zero (n : ℕ) (off : Fin 1 → ℕ) (ho : off = ![n]) (inb : ∀ a, off a + S16.size a ≤ S4096.size a)
    (k : TProg F L (BitVec 32)) (Q : BitVec 32 → sProp (MM F)) :
    (iprop(∃ f, ⌜ZeroTo n f⌝ ∗ (thr d L).loc cc1_scratch6 ↦{fullShare} f) : sProp (MM F))
      ⊢ iprop((iprop(∃ f, ⌜ZeroTo (n + 16) f⌝ ∗ (thr d L).loc cc1_scratch6 ↦{fullShare} f)
          -∗ wp frame (wpE (defs₀ (F := F)) 𝒱₀ (thr d L) none) Set.univ k Q)
        -∗ wp frame (wpE (defs₀ (F := F)) 𝒱₀ (thr d L) none) Set.univ (zeroProg L off inb k) Q) := by
  unfold zeroProg
  iintro ⟨%f, %hf, Ha⟩ Hk
  iapply (wp_load 𝒱₀ (thr d L) none Set.univ (m := (sA : Memref sig .scVector .vmem S4096 .f32)) (S := Finset.univ) (Finset.subset_univ _)) $$ Ha; iintro Ha
  iapply (wp_store_writes₀ 𝒱₀ (thr d L) none Set.univ (m := (sA : Memref sig .scVector .vmem S4096 .f32)) (r := Rect.unit (s := S4096) off S16.size inb) (w := k1_pay54 (F := F)) (f := f) (S := Finset.univ) (Finset.subset_univ _)) $$ Ha; iintro Ha
  iapply Hk
  iexists _
  isplitr
  · ipureintro; exact zeroTo_write n off ho inb f hf
  · iexact Ha

set_option maxRecDepth 65536 in
theorem t1_trip (L : grid1.Coords) (k : Fin k1_t1_loop.trips) (acc : BitVec 32) :
    k1_t1_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc1_scratch10 cc1_scoped0 cc1_scoped1 cc1_scoped2 k acc =
      (zeroProg (F := F) L (k1_off2 k 0#32) (k1_off2_inb k 0) <|
      zeroProg (F := F) L (k1_off2 k 16#32) (k1_off2_inb k 1) <|
      zeroProg (F := F) L (k1_off2 k 32#32) (k1_off2_inb k 2) <|
      zeroProg (F := F) L (k1_off2 k 48#32) (k1_off2_inb k 3) <|
      zeroProg (F := F) L (k1_off2 k 64#32) (k1_off2_inb k 4) <|
      zeroProg (F := F) L (k1_off2 k 80#32) (k1_off2_inb k 5) <|
      zeroProg (F := F) L (k1_off2 k 96#32) (k1_off2_inb k 6) <|
      zeroProg (F := F) L (k1_off2 k 112#32) (k1_off2_inb k 7) <|
      .ret 0#32) := rfl

theorem wp_t1 (k : Fin k1_t1_loop.trips) (acc : BitVec 32) (Q : BitVec 32 → sProp (MM F)) :
    (iprop(∃ f, ⌜ZeroTo (128 * k.val) f⌝ ∗ (thr d L).loc cc1_scratch6 ↦{fullShare} f) : sProp (MM F))
      ⊢ iprop((iprop(∃ f, ⌜ZeroTo (128 * (k.val + 1)) f⌝ ∗ (thr d L).loc cc1_scratch6 ↦{fullShare} f)
          -∗ wp frame (wpE (defs₀ (F := F)) 𝒱₀ (thr d L) none) Set.univ (.ret 0#32) Q)
        -∗ wp frame (wpE (defs₀ (F := F)) 𝒱₀ (thr d L) none) Set.univ
          (k1_t1_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc1_scratch10 cc1_scoped0 cc1_scoped1 cc1_scoped2 k acc) Q) := by
  rw [t1_trip]
  iintro Ha Hk
  iapply (wp_zero d L (128 * k.val + 0) _ (k1_off2_eq k 0) _ _ Q) $$ Ha; iintro Ha
  iapply (wp_zero d L (128 * k.val + 16) _ (k1_off2_eq k 1) _ _ Q) $$ Ha; iintro Ha
  iapply (wp_zero d L (128 * k.val + 32) _ (k1_off2_eq k 2) _ _ Q) $$ Ha; iintro Ha
  iapply (wp_zero d L (128 * k.val + 48) _ (k1_off2_eq k 3) _ _ Q) $$ Ha; iintro Ha
  iapply (wp_zero d L (128 * k.val + 64) _ (k1_off2_eq k 4) _ _ Q) $$ Ha; iintro Ha
  iapply (wp_zero d L (128 * k.val + 80) _ (k1_off2_eq k 5) _ _ Q) $$ Ha; iintro Ha
  iapply (wp_zero d L (128 * k.val + 96) _ (k1_off2_eq k 6) _ _ Q) $$ Ha; iintro Ha
  iapply (wp_zero d L (128 * k.val + 112) _ (k1_off2_eq k 7) _ _ Q) $$ Ha; iintro Ha
  iapply Hk
  iexact Ha

/-! ## Adding up the rows of a slab -/

abbrev atB (r : Fin 16) (n : ℕ) (h : n < 256) : S16x256.Idx := ix2 r (⟨n, h⟩ : Fin 256)

theorem readB (r : ℕ) (hr : r < 16) (n : ℕ) (hn : n + 16 ≤ 256) (off : Fin 2 → ℕ) (ho : off = ![r, n]) (inb : ∀ a, off a + S1x16.size a ≤ S16x256.size a) (f : S16x256.Idx → F .f32) (k : Fin 16) :
    shapeCast S16 ((sB : Memref sig .scVector .vmem S16x256 .f32).view.readAt (Elt F) (Rect.unit (s := S16x256) off S1x16.size inb).toLoadRect f) shapeCasts_S1x16_S16 (lane k)
      = f (atB ⟨r, hr⟩ (n + k.val) (by omega)) := by
  subst ho
  have hl : lane k = ix1 k := funext fun a => Fin.ext (by rw [Fin.eq_zero a])
  rw [hl]
  refine (shapeCast_1a_a_apply (a := 16) _ _ k).trans ?_
  refine congrArg f (funext fun (a : Fin 2) => Fin.ext ?_)
  match a with
  | 0 => show r + 1 * 0 = r; rfl
  | 1 => show n + 1 * k.val = n + k.val; rw [Nat.one_mul]

/-- The columns summed so far. -/
def SumTo (sl : S16x256.Idx → F .f32) (n : ℕ) (f : S256.Idx → F .f32) : Prop :=
  ∀ i : S256.Idx, (i 0).val < n → f i = colSum fun r => sl (ix2 r (i 0))

/-- The sixteen rows' words added up, lane by lane. -/
def sumPay (v : Fin 16 → Vec F S1x16 .f32) : FVec F S16 .f32 :=
  k1_pay6 (k1_pay53 (v 0) (v 1) (v 2) (v 3) (v 4) (v 5) (v 6) (v 7) (v 8)) (v 9) (v 10) (v 11) (v 12) (v 13) (v 14) (v 15)

theorem sumPay_apply (v : Fin 16 → Vec F S1x16 .f32) (l : S16.Idx) : sumPay v l = colSum fun r => shapeCast S16 (v r) shapeCasts_S1x16_S16 l := rfl

/-- The words of row `r` at trip `k`. -/
def rowRd (sl : S16x256.Idx → F .f32) (k : Fin k1_t3_loop.trips) : Fin 16 → Vec F S1x16 .f32
  | ⟨0, _⟩ => ((sB : Memref sig .scVector .vmem S16x256 .f32).view.readAt (Elt F) (Rect.unit (s := S16x256) (k1_off19 k) S1x16.size (k1_off19_inb k)).toLoadRect sl)
  | ⟨1, _⟩ => ((sB : Memref sig .scVector .vmem S16x256 .f32).view.readAt (Elt F) (Rect.unit (s := S16x256) (k1_off20 k) S1x16.size (k1_off20_inb k)).toLoadRect sl)
  | ⟨2, _⟩ => ((sB : Memref sig .scVector .vmem S16x256 .f32).view.readAt (Elt F) (Rect.unit (s := S16x256) (k1_off21 k) S1x16.size (k1_off21_inb k)).toLoadRect sl)
  | ⟨3, _⟩ => ((sB : Memref sig .scVector .vmem S16x256 .f32).view.readAt (Elt F) (Rect.unit (s := S16x256) (k1_off22 k) S1x16.size (k1_off22_inb k)).toLoadRect sl)
  | ⟨4, _⟩ => ((sB : Memref sig .scVector .vmem S16x256 .f32).view.readAt (Elt F) (Rect.unit (s := S16x256) (k1_off23 k) S1x16.size (k1_off23_inb k)).toLoadRect sl)
  | ⟨5, _⟩ => ((sB : Memref sig .scVector .vmem S16x256 .f32).view.readAt (Elt F) (Rect.unit (s := S16x256) (k1_off24 k) S1x16.size (k1_off24_inb k)).toLoadRect sl)
  | ⟨6, _⟩ => ((sB : Memref sig .scVector .vmem S16x256 .f32).view.readAt (Elt F) (Rect.unit (s := S16x256) (k1_off25 k) S1x16.size (k1_off25_inb k)).toLoadRect sl)
  | ⟨7, _⟩ => ((sB : Memref sig .scVector .vmem S16x256 .f32).view.readAt (Elt F) (Rect.unit (s := S16x256) (k1_off26 k) S1x16.size (k1_off26_inb k)).toLoadRect sl)
  | ⟨8, _⟩ => ((sB : Memref sig .scVector .vmem S16x256 .f32).view.readAt (Elt F) (Rect.unit (s := S16x256) (k1_off27 k) S1x16.size (k1_off27_inb k)).toLoadRect sl)
  | ⟨9, _⟩ => ((sB : Memref sig .scVector .vmem S16x256 .f32).view.readAt (Elt F) (Rect.unit (s := S16x256) (k1_off28 k) S1x16.size (k1_off28_inb k)).toLoadRect sl)
  | ⟨10, _⟩ => ((sB : Memref sig .scVector .vmem S16x256 .f32).view.readAt (Elt F) (Rect.unit (s := S16x256) (k1_off29 k) S1x16.size (k1_off29_inb k)).toLoadRect sl)
  | ⟨11, _⟩ => ((sB : Memref sig .scVector .vmem S16x256 .f32).view.readAt (Elt F) (Rect.unit (s := S16x256) (k1_off30 k) S1x16.size (k1_off30_inb k)).toLoadRect sl)
  | ⟨12, _⟩ => ((sB : Memref sig .scVector .vmem S16x256 .f32).view.readAt (Elt F) (Rect.unit (s := S16x256) (k1_off31 k) S1x16.size (k1_off31_inb k)).toLoadRect sl)
  | ⟨13, _⟩ => ((sB : Memref sig .scVector .vmem S16x256 .f32).view.readAt (Elt F) (Rect.unit (s := S16x256) (k1_off32 k) S1x16.size (k1_off32_inb k)).toLoadRect sl)
  | ⟨14, _⟩ => ((sB : Memref sig .scVector .vmem S16x256 .f32).view.readAt (Elt F) (Rect.unit (s := S16x256) (k1_off33 k) S1x16.size (k1_off33_inb k)).toLoadRect sl)
  | ⟨15, _⟩ => ((sB : Memref sig .scVector .vmem S16x256 .f32).view.readAt (Elt F) (Rect.unit (s := S16x256) (k1_off34 k) S1x16.size (k1_off34_inb k)).toLoadRect sl)
  | ⟨_ + 16, h⟩ => absurd h (by omega)

theorem rowRd_apply (sl : S16x256.Idx → F .f32) (k : Fin k1_t3_loop.trips) (r : Fin 16) (j : Fin 16) :
    shapeCast S16 (rowRd sl k r) shapeCasts_S1x16_S16 (lane j) = sl (atB r (16 * k.val + j.val) (by have : k.val < 16 := k.isLt; omega)) := by
  have hk : k.val < 16 := k.isLt
  match r with
  | ⟨0, _⟩ => exact readB 0 (by decide) (16 * k.val) (by omega) _ (k1_off19_eq k) _ sl j
  | ⟨1, _⟩ => exact readB 1 (by decide) (16 * k.val) (by omega) _ (k1_off20_eq k) _ sl j
  | ⟨2, _⟩ => exact readB 2 (by decide) (16 * k.val) (by omega) _ (k1_off21_eq k) _ sl j
  | ⟨3, _⟩ => exact readB 3 (by decide) (16 * k.val) (by omega) _ (k1_off22_eq k) _ sl j
  | ⟨4, _⟩ => exact readB 4 (by decide) (16 * k.val) (by omega) _ (k1_off23_eq k) _ sl j
  | ⟨5, _⟩ => exact readB 5 (by decide) (16 * k.val) (by omega) _ (k1_off24_eq k) _ sl j
  | ⟨6, _⟩ => exact readB 6 (by decide) (16 * k.val) (by omega) _ (k1_off25_eq k) _ sl j
  | ⟨7, _⟩ => exact readB 7 (by decide) (16 * k.val) (by omega) _ (k1_off26_eq k) _ sl j
  | ⟨8, _⟩ => exact readB 8 (by decide) (16 * k.val) (by omega) _ (k1_off27_eq k) _ sl j
  | ⟨9, _⟩ => exact readB 9 (by decide) (16 * k.val) (by omega) _ (k1_off28_eq k) _ sl j
  | ⟨10, _⟩ => exact readB 10 (by decide) (16 * k.val) (by omega) _ (k1_off29_eq k) _ sl j
  | ⟨11, _⟩ => exact readB 11 (by decide) (16 * k.val) (by omega) _ (k1_off30_eq k) _ sl j
  | ⟨12, _⟩ => exact readB 12 (by decide) (16 * k.val) (by omega) _ (k1_off31_eq k) _ sl j
  | ⟨13, _⟩ => exact readB 13 (by decide) (16 * k.val) (by omega) _ (k1_off32_eq k) _ sl j
  | ⟨14, _⟩ => exact readB 14 (by decide) (16 * k.val) (by omega) _ (k1_off33_eq k) _ sl j
  | ⟨15, _⟩ => exact readB 15 (by decide) (16 * k.val) (by omega) _ (k1_off34_eq k) _ sl j
  | ⟨_ + 16, h⟩ => exact absurd h (by omega)

theorem sumTo_write (sl : S16x256.Idx → F .f32) (k : Fin k1_t3_loop.trips) (f : S256.Idx → F .f32) (h : SumTo sl (16 * k.val) f) :
    SumTo sl (16 * (k.val + 1)) ((sR : Memref sig .scVector .vmem S256 .f32).view.writes (Elt F) f [⟨Rect.unit (s := S256) (k1_off35 k) S16.size (k1_off35_inb k), sumPay (rowRd sl k)⟩]) := by
  intro i hi
  have hk : k.val < 16 := k.isLt
  have ho : k1_off35 k 0 = 16 * k.val := by rw [k1_off35_eq]; rfl
  show (sR : Memref sig .scVector .vmem S256 .f32).view.read (Elt F) ((sR : Memref sig .scVector .vmem S256 .f32).view.writes (Elt F) f
    [⟨Rect.unit (s := S256) (k1_off35 k) S16.size (k1_off35_inb k), sumPay (rowRd sl k)⟩]) i = _
  by_cases hn : (i 0).val < 16 * k.val
  · refine (View.read_writes_cons_miss_of_axis (Val := Elt F) (e := .f32) _ _ _ [] i 0 (16 * k.val) 16 ho rfl rfl (.inl hn)).trans ?_
    exact h i hn
  · refine (View.read_writes_cons_hit_of_coords (Val := Elt F) (e := .f32) _ _ (Rect.unit (s := S256) (k1_off35 k) S16.size (k1_off35_inb k)) (sumPay (rowRd sl k)) []
      (lane ⟨(i 0).val - 16 * k.val, by omega⟩) i ?_).trans ?_
    · intro a
      obtain rfl : a = 0 := Subsingleton.elim _ _
      show (i 0).val = k1_off35 k 0 + 1 * ((i 0).val - 16 * k.val)
      rw [ho]; omega
    · rw [sumPay_apply]
      refine congrArg colSum (funext fun r => ?_)
      rw [rowRd_apply]
      refine congrArg sl (funext fun (a : Fin 2) => Fin.ext ?_)
      match a with
      | 0 => rfl
      | 1 => show 16 * k.val + ((i 0).val - 16 * k.val) = (i 0).val; omega

set_option maxRecDepth 65536 in
theorem t3_trip (L : grid1.Coords) (k : Fin k1_t3_loop.trips) (acc : BitVec 32) :
    k1_t3_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc1_scratch10 cc1_scoped0 cc1_scoped1 cc1_scoped2 k acc =
      .op (.load sB (Rect.unit (s := S16x256) (k1_off19 k) S1x16.size (k1_off19_inb k)).toLoadRect (View.loadsAt_vmem h_S1x16)) fun (v0 : Vec F S1x16 .f32) =>
      .op (.load sB (Rect.unit (s := S16x256) (k1_off20 k) S1x16.size (k1_off20_inb k)).toLoadRect (View.loadsAt_vmem h_S1x16)) fun (v1 : Vec F S1x16 .f32) =>
      .op (.load sB (Rect.unit (s := S16x256) (k1_off21 k) S1x16.size (k1_off21_inb k)).toLoadRect (View.loadsAt_vmem h_S1x16)) fun (v2 : Vec F S1x16 .f32) =>
      .op (.load sB (Rect.unit (s := S16x256) (k1_off22 k) S1x16.size (k1_off22_inb k)).toLoadRect (View.loadsAt_vmem h_S1x16)) fun (v3 : Vec F S1x16 .f32) =>
      .op (.load sB (Rect.unit (s := S16x256) (k1_off23 k) S1x16.size (k1_off23_inb k)).toLoadRect (View.loadsAt_vmem h_S1x16)) fun (v4 : Vec F S1x16 .f32) =>
      .op (.load sB (Rect.unit (s := S16x256) (k1_off24 k) S1x16.size (k1_off24_inb k)).toLoadRect (View.loadsAt_vmem h_S1x16)) fun (v5 : Vec F S1x16 .f32) =>
      .op (.load sB (Rect.unit (s := S16x256) (k1_off25 k) S1x16.size (k1_off25_inb k)).toLoadRect (View.loadsAt_vmem h_S1x16)) fun (v6 : Vec F S1x16 .f32) =>
      .op (.load sB (Rect.unit (s := S16x256) (k1_off26 k) S1x16.size (k1_off26_inb k)).toLoadRect (View.loadsAt_vmem h_S1x16)) fun (v7 : Vec F S1x16 .f32) =>
      .op (.load sB (Rect.unit (s := S16x256) (k1_off27 k) S1x16.size (k1_off27_inb k)).toLoadRect (View.loadsAt_vmem h_S1x16)) fun (v8 : Vec F S1x16 .f32) =>
      .op (.load sB (Rect.unit (s := S16x256) (k1_off28 k) S1x16.size (k1_off28_inb k)).toLoadRect (View.loadsAt_vmem h_S1x16)) fun (v9 : Vec F S1x16 .f32) =>
      .op (.load sB (Rect.unit (s := S16x256) (k1_off29 k) S1x16.size (k1_off29_inb k)).toLoadRect (View.loadsAt_vmem h_S1x16)) fun (v10 : Vec F S1x16 .f32) =>
      .op (.load sB (Rect.unit (s := S16x256) (k1_off30 k) S1x16.size (k1_off30_inb k)).toLoadRect (View.loadsAt_vmem h_S1x16)) fun (v11 : Vec F S1x16 .f32) =>
      .op (.load sB (Rect.unit (s := S16x256) (k1_off31 k) S1x16.size (k1_off31_inb k)).toLoadRect (View.loadsAt_vmem h_S1x16)) fun (v12 : Vec F S1x16 .f32) =>
      .op (.load sB (Rect.unit (s := S16x256) (k1_off32 k) S1x16.size (k1_off32_inb k)).toLoadRect (View.loadsAt_vmem h_S1x16)) fun (v13 : Vec F S1x16 .f32) =>
      .op (.load sB (Rect.unit (s := S16x256) (k1_off33 k) S1x16.size (k1_off33_inb k)).toLoadRect (View.loadsAt_vmem h_S1x16)) fun (v14 : Vec F S1x16 .f32) =>
      .op (.load sB (Rect.unit (s := S16x256) (k1_off34 k) S1x16.size (k1_off34_inb k)).toLoadRect (View.loadsAt_vmem h_S1x16)) fun (v15 : Vec F S1x16 .f32) =>
      .op (.load sR (Rect.unit (s := S256) (k1_off35 k) S16.size (k1_off35_inb k)).toLoadRect (View.loadsAt_vmem h_S16)) fun (_ : Vec F S16 .f32) =>
      .op (.store sR (Rect.unit (s := S256) (k1_off35 k) S16.size (k1_off35_inb k)) (k1_pay6 (k1_pay53 v0 v1 v2 v3 v4 v5 v6 v7 v8) v9 v10 v11 v12 v13 v14 v15) Finset.univ (View.stores_vmem_bits_univ h_S16 rfl) (.inl rfl)) fun _ =>
      .ret 0#32 := rfl

set_option maxHeartbeats 1000000 in
theorem wp_t3 (sl : S16x256.Idx → F .f32) (k : Fin k1_t3_loop.trips) (acc : BitVec 32) (Q : BitVec 32 → sProp (MM F)) :
    (iprop(((thr d L).loc cc1_scratch7 ↦{fullShare} sl) ∗ ∃ f, ⌜SumTo sl (16 * k.val) f⌝ ∗ (thr d L).loc cc1_scratch8 ↦{fullShare} f) : sProp (MM F))
      ⊢ iprop((iprop(((thr d L).loc cc1_scratch7 ↦{fullShare} sl) ∗ ∃ f, ⌜SumTo sl (16 * (k.val + 1)) f⌝ ∗ (thr d L).loc cc1_scratch8 ↦{fullShare} f)
          -∗ wp frame (wpE (defs₀ (F := F)) 𝒱₀ (thr d L) none) Set.univ (.ret 0#32) Q)
        -∗ wp frame (wpE (defs₀ (F := F)) 𝒱₀ (thr d L) none) Set.univ
          (k1_t3_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc1_scratch10 cc1_scoped0 cc1_scoped1 cc1_scoped2 k acc) Q) := by
  rw [t3_trip]
  iintro ⟨Hs, %f, %hf, Hr⟩ Hk
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sR : Memref sig .scVector .vmem S256 .f32)) (S := Finset.univ) (Finset.subset_univ _)) $$ Hr; iintro Hr
  iapply (wp_store_writes₀ 𝒱₀ (thr d L) none Set.univ (m := (sR : Memref sig .scVector .vmem S256 .f32)) (r := Rect.unit (s := S256) (k1_off35 k) S16.size (k1_off35_inb k)) (w := sumPay (rowRd sl k)) (f := f) (S := Finset.univ) (Finset.subset_univ _)) $$ Hr; iintro Hr
  iapply Hk
  isplitl [Hs]; · iexact Hs
  iexists _
  isplitr
  · ipureintro; exact sumTo_write sl k f hf
  · iexact Hr

end Cert.Proof.Scatter.One

end
-- ==== Proof.One.Moves.lean ====
/-
  What a tile's copies leave, and how the barrier's rounds exchange the shared scratch: each tile
  hands out its row, one cell to each tile, and gets its columns, one cell from each tile.
-/
module

public import proofs.«01_k».proof.Proof.One.Views
public import proofs.«01_k».proof.Proof.One.Loops

@[expose] public section

noncomputable section

namespace Cert.Proof.Scatter.One

open Cert.KernelIdeal Cert.KernelIdeal.Gen

open Idealize.ShloMosaic
open Idealize.ShloMosaic.ValueIdx
open Idealize.ShloMosaic.Rounds
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

variable [FloatOps F] (R : InRel F) (R' : ShRel F) (I : In F) (d : Dev nD) (L : grid1.Coords)

/-! ## The fetches -/

theorem holdsI_fetch (g : S98304.Idx → BitVec 32) (b : Buf (Elt F) (sIK.view.loc (thr d L))) :
    HoldsI g (wN L) (sIK.view.write (Elt F) b (fun i : S3072.Idx => g ((inR L).emb i)) Finset.univ) := by
  intro i h1 h2
  have hi : i = sIK.view.emb (fun (a : Fin 1) => (⟨(i 0).val - 16, by rw [Fin.eq_zero a]; show _ < 3072; omega⟩ : Fin (S3072.size a))) := by
    funext (a : Fin 1)
    obtain rfl : a = 0 := Subsingleton.elim _ _
    refine Fin.ext ?_
    show (i 0).val = 16 + 1 * ((i 0).val - 16)
    omega
  rw [hi, View.write_emb_of_mem _ _ (Finset.mem_univ _)]
  refine (fetch_holdsV L g _).trans (atN_congr g _ _ ?_)
  show (3072 * wN L + ((i 0).val - 16)) % 98304 = (3072 * wN L + (16 + 1 * ((i 0).val - 16) - 16)) % 98304
  congr 2; omega

theorem fetchI (b : Buf (Elt F) (sIK.view.loc (thr d L))) (w : S3072.Idx → BitVec 32) (hw : w = fun i => I.ids ((inR L).emb i)) :
    (sIK.view.loc (thr d L) ↦{fullShare} sIK.view.write (Elt F) b w Finset.univ : sProp (MM F))
      ⊢ iprop(∃ f, ⌜HoldsI I.ids (wN L) f⌝ ∗ (thr d L).loc cc1_scratch0 ↦{fullShare} f) := by
  subst hw
  iintro H
  iexists _
  isplitr
  swap; · iexact H
  ipureintro; exact holdsI_fetch d L _ b

/-- A copy over a whole scratch leaves what it brought. -/
theorem whole_write (r : Ref sig .scVector) (b w w' : Buf (Elt F) ((thr d L).loc r)) (hw : w = w') :
    ((View.whole r).loc (thr d L) ↦{fullShare} (View.whole r).write (Elt F) b w Finset.univ : sProp (MM F)) = (thr d L).loc r ↦{fullShare} w' := by
  rw [View.write_whole_univ, hw]

/-- One piece over the whole of a view writes as the view does. -/
theorem writes_whole_emb {κ : Kind} {sp : Space} {s : Shape} {e : EltTy} (v : View sig κ sp s e) (f : v.ty.Contents (Elt F)) (w : s.Idx → Elt F e) (x : s.Idx) :
    v.writes (Elt F) f [⟨Rect.whole s, w⟩] (v.emb x) = v.write (Elt F) f w Finset.univ (v.emb x) := by
  have he : (v.slice (Rect.whole s)).emb x = v.emb x := congrArg v.emb (Rect.emb_whole_apply _ x)
  have h := View.write_emb_of_mem (v := v.slice (Rect.whole s)) (Val := Elt F) f w (M := Finset.univ) (Finset.mem_univ x)
  rw [he] at h
  exact h.trans (View.write_emb_of_mem (v := v) (Val := Elt F) f w (M := Finset.univ) (Finset.mem_univ x)).symm

/-! ## The tile's row and columns of the shared scratch, its part of the result -/

theorem row_val (f : S16x4096.Idx → F .f32) (w : S4096.Idx → F .f32) (i : S16x4096.Idx) (hi : i ∈ (rowK L).view.set) :
    (rowK L).view.writes (Elt F) f [⟨Rect.whole S4096, w⟩] i = w (at4 (i 1).val (i 1).isLt) := by
  obtain ⟨x, -, rfl⟩ := Finset.mem_map.mp hi
  refine ((writes_whole_emb (F := F) (rowK L).view f w x).trans (View.write_emb_of_mem (v := (rowK L).view) _ _ (Finset.mem_univ x))).trans ?_
  refine congrArg w (funext fun (a : Fin 1) => Fin.ext ?_)
  obtain rfl : a = 0 := Subsingleton.elim _ _
  show (x 0).val = (k1_off17 L 1) + 1 * (Shape.reshapeEquiv squeezes_S1x4096_S4096.numel_eq x 1).val
  rw [Shape.reshapeEquiv_cons_one (n := 1) (d := ![4096]) squeezes_S1x4096_S4096.numel_eq x, k1_off17_eq]
  show (x 0).val = 0 + 1 * (x 0).val
  omega

theorem row_eq (f : Buf (Elt F) (shLoc d (cV L))) (w : S4096.Idx → F .f32)
    (hw : w = accT I.ids I.q I.x I.y I.z (wN L)) :
    ((rowK L).view.loc (thr d L) ↦[(rowK L).view.set]{fullShare} (rowK L).view.writes (Elt F) f [⟨Rect.whole S4096, w⟩] : sProp (MM F))
      = shLoc d (cV L) ↦[shRow (L 1).val]{fullShare} shI I (L 0).val := by
  subst hw
  rw [← pts_rowK]
  refine pointsTo_congr fun i hi => ?_
  refine (row_val L f _ i hi).trans ?_
  have h0 : (i 0).val = (L 1).val := by
    have hi' : i ∈ shRow (L 1).val := (set_rowK L) ▸ hi
    exact (Finset.mem_filter.mp hi').2
  show _ = accT I.ids I.q I.x I.y I.z (16 * (L 0).val + (i 0).val) (at4 (i 1).val (i 1).isLt)
  rw [h0]

/-- The slab: the sixteen rows' words of the tile's columns. -/
def slab (sh : S16x4096.Idx → F .f32) : S16x256.Idx → F .f32 := fun i =>
  sh (ix2 (i 0) (⟨256 * (L 1).val + (i 1).val, by have := L1_lt L; have : (i 1).val < 256 := (i 1).isLt; omega⟩ : Fin 4096))

theorem colRead (sh : S16x4096.Idx → F .f32) : (colK L).view.read (Elt F) sh = slab L sh := by
  funext i
  refine congrArg sh (funext fun (a : Fin 2) => Fin.ext ?_)
  match a with
  | 0 => show k1_off18 L 0 + 1 * (i 0).val = (i 0).val; rw [k1_off18_eq]; show 0 + 1 * (i 0).val = _; omega
  | 1 => show k1_off18 L 1 + 1 * (i 1).val = 256 * (L 1).val + (i 1).val; rw [k1_off18_eq]; show 256 * (L 1).val + 1 * (i 1).val = _; omega

theorem out_val (f : S2x4096.Idx → F .f32) (w : S256.Idx → F .f32) (i : S2x4096.Idx) (hi : i ∈ (oK L).view.set) :
    ∃ x : S256.Idx, (oK L).view.writes (Elt F) f [⟨Rect.whole S256, w⟩] i = w x ∧ (i 1).val = 256 * (L 1).val + (x 0).val := by
  obtain ⟨x, -, rfl⟩ := Finset.mem_map.mp hi
  refine ⟨x, (writes_whole_emb (F := F) (oK L).view f w x).trans (View.write_emb_of_mem (v := (oK L).view) _ _ (Finset.mem_univ x)), ?_⟩
  show (k1_off36 L 1) + 1 * (Shape.reshapeEquiv squeezes_S1x256_S256.numel_eq x 1).val = _
  rw [Shape.reshapeEquiv_cons_one (n := 1) (d := ![256]) squeezes_S1x256_S256.numel_eq x, k1_off36_eq]
  show 256 * (L 1).val + 1 * (x 0).val = _
  omega

theorem slab_out (sh : S16x4096.Idx → F .f32) (hsh : Rsh R d (cV L) sh) (t : Fin 256) (o : S2x4096.Idx → F .f32) (i : S2x4096.Idx)
    (h0 : (i 0).val = (L 0).val) (h1 : (i 1).val = 256 * (L 1).val + t.val) (ho : o i = colSum fun r => slab L sh (ix2 r t)) : Rout R d o i := by
  choose I hI hf using hsh
  refine ⟨fun r => I (ix2 r (⟨256 * (L 1).val + t.val, by have := L1_lt L; have := t.isLt; omega⟩ : Fin 4096)), fun r => hI _, ho.trans (congrArg colSum (funext fun r => ?_))⟩
  refine (hf _).trans ?_
  unfold shI shV
  rw [h0]
  refine congrArg (accT _ _ _ _ _ (16 * (L 0).val + r.val)) (funext fun a => Fin.ext ?_)
  exact h1.symm

theorem out_eq (f : S2x4096.Idx → F .f32) (w : S256.Idx → F .f32) (sh : S16x4096.Idx → F .f32) (hsh : Rsh R d (cV L) sh) (hw : SumTo (slab L sh) 256 w) :
    ((oK L).view.loc (thr d L) ↦[(oK L).view.set]{fullShare} (oK L).view.writes (Elt F) f [⟨Rect.whole S256, w⟩] : sProp (MM F))
      ⊢ outPart R d (L 0).val (L 1).val := by
  unfold outPart
  iintro H
  iexists _
  isplitr
  swap; · iapply (Entails.of_eq (pts_oK d L ((oK L).view.writes (Elt F) f [⟨Rect.whole S256, w⟩]))); iexact H
  ipureintro
  intro i hi'
  obtain ⟨x, hx, h1⟩ := out_val L f w i ((set_oK L) ▸ hi')
  have hx0 : (x 0).val < 256 := (x 0).isLt
  exact slab_out R d L sh hsh (x 0) _ i (Finset.mem_filter.mp hi').2.1 h1 (hx.trans (hw x hx0))

/-! ## The exchange -/

theorem shRow_cells (r : ℕ) : shRow r = (Finset.univ : Finset (Fin 16)).biUnion fun j => shCell r j.val := by
  ext i
  simp only [shRow, shCell, Finset.mem_biUnion, Finset.mem_filter, Finset.mem_univ, true_and]
  constructor
  · intro h
    exact ⟨⟨(i 1).val / 256, by have : (i 1).val < 4096 := (i 1).isLt; omega⟩, h, rfl⟩
  · rintro ⟨_, h, -⟩; exact h

theorem shCol_cells (j : ℕ) : shCol j = ((Finset.univ : Finset (Fin 16)).image Fin.val).biUnion fun r => shCell r j := by
  ext i
  simp only [shCol, shCell, Finset.mem_biUnion, Finset.mem_image, Finset.mem_filter, Finset.mem_univ, true_and]
  constructor
  · intro h
    exact ⟨(i 0).val, ⟨i 0, rfl⟩, rfl, h⟩
  · rintro ⟨_, -, -, h⟩; exact h

omit [FloatOps F] in
theorem cell_intro (c : Fin τ.nSC) (s : Finset S16x4096.Idx) (P : (S16x4096.Idx → F .f32) → Prop) (f : S16x4096.Idx → F .f32) (h : P f) :
    (shLoc d c ↦[s]{fullShare} f : sProp (MM F)) ⊢ iprop(∃ g : S16x4096.Idx → F .f32, ⌜P g⌝ ∗ shLoc d c ↦[s]{fullShare} g) := by
  iintro H
  iexists f
  isplitr
  · ipureintro; exact h
  iexact H

omit [FloatOps F] in
theorem cells_eq (c : Fin τ.nSC) (j : ℕ) (fs : ℕ → S16x4096.Idx → F .f32) :
    (bigSep ((Finset.univ : Finset (Fin 16)).image Fin.val) fun n => (shLoc d c ↦[shCell n j]{fullShare} fs n : sProp (MM F)))
      = shLoc d c ↦[shCol j]{fullShare} fun i : S16x4096.Idx => fs (i 0).val i := by
  rw [shCol_cells, pointsTo_biUnion]
  · refine bigSep_congr fun n _ => pointsTo_congr fun i hi => ?_
    have h : (i 0).val = n := (Finset.mem_filter.mp hi).2.1
    show fs n i = fs (i 0).val i
    rw [h]
  · intro t _ t' _ hne
    rw [Finset.disjoint_left]
    intro i hi hi'
    exact hne ((Finset.mem_filter.mp hi).2.1.symm.trans (Finset.mem_filter.mp hi').2.1)

omit [FloatOps F] in
theorem cells_join [Nonempty (F .f32)] (c : Fin τ.nSC) (j : ℕ) (P : (S16x4096.Idx → F .f32) → Prop)
    (hj : ∀ fs : ℕ → S16x4096.Idx → F .f32, (∀ r : Fin 16, P (fs r.val)) → P fun i => fs (i 0).val i) :
    (bigSep ((Finset.univ : Finset (Fin 16)).image Fin.val) fun n => iprop(∃ f : S16x4096.Idx → F .f32, ⌜P f⌝ ∗ shLoc d c ↦[shCell n j]{fullShare} f))
    ⊢ (iprop(∃ f : S16x4096.Idx → F .f32, ⌜P f⌝ ∗ shLoc d c ↦[shCol j]{fullShare} f) : sProp (MM F)) := by
  refine (bigSep_exists_pi _ (fun n (f : S16x4096.Idx → F .f32) => (iprop(⌜P f⌝ ∗ shLoc d c ↦[shCell n j]{fullShare} f) : sProp (MM F)))).trans ?_
  iintro ⟨%fs, H⟩
  ihave H := (bigSep_pure_sep ((Finset.univ : Finset (Fin 16)).image Fin.val) (fun n => P (fs n))
    (fun n => (shLoc d c ↦[shCell n j]{fullShare} fs n : sProp (MM F)))) $$ H
  icases H with ⟨%hfs, H⟩
  ihave H := (Entails.of_eq (cells_eq d c j fs)) $$ H
  iexists (fun i => fs (i 0).val i)
  isplitr
  · ipureintro
    exact hj fs fun r => hfs r.val (Finset.mem_image.mpr ⟨r, Finset.mem_univ _, rfl⟩)
  iexact H

theorem Rsh_join (c : Fin τ.nSC) (fs : ℕ → S16x4096.Idx → F .f32) (h : ∀ r : Fin 16, Rsh R d c (fs r.val)) : Rsh R d c (fun i => fs (i 0).val i) :=
  fun i => h (i 0) i

theorem pays_intro (hI : R d I) : (shLoc d (cV L) ↦[shRow (L 1).val]{fullShare} shI I (L 0).val : sProp (MM F))
    ⊢ bigSep Finset.univ fun j : Fin (grid1.bound 1) => (bR R R').payload (bcell d (cV L) (j.castLE hsub1)) rd (jV L).val := by
  have hR : Rsh R d (cV L) (shI I (L 0).val) := fun i => ⟨I, hI, rfl⟩
  generalize shI I (L 0).val = sh at hR
  simp only [bR, bRd_payload_0]
  rw [shRow_cells, pointsTo_biUnion]
  · exact bigSep_mono fun j _ => cell_intro d (cV L) _ (Rsh R d (cV L)) sh hR
  · intro t _ t' _ hne
    rw [Finset.disjoint_left]
    intro i hi hi'
    exact hne (Fin.ext ((Finset.mem_filter.mp hi).2.2.symm.trans (Finset.mem_filter.mp hi').2.2))

theorem pays_elim : (bigSep ((bR R R').duties (bcell d (cV L) (jV L)) rd \ ∅) fun n => (bR R R').payload (bcell d (cV L) (jV L)) rd n)
    ⊢ (iprop(∃ f : S16x4096.Idx → F .f32, ⌜Rsh R d (cV L) f⌝ ∗ shLoc d (cV L) ↦[shCol (L 1).val]{fullShare} f) : sProp (MM F)) := by
  have : Nonempty (F .f32) := ⟨Scalar.ofBits .f32 0x00000000#32⟩
  simp only [bR, bRd_payload_0]
  rw [Finset.sdiff_empty, bRd_duties _ _ _ _ _ _ (by decide)]
  exact cells_join d (cV L) (jV L).val (Rsh R d (cV L)) (Rsh_join R d (cV L))

end Cert.Proof.Scatter.One

end
-- ==== Proof.One.Tile.lean ====
/-
  The task of one tile, run once at a symbolic tile: the five fetches, the zeroing, the main loop,
  the exchange through the shared scratch, the row sums and the copy out.
-/
module

public import proofs.«01_k».proof.Proof.One.Moves

@[expose] public section

noncomputable section

namespace Cert.Proof.Scatter.One

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Tile

variable (R : InRel F) (R' : ShRel F) (I : In F) (d : Dev nD) (L : grid1.Coords)

omit [FloatOps F] in
theorem devRef_ne {b b' : Ref sig .scVector} (c : Fin τ.nSC) (j : Fin τ.nSub) (h : b ≠ b') :
    (Proc.scVector c j).devRef b ≠ (Proc.scVector c j).devRef b' := fun e => h (Proc.devRef_injective _ e)

omit [FloatOps F] in
theorem cell_ne {s s' : SemLoc sig} (t : Thread nD τ) (h : s ≠ s') : ((t, s) : GSem nD τ sig) ≠ (t, s') := fun e => h (congrArg Prod.snd e)

omit [FloatOps F] in
theorem ownSems0_V :
    (ownSems0 (thr d L) : sProp (MM F))
      = iprop(semVal ((thr d L, .dma cc1_scratch10.sem) : GSem nD τ sig) 0
          ∗ semVal ((thr d L, .dma cc1_scoped0.sem) : GSem nD τ sig) 0
          ∗ semVal ((thr d L, .dma cc1_scoped1.sem) : GSem nD τ sig) 0
          ∗ semVal ((thr d L, .dma cc1_scoped2.sem) : GSem nD τ sig) 0
          ∗ bigSep (((((ownCells (thr d L)).erase ((thr d L, .dma cc1_scratch10.sem) : GSem nD τ sig)).erase ((thr d L, .dma cc1_scoped0.sem) : GSem nD τ sig)).erase ((thr d L, .dma cc1_scoped1.sem) : GSem nD τ sig)).erase ((thr d L, .dma cc1_scoped2.sem) : GSem nD τ sig)) fun g => semVal g 0) := by
  unfold SparseCore.Cfg.ownSems0
  rw [SparseCore.bigSep_erase' ((mem_ownCells (g := ((thr d L, .dma cc1_scratch10.sem) : GSem nD τ sig))).mpr ⟨rfl, by show (SemLoc.dma cc1_scratch10.sem : SemLoc sig).isScoped .scVector = true; decide⟩),
    SparseCore.bigSep_erase' (Finset.mem_erase.mpr ⟨cell_ne _ (by decide), (mem_ownCells (g := ((thr d L, .dma cc1_scoped0.sem) : GSem nD τ sig))).mpr ⟨rfl, by show (SemLoc.dma cc1_scoped0.sem : SemLoc sig).isScoped .scVector = true; decide⟩⟩),
    SparseCore.bigSep_erase' (Finset.mem_erase.mpr ⟨cell_ne _ (by decide), Finset.mem_erase.mpr ⟨cell_ne _ (by decide), (mem_ownCells (g := ((thr d L, .dma cc1_scoped1.sem) : GSem nD τ sig))).mpr ⟨rfl, by show (SemLoc.dma cc1_scoped1.sem : SemLoc sig).isScoped .scVector = true; decide⟩⟩⟩),
    SparseCore.bigSep_erase' (Finset.mem_erase.mpr ⟨cell_ne _ (by decide), Finset.mem_erase.mpr ⟨cell_ne _ (by decide), Finset.mem_erase.mpr ⟨cell_ne _ (by decide), (mem_ownCells (g := ((thr d L, .dma cc1_scoped2.sem) : GSem nD τ sig))).mpr ⟨rfl, by show (SemLoc.dma cc1_scoped2.sem : SemLoc sig).isScoped .scVector = true; decide⟩⟩⟩⟩)]

set_option maxHeartbeats 1000000 in
omit [FloatOps F] in
theorem ownBufs_V :
    (ownBufs (thr d L) : sProp (MM F))
      = iprop((∃ f, (thr d L).loc cc1_scratch0 ↦{fullShare} f)
          ∗ (∃ f, (thr d L).loc cc1_scratch1 ↦{fullShare} f)
          ∗ (∃ f, (thr d L).loc cc1_scratch2 ↦{fullShare} f)
          ∗ (∃ f, (thr d L).loc cc1_scratch3 ↦{fullShare} f)
          ∗ (∃ f, (thr d L).loc cc1_scratch4 ↦{fullShare} f)
          ∗ (∃ f, (thr d L).loc cc1_scratch5 ↦{fullShare} f)
          ∗ (∃ f, (thr d L).loc cc1_scratch6 ↦{fullShare} f)
          ∗ (∃ f, (thr d L).loc cc1_scratch7 ↦{fullShare} f)
          ∗ (∃ f, (thr d L).loc cc1_scratch8 ↦{fullShare} f)
          ∗ bigSep ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scratch0) rfl),
    SparseCore.bigSep_erase' (Finset.mem_erase.mpr ⟨devRef_ne _ _ (by decide) , SparseCore.Cfg.mem_ownRefs_of_owner (p := Proc.scVector (cV L) (jV L)) (b := (Proc.scVector (cV L) (jV L)).devRef cc1_scratch1) rfl⟩),
    SparseCore.bigSep_erase' (Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc1_scratch2) rfl⟩⟩),
    SparseCore.bigSep_erase' (Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc1_scratch5) rfl⟩⟩⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc1_scratch6) rfl⟩⟩⟩⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc1_scratch7) rfl⟩⟩⟩⟩⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc1_scratch8) rfl⟩⟩⟩⟩⟩⟩⟩⟩)]

/-- The zeroing loop: the first `128 k` elements are zero. -/
def invZ (k : ℕ) (_ : BitVec 32) : sProp (MM F) := iprop(∃ f, ⌜ZeroTo (128 * k) f⌝ ∗ (thr d L).loc cc1_scratch6 ↦{fullShare} f)

/-- The main loop: the tile's atoms, and the accumulator after `2 k` chunks. -/
def invM (fI : S3104.Idx → BitVec 32) (fQ fX fY fZ : S3072.Idx → F .f32) (k : ℕ) (_ : BitVec 32) : sProp (MM F) :=
  iprop(((thr d L).loc cc1_scratch0 ↦{fullShare} fI) ∗ ((thr d L).loc cc1_scratch1 ↦{fullShare} fQ) ∗ ((thr d L).loc cc1_scratch2 ↦{fullShare} fX)
        ∗ ((thr d L).loc cc1_scratch3 ↦{fullShare} fY) ∗ ((thr d L).loc cc1_scratch4 ↦{fullShare} fZ)
        ∗ (∃ e, (thr d L).loc cc1_scratch5 ↦{fullShare} e)
        ∗ (thr d L).loc cc1_scratch6 ↦{fullShare} accN I.ids I.q I.x I.y I.z (wN L) (2 * k))

/-- The summing loop: the first `16 k` columns are summed. -/
def invS (sl : S16x256.Idx → F .f32) (k : ℕ) (_ : BitVec 32) : sProp (MM F) :=
  iprop(((thr d L).loc cc1_scratch7 ↦{fullShare} sl) ∗ ∃ f, ⌜SumTo sl (16 * k) f⌝ ∗ (thr d L).loc cc1_scratch8 ↦{fullShare} f)

/-- What the task leaves. -/
def tilePost (O : CellTallies nD τ sig (HIx 2)) (W : Waits sig (HIx 2)) : sProp (MM F) :=
  iprop(((outPart R d (L 0).val (L 1).val ∗ shColPart d (cV L) (L 1).val) ∗ endAt d (cV L) (jV L))
            ∗ scopedBufs (thr d L) ∗ scopedSems0 (thr d L)
            ∗ ∃ W', ⌜∀ p ∈ W', p ∈ W ∨ p.2 = none ∨ p.2 = some (0 : Fin 2)⌝ ∗ owes (thr d L) O W')

/-- The accumulator after every trip, under a name. -/
theorem acc_pack : ((thr d L).loc cc1_scratch6 ↦{fullShare} accN I.ids I.q I.x I.y I.z (wN L) (2 * Scf.trips k1_t2_loop.lb k1_t2_loop.ub k1_t2_loop.st) : sProp (MM F))
    ⊢ iprop(∃ A : S4096.Idx → F .f32, ⌜A = accT I.ids I.q I.x I.y I.z (wN L)⌝
        ∗ (sA : Memref sig .scVector .vmem S4096 .f32).view.loc (thr d L) ↦{fullShare} A) := by
  iintro H
  iexists _
  isplitr
  swap; · iexact H
  ipureintro; rfl

/-- The slab the tile's columns land as, under a name. -/
theorem slab_pack (sh : S16x4096.Idx → F .f32) (b w : S16x256.Idx → F .f32) (hw : w = (colK L).view.read (Elt F) sh) :
    ((sB : Memref sig .scVector .vmem S16x256 .f32).view.loc (thr d L) ↦{fullShare} (sB : Memref sig .scVector .vmem S16x256 .f32).view.write (Elt F) b w Finset.univ : sProp (MM F))
    ⊢ iprop(∃ B : S16x256.Idx → F .f32, ⌜B = slab L sh⌝ ∗ (thr d L).loc cc1_scratch7 ↦{fullShare} B) := by
  have hw' : w = slab L sh := hw.trans (colRead L _)
  iintro H
  iexists w
  isplitr
  · ipureintro; exact hw'
  ihave H' := (Entails.of_eq (whole_write (F := F) d L cc1_scratch7 b w w rfl)) $$ [H]
  · iexact H
  iexact H'

set_option maxHeartbeats 1000000 in
/-- The task on vector subcore `(L 0, L 1)` of device `d`. -/
theorem tile_body (hF : (K (F := F)).Facts) (hpre : PreOK R) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ (kit R R' d (cV L) (jV L) ∗ bAt rd d (cV L) (jV L))
        ∗ (stPart R d (L 0).val (L 1).val ∗ shRowPart d (cV L) (L 1).val)
        ∗ scopedBufs (thr d L) ∗ scopedSems0 (thr d L) ∗ owes (thr d L) (O + oxV 0 d (cV L)) W)
      ⊢ wp frame (wpE (defs₀ (F := F)) 𝒱₀ (thr d L) none) Set.univ
          (cc1_sc_scatter L aI (Memref.isWhole_whole _) aQ (Memref.isWhole_whole _) aX (Memref.isWhole_whole _) aY (Memref.isWhole_whole _) aZ (Memref.isWhole_whole _)
            aO (Memref.isWhole_whole _) sI (Memref.isWhole_whole _) sQ (Memref.isWhole_whole _) sX (Memref.isWhole_whole _) sY (Memref.isWhole_whole _) sZ (Memref.isWhole_whole _)
            sE (Memref.isWhole_whole _) sA (Memref.isWhole_whole _) sB (Memref.isWhole_whole _) sR (Memref.isWhole_whole _) sS (Memref.isWhole_whole _)
            cc1_scratch10 cc1_scoped0 cc1_scoped1 cc1_scoped2)
          fun _ => tilePost R d L O W := by
  simp only [cc1_sc_scatter_eq_skeleton]; unfold cc1_sc_scatter_skel
  simp only [k1_part8_eq_skeleton]; unfold k1_part8_skel
  simp only [bind_assoc, pure_bind]
  rw [(K (F := F)).scopedBufs_V hF d (cV L) (jV L), SparseCore.Cfg.scopedSems0_V (Val := Elt F) d (cV L) (jV L), ownSems0_V, ownBufs_V]
  unfold kit bkit bAt stPart shRowPart inPts
  iintro ⟨#Hlv, ⟨⟨⟨%κ, #Hinv⟩, Htoks, Hcred⟩, Hat, #Hrch⟩, ⟨⟨⟨%I, %hR, Hi, Hq, Hx, Hy, Hz⟩, %fo, Ho⟩, %fsh, Hsh⟩,
    ⟨⟨%b0, Hb0⟩, ⟨%b1, Hb1⟩, ⟨%b2, Hb2⟩, ⟨%b3, Hb3⟩, ⟨%b4, Hb4⟩, ⟨%b5, Hb5⟩, ⟨%b6, Hb6⟩, ⟨%b7, Hb7⟩, ⟨%b8, Hb8⟩, Hbufs⟩,
    ⟨HsemG, HsemA, HsemB, HsemC, Hsems⟩, HO⟩
  have hO' : ∀ g, (O + oxV 0 d (cV L)) g none = 0 := fun g => by rw [Pi.add_apply, Finsupp.add_apply, hO g, oxV_none]
  ihave Hmw1 := (show levAts (K (F := F)).L (K (F := F)).lev ⊢ Transfers.MayWaits (thr d L) (default : HIx 2) (O + oxV 0 d (cV L)) from
    (K (F := F)).mayWaits_none (thr := thr d L) hO') $$ Hlv
  ihave Hmw2 := (show levAts (K (F := F)).L (K (F := F)).lev ⊢ Transfers.MayWaits (thr d L) (default : HIx 2) O from
    (K (F := F)).mayWaits_none (thr := thr d L) hO) $$ Hlv
  have hbatch : Transfers.BatchOf (thr d L) (.dma cc1_scratch10.sem) 5 := trivial
  ihave Hi' := (Entails.of_eq (pts_iK (F := F) d L _).symm) $$ Hi
  ihave Hq' := (Entails.of_eq (pts_qK (F := F) d L _).symm) $$ Hq
  ihave Hx' := (Entails.of_eq (pts_xK (F := F) d L _).symm) $$ Hx
  ihave Hy' := (Entails.of_eq (pts_yK (F := F) d L _).symm) $$ Hy
  ihave Hz' := (Entails.of_eq (pts_zK (F := F) d L _).symm) $$ Hz
  ihave Ho' := (Entails.of_eq (pts_oK (F := F) d L _).symm) $$ Ho
  ihave Hsh' := (Entails.of_eq (pts_rowK (F := F) d L _).symm) $$ Hsh
  ihave HI := (show ((thr d L).loc cc1_scratch0 ↦{fullShare} b0 : sProp (MM F)) ⊢ sIK.view.loc (thr d L) ↦{fullShare} b0 from Entails.refl _) $$ Hb0
  ihave HQ := (show ((thr d L).loc cc1_scratch1 ↦{fullShare} b1 : sProp (MM F)) ⊢ (sQ : Memref sig .scVector .vmem S3072 .f32).view.loc (thr d L) ↦{fullShare} b1 from Entails.refl _) $$ Hb1
  ihave HX := (show ((thr d L).loc cc1_scratch2 ↦{fullShare} b2 : sProp (MM F)) ⊢ (sX : Memref sig .scVector .vmem S3072 .f32).view.loc (thr d L) ↦{fullShare} b2 from Entails.refl _) $$ Hb2
  ihave HY := (show ((thr d L).loc cc1_scratch3 ↦{fullShare} b3 : sProp (MM F)) ⊢ (sY : Memref sig .scVector .vmem S3072 .f32).view.loc (thr d L) ↦{fullShare} b3 from Entails.refl _) $$ Hb3
  ihave HZ := (show ((thr d L).loc cc1_scratch4 ↦{fullShare} b4 : sProp (MM F)) ⊢ (sZ : Memref sig .scVector .vmem S3072 .f32).view.loc (thr d L) ↦{fullShare} b4 from Entails.refl _) $$ Hb4
  sl_exec
  sl_for (invZ d L) $$ [Hb6]
  case region =>
    intro k acc
    unfold invZ
    iintro Ha
    iapply (wp_t1 (F := F) d L k acc _) $$ Ha
    iintro Ha
    sl_step
    iexact Ha
  · unfold invZ
    iexists _
    isplitr
    swap; · iexact Hb6
    ipureintro; intro i hi; exact absurd hi (by omega)
  iintro %_ Ha
  unfold invZ
  icases Ha with ⟨%fz, %hz, Ha⟩
  sl_exec
  -- the atoms fetched
  ihave HI := (fetchI (F := F) I d L b0 _ rfl) $$ [HI]
  · iexact HI
  icases HI with ⟨%fI, %hI, HI⟩
  ihave HQ := (Entails.of_eq (whole_write (F := F) d L cc1_scratch1 b1 _ (fun i : S3072.Idx => I.q ((inR L).emb i)) rfl)) $$ [HQ]
  · iexact HQ
  ihave HX := (Entails.of_eq (whole_write (F := F) d L cc1_scratch2 b2 _ (fun i : S3072.Idx => I.x ((inR L).emb i)) rfl)) $$ [HX]
  · iexact HX
  ihave HY := (Entails.of_eq (whole_write (F := F) d L cc1_scratch3 b3 _ (fun i : S3072.Idx => I.y ((inR L).emb i)) rfl)) $$ [HY]
  · iexact HY
  ihave HZ := (Entails.of_eq (whole_write (F := F) d L cc1_scratch4 b4 _ (fun i : S3072.Idx => I.z ((inR L).emb i)) rfl)) $$ [HZ]
  · iexact HZ
  have hz' : fz = accN I.ids I.q I.x I.y I.z (wN L) (2 * 0) := funext fun i => hz i (i 0).isLt
  rw [hz']
  sl_for (invM I d L fI (fun i : S3072.Idx => I.q ((inR L).emb i)) (fun i : S3072.Idx => I.x ((inR L).emb i))
    (fun i : S3072.Idx => I.y ((inR L).emb i)) (fun i : S3072.Idx => I.z ((inR L).emb i))) $$ [HI HQ HX HY HZ Hb5 Ha]
  case region =>
    intro k acc
    unfold invM
    iintro H
    iapply (wp_trip (F := F) d L I.ids I.q I.x I.y I.z (hpre d I hR) (wN L) fI _ _ _ _ hI (fetch_holdsV L _) (fetch_holdsV L _) (fetch_holdsV L _) (fetch_holdsV L _) k acc _) $$ H
    iintro H
    sl_step
    iexact H
  · unfold invM
    isplitl [HI]; · iexact HI
    isplitl [HQ]; · iexact HQ
    isplitl [HX]; · iexact HX
    isplitl [HY]; · iexact HY
    isplitl [HZ]; · iexact HZ
    isplitl [Hb5]; · iexists _; iexact Hb5
    iexact Ha
  iintro %_ HM
  unfold invM
  icases HM with ⟨HI, HQ, HX, HY, HZ, ⟨%e5, Hb5⟩, Ha⟩
  ihave Ha := (acc_pack (F := F) I d L) $$ Ha
  icases Ha with ⟨%A, %hA, Ha⟩
  sl_exec
  -- the row handed out, the columns received
  ihave Hrow := (Entails.of_eq (row_eq (F := F) I d L fsh A hA)) $$ [Hsh']
  · iexact Hsh'
  ihave Hpays := (pays_intro (F := F) R R' I d L hR) $$ Hrow
  iapply (SparseCore.wp_subcoreBarrier 𝒱₀ none EB (bR R R') d (sc := cV L) (i := jV L) sc_bar0 (grid1.bound 1) hsub1 (L 1) rfl κ (fun _ => rd) (jV L).val
      (fun j => bRd_mem _ _ d _ _ _ rd (by decide)) (fun _ => rfl) (bRd_expect _ _ d _ _ rd (by decide)) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) (8 * rd + 3) (fun p hp => by
        rw [Finset.mem_singleton] at hp; subst hp
        show (K (F := F)).lev (bcell d (cV L) (jV L)) (some 0) ≤ 8 * rd + 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hreach, Hgot⟩
  imod (endAt_intro R R' κ d (cV L) (jV L)) $$ [Hat Hreach] with Hbar
  · isplitr
    · iapply (SparseCore.ent (bigSep_elim (Φ := fun j : Fin (grid1.bound 1) =>
        (cellInv EB (bR R R') (κ (bcell d (cV L) (j.castLE hsub1))) (bcell d (cV L) (j.castLE hsub1)) : sProp (MM F))) (Finset.mem_univ (L 1)))); iexact Hinv
    isplitl [Hat] <;> iassumption
  ihave Hcol := (pays_elim (F := F) R R' d L) $$ Hgot
  icases Hcol with ⟨%sh, %hsh, Hcol⟩
  ihave Hcol' := (Entails.of_eq (pts_colK (F := F) d L _).symm) $$ Hcol
  ihave HB := (show ((thr d L).loc cc1_scratch7 ↦{fullShare} b7 : sProp (MM F)) ⊢ (sB : Memref sig .scVector .vmem S16x256 .f32).view.loc (thr d L) ↦{fullShare} b7 from Entails.refl _) $$ Hb7
  sl_exec
  ihave HB := (slab_pack (F := F) d L sh b7 _ rfl) $$ [HB]
  · iexact HB
  icases HB with ⟨%B, %hB, HB⟩
  sl_for (invS d L B) $$ [HB Hb8]
  case region =>
    intro k acc
    unfold invS
    iintro H
    iapply (wp_t3 (F := F) d L B k acc _) $$ H
    iintro H
    sl_step
    iexact H
  · unfold invS
    isplitl [HB]; · iexact HB
    iexists _
    isplitr
    swap; · iexact Hb8
    ipureintro; intro i hi; exact absurd hi (by omega)
  iintro %_ HS
  unfold invS
  icases HS with ⟨HB, ⟨%fr, %hr, Hb8⟩⟩
  ihave HR := (show ((thr d L).loc cc1_scratch8 ↦{fullShare} fr : sProp (MM F)) ⊢ (sR : Memref sig .scVector .vmem S256 .f32).view.loc (thr d L) ↦{fullShare} fr from Entails.refl _) $$ Hb8
  sl_exec
  ihave Hout := (out_eq (F := F) R d L fo fr sh hsh (hB ▸ hr)) $$ [Ho']
  · iexact Ho'
  sl_step
  unfold tilePost
  rw [(K (F := F)).scopedBufs_V hF d (cV L) (jV L), SparseCore.Cfg.scopedSems0_V (Val := Elt F) d (cV L) (jV L), ownSems0_V, ownBufs_V]
  isplitl [Hout Hcol' Hbar]
  · isplitr [Hbar]; swap; · iexact Hbar
    isplitl [Hout]; · iexact Hout
    unfold shColPart; iexists _
    iapply (Entails.of_eq (pts_colK (F := F) d L _)); iexact Hcol'
  isplitl [HI HQ HX HY HZ Hb5 Ha HB HR Hbufs]
  · isplitl [HI]; · iexists _; iexact HI
    isplitl [HQ]; · iexists _; iexact HQ
    isplitl [HX]; · iexists _; iexact HX
    isplitl [HY]; · iexists _; iexact HY
    isplitl [HZ]; · iexists _; iexact HZ
    isplitl [Hb5]; · iexists _; iexact Hb5
    isplitl [Ha]; · iexists A; iexact Ha
    isplitl [HB]; · iexists _; iexact HB
    isplitl [HR]; · iexists fr; iexact HR
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact .inl hp

end Tile

end Cert.Proof.Scatter.One

end
-- ==== Proof.One.Split.lean ====
/-
  How the call's arrays split over the tasks and come back, and how a core's shared scratch goes
  out by rows and comes back by columns.
-/
module

public import proofs.«01_k».proof.Proof.Parts
public import proofs.«01_k».proof.Proof.One.Tile

@[expose] public section

noncomputable section

namespace Cert.Proof.Scatter.One

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_scatter (coordsV c s) aI (Memref.isWhole_whole _) aQ (Memref.isWhole_whole _) aX (Memref.isWhole_whole _)
          aY (Memref.isWhole_whole _) aZ (Memref.isWhole_whole _) aO (Memref.isWhole_whole _) sI (Memref.isWhole_whole _) sQ (Memref.isWhole_whole _)
          sX (Memref.isWhole_whole _) sY (Memref.isWhole_whole _) sZ (Memref.isWhole_whole _) sE (Memref.isWhole_whole _) sA (Memref.isWhole_whole _)
          sB (Memref.isWhole_whole _) sR (Memref.isWhole_whole _) sS (Memref.isWhole_whole _) cc1_scratch10 cc1_scoped0 cc1_scoped1 cc1_scoped2) ⟨⟩ c s := rfl

theorem inSet_disj (c c' : Fin 2) (j j' : Fin 16) (h : (c, j) ≠ (c', j')) : Disjoint (inSet (16 * c.val + j.val)) (inSet (16 * c'.val + j'.val)) := by
  refine Finset.disjoint_left.mpr fun i hi hi' => h ?_
  have h1 := (Finset.mem_filter.mp hi).2
  have h2 := (Finset.mem_filter.mp hi').2
  refine Prod.ext (Fin.ext ?_) (Fin.ext ?_)
  · show c.val = c'.val; omega
  · show j.val = j'.val; omega

theorem inSet_cov (i : S98304.Idx) : ∃ (c : Fin 2) (j : Fin 16), i ∈ inSet (16 * c.val + j.val) := by
  have hi : (i 0).val < 98304 := (i 0).isLt
  refine ⟨⟨(i 0).val / 3072 / 16, by omega⟩, ⟨(i 0).val / 3072 % 16, by omega⟩, Finset.mem_filter.mpr ⟨Finset.mem_univ _, ?_⟩⟩
  show (i 0).val / 3072 = 16 * ((i 0).val / 3072 / 16) + (i 0).val / 3072 % 16
  omega

variable (R : InRel F)

/-- The five vectors, whole. -/
def wholeIn (I : In F) (d : Dev nD) : sProp (MM F) :=
  iprop((iLoc d ↦{fullShare} I.ids) ∗ (qLoc d ↦{fullShare} I.q) ∗ (xLoc d ↦{fullShare} I.x) ∗ (yLoc d ↦{fullShare} I.y) ∗ (zLoc d ↦{fullShare} I.z))

omit [FloatOps F] in
theorem all_in_eq (I : In F) (d : Dev nD) :
    (bigSep Finset.univ fun c : Fin 2 => bigSep Finset.univ fun j : Fin 16 => (inPts I d c.val j.val : sProp (MM F))) = wholeIn I d := by
  unfold inPts wholeIn
  simp only [bigSep_sep']
  rw [pts_parts (ℓ := iLoc d) I.ids (fun c j => inSet (16 * c + j)) inSet_disj inSet_cov, pts_parts (ℓ := qLoc d) I.q (fun c j => inSet (16 * c + j)) inSet_disj inSet_cov,
    pts_parts (ℓ := xLoc d) I.x (fun c j => inSet (16 * c + j)) inSet_disj inSet_cov, pts_parts (ℓ := yLoc d) I.y (fun c j => inSet (16 * c + j)) inSet_disj inSet_cov,
    pts_parts (ℓ := zLoc d) I.z (fun c j => inSet (16 * c + j)) inSet_disj inSet_cov]

omit [FloatOps F] in
theorem all_out_eq (d : Dev nD) (f : S2x4096.Idx → F .f32) :
    (bigSep Finset.univ fun c : Fin 2 => bigSep Finset.univ fun j : Fin 16 => (outPts d c.val j.val f : sProp (MM F))) = oLoc d ↦{fullShare} f := by
  unfold outPts
  rw [pts_parts (ℓ := oLoc d) f outSet outSet_disj outSet_cov]

omit [FloatOps F] in
theorem stPart_intro (I : In F) (d : Dev nD) (hI : R d I) (f : S2x4096.Idx → F .f32) (c j : ℕ) :
    iprop(inPts I d c j ∗ outPts d c j f) ⊢ (stPart R d c j : sProp (MM F)) := by
  unfold stPart
  iintro ⟨Hi, Ho⟩
  isplitl [Hi]
  · iexists I
    isplitr
    · ipureintro; exact hI
    iexact Hi
  iexists f; iexact Ho

omit [FloatOps F] in
/-- The arrays whole are every tile's pieces. -/
theorem all_in (I : In F) (d : Dev nD) (hI : R d I) (f : S2x4096.Idx → F .f32) :
    iprop(wholeIn I d ∗ oLoc d ↦{fullShare} f)
      ⊢ (bigSep Finset.univ fun c : Fin 2 => bigSep Finset.univ fun j : Fin 16 => stPart R d c.val j.val : sProp (MM F)) := by
  rw [← all_in_eq, ← all_out_eq, ← bigSep_sep']
  refine bigSep_mono fun c _ => ?_
  rw [← bigSep_sep']
  exact bigSep_mono fun j _ => stPart_intro R I d hI f c.val j.val

/-- What the tiles bring back is the result whole. -/
theorem all_out (d : Dev nD) :
    (bigSep Finset.univ fun c : Fin 2 => bigSep Finset.univ fun j : Fin 16 => (outPart R d c.val j.val : sProp (MM F)))
      ⊢ iprop(∃ o : S2x4096.Idx → F .f32, ⌜∀ i, Rout R d o i⌝ ∗ oLoc d ↦{fullShare} o) := by
  unfold outPart outPts
  refine (pts_parts_join (ℓ := oLoc d) (fun _ => (Scalar.ofBits .f32 0x00000000#32 : F .f32)) outSet (fun c j f => ∀ i ∈ outSet c j, Rout R d f i)
    (fun c j f g h hf i hi => by
      obtain ⟨I, hI, he⟩ := hf i hi
      exact ⟨I, hI, (h i hi).symm.trans he⟩) outSet_disj outSet_cov).trans ?_
  iintro ⟨%o, %h, H⟩
  iexists o
  isplitr
  · ipureintro
    intro i
    obtain ⟨c, j, hi⟩ := outSet_cov i
    exact h c j i hi
  iexact H

omit [FloatOps F] in
/-- The shared scratch is among the sequencer's own buffers. -/
theorem ownBufs_S (d : Dev nD) (c : Fin τ.nSC) :
    (ownBufs (S d c) : sProp (MM F))
      = iprop((∃ f, shLoc d c ↦{fullShare} f) ∗ bigSep ((ownRefs (τ := τ) (.scScalar c)).erase (shRefOf 0 c)) fun b => iprop(∃ f, ((d, b) : Loc nD τ sig) ↦{fullShare} f)) := by
  unfold SparseCore.Cfg.ownBufs
  have h : shRefOf 0 c ∈ ownRefs (τ := τ) (sig := sig) (.scScalar c) := (mem_ownRefs (p := Proc.scScalar c) (b := shRefOf 0 c)).mpr rfl
  exact SparseCore.bigSep_erase' h

omit [FloatOps F] in
theorem split_go (d : Dev nD) (c : Fin τ.nSC) (Φ : Fin 16 → sProp (MM F)) (fsh : Buf (Elt F) (shLoc d c)) :
    iprop((bigSep Finset.univ Φ) ∗ shLoc d c ↦{fullShare} fsh)
      ⊢ (bigSep Finset.univ fun j : Fin 16 => iprop(Φ j ∗ shRowPart d c j.val) : sProp (MM F)) := by
  rw [← pts_tiles fsh shRow shRow_disj shRow_cov, ← bigSep_sep']
  unfold shRowPart
  exact bigSep_mono fun j _ => sep_mono_right (BI.BIClass.exists_intro (Φ := fun f => (shLoc d c ↦[shRow j.val]{fullShare} f : sProp (MM F))) fsh)

theorem join_td (d : Dev nD) (c : Fin τ.nSC) (Φ Ψ : Fin 16 → sProp (MM F)) :
    (bigSep Finset.univ fun j : Fin 16 => iprop((Φ j ∗ shColPart d c j.val) ∗ Ψ j))
      ⊢ (iprop((bigSep Finset.univ fun j : Fin 16 => iprop(Φ j ∗ Ψ j)) ∗ ∃ f, shLoc d c ↦{fullShare} f) : sProp (MM F)) := by
  rw [bigSep_sep', bigSep_sep', bigSep_sep']
  unfold shColPart
  iintro ⟨⟨HΦ, Hsh⟩, HΨ⟩
  isplitl [HΦ HΨ]
  · isplitl [HΦ] <;> iassumption
  iapply (pts_tiles_join (ℓ := shLoc d c) (fun _ => (Scalar.ofBits .f32 0x00000000#32 : F .f32)) shCol shCol_disj shCol_cov)
  iexact Hsh

end Cert.Proof.Scatter.One

end
-- ==== Proof.Two.Spec.lean ====
/-
  What the kernel computes, as pure functions over any float values: one chunk of sixteen atoms
  (run starts and ends, the prefix sums, the run contributions, the masked scatter-adds), the
  chunks of a tile in order, and the sum of the sixteen tiles' accumulators of a core. The machine
  run (Chunk, Tile, Launch) is proved to leave these values; the value claim is about them.
-/
module

public import proofs.«01_k».proof.Proof.Gen.KernelIdeal.Skeleton

@[expose] public section

noncomputable section

namespace Cert.Proof.Scatter.Two

open Cert.KernelIdeal Cert.KernelIdeal.Gen
open Idealize.ShloMosaic

variable {F : FTy → Type} [FloatOps F]

/-- Lane `k` of a sixteen-lane vector. -/
abbrev lane (k : Fin 16) : S16.Idx := fun a => ⟨k.val, by rw [Fin.eq_zero a]; exact k.isLt⟩

theorem exists_lane (l : S16.Idx) : ∃ k : Fin 16, l = lane k := ⟨l 0, funext fun a => Fin.ext (by rw [Fin.eq_zero a])⟩

/-- The accumulator's element number `n`. -/
abbrev at4 (n : ℕ) (h : n < 4096) : S4096.Idx := fun a => ⟨n, by rw [Fin.eq_zero a]; exact h⟩

/-- The long vector's element number `n`. -/
abbrev atN (n : ℕ) (h : n < 62464) : S62464.Idx := fun a => ⟨n, by rw [Fin.eq_zero a]; exact h⟩

/-- Sixteen consecutive elements of a long vector from position `o` on, wrapping around. -/
def win {α : Type} (g : S62464.Idx → α) (o : ℕ) : S16.Idx → α :=
  fun l => g (atN ((o + (l 0).val) % 62464) (Nat.mod_lt _ (by decide)))

/-- The masked scatter-add into the accumulator, lanes in ascending order. -/
def scat (a : S4096.Idx → F .f32) (ix : IVec S16 32) (v : FVec F S16 .f32) (mask : IVec S16 1) : S4096.Idx → F .f32 :=
  (List.finRange 16).foldl (fun g k =>
    if mask (lane k) = 1 then fun j => if (j 0).val = (ix (lane k)).toNat then FloatOps.idxAddf (g j) (v (lane k)) else g j
    else g) a

theorem storeIdx_eq_scat (a : Vec F S4096 .f32) (ix : IVec S16 32) (v : FVec F S16 .f32) (mask : IVec S16 1)
    (h : ∀ x y, ((![ix] : Fin 1 → IVec S16 32) x y).toNat < S4096.size x) :
    storeIdx (F := F) (s := S4096) (e := .f32) a ![ix] v mask true h = scat a ix v mask := by
  unfold storeIdx scat
  show List.foldl _ a (List.finRange 16) = _
  congr 1
  funext g k
  by_cases hm : mask (lane k) = 1
  · refine (if_pos hm).trans ((if_pos hm).trans ?_).symm
    funext j
    by_cases hj : (j 0).val = (ix (lane k)).toNat
    · have hall : ∀ x, (j x).val = (idxAt ![ix] h (lane k) x).val := fun x => by rw [Fin.eq_zero x]; exact hj
      have hjj : j = idxAt ![ix] h (lane k) := funext fun x => Fin.ext (hall x)
      refine (if_pos hj).trans (Eq.trans ?_ (if_pos hall).symm)
      rw [hjj]; rfl
    · have hall : ¬ ∀ x, (j x).val = (idxAt ![ix] h (lane k) x).val := fun hh => hj (hh 0)
      exact (if_neg hj).trans (if_neg hall).symm
  · exact (if_neg hm).trans (if_neg hm).symm

/-- The lane numbers. -/
abbrev lanes : IVec S16 32 := iota .scVector S16 32 [0] iota_S16_d0_w32_scVector

/-- The last lane of each run of equal words. -/
abbrev runEnd (cur nxt : IVec S16 32) : IVec S16 1 := k3_pay7 (F := F) lanes cur nxt
/-- Each lane's run start. -/
abbrev runStart (cur prv : IVec S16 32) : IVec S16 32 := k3_pay8 (F := F) lanes cur prv
/-- Four times the segment number. -/
abbrev four (cur : IVec S16 32) : IVec S16 32 := k3_pay9 (F := F) cur
/-- The prefix sums of a chunk. -/
abbrev csum (v : FVec F S16 .f32) : FVec F S16 .f32 := k3_pay17 v
/-- The prefix sums that leave the lane itself out. -/
abbrev esum (v : FVec F S16 .f32) : FVec F S16 .f32 := subf (csum v) v

/-- Those prefix sums at each lane's run start. -/
def atStart (st : IVec S16 32) (v : FVec F S16 .f32) : FVec F S16 .f32 :=
  fun l => esum v (lane ⟨(st l).toNat % 16, Nat.mod_lt _ (by decide)⟩)
/-- What a run has summed up to each lane. -/
def runSum (st : IVec S16 32) (v : FVec F S16 .f32) : FVec F S16 .f32 := subf (csum v) (atStart st v)

/-- The accumulator's index of component `c`. -/
abbrev slot (id4 : IVec S16 32) (c : BitVec 32) : IVec S16 32 := addi id4 (broadcast S16 c)

/-- One chunk: the four components' contributions scattered onto the accumulator. -/
def chunk (em : IVec S16 1) (st id4 : IVec S16 32) (q x y z : FVec F S16 .f32) (a : S4096.Idx → F .f32) : S4096.Idx → F .f32 :=
  scat (scat (scat (scat a (slot id4 0#32) (runSum st q) em) (slot id4 1#32) (runSum st x) em)
    (slot id4 2#32) (runSum st y) em) (slot id4 3#32) (runSum st z) em

section Arrays

variable (ids : S62464.Idx → BitVec 32) (q x y z : S62464.Idx → F .f32)

/-- Chunk `C` of the whole input onto an accumulator. -/
def chunkAt (C : ℕ) (a : S4096.Idx → F .f32) : S4096.Idx → F .f32 :=
  chunk (runEnd (F := F) (win ids (16 * C)) (win ids (16 * C + 1))) (runStart (F := F) (win ids (16 * C)) (win ids (16 * C + 62463)))
    (four (F := F) (win ids (16 * C))) (win q (16 * C)) (win x (16 * C)) (win y (16 * C)) (win z (16 * C)) a

/-- Tile `w`'s accumulator after its first `n` chunks. -/
def accN (w : ℕ) : ℕ → S4096.Idx → F .f32
  | 0 => fun _ => Scalar.ofBits .f32 0x00000000#32
  | n + 1 => chunkAt ids q x y z (122 * w + n) (accN w n)

/-- Tile `w`'s accumulator at the end. -/
abbrev accT (w : ℕ) : S4096.Idx → F .f32 := accN ids q x y z w 122

/-- A core's shared scratch, row `r` tile `r`'s accumulator. -/
def shV (c : ℕ) : S16x4096.Idx → F .f32 := fun i => accT ids q x y z (16 * c + (i 0).val) (at4 (i 1).val (i 1).isLt)

/-- The sixteen rows of a core added up, first to last. -/
def colSum (sh : Fin 16 → F .f32) : F .f32 :=
  FloatOps.addf (FloatOps.addf (FloatOps.addf (FloatOps.addf (FloatOps.addf (FloatOps.addf (FloatOps.addf (FloatOps.addf
    (FloatOps.addf (FloatOps.addf (FloatOps.addf (FloatOps.addf (FloatOps.addf (FloatOps.addf (FloatOps.addf
      (sh 0) (sh 1)) (sh 2)) (sh 3)) (sh 4)) (sh 5)) (sh 6)) (sh 7)) (sh 8)) (sh 9)) (sh 10)) (sh 11)) (sh 12)) (sh 13)) (sh 14)) (sh 15)

/-- What the call leaves in its result. -/
def outV : S2x4096.Idx → F .f32 := fun i =>
  colSum fun r => accT ids q x y z (16 * (i 0).val + r.val) (at4 (i 1).val (i 1).isLt)

end Arrays

/-- The five long vectors of the call. -/
structure In (F : FTy → Type) where
  ids : S62464.Idx → BitVec 32
  q : S62464.Idx → F .f32
  x : S62464.Idx → F .f32
  y : S62464.Idx → F .f32
  z : S62464.Idx → F .f32

/-- Tile `w`'s accumulator from them. -/
abbrev accI (I : In F) (w : ℕ) : S4096.Idx → F .f32 := accT I.ids I.q I.x I.y I.z w
/-- A core's shared scratch from them. -/
abbrev shI (I : In F) (c : ℕ) : S16x4096.Idx → F .f32 := shV I.ids I.q I.x I.y I.z c

end Cert.Proof.Scatter.Two

end
-- ==== Proof.Two.Common.lean ====
/-
  The call's buffers as its tiles name them, the pieces its tiles work on, and what the call's
  handshakes carry: tiles may be handed different vectors, each allowed by a relation.
-/
module

public import proofs.«01_k».proof.Proof.Base
public import proofs.«01_k».proof.Proof.Two.Spec

@[expose] public section

noncomputable section

namespace Cert.Proof.Scatter.Two

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers, as a tile names them -/

abbrev aI : Memref sig .scVector .hbm S62464 .i32 := Memref.whole main_v8_scv
abbrev aQ : Memref sig .scVector .hbm S62464 .f32 := Memref.whole main_v7_0_scv
abbrev aX : Memref sig .scVector .hbm S62464 .f32 := Memref.whole main_v7_1_scv
abbrev aY : Memref sig .scVector .hbm S62464 .f32 := Memref.whole main_v7_2_scv
abbrev aZ : Memref sig .scVector .hbm S62464 .f32 := Memref.whole main_v7_3_scv
abbrev aO : Memref sig .scVector .hbm S2x4096 .f32 := Memref.whole main_v9_scv
abbrev sI : Memref sig .scVector .vmem S1984 .i32 := Memref.whole cc3_scratch0
abbrev sQ : Memref sig .scVector .vmem S1952 .f32 := Memref.whole cc3_scratch1
abbrev sX : Memref sig .scVector .vmem S1952 .f32 := Memref.whole cc3_scratch2
abbrev sY : Memref sig .scVector .vmem S1952 .f32 := Memref.whole cc3_scratch3
abbrev sZ : Memref sig .scVector .vmem S1952 .f32 := Memref.whole cc3_scratch4
abbrev sE : Memref sig .scVector .vmem S128 .f32 := Memref.whole cc3_scratch5
abbrev sA : Memref sig .scVector .vmem S4096 .f32 := Memref.whole cc3_scratch6
abbrev sB : Memref sig .scVector .vmem S16x256 .f32 := Memref.whole cc3_scratch7
abbrev sR : Memref sig .scVector .vmem S256 .f32 := Memref.whole cc3_scratch8
abbrev sS : Memref sig .scVector .shared S16x4096 .f32 := Memref.whole cc3_scratch9

theorem nSub_call : (K (F := F)).nSub 1 = 16 := rfl
theorem nCore_call : (K (F := F)).nCore 1 = 2 := rfl
abbrev coreOf (c : Fin ((K (F := F)).nCore 1)) : Fin τ.nSC := (K (F := F)).core 1 c

abbrev iLoc (d : Dev nD) : Loc nD τ sig := (SparseCore.T d).loc main_v8
abbrev qLoc (d : Dev nD) : Loc nD τ sig := (SparseCore.T d).loc main_v7_0
abbrev xLoc (d : Dev nD) : Loc nD τ sig := (SparseCore.T d).loc main_v7_1
abbrev yLoc (d : Dev nD) : Loc nD τ sig := (SparseCore.T d).loc main_v7_2
abbrev zLoc (d : Dev nD) : Loc nD τ sig := (SparseCore.T d).loc main_v7_3
abbrev oLoc (d : Dev nD) : Loc nD τ sig := (SparseCore.T d).loc main_v9

/-- The atoms of tile `w`. -/
def inSet (w : ℕ) : Finset S62464.Idx := Finset.univ.filter fun i => (i 0).val / 1952 = w

abbrev shLoc (d : Dev nD) (c : Fin τ.nSC) : Loc nD τ sig := (d, shRefOf 1 c)

/-- The call's round of the barrier's cells. -/
abbrev rd : ℕ := 1

variable [FloatOps F]

/-- Which vectors the call may be handed. -/
abbrev InRel (F : FTy → Type) : Type := Dev nD → In F → Prop

variable (R : InRel F) (R' : ShRel F)

/-- Every segment number is below 1024. -/
def PreOK : Prop := ∀ (d : Dev nD) (I : In F), R d I → ∀ i, (I.ids i).toNat < 1024

/-- A core's shared scratch once written: every element some allowed vectors'. -/
def Rsh : ShRel F := fun d c f => ∀ i, ∃ I, R d I ∧ f i = shI I c.val i
/-- What the call leaves at one element of its result. -/
def Rout (d : Dev nD) (o : S2x4096.Idx → F .f32) (i : S2x4096.Idx) : Prop :=
  ∃ I : Fin 16 → In F, (∀ r, R d (I r)) ∧ o i = colSum fun r => accI (I r) (16 * (i 0).val + r.val) (at4 (i 1).val (i 1).isLt)

/-- The barrier's schedule, this call's round carrying this call's scratch. -/
abbrev bR : Rounds.Schedule (GSem nD τ sig) ℕ (MM F) := bRd R' (Rsh R)
abbrev kit (d : Dev nD) (c : Fin τ.nSC) (i : Fin τ.nSub) : sProp (MM F) := bkit R' (Rsh R) 1 d c i

/-! ## What the handshakes carry -/

/-- Tile `(c, j)`'s atoms. -/
def inPts (I : In F) (d : Dev nD) (c j : ℕ) : sProp (MM F) :=
  iprop((iLoc d ↦[inSet (16 * c + j)]{fullShare} I.ids) ∗ (qLoc d ↦[inSet (16 * c + j)]{fullShare} I.q)
    ∗ (xLoc d ↦[inSet (16 * c + j)]{fullShare} I.x) ∗ (yLoc d ↦[inSet (16 * c + j)]{fullShare} I.y)
    ∗ (zLoc d ↦[inSet (16 * c + j)]{fullShare} I.z))
/-- Its part of the result. -/
def outPts (d : Dev nD) (c j : ℕ) (f : S2x4096.Idx → F .f32) : sProp (MM F) := oLoc d ↦[outSet c j]{fullShare} f

/-- What a tile is handed of the arrays: its atoms, of allowed vectors, and its part of the result. -/
def stPart (d : Dev nD) (c j : ℕ) : sProp (MM F) :=
  iprop((∃ I : In F, ⌜R d I⌝ ∗ inPts I d c j) ∗ ∃ f, outPts d c j f)
/-- Its row of the shared scratch besides. -/
def shRowPart (d : Dev nD) (c : Fin τ.nSC) (j : ℕ) : sProp (MM F) :=
  iprop(∃ f, shLoc d c ↦[shRow j]{fullShare} f)
/-- What it brings back: its part of the result written. -/
def outPart (d : Dev nD) (c j : ℕ) : sProp (MM F) :=
  iprop(∃ o, ⌜∀ i ∈ outSet c j, Rout R d o i⌝ ∗ outPts d c j o)
/-- Its columns of the shared scratch. -/
def shColPart (d : Dev nD) (c : Fin τ.nSC) (j : ℕ) : sProp (MM F) :=
  iprop(∃ f, shLoc d c ↦[shCol j]{fullShare} f)

/-- The tile's barrier cell after the call: closed, its semaphore at zero. -/
def endAt (d : Dev nD) (c : Fin τ.nSC) (i : Fin τ.nSub) : sProp (MM F) := semVal (bcell d c i) 0

theorem endAt_intro (κ : GSem nD τ sig → ℕ) (d : Dev nD) (c : Fin τ.nSC) (i : Fin τ.nSub) :
    iprop(cellInv EB (bR R R') (κ (bcell d c i)) (bcell d c i) ∗ atPos EB (bcell d c i) (rd + 1) ∅ 0 ∗ reached EB (bcell d c i) (rd + 1))
      ⊢ |={Set.univ}=> (endAt d c i : sProp (MM F)) := by
  iintro ⟨Hinv, Hat, -⟩
  unfold endAt
  imod (Rounds.cell_close EB (bR R R') (g := bcell d c i) (Set.mem_univ (κ _)) (fun h => h) (bRd_duties_end R' (Rsh R) _)) $$ [Hinv Hat] with H
  · isplitl [Hinv] <;> iassumption
  imodintro
  iexact H

omit [FloatOps F] in
instance inPts_storable (I : In F) (d : Dev nD) (c j : ℕ) : BI.Storable (upEmb : UEmb _ (MM F)) (inPts I d c j) := by
  unfold inPts; infer_instance
omit [FloatOps F] in
instance outPts_storable (d : Dev nD) (c j : ℕ) (f : S2x4096.Idx → F .f32) : BI.Storable (upEmb : UEmb _ (MM F)) (outPts d c j f) := by
  unfold outPts; infer_instance
omit [FloatOps F] in
instance stPart_storable (d : Dev nD) (c j : ℕ) : BI.Storable (upEmb : UEmb _ (MM F)) (stPart R d c j) := by
  unfold stPart; infer_instance
omit [FloatOps F] in
instance shRowPart_storable (d : Dev nD) (c : Fin τ.nSC) (j : ℕ) : BI.Storable (upEmb : UEmb _ (MM F)) (shRowPart d c j) := by
  unfold shRowPart; infer_instance
instance outPart_storable (d : Dev nD) (c j : ℕ) : BI.Storable (upEmb : UEmb _ (MM F)) (outPart R d c j) := by
  unfold outPart; infer_instance
omit [FloatOps F] in
instance shColPart_storable (d : Dev nD) (c : Fin τ.nSC) (j : ℕ) : BI.Storable (upEmb : UEmb _ (MM F)) (shColPart d c j) := by
  unfold shColPart; infer_instance
omit [FloatOps F] in
instance endAt_storable (d : Dev nD) (c : Fin τ.nSC) (i : Fin τ.nSub) : BI.Storable (upEmb : UEmb _ (MM F)) (endAt d c i) := by
  unfold endAt; infer_instance

end Cert.Proof.Scatter.Two

end
-- ==== Proof.Two.Runs.lean ====
/-
  The runs of equal words of a chunk: where each lane's run starts (the running maximum of the
  start positions) and which lanes end a run, as statements about natural numbers.
-/
module

public import proofs.«01_k».proof.Proof.Two.Spec

@[expose] public section

noncomputable section

namespace Cert.Proof.Scatter.Two

open Cert.KernelIdeal Cert.KernelIdeal.Gen
open Idealize.ShloMosaic

variable {F : FTy → Type} [FloatOps F]

theorem lanes_apply (k : Fin 16) : lanes (lane k) = BitVec.ofNat 32 k.val := by
  show BitVec.ofNat 32 (0 * _ + k.val) = _
  rw [Nat.zero_mul, Nat.zero_add]

/-- A lane where a run starts. -/
def IsStart (cur prv : IVec S16 32) (k : Fin 16) : Prop := k.val = 0 ∨ cur (lane k) ≠ prv (lane k)
/-- A lane where a run ends. -/
def IsEnd (cur nxt : IVec S16 32) (k : Fin 16) : Prop := k.val = 15 ∨ cur (lane k) ≠ nxt (lane k)

instance (cur prv : IVec S16 32) (k : Fin 16) : Decidable (IsStart cur prv k) := by unfold IsStart; infer_instance
instance (cur nxt : IVec S16 32) (k : Fin 16) : Decidable (IsEnd cur nxt k) := by unfold IsEnd; infer_instance

theorem ofBool_or_one (a b : Bool) : (IntOp.ori (BitVec.ofBool a) (BitVec.ofBool b) = 1) ↔ (a = true ∨ b = true) := by
  revert a b; decide

theorem ofNat_eq_iff {a b : ℕ} (ha : a < 16) (hb : b < 16) : (BitVec.ofNat 32 a == BitVec.ofNat 32 b) = true ↔ a = b := by
  rw [beq_iff_eq]
  constructor
  · intro h
    have := congrArg BitVec.toNat h
    rwa [BitVec.toNat_ofNat, BitVec.toNat_ofNat, Nat.mod_eq_of_lt (by omega), Nat.mod_eq_of_lt (by omega)] at this
  · rintro rfl; rfl

theorem runEnd_iff (cur nxt : IVec S16 32) (k : Fin 16) : runEnd (F := F) cur nxt (lane k) = 1 ↔ IsEnd cur nxt k := by
  show IntOp.ori (BitVec.ofBool (lanes (lane k) == BitVec.ofNat 32 15)) (BitVec.ofBool (cur (lane k) != nxt (lane k))) = 1 ↔ _
  rw [ofBool_or_one, lanes_apply, ofNat_eq_iff k.isLt (by decide), bne_iff_ne]; rfl

/-- The start mask of a chunk. -/
abbrev startMask (cur prv : IVec S16 32) : IVec S16 1 := ori (cmpi .eq lanes (broadcast S16 0#32)) (cmpi .ne cur prv)

theorem startMask_iff (cur prv : IVec S16 32) (k : Fin 16) : startMask cur prv (lane k) = 1 ↔ IsStart cur prv k := by
  show IntOp.ori (BitVec.ofBool (lanes (lane k) == BitVec.ofNat 32 0)) (BitVec.ofBool (cur (lane k) != prv (lane k))) = 1 ↔ _
  rw [ofBool_or_one, lanes_apply, ofNat_eq_iff k.isLt (by decide), bne_iff_ne]; rfl

/-- The start positions, the other lanes at zero. -/
def startPos (cur prv : IVec S16 32) (k : Fin 16) : ℕ := if IsStart cur prv k then k.val else 0

theorem startPos_lt (cur prv : IVec S16 32) (k : Fin 16) : startPos cur prv k < 16 := by
  unfold startPos; split <;> omega

theorem maxui_flip {a b : ℕ} (ha : a < 16) (hb : b < 16) :
    IntOp.maxui (BitVec.ofNat 32 a ^^^ 2147483648#32) (BitVec.ofNat 32 b ^^^ 2147483648#32) = BitVec.ofNat 32 (max a b) ^^^ 2147483648#32 := by
  have h : ∀ i j : Fin 16, IntOp.maxui (BitVec.ofNat 32 i.val ^^^ 2147483648#32) (BitVec.ofNat 32 j.val ^^^ 2147483648#32)
      = BitVec.ofNat 32 (max i.val j.val) ^^^ 2147483648#32 := by decide
  exact h ⟨a, ha⟩ ⟨b, hb⟩

theorem foldl_maxui (g : Fin 16 → ℕ) (hg : ∀ k, g k < 16) (l : List (Fin 16)) : ∀ n, n < 16 →
    l.foldl (fun r k => IntOp.maxui r (BitVec.ofNat 32 (g k) ^^^ 2147483648#32)) (BitVec.ofNat 32 n ^^^ 2147483648#32)
      = BitVec.ofNat 32 (l.foldl (fun r k => max r (g k)) n) ^^^ 2147483648#32 := by
  induction l with
  | nil => intro n _; rfl
  | cons a l ih =>
    intro n hn
    rw [List.foldl_cons, List.foldl_cons, maxui_flip hn (hg a)]
    exact ih _ (max_lt hn (hg a))

theorem foldl_max_spec (g : Fin 16 → ℕ) (l : List (Fin 16)) : ∀ n,
    n ≤ l.foldl (fun r k => max r (g k)) n ∧ (∀ k ∈ l, g k ≤ l.foldl (fun r k => max r (g k)) n)
      ∧ (l.foldl (fun r k => max r (g k)) n = n ∨ ∃ k ∈ l, l.foldl (fun r k => max r (g k)) n = g k) := by
  induction l with
  | nil => intro n; exact ⟨le_rfl, by simp, .inl rfl⟩
  | cons a l ih =>
    intro n
    rw [List.foldl_cons]
    obtain ⟨h1, h2, h3⟩ := ih (max n (g a))
    refine ⟨(le_max_left _ _).trans h1, ?_, ?_⟩
    · intro k hk
      rcases List.mem_cons.mp hk with rfl | hk
      · exact (le_max_right _ _).trans h1
      · exact h2 k hk
    · rcases h3 with h3 | ⟨k, hk, h3⟩
      · rcases max_choice n (g a) with hm | hm
        · exact .inl (h3.trans hm)
        · exact .inr ⟨a, List.mem_cons_self, h3.trans hm⟩
      · exact .inr ⟨k, List.mem_cons_of_mem _ hk, h3⟩

/-- The last run start at or before lane `j`, as the running maximum takes it. -/
def startNat (cur prv : IVec S16 32) (j : Fin 16) : ℕ :=
  ((List.finRange 16).filter fun k => decide (0 < k.val ∧ k.val ≤ j.val)).foldl (fun r k => max r (startPos cur prv k)) (startPos cur prv 0)

theorem flip_apply (cur prv : IVec S16 32) (k : Fin 16) :
    xori (select (startMask cur prv) lanes (broadcast S16 0#32)) (broadcast S16 2147483648#32) (lane k)
      = BitVec.ofNat 32 (startPos cur prv k) ^^^ 2147483648#32 := by
  show (if startMask cur prv (lane k) = 1 then lanes (lane k) else 0#32) ^^^ 2147483648#32 = _
  rw [lanes_apply]
  unfold startPos
  by_cases h : IsStart cur prv k
  · rw [if_pos h, if_pos ((startMask_iff cur prv k).mpr h)]
  · rw [if_neg h, if_neg fun hh => h ((startMask_iff cur prv k).mp hh)]

theorem runStart_apply (cur prv : IVec S16 32) (j : Fin 16) : runStart (F := F) cur prv (lane j) = BitVec.ofNat 32 (startNat cur prv j) := by
  show (((List.finRange 16).filter fun k => decide (0 < k.val ∧ k.val ≤ j.val)).foldl
      (fun r k => IntOp.maxui r (xori (select (startMask cur prv) lanes (broadcast S16 0#32)) (broadcast S16 2147483648#32) (lane k)))
      (xori (select (startMask cur prv) lanes (broadcast S16 0#32)) (broadcast S16 2147483648#32) (lane 0))) ^^^ 2147483648#32 = _
  simp only [flip_apply]
  rw [foldl_maxui _ (startPos_lt cur prv) _ _ (startPos_lt cur prv 0), BitVec.xor_assoc, BitVec.xor_self, BitVec.xor_zero]
  rfl

/-- Each lane's run start: a start, not after the lane, none between. -/
theorem startNat_spec (cur prv : IVec S16 32) (j : Fin 16) : ∃ s : Fin 16, startNat cur prv j = s.val ∧ s.val ≤ j.val ∧ IsStart cur prv s
    ∧ ∀ k : Fin 16, s.val < k.val → k.val ≤ j.val → ¬ IsStart cur prv k := by
  obtain ⟨h1, h2, h3⟩ := foldl_max_spec (startPos cur prv) ((List.finRange 16).filter fun k => decide (0 < k.val ∧ k.val ≤ j.val)) (startPos cur prv 0)
  have h0 : startPos cur prv 0 = 0 := by unfold startPos; split <;> rfl
  have hno : ∀ k : Fin 16, startNat cur prv j < k.val → k.val ≤ j.val → ¬ IsStart cur prv k := by
    intro k hk hkj hs
    have := h2 k (List.mem_filter.mpr ⟨List.mem_finRange k, by simpa using ⟨by omega, hkj⟩⟩)
    rw [show startPos cur prv k = k.val from if_pos hs] at this
    exact absurd hk (not_lt.mpr this)
  rcases h3 with h3 | ⟨k, hk, h3⟩
  · have h3' : startNat cur prv j = 0 := h3.trans h0
    refine ⟨0, h3', Nat.zero_le _, .inl rfl, fun k hk => hno k (by rw [h3']; exact hk)⟩
  · have hk' : 0 < k.val ∧ k.val ≤ j.val := by simpa using (List.mem_filter.mp hk).2
    by_cases hs : IsStart cur prv k
    · have h3' : startNat cur prv j = k.val := h3.trans (if_pos hs)
      exact ⟨k, h3', hk'.2, hs, fun i hi => hno i (by rw [h3']; exact hi)⟩
    · have h3' : startNat cur prv j = 0 := h3.trans (if_neg hs)
      exact ⟨0, h3', Nat.zero_le _, .inl rfl, fun i hi => hno i (by rw [h3']; exact hi)⟩

theorem startNat_le (cur prv : IVec S16 32) (j : Fin 16) : startNat cur prv j ≤ j.val := by
  obtain ⟨s, h, h', -⟩ := startNat_spec cur prv j; omega

theorem runStart_toNat (cur prv : IVec S16 32) (j : Fin 16) : (runStart (F := F) cur prv (lane j)).toNat = startNat cur prv j := by
  rw [runStart_apply, BitVec.toNat_ofNat]
  exact Nat.mod_eq_of_lt (by have := startNat_le cur prv j; omega)

theorem runStart_lt (cur prv : IVec S16 32) (l : S16.Idx) : (runStart (F := F) cur prv l).toNat < 16 := by
  obtain ⟨k, rfl⟩ := exists_lane l
  rw [runStart_toNat]
  exact lt_of_le_of_lt (startNat_le cur prv k) k.isLt

/-- The run starts look at the previous words of lanes one to fifteen only. -/
theorem runStart_congr (cur : IVec S16 32) {prv prv' : IVec S16 32} (h : ∀ k : Fin 16, k.val ≠ 0 → prv (lane k) = prv' (lane k)) :
    runStart (F := F) cur prv = runStart (F := F) cur prv' := by
  have hs : ∀ k, IsStart cur prv k ↔ IsStart cur prv' k := fun k => by
    unfold IsStart
    by_cases hk : k.val = 0
    · simp [hk]
    · rw [h k hk]
  have hp : startPos cur prv = startPos cur prv' := funext fun k => by unfold startPos; simp only [hs]
  funext l
  obtain ⟨k, rfl⟩ := exists_lane l
  rw [runStart_apply, runStart_apply]
  unfold startNat; rw [hp]

/-- The run ends look at the next words of lanes zero to fourteen only. -/
theorem runEnd_congr (cur : IVec S16 32) {nxt nxt' : IVec S16 32} (h : ∀ k : Fin 16, k.val ≠ 15 → nxt (lane k) = nxt' (lane k)) :
    runEnd (F := F) cur nxt = runEnd (F := F) cur nxt' := by
  funext l
  obtain ⟨k, rfl⟩ := exists_lane l
  by_cases hk : k.val = 15
  · have h1 := (runEnd_iff (F := F) cur nxt k).mpr (.inl hk)
    have h2 := (runEnd_iff (F := F) cur nxt' k).mpr (.inl hk)
    rw [h1, h2]
  · show IntOp.ori _ (BitVec.ofBool (cur (lane k) != nxt (lane k))) = IntOp.ori _ (BitVec.ofBool (cur (lane k) != nxt' (lane k)))
    rw [h k hk]

/-- Four times a small segment number and a component: the accumulator's index. -/
theorem slot_toNat (cur : IVec S16 32) (c : ℕ) (hc : c < 4) (l : S16.Idx) (h : (cur l).toNat < 1024) :
    (slot (four (F := F) cur) (BitVec.ofNat 32 c) l).toNat = 4 * (cur l).toNat + c := by
  show (cur l * 4#32 + BitVec.ofNat 32 c).toNat = _
  rw [BitVec.toNat_add, BitVec.toNat_mul, BitVec.toNat_ofNat, BitVec.toNat_ofNat]
  omega

theorem add_toNat (st : IVec S16 32) (o : ℕ) (ho : o ≤ 112) (l : S16.Idx) (h : (st l).toNat < 16) :
    (addi (broadcast S16 (BitVec.ofNat 32 o)) st l).toNat = o + (st l).toNat := by
  show (BitVec.ofNat 32 o + st l).toNat = _
  rw [BitVec.toNat_add, BitVec.toNat_ofNat]
  omega

end Cert.Proof.Scatter.Two

end
-- ==== Proof.Two.Chunk.lean ====
/-
  One chunk of the tile's main loop on the machine: what the loads, the store of the prefix sums,
  the gather at the run starts and the masked scatter-add leave, and one trip of the loop (two
  chunks of sixteen atoms) as a straight line of such steps.
-/
module

public import proofs.«01_k».proof.Proof.Two.Common
public import proofs.«01_k».proof.Proof.Two.Runs
public import Idealize.ShloMosaic.Lib.Writes

@[expose] public section

noncomputable section

namespace Cert.Proof.Scatter.Two

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A tile's program at its coordinates. -/
abbrev TProg (F : FTy → Type) (L : grid3.Coords) (α : Type) : Type 1 :=
  Prog (TpuEff nD τ sig (Elt F) Λ₀ (.scVector ((L 0).castLE hcore3) ((L 1).castLE hsub3))) α

/-- One component of a chunk: the values loaded, the shifted prefix sums stored, gathered at the run
    starts, and the run sums scattered onto the accumulator at the run ends. -/
def compProg (L : grid3.Coords) (vr : Memref sig .scVector .vmem S1952 .f32) (vo : Fin 1 → ℕ) (vi : ∀ a, vo a + S16.size a ≤ S1952.size a)
    (eo : Fin 1 → ℕ) (ei : ∀ a, eo a + S16.size a ≤ S128.size a) (em : IVec S16 1) (ix1 ix2 : IVec S16 32)
    (P1 : Prop) (d1 : Decidable P1) (H1 : P1 → ∀ a x, ((![ix1] : Fin 1 → IVec S16 32) a x).toNat < S128.size a)
    (P2 : Prop) (d2 : Decidable P2) (H2 : P2 → ∀ a x, ((![ix2] : Fin 1 → IVec S16 32) a x).toNat < S4096.size a)
    (k : TProg F L (BitVec 32)) : TProg F L (BitVec 32) :=
  .op (.load vr (Rect.unit (s := S1952) vo S16.size vi).toLoadRect (View.loadsAt_vmem h_S16)) fun (v : Vec F S16 .f32) =>
  .op (.load sE (Rect.unit (s := S128) eo S16.size ei).toLoadRect (View.loadsAt_vmem h_S16)) fun (_ : Vec F S16 .f32) =>
  .op (.store sE (Rect.unit (s := S128) eo S16.size ei) (esum v) Finset.univ (View.stores_vmem_bits_univ h_S16 rfl) (.inl rfl)) fun _ =>
  .op (.assume P1 d1) fun h1 =>
  .op (.load sE (.whole S128) (View.loadsAt_whole (View.loads_vmem h_S128))) fun (f : Vec F S128 .f32) =>
  .op (.assume P2 d2) fun h2 =>
  .op (.load sA (.whole S4096) (View.loadsAt_rect (View.stores_vmem_bits_univ h_S4096 rfl : (sA.access (.whole S4096)).Stores Finset.univ).loads))
    fun (g : Vec F S4096 .f32) =>
  .op (.store sA (.whole S4096) (storeIdx (F := F) (s := S4096) (e := .f32) g ![ix2] (subf (csum v) (loadIdx (s := S128) f ![ix1] (H1 h1.down))) em true (H2 h2.down)) Finset.univ
    (View.stores_vmem_bits_univ h_S4096 rfl) (.inl rfl)) fun _ => k

set_option maxRecDepth 65536 in
/-- One trip of the main loop is two chunks, one after the other. -/
theorem t2_trip (L : grid3.Coords) (k : Fin k3_t2_loop.trips) (acc : BitVec 32) :
    k3_t2_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc3_scratch10 cc3_scoped0 cc3_scoped1 cc3_scoped2 lanes 0#32 1#32 k acc =
    .op (.load sI (Rect.unit (s := S1984) (k3_off3 k) S16.size (k3_off3_inb k)).toLoadRect (View.loadsAt_vmem h_S16)) fun (cur : Vec F S16 .i32) =>
    .op (.load sI (Rect.unit (s := S1984) (k3_off4 k) S16.size (k3_off4_inb k)).toLoadRect (View.loadsAt_vmem h_S16)) fun (prv : Vec F S16 .i32) =>
    .op (.load sI (Rect.unit (s := S1984) (k3_off5 k) S16.size (k3_off5_inb k)).toLoadRect (View.loadsAt_vmem h_S16)) fun (nxt : Vec F S16 .i32) =>
    compProg L sQ (k3_off6 k) (k3_off6_inb k) ![0] inb_S128_S16_0 (runEnd (F := F) cur nxt) (addi (broadcast S16 0#32) (runStart (F := F) cur prv)) (slot (four (F := F) cur) 0#32)
      (k3_chk1 _) (k3_chk1.dec _) (k3_idx1_inb _) (k3_chk2 _) (k3_chk2.dec _) (k3_idx2_inb _) <|
    compProg L sX (k3_off7 k) (k3_off7_inb k) ![16] inb_S128_S16_16 (runEnd (F := F) cur nxt) (addi (broadcast S16 16#32) (runStart (F := F) cur prv)) (slot (four (F := F) cur) 1#32)
      (k3_chk3 _) (k3_chk3.dec _) (k3_idx3_inb _) (k3_chk4 _) (k3_chk4.dec _) (k3_idx4_inb _) <|
    compProg L sY (k3_off8 k) (k3_off8_inb k) ![32] inb_S128_S16_32 (runEnd (F := F) cur nxt) (addi (broadcast S16 32#32) (runStart (F := F) cur prv)) (slot (four (F := F) cur) 2#32)
      (k3_chk5 _) (k3_chk5.dec _) (k3_idx5_inb _) (k3_chk6 _) (k3_chk6.dec _) (k3_idx6_inb _) <|
    compProg L sZ (k3_off9 k) (k3_off9_inb k) ![48] inb_S128_S16_48 (runEnd (F := F) cur nxt) (addi (broadcast S16 48#32) (runStart (F := F) cur prv)) (slot (four (F := F) cur) 3#32)
      (k3_chk7 _) (k3_chk7.dec _) (k3_idx7_inb _) (k3_chk8 _) (k3_chk8.dec _) (k3_idx8_inb _) <|
    .op (.load sI (Rect.unit (s := S1984) (k3_off10 k) S16.size (k3_off10_inb k)).toLoadRect (View.loadsAt_vmem h_S16)) fun (cur : Vec F S16 .i32) =>
    .op (.load sI (Rect.unit (s := S1984) (k3_off11 k) S16.size (k3_off11_inb k)).toLoadRect (View.loadsAt_vmem h_S16)) fun (prv : Vec F S16 .i32) =>
    .op (.load sI (Rect.unit (s := S1984) (k3_off12 k) S16.size (k3_off12_inb k)).toLoadRect (View.loadsAt_vmem h_S16)) fun (nxt : Vec F S16 .i32) =>
    compProg L sQ (k3_off13 k) (k3_off13_inb k) ![64] inb_S128_S16_64 (runEnd (F := F) cur nxt) (addi (broadcast S16 64#32) (runStart (F := F) cur prv)) (slot (four (F := F) cur) 0#32)
      (k3_chk9 _) (k3_chk9.dec _) (k3_idx9_inb _) (k3_chk10 _) (k3_chk10.dec _) (k3_idx10_inb _) <|
    compProg L sX (k3_off14 k) (k3_off14_inb k) ![80] inb_S128_S16_80 (runEnd (F := F) cur nxt) (addi (broadcast S16 80#32) (runStart (F := F) cur prv)) (slot (four (F := F) cur) 1#32)
      (k3_chk11 _) (k3_chk11.dec _) (k3_idx11_inb _) (k3_chk12 _) (k3_chk12.dec _) (k3_idx12_inb _) <|
    compProg L sY (k3_off15 k) (k3_off15_inb k) ![96] inb_S128_S16_96 (runEnd (F := F) cur nxt) (addi (broadcast S16 96#32) (runStart (F := F) cur prv)) (slot (four (F := F) cur) 2#32)
      (k3_chk13 _) (k3_chk13.dec _) (k3_idx13_inb _) (k3_chk14 _) (k3_chk14.dec _) (k3_idx14_inb _) <|
    compProg L sZ (k3_off16 k) (k3_off16_inb k) ![112] inb_S128_S16_112 (runEnd (F := F) cur nxt) (addi (broadcast S16 112#32) (runStart (F := F) cur prv)) (slot (four (F := F) cur) 3#32)
      (k3_chk15 _) (k3_chk15.dec _) (k3_idx15_inb _) (k3_chk16 _) (k3_chk16.dec _) (k3_idx16_inb _) <|
    .ret 0#32 := rfl

section Comp

variable (d : Dev nD) (L : grid3.Coords)

/-- The tile's thread. -/
abbrev thr : Thread nD τ := SparseCore.V d ((L 0).castLE hcore3) ((L 1).castLE hsub3)

/-- The prefix sums stored at position `o` of the sixteen-lane rows, gathered at the run starts. -/
theorem gather_eq (o : ℕ) (ho : o ≤ 112) (ei : ∀ a, (![o] : Fin 1 → ℕ) a + S16.size a ≤ S128.size a) (st : IVec S16 32) (hst : ∀ l, (st l).toNat < 16)
    (v : FVec F S16 .f32) (e : Buf (Elt F) ((sE : Memref sig .scVector .vmem S128 .f32).view.loc (thr d L)))
    (h : ∀ a x, ((![addi (broadcast S16 (BitVec.ofNat 32 o)) st] : Fin 1 → IVec S16 32) a x).toNat < S128.size a) :
    loadIdx (F := F) (s := S128) (e := .f32) ((sE : Memref sig .scVector .vmem S128 .f32).view.readAt (Elt F) (.whole S128)
        (((sE : Memref sig .scVector .vmem S128 .f32).access (Rect.unit (s := S128) ![o] S16.size ei)).write (Elt F) e (esum v) Finset.univ))
      ![addi (broadcast S16 (BitVec.ofNat 32 o)) st] h = atStart st v := by
  funext l
  show (sE : Memref sig .scVector .vmem S128 .f32).view.read (Elt F) ((sE : Memref sig .scVector .vmem S128 .f32).view.writes (Elt F) e
    [⟨Rect.unit (s := S128) ![o] S16.size ei, esum v⟩]) _ = _
  refine (View.read_writes_cons_hit_of_coords (Val := Elt F) (e := .f32) _ _ (Rect.unit (s := S128) ![o] S16.size ei) (esum v) [] (lane ⟨(st l).toNat % 16, Nat.mod_lt _ (by decide)⟩) _ ?_).trans rfl
  intro a
  obtain rfl : a = 0 := Subsingleton.elim _ _
  have h1 := add_toNat st o ho l (hst l)
  show 0 + 1 * (addi (broadcast S16 (BitVec.ofNat 32 o)) st l).toNat = o + 1 * ((st l).toNat % 16)
  rw [h1, Nat.mod_eq_of_lt (hst l)]; omega

/-- One component of a chunk: the prefix-sum scratch is used up, the accumulator gains the run sums. -/
theorem wp_comp (vr : Memref sig .scVector .vmem S1952 .f32) (vo : Fin 1 → ℕ) (vi : ∀ a, vo a + S16.size a ≤ S1952.size a)
    (o : ℕ) (ho : o ≤ 112) (ei : ∀ a, (![o] : Fin 1 → ℕ) a + S16.size a ≤ S128.size a) (em : IVec S16 1) (st ix2 : IVec S16 32)
    (P1 : Prop) (d1 : Decidable P1) (H1 : P1 → ∀ a x, ((![addi (broadcast S16 (BitVec.ofNat 32 o)) st] : Fin 1 → IVec S16 32) a x).toNat < S128.size a)
    (P2 : Prop) (d2 : Decidable P2) (H2 : P2 → ∀ a x, ((![ix2] : Fin 1 → IVec S16 32) a x).toNat < S4096.size a)
    (h1 : P1) (h2 : P2) (hst : ∀ l, (st l).toNat < 16)
    (k : TProg F L (BitVec 32)) (Q : BitVec 32 → sProp (MM F)) (v : FVec F S16 .f32) (fv : Buf (Elt F) (vr.view.loc (thr d L)))
    (hv : vr.view.readAt (Elt F) (Rect.unit (s := S1952) vo S16.size vi).toLoadRect fv = v) (a : S4096.Idx → F .f32) :
    iprop((vr.view.loc (thr d L) ↦{fullShare} fv) ∗ (∃ e, (thr d L).loc cc3_scratch5 ↦{fullShare} e) ∗ (thr d L).loc cc3_scratch6 ↦{fullShare} a)
      ⊢ iprop((iprop((vr.view.loc (thr d L) ↦{fullShare} fv) ∗ (∃ e, (thr d L).loc cc3_scratch5 ↦{fullShare} e)
            ∗ (thr d L).loc cc3_scratch6 ↦{fullShare} scat a ix2 (runSum st v) em)
          -∗ wp frame (wpE (defs₀ (F := F)) 𝒱₀ (thr d L) none) Set.univ k Q)
        -∗ wp frame (wpE (defs₀ (F := F)) 𝒱₀ (thr d L) none) Set.univ
          (compProg L vr vo vi ![o] ei em (addi (broadcast S16 (BitVec.ofNat 32 o)) st) ix2 P1 d1 H1 P2 d2 H2 k) Q) := by
  unfold compProg
  iintro ⟨Hv, ⟨%e, He⟩, Ha⟩ Hk
  iapply (wp_load 𝒱₀ (thr d L) none Set.univ (m := vr) (S := Finset.univ) (Finset.subset_univ _)) $$ Hv; iintro Hv
  rw [hv]
  iapply (wp_load 𝒱₀ (thr d L) none Set.univ (m := (sE : Memref sig .scVector .vmem S128 .f32)) (S := Finset.univ) (Finset.subset_univ _)) $$ He; iintro He
  iapply (wp_store 𝒱₀ (thr d L) none Set.univ (m := (sE : Memref sig .scVector .vmem S128 .f32)) (r := Rect.unit (s := S128) ![o] S16.size ei) (Mk := Finset.univ) (S := Finset.univ)
    (Finset.subset_univ _)) $$ He; iintro He
  rw [wp_assume_of _ _ _ _ h1]
  iapply (wp_load 𝒱₀ (thr d L) none Set.univ (m := (sE : Memref sig .scVector .vmem S128 .f32)) (S := Finset.univ) (Finset.subset_univ _)) $$ He; iintro He
  rw [wp_assume_of _ _ _ _ h2]
  iapply (wp_load_whole 𝒱₀ (thr d L) none Set.univ) $$ Ha; iintro Ha
  iapply (wp_store_whole 𝒱₀ (thr d L) none Set.univ) $$ Ha; iintro Ha
  iapply Hk
  isplitl [Hv]; · iexact Hv
  isplitl [He]; · iexists _; iexact He
  rw [storeIdx_eq_scat, gather_eq d L o ho ei st hst v e]
  iexact Ha

end Comp

end Cert.Proof.Scatter.Two

end
-- ==== Proof.Two.Trip.lean ====
/-
  One trip of the tile's main loop: from the tile's atoms in its scratches, the two chunks leave
  the accumulator two chunks further.
-/
module

public import proofs.«01_k».proof.Proof.Two.Chunk

@[expose] public section

noncomputable section

namespace Cert.Proof.Scatter.Two

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- The segment numbers of tile `w` lie in its scratch, from position 16 on. -/
def HoldsI (ids : S62464.Idx → BitVec 32) (w : ℕ) (f : S1984.Idx → BitVec 32) : Prop :=
  ∀ i : S1984.Idx, 16 ≤ (i 0).val → (i 0).val < 1968 → f i = ids (atN ((1952 * w + ((i 0).val - 16)) % 62464) (Nat.mod_lt _ (by decide)))
/-- Tile `w`'s values lie in its scratch. -/
def HoldsV {α : Type} (g : S62464.Idx → α) (w : ℕ) (f : S1952.Idx → α) : Prop :=
  ∀ i : S1952.Idx, f i = g (atN ((1952 * w + (i 0).val) % 62464) (Nat.mod_lt _ (by decide)))

theorem atN_congr {α : Type} (g : S62464.Idx → α) {n m : ℕ} (hn : n < 62464) (hm : m < 62464) (h : n = m) : g (atN n hn) = g (atN m hm) := by
  subst h; rfl

variable [FloatOps F] (d : Dev nD) (L : grid3.Coords)

section Reads
variable (ids : S62464.Idx → BitVec 32) (w C : ℕ) (f : S1984.Idx → BitVec 32)

theorem readI_apply (off : Fin 1 → ℕ) (inb : ∀ a, off a + S16.size a ≤ S1984.size a) (k : Fin 16) :
    (sI : Memref sig .scVector .vmem S1984 .i32).view.readAt (Elt F) (Rect.unit (s := S1984) off S16.size inb).toLoadRect f (lane k)
      = f (fun a => ⟨off 0 + k.val, by rw [Fin.eq_zero a]; exact lt_of_lt_of_le (Nat.add_lt_add_left k.isLt _) (inb 0)⟩) := by
  refine congrArg f (funext fun (a : Fin 1) => Fin.ext ?_)
  obtain rfl : a = 0 := Subsingleton.elim _ _
  show off 0 + 1 * k.val = off 0 + k.val
  omega

theorem readV_apply (vr : Memref sig .scVector .vmem S1952 .f32) (fv : Buf (Elt F) (vr.view.loc (thr d L))) (g : S1952.Idx → F .f32)
    (hg : vr.view.read (Elt F) fv = g) (off : Fin 1 → ℕ) (inb : ∀ a, off a + S16.size a ≤ S1952.size a) (k : Fin 16) :
    vr.view.readAt (Elt F) (Rect.unit (s := S1952) off S16.size inb).toLoadRect fv (lane k)
      = g (fun a => ⟨off 0 + k.val, by rw [Fin.eq_zero a]; exact lt_of_lt_of_le (Nat.add_lt_add_left k.isLt _) (inb 0)⟩) := by
  rw [View.readAt_apply, hg]
  refine congrArg g (funext fun a => Fin.ext ?_)
  obtain rfl : a = 0 := Subsingleton.elim _ _
  show off 0 + 1 * k.val = off 0 + k.val
  omega

variable {ids w f}

theorem readI_cur (h : HoldsI ids w f) (n : ℕ) (hn : n < 122) (hC : C = 122 * w + n) (off : Fin 1 → ℕ) (ho : off = ![16 * n + 16]) (inb : ∀ a, off a + S16.size a ≤ S1984.size a) :
    (sI : Memref sig .scVector .vmem S1984 .i32).view.readAt (Elt F) (Rect.unit (s := S1984) off S16.size inb).toLoadRect f = win ids (16 * C) := by
  subst ho
  funext l
  obtain ⟨k, rfl⟩ := exists_lane l
  rw [readI_apply (F := F), h _ (show 16 ≤ 16 * n + 16 + k.val by omega) (show 16 * n + 16 + k.val < 1968 by omega)]
  exact atN_congr ids _ _ (show (1952 * w + (16 * n + 16 + k.val - 16)) % 62464 = (16 * C + k.val) % 62464 by omega)

theorem readI_prv (h : HoldsI ids w f) (n : ℕ) (hn : n < 122) (hC : C = 122 * w + n) (off : Fin 1 → ℕ) (ho : off = ![16 * n + 15]) (inb : ∀ a, off a + S16.size a ≤ S1984.size a)
    (k : Fin 16) (hk : k.val ≠ 0) :
    (sI : Memref sig .scVector .vmem S1984 .i32).view.readAt (Elt F) (Rect.unit (s := S1984) off S16.size inb).toLoadRect f (lane k) = win ids (16 * C + 62463) (lane k) := by
  subst ho
  rw [readI_apply (F := F), h _ (show 16 ≤ 16 * n + 15 + k.val by omega) (show 16 * n + 15 + k.val < 1968 by omega)]
  exact atN_congr ids _ _ (show (1952 * w + (16 * n + 15 + k.val - 16)) % 62464 = (16 * C + 62463 + k.val) % 62464 by omega)

theorem readI_nxt (h : HoldsI ids w f) (n : ℕ) (hn : n < 122) (hC : C = 122 * w + n) (off : Fin 1 → ℕ) (ho : off = ![16 * n + 17]) (inb : ∀ a, off a + S16.size a ≤ S1984.size a)
    (k : Fin 16) (hk : k.val ≠ 15) :
    (sI : Memref sig .scVector .vmem S1984 .i32).view.readAt (Elt F) (Rect.unit (s := S1984) off S16.size inb).toLoadRect f (lane k) = win ids (16 * C + 1) (lane k) := by
  subst ho
  rw [readI_apply (F := F), h _ (show 16 ≤ 16 * n + 17 + k.val by omega) (show 16 * n + 17 + k.val < 1968 by omega)]
  exact atN_congr ids _ _ (show (1952 * w + (16 * n + 17 + k.val - 16)) % 62464 = (16 * C + 1 + k.val) % 62464 by omega)

theorem readV_win (vr : Memref sig .scVector .vmem S1952 .f32) (fv : Buf (Elt F) (vr.view.loc (thr d L))) {g : S62464.Idx → F .f32} (f' : S1952.Idx → F .f32)
    (hf : vr.view.read (Elt F) fv = f') (h : HoldsV g w f') (n : ℕ) (hC : C = 122 * w + n) (off : Fin 1 → ℕ) (ho : off = ![16 * n])
    (inb : ∀ a, off a + S16.size a ≤ S1952.size a) :
    vr.view.readAt (Elt F) (Rect.unit (s := S1952) off S16.size inb).toLoadRect fv = win g (16 * C) := by
  subst ho
  funext l
  obtain ⟨k, rfl⟩ := exists_lane l
  rw [readV_apply d L vr fv f' hf, h]
  exact atN_congr g _ _ (show (1952 * w + (16 * n + k.val)) % 62464 = (16 * C + k.val) % 62464 by omega)

end Reads

theorem chk128 (o : ℕ) (ho : o ≤ 112) (st : IVec S16 32) (hst : ∀ l, (st l).toNat < 16) :
    ∀ a x, ((![addi (broadcast S16 (BitVec.ofNat 32 o)) st] : Fin 1 → IVec S16 32) a x).toNat < S128.size a := by
  intro a x
  obtain rfl : a = 0 := Subsingleton.elim _ _
  show (addi (broadcast S16 (BitVec.ofNat 32 o)) st x).toNat < 128
  rw [add_toNat st o ho x (hst x)]
  have := hst x; omega

theorem chk4096 (c : ℕ) (hc : c < 4) (cur : IVec S16 32) (hcur : ∀ l, (cur l).toNat < 1024) :
    ∀ a x, ((![slot (four (F := F) cur) (BitVec.ofNat 32 c)] : Fin 1 → IVec S16 32) a x).toNat < S4096.size a := by
  intro a x
  obtain rfl : a = 0 := Subsingleton.elim _ _
  show (slot (four (F := F) cur) (BitVec.ofNat 32 c) x).toNat < 4096
  rw [slot_toNat cur c hc x (hcur x)]
  have := hcur x; omega

set_option maxHeartbeats 1000000 in
/-- One trip of the main loop. -/
theorem wp_trip (ids : S62464.Idx → BitVec 32) (q x y z : S62464.Idx → F .f32) (hids : ∀ i, (ids i).toNat < 1024) (w : ℕ)
    (fI : S1984.Idx → BitVec 32) (fQ fX fY fZ : S1952.Idx → F .f32)
    (hI : HoldsI ids w fI) (hQ : HoldsV q w fQ) (hX : HoldsV x w fX) (hY : HoldsV y w fY) (hZ : HoldsV z w fZ)
    (k : Fin k3_t2_loop.trips) (acc : BitVec 32) (Q : BitVec 32 → sProp (MM F)) :
    iprop(((thr d L).loc cc3_scratch0 ↦{fullShare} fI) ∗ ((thr d L).loc cc3_scratch1 ↦{fullShare} fQ) ∗ ((thr d L).loc cc3_scratch2 ↦{fullShare} fX)
        ∗ ((thr d L).loc cc3_scratch3 ↦{fullShare} fY) ∗ ((thr d L).loc cc3_scratch4 ↦{fullShare} fZ)
        ∗ (∃ e, (thr d L).loc cc3_scratch5 ↦{fullShare} e) ∗ (thr d L).loc cc3_scratch6 ↦{fullShare} accN ids q x y z w (2 * k.val))
      ⊢ iprop((iprop(((thr d L).loc cc3_scratch0 ↦{fullShare} fI) ∗ ((thr d L).loc cc3_scratch1 ↦{fullShare} fQ) ∗ ((thr d L).loc cc3_scratch2 ↦{fullShare} fX)
            ∗ ((thr d L).loc cc3_scratch3 ↦{fullShare} fY) ∗ ((thr d L).loc cc3_scratch4 ↦{fullShare} fZ)
            ∗ (∃ e, (thr d L).loc cc3_scratch5 ↦{fullShare} e) ∗ (thr d L).loc cc3_scratch6 ↦{fullShare} accN ids q x y z w (2 * (k.val + 1)))
          -∗ wp frame (wpE (defs₀ (F := F)) 𝒱₀ (thr d L) none) Set.univ (.ret 0#32) Q)
        -∗ wp frame (wpE (defs₀ (F := F)) 𝒱₀ (thr d L) none) Set.univ
          (k3_t2_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc3_scratch10 cc3_scoped0 cc3_scoped1 cc3_scoped2 lanes 0#32 1#32 k acc) Q) := by
  have hk : k.val < 61 := k.isLt
  rw [t2_trip]
  iintro ⟨HI, HQ, HX, HY, HZ, He, Ha⟩ Hk
  -- chunk 0
  iapply (wp_load 𝒱₀ (thr d L) none Set.univ (m := (sI : Memref sig .scVector .vmem S1984 .i32)) (S := Finset.univ) (Finset.subset_univ _)) $$ HI; iintro HI
  iapply (wp_load 𝒱₀ (thr d L) none Set.univ (m := (sI : Memref sig .scVector .vmem S1984 .i32)) (S := Finset.univ) (Finset.subset_univ _)) $$ HI; iintro HI
  iapply (wp_load 𝒱₀ (thr d L) none Set.univ (m := (sI : Memref sig .scVector .vmem S1984 .i32)) (S := Finset.univ) (Finset.subset_univ _)) $$ HI; iintro HI
  rw [readI_cur (F := F) (122 * w + (2 * k.val)) hI (2 * k.val) (by omega) rfl (k3_off3 k) (by rw [k3_off3_eq]; exact congrArg (fun n => ![n]) (by omega)) (k3_off3_inb k),
    runStart_congr (F := F) (win ids (16 * (122 * w + (2 * k.val)))) (readI_prv (F := F) (122 * w + (2 * k.val)) hI (2 * k.val) (by omega) rfl (k3_off4 k) (by rw [k3_off4_eq]; exact congrArg (fun n => ![n]) (by omega)) (k3_off4_inb k)),
    runEnd_congr (F := F) (win ids (16 * (122 * w + (2 * k.val)))) (readI_nxt (F := F) (122 * w + (2 * k.val)) hI (2 * k.val) (by omega) rfl (k3_off5 k) (by rw [k3_off5_eq]; exact congrArg (fun n => ![n]) (by omega)) (k3_off5_inb k))]
  iapply (wp_comp d L sQ (k3_off6 k) (k3_off6_inb k) 0 (by decide) inb_S128_S16_0 _ _ _ _ _ _ _ _ _
      (chk128 0 (by decide) _ (runStart_lt (F := F) _ _)) (chk4096 (F := F) 0 (by decide) _ fun l => hids _) (runStart_lt (F := F) _ _) _ Q
      (win q (16 * (122 * w + (2 * k.val)))) fQ (readV_win d L (122 * w + (2 * k.val)) sQ fQ fQ rfl hQ (2 * k.val) rfl (k3_off6 k) (by rw [k3_off6_eq]; exact congrArg (fun n => ![n]) (by omega)) (k3_off6_inb k)) _) $$ [HQ He Ha]
  · isplitl [HQ]; · iexact HQ
    isplitl [He]; · iexact He
    iexact Ha
  iintro ⟨HQ, He, Ha⟩
  iapply (wp_comp d L sX (k3_off7 k) (k3_off7_inb k) 16 (by decide) inb_S128_S16_16 _ _ _ _ _ _ _ _ _
      (chk128 16 (by decide) _ (runStart_lt (F := F) _ _)) (chk4096 (F := F) 1 (by decide) _ fun l => hids _) (runStart_lt (F := F) _ _) _ Q
      (win x (16 * (122 * w + (2 * k.val)))) fX (readV_win d L (122 * w + (2 * k.val)) sX fX fX rfl hX (2 * k.val) rfl (k3_off7 k) (by rw [k3_off7_eq]; exact congrArg (fun n => ![n]) (by omega)) (k3_off7_inb k)) _) $$ [HX He Ha]
  · isplitl [HX]; · iexact HX
    isplitl [He]; · iexact He
    iexact Ha
  iintro ⟨HX, He, Ha⟩
  iapply (wp_comp d L sY (k3_off8 k) (k3_off8_inb k) 32 (by decide) inb_S128_S16_32 _ _ _ _ _ _ _ _ _
      (chk128 32 (by decide) _ (runStart_lt (F := F) _ _)) (chk4096 (F := F) 2 (by decide) _ fun l => hids _) (runStart_lt (F := F) _ _) _ Q
      (win y (16 * (122 * w + (2 * k.val)))) fY (readV_win d L (122 * w + (2 * k.val)) sY fY fY rfl hY (2 * k.val) rfl (k3_off8 k) (by rw [k3_off8_eq]; exact congrArg (fun n => ![n]) (by omega)) (k3_off8_inb k)) _) $$ [HY He Ha]
  · isplitl [HY]; · iexact HY
    isplitl [He]; · iexact He
    iexact Ha
  iintro ⟨HY, He, Ha⟩
  iapply (wp_comp d L sZ (k3_off9 k) (k3_off9_inb k) 48 (by decide) inb_S128_S16_48 _ _ _ _ _ _ _ _ _
      (chk128 48 (by decide) _ (runStart_lt (F := F) _ _)) (chk4096 (F := F) 3 (by decide) _ fun l => hids _) (runStart_lt (F := F) _ _) _ Q
      (win z (16 * (122 * w + (2 * k.val)))) fZ (readV_win d L (122 * w + (2 * k.val)) sZ fZ fZ rfl hZ (2 * k.val) rfl (k3_off9 k) (by rw [k3_off9_eq]; exact congrArg (fun n => ![n]) (by omega)) (k3_off9_inb k)) _) $$ [HZ He Ha]
  · isplitl [HZ]; · iexact HZ
    isplitl [He]; · iexact He
    iexact Ha
  iintro ⟨HZ, He, Ha⟩
  -- chunk 1
  iapply (wp_load 𝒱₀ (thr d L) none Set.univ (m := (sI : Memref sig .scVector .vmem S1984 .i32)) (S := Finset.univ) (Finset.subset_univ _)) $$ HI; iintro HI
  iapply (wp_load 𝒱₀ (thr d L) none Set.univ (m := (sI : Memref sig .scVector .vmem S1984 .i32)) (S := Finset.univ) (Finset.subset_univ _)) $$ HI; iintro HI
  iapply (wp_load 𝒱₀ (thr d L) none Set.univ (m := (sI : Memref sig .scVector .vmem S1984 .i32)) (S := Finset.univ) (Finset.subset_univ _)) $$ HI; iintro HI
  rw [readI_cur (F := F) (122 * w + (2 * k.val + 1)) hI (2 * k.val + 1) (by omega) rfl (k3_off10 k) (by rw [k3_off10_eq]; exact congrArg (fun n => ![n]) (by omega)) (k3_off10_inb k),
    runStart_congr (F := F) (win ids (16 * (122 * w + (2 * k.val + 1)))) (readI_prv (F := F) (122 * w + (2 * k.val + 1)) hI (2 * k.val + 1) (by omega) rfl (k3_off11 k) (by rw [k3_off11_eq]; exact congrArg (fun n => ![n]) (by omega)) (k3_off11_inb k)),
    runEnd_congr (F := F) (win ids (16 * (122 * w + (2 * k.val + 1)))) (readI_nxt (F := F) (122 * w + (2 * k.val + 1)) hI (2 * k.val + 1) (by omega) rfl (k3_off12 k) (by rw [k3_off12_eq]; exact congrArg (fun n => ![n]) (by omega)) (k3_off12_inb k))]
  iapply (wp_comp d L sQ (k3_off13 k) (k3_off13_inb k) 64 (by decide) inb_S128_S16_64 _ _ _ _ _ _ _ _ _
      (chk128 64 (by decide) _ (runStart_lt (F := F) _ _)) (chk4096 (F := F) 0 (by decide) _ fun l => hids _) (runStart_lt (F := F) _ _) _ Q
      (win q (16 * (122 * w + (2 * k.val + 1)))) fQ (readV_win d L (122 * w + (2 * k.val + 1)) sQ fQ fQ rfl hQ (2 * k.val + 1) rfl (k3_off13 k) (by rw [k3_off13_eq]; exact congrArg (fun n => ![n]) (by omega)) (k3_off13_inb k)) _) $$ [HQ He Ha]
  · isplitl [HQ]; · iexact HQ
    isplitl [He]; · iexact He
    iexact Ha
  iintro ⟨HQ, He, Ha⟩
  iapply (wp_comp d L sX (k3_off14 k) (k3_off14_inb k) 80 (by decide) inb_S128_S16_80 _ _ _ _ _ _ _ _ _
      (chk128 80 (by decide) _ (runStart_lt (F := F) _ _)) (chk4096 (F := F) 1 (by decide) _ fun l => hids _) (runStart_lt (F := F) _ _) _ Q
      (win x (16 * (122 * w + (2 * k.val + 1)))) fX (readV_win d L (122 * w + (2 * k.val + 1)) sX fX fX rfl hX (2 * k.val + 1) rfl (k3_off14 k) (by rw [k3_off14_eq]; exact congrArg (fun n => ![n]) (by omega)) (k3_off14_inb k)) _) $$ [HX He Ha]
  · isplitl [HX]; · iexact HX
    isplitl [He]; · iexact He
    iexact Ha
  iintro ⟨HX, He, Ha⟩
  iapply (wp_comp d L sY (k3_off15 k) (k3_off15_inb k) 96 (by decide) inb_S128_S16_96 _ _ _ _ _ _ _ _ _
      (chk128 96 (by decide) _ (runStart_lt (F := F) _ _)) (chk4096 (F := F) 2 (by decide) _ fun l => hids _) (runStart_lt (F := F) _ _) _ Q
      (win y (16 * (122 * w + (2 * k.val + 1)))) fY (readV_win d L (122 * w + (2 * k.val + 1)) sY fY fY rfl hY (2 * k.val + 1) rfl (k3_off15 k) (by rw [k3_off15_eq]; exact congrArg (fun n => ![n]) (by omega)) (k3_off15_inb k)) _) $$ [HY He Ha]
  · isplitl [HY]; · iexact HY
    isplitl [He]; · iexact He
    iexact Ha
  iintro ⟨HY, He, Ha⟩
  iapply (wp_comp d L sZ (k3_off16 k) (k3_off16_inb k) 112 (by decide) inb_S128_S16_112 _ _ _ _ _ _ _ _ _
      (chk128 112 (by decide) _ (runStart_lt (F := F) _ _)) (chk4096 (F := F) 3 (by decide) _ fun l => hids _) (runStart_lt (F := F) _ _) _ Q
      (win z (16 * (122 * w + (2 * k.val + 1)))) fZ (readV_win d L (122 * w + (2 * k.val + 1)) sZ fZ fZ rfl hZ (2 * k.val + 1) rfl (k3_off16 k) (by rw [k3_off16_eq]; exact congrArg (fun n => ![n]) (by omega)) (k3_off16_inb k)) _) $$ [HZ He Ha]
  · isplitl [HZ]; · iexact HZ
    isplitl [He]; · iexact He
    iexact Ha
  iintro ⟨HZ, He, Ha⟩
  iapply Hk
  isplitl [HI]; · iexact HI
  isplitl [HQ]; · iexact HQ
  isplitl [HX]; · iexact HX
  isplitl [HY]; · iexact HY
  isplitl [HZ]; · iexact HZ
  isplitl [He]; · iexact He
  iexact Ha

end Cert.Proof.Scatter.Two

end
-- ==== Proof.Two.Views.lean ====
/-
  The rectangles the tile's copies name, as sets of elements: a tile's atoms, its row and its
  columns of the shared scratch, its part of the result; and what the copies leave there.
-/
module

public import proofs.«01_k».proof.Proof.Two.Trip

@[expose] public section

noncomputable section

namespace Cert.Proof.Scatter.Two

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

variable (d : Dev nD) (L : grid3.Coords)

abbrev cV : Fin τ.nSC := (L 0).castLE hcore3
abbrev jV : Fin τ.nSub := (L 1).castLE hsub3
/-- The tile's number among the thirty-two. -/
abbrev wN : ℕ := 16 * (L 0).val + (L 1).val

theorem L0_lt : (L 0).val < 2 := (L 0).isLt
theorem L1_lt : (L 1).val < 16 := (L 1).isLt

/-- The tile's window of the long vectors. -/
abbrev inR : Rect S62464 := Rect.unit (s := S62464) (k3_off1 L) S1952.size (k3_off1_inb L)
abbrev iK : Memref sig .scVector .hbm S1952 .i32 := (aI : Memref sig .scVector .hbm S62464 .i32).slice (inR L) (fun _ => rfl)
abbrev qK : Memref sig .scVector .hbm S1952 .f32 := (aQ : Memref sig .scVector .hbm S62464 .f32).slice (inR L) (fun _ => rfl)
abbrev xK : Memref sig .scVector .hbm S1952 .f32 := (aX : Memref sig .scVector .hbm S62464 .f32).slice (inR L) (fun _ => rfl)
abbrev yK : Memref sig .scVector .hbm S1952 .f32 := (aY : Memref sig .scVector .hbm S62464 .f32).slice (inR L) (fun _ => rfl)
abbrev zK : Memref sig .scVector .hbm S1952 .f32 := (aZ : Memref sig .scVector .hbm S62464 .f32).slice (inR L) (fun _ => rfl)
/-- The middle of the segment-number scratch. -/
abbrev sIK : Memref sig .scVector .vmem S1952 .i32 := (sI : Memref sig .scVector .vmem S1984 .i32).slice (Rect.unit (s := S1984) ![16] S1952.size inb_S1984_S1952_16) (fun _ => rfl)
/-- The tile's row of the shared scratch. -/
abbrev rowK : Memref sig .scVector .shared S4096 .f32 :=
  ((sS : Memref sig .scVector .shared S16x4096 .f32).slice (Rect.unit (s := S16x4096) (k3_off17 L) S1x4096.size (k3_off17_inb L)) (fun _ => rfl)).squeeze S4096 squeezes_S1x4096_S4096
/-- The tile's columns of the shared scratch. -/
abbrev colK : Memref sig .scVector .shared S16x256 .f32 :=
  (sS : Memref sig .scVector .shared S16x4096 .f32).slice (Rect.unit (s := S16x4096) (k3_off18 L) S16x256.size (k3_off18_inb L)) (fun _ => rfl)
/-- The tile's part of the result. -/
abbrev oK : Memref sig .scVector .hbm S256 .f32 :=
  ((aO : Memref sig .scVector .hbm S2x4096 .f32).slice (Rect.unit (s := S2x4096) (k3_off36 L) S1x256.size (k3_off36_inb L)) (fun _ => rfl)).squeeze S256 squeezes_S1x256_S256

theorem set_inR : (inR L).set = inSet (wN L) := by
  ext i
  have h0 := L0_lt L; have h1 := L1_lt L
  rw [Rect.mem_set_unit, k3_off1_eq]
  simp only [inSet, Finset.mem_filter, Finset.mem_univ, true_and, wN]
  constructor
  · intro h
    have h' : 31232 * (L 0).val + 1952 * (L 1).val ≤ (i 0).val ∧ (i 0).val < 31232 * (L 0).val + 1952 * (L 1).val + 1952 := h 0
    omega
  · intro h a
    obtain rfl : a = 0 := Subsingleton.elim _ _
    show 31232 * (L 0).val + 1952 * (L 1).val ≤ (i 0).val ∧ (i 0).val < 31232 * (L 0).val + 1952 * (L 1).val + 1952
    omega

theorem set_iK : (iK L).view.set = inSet (wN L) := (View.set_slice_whole _ _).trans (set_inR L)
theorem set_qK : (qK L).view.set = inSet (wN L) := (View.set_slice_whole _ _).trans (set_inR L)
theorem set_xK : (xK L).view.set = inSet (wN L) := (View.set_slice_whole _ _).trans (set_inR L)
theorem set_yK : (yK L).view.set = inSet (wN L) := (View.set_slice_whole _ _).trans (set_inR L)
theorem set_zK : (zK L).view.set = inSet (wN L) := (View.set_slice_whole _ _).trans (set_inR L)

theorem set_rowK : (rowK L).view.set = shRow (L 1).val := by
  show (((sS : Memref sig .scVector .shared S16x4096 .f32).view.slice (Rect.unit (s := S16x4096) (k3_off17 L) S1x4096.size (k3_off17_inb L))).reshape S4096 squeezes_S1x4096_S4096.numel_eq).set = _
  rw [View.set_reshape]
  refine (View.set_slice_whole _ _).trans ?_
  ext i
  rw [Rect.mem_set_unit, k3_off17_eq]
  simp only [shRow, Finset.mem_filter, Finset.mem_univ, true_and]
  constructor
  · intro h
    have h' : (L 1).val ≤ (i 0).val ∧ (i 0).val < (L 1).val + 1 := h 0
    omega
  · intro h a
    match a with
    | 0 => show (L 1).val ≤ (i 0).val ∧ (i 0).val < (L 1).val + 1; omega
    | 1 => show 0 ≤ (i 1).val ∧ (i 1).val < 0 + 4096; exact ⟨Nat.zero_le _, by have : (i 1).val < 4096 := (i 1).isLt; omega⟩

theorem set_colK : (colK L).view.set = shCol (L 1).val := by
  refine (View.set_slice_whole _ _).trans ?_
  ext i
  rw [Rect.mem_set_unit, k3_off18_eq]
  simp only [shCol, Finset.mem_filter, Finset.mem_univ, true_and]
  constructor
  · intro h
    have h' : 256 * (L 1).val ≤ (i 1).val ∧ (i 1).val < 256 * (L 1).val + 256 := h 1
    omega
  · intro h a
    match a with
    | 0 => show 0 ≤ (i 0).val ∧ (i 0).val < 0 + 16; exact ⟨Nat.zero_le _, by have : (i 0).val < 16 := (i 0).isLt; omega⟩
    | 1 => show 256 * (L 1).val ≤ (i 1).val ∧ (i 1).val < 256 * (L 1).val + 256; omega

theorem set_oK : (oK L).view.set = outSet (L 0).val (L 1).val := by
  show (((aO : Memref sig .scVector .hbm S2x4096 .f32).view.slice (Rect.unit (s := S2x4096) (k3_off36 L) S1x256.size (k3_off36_inb L))).reshape S256 squeezes_S1x256_S256.numel_eq).set = _
  rw [View.set_reshape]
  refine (View.set_slice_whole _ _).trans ?_
  ext i
  rw [Rect.mem_set_unit, k3_off36_eq]
  simp only [outSet, Finset.mem_filter, Finset.mem_univ, true_and]
  constructor
  · intro h
    have h0 : (L 0).val ≤ (i 0).val ∧ (i 0).val < (L 0).val + 1 := h 0
    have h1 : 256 * (L 1).val ≤ (i 1).val ∧ (i 1).val < 256 * (L 1).val + 256 := h 1
    omega
  · rintro ⟨h0, h1⟩ a
    match a with
    | 0 => show (L 0).val ≤ (i 0).val ∧ (i 0).val < (L 0).val + 1; omega
    | 1 => show 256 * (L 1).val ≤ (i 1).val ∧ (i 1).val < 256 * (L 1).val + 256; omega

/-! ## What a tile's views hold, in the launch's words -/

section Pts
variable [FloatOps F]

theorem pts_iK (f : Buf (Elt F) (iLoc d)) : ((iK L).view.loc (thr d L) ↦[(iK L).view.set]{fullShare} f : sProp (MM F)) = iLoc d ↦[inSet (wN L)]{fullShare} f := by rw [set_iK]
theorem pts_qK (f : Buf (Elt F) (qLoc d)) : ((qK L).view.loc (thr d L) ↦[(qK L).view.set]{fullShare} f : sProp (MM F)) = qLoc d ↦[inSet (wN L)]{fullShare} f := by rw [set_qK]
theorem pts_xK (f : Buf (Elt F) (xLoc d)) : ((xK L).view.loc (thr d L) ↦[(xK L).view.set]{fullShare} f : sProp (MM F)) = xLoc d ↦[inSet (wN L)]{fullShare} f := by rw [set_xK]
theorem pts_yK (f : Buf (Elt F) (yLoc d)) : ((yK L).view.loc (thr d L) ↦[(yK L).view.set]{fullShare} f : sProp (MM F)) = yLoc d ↦[inSet (wN L)]{fullShare} f := by rw [set_yK]
theorem pts_zK (f : Buf (Elt F) (zLoc d)) : ((zK L).view.loc (thr d L) ↦[(zK L).view.set]{fullShare} f : sProp (MM F)) = zLoc d ↦[inSet (wN L)]{fullShare} f := by rw [set_zK]
theorem pts_oK (f : Buf (Elt F) (oLoc d)) : ((oK L).view.loc (thr d L) ↦[(oK L).view.set]{fullShare} f : sProp (MM F)) = outPts d (L 0).val (L 1).val f := by
  unfold outPts; rw [set_oK]
theorem pts_rowK (f : Buf (Elt F) (shLoc d (cV L))) :
    ((rowK L).view.loc (thr d L) ↦[(rowK L).view.set]{fullShare} f : sProp (MM F)) = shLoc d (cV L) ↦[shRow (L 1).val]{fullShare} f := by rw [set_rowK]; rfl
theorem pts_colK (f : Buf (Elt F) (shLoc d (cV L))) :
    ((colK L).view.loc (thr d L) ↦[(colK L).view.set]{fullShare} f : sProp (MM F)) = shLoc d (cV L) ↦[shCol (L 1).val]{fullShare} f := by rw [set_colK]; rfl

end Pts

/-! ## What the copies leave -/

theorem off1_eq' : k3_off1 L 0 = 1952 * wN L := by rw [k3_off1_eq]; show 31232 * (L 0).val + 1952 * (L 1).val = _; unfold wN; omega

theorem fetch_holdsV {α : Type} (g : S62464.Idx → α) : HoldsV g (wN L) (fun i : S1952.Idx => g ((inR L).emb i)) := by
  intro i
  refine congrArg g (funext fun (a : Fin 1) => Fin.ext ?_)
  obtain rfl : a = 0 := Subsingleton.elim _ _
  have h0 := L0_lt L; have h1 := L1_lt L
  have hi : (i 0).val < 1952 := (i 0).isLt
  show k3_off1 L 0 + 1 * (i 0).val = (1952 * wN L + (i 0).val) % 62464
  rw [off1_eq']; unfold wN; omega

end Cert.Proof.Scatter.Two

end
-- ==== Proof.Two.Loops.lean ====
/-
  The two small loops of a tile: the accumulator set to zero, sixteen elements at a time, and the
  sixteen rows of a slab added up, sixteen columns at a time.
-/
module

public import proofs.«01_k».proof.Proof.Two.Trip
public import Idealize.ShloMosaic.Lib.ValueLayout

@[expose] public section

noncomputable section

namespace Cert.Proof.Scatter.Two

open Cert.KernelIdeal Cert.KernelIdeal.Gen

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

variable [FloatOps F] (d : Dev nD) (L : grid3.Coords)

/-! ## Setting the accumulator to zero -/

/-- The first `n` elements are zero. -/
def ZeroTo (n : ℕ) (f : S4096.Idx → F .f32) : Prop := ∀ i : S4096.Idx, (i 0).val < n → f i = Scalar.ofBits .f32 0x00000000#32

/-- Sixteen elements read and set to zero. -/
def zeroProg (L : grid3.Coords) (off : Fin 1 → ℕ) (inb : ∀ a, off a + S16.size a ≤ S4096.size a) (k : TProg F L (BitVec 32)) : TProg F L (BitVec 32) :=
  .op (.load sA (Rect.unit (s := S4096) off S16.size inb).toLoadRect (View.loadsAt_vmem h_S16)) fun (_ : Vec F S16 .f32) =>
  .op (.store sA (Rect.unit (s := S4096) off S16.size inb) (k3_pay54 (F := F)) Finset.univ (View.stores_vmem_bits_univ h_S16 rfl) (.inl rfl)) fun _ => k

theorem zeroTo_write (n : ℕ) (off : Fin 1 → ℕ) (ho : off = ![n]) (inb : ∀ a, off a + S16.size a ≤ S4096.size a) (f : S4096.Idx → F .f32) (h : ZeroTo n f) :
    ZeroTo (n + 16) ((sA : Memref sig .scVector .vmem S4096 .f32).view.writes (Elt F) f [⟨Rect.unit (s := S4096) off S16.size inb, k3_pay54 (F := F)⟩]) := by
  subst ho
  intro i hi
  show (sA : Memref sig .scVector .vmem S4096 .f32).view.read (Elt F) ((sA : Memref sig .scVector .vmem S4096 .f32).view.writes (Elt F) f
    [⟨Rect.unit (s := S4096) ![n] S16.size inb, k3_pay54 (F := F)⟩]) i = _
  by_cases hn : (i 0).val < n
  · refine (View.read_writes_cons_miss_of_axis (Val := Elt F) (e := .f32) _ _ _ [] i 0 n 16 rfl rfl rfl (.inl hn)).trans ?_
    exact h i hn
  · refine (View.read_writes_cons_hit_of_coords (Val := Elt F) (e := .f32) _ _ (Rect.unit (s := S4096) ![n] S16.size inb) (k3_pay54 (F := F)) []
      (lane ⟨(i 0).val - n, by omega⟩) i ?_).trans rfl
    intro a
    obtain rfl : a = 0 := Subsingleton.elim _ _
    show (i 0).val = n + 1 * ((i 0).val - n)
    omega

set_option maxHeartbeats 1000000 in
theorem wp_zero (n : ℕ) (off : Fin 1 → ℕ) (ho : off = ![n]) (inb : ∀ a, off a + S16.size a ≤ S4096.size a)
    (k : TProg F L (BitVec 32)) (Q : BitVec 32 → sProp (MM F)) :
    (iprop(∃ f, ⌜ZeroTo n f⌝ ∗ (thr d L).loc cc3_scratch6 ↦{fullShare} f) : sProp (MM F))
      ⊢ iprop((iprop(∃ f, ⌜ZeroTo (n + 16) f⌝ ∗ (thr d L).loc cc3_scratch6 ↦{fullShare} f)
          -∗ wp frame (wpE (defs₀ (F := F)) 𝒱₀ (thr d L) none) Set.univ k Q)
        -∗ wp frame (wpE (defs₀ (F := F)) 𝒱₀ (thr d L) none) Set.univ (zeroProg L off inb k) Q) := by
  unfold zeroProg
  iintro ⟨%f, %hf, Ha⟩ Hk
  iapply (wp_load 𝒱₀ (thr d L) none Set.univ (m := (sA : Memref sig .scVector .vmem S4096 .f32)) (S := Finset.univ) (Finset.subset_univ _)) $$ Ha; iintro Ha
  iapply (wp_store_writes₀ 𝒱₀ (thr d L) none Set.univ (m := (sA : Memref sig .scVector .vmem S4096 .f32)) (r := Rect.unit (s := S4096) off S16.size inb) (w := k3_pay54 (F := F)) (f := f) (S := Finset.univ) (Finset.subset_univ _)) $$ Ha; iintro Ha
  iapply Hk
  iexists _
  isplitr
  · ipureintro; exact zeroTo_write n off ho inb f hf
  · iexact Ha

set_option maxRecDepth 65536 in
theorem t1_trip (L : grid3.Coords) (k : Fin k3_t1_loop.trips) (acc : BitVec 32) :
    k3_t1_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc3_scratch10 cc3_scoped0 cc3_scoped1 cc3_scoped2 k acc =
      (zeroProg (F := F) L (k3_off2 k 0#32) (k3_off2_inb k 0) <|
      zeroProg (F := F) L (k3_off2 k 16#32) (k3_off2_inb k 1) <|
      zeroProg (F := F) L (k3_off2 k 32#32) (k3_off2_inb k 2) <|
      zeroProg (F := F) L (k3_off2 k 48#32) (k3_off2_inb k 3) <|
      zeroProg (F := F) L (k3_off2 k 64#32) (k3_off2_inb k 4) <|
      zeroProg (F := F) L (k3_off2 k 80#32) (k3_off2_inb k 5) <|
      zeroProg (F := F) L (k3_off2 k 96#32) (k3_off2_inb k 6) <|
      zeroProg (F := F) L (k3_off2 k 112#32) (k3_off2_inb k 7) <|
      .ret 0#32) := rfl

theorem wp_t1 (k : Fin k3_t1_loop.trips) (acc : BitVec 32) (Q : BitVec 32 → sProp (MM F)) :
    (iprop(∃ f, ⌜ZeroTo (128 * k.val) f⌝ ∗ (thr d L).loc cc3_scratch6 ↦{fullShare} f) : sProp (MM F))
      ⊢ iprop((iprop(∃ f, ⌜ZeroTo (128 * (k.val + 1)) f⌝ ∗ (thr d L).loc cc3_scratch6 ↦{fullShare} f)
          -∗ wp frame (wpE (defs₀ (F := F)) 𝒱₀ (thr d L) none) Set.univ (.ret 0#32) Q)
        -∗ wp frame (wpE (defs₀ (F := F)) 𝒱₀ (thr d L) none) Set.univ
          (k3_t1_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc3_scratch10 cc3_scoped0 cc3_scoped1 cc3_scoped2 k acc) Q) := by
  rw [t1_trip]
  iintro Ha Hk
  iapply (wp_zero d L (128 * k.val + 0) _ (k3_off2_eq k 0) _ _ Q) $$ Ha; iintro Ha
  iapply (wp_zero d L (128 * k.val + 16) _ (k3_off2_eq k 1) _ _ Q) $$ Ha; iintro Ha
  iapply (wp_zero d L (128 * k.val + 32) _ (k3_off2_eq k 2) _ _ Q) $$ Ha; iintro Ha
  iapply (wp_zero d L (128 * k.val + 48) _ (k3_off2_eq k 3) _ _ Q) $$ Ha; iintro Ha
  iapply (wp_zero d L (128 * k.val + 64) _ (k3_off2_eq k 4) _ _ Q) $$ Ha; iintro Ha
  iapply (wp_zero d L (128 * k.val + 80) _ (k3_off2_eq k 5) _ _ Q) $$ Ha; iintro Ha
  iapply (wp_zero d L (128 * k.val + 96) _ (k3_off2_eq k 6) _ _ Q) $$ Ha; iintro Ha
  iapply (wp_zero d L (128 * k.val + 112) _ (k3_off2_eq k 7) _ _ Q) $$ Ha; iintro Ha
  iapply Hk
  iexact Ha

/-! ## Adding up the rows of a slab -/

abbrev atB (r : Fin 16) (n : ℕ) (h : n < 256) : S16x256.Idx := ix2 r (⟨n, h⟩ : Fin 256)

theorem readB (r : ℕ) (hr : r < 16) (n : ℕ) (hn : n + 16 ≤ 256) (off : Fin 2 → ℕ) (ho : off = ![r, n]) (inb : ∀ a, off a + S1x16.size a ≤ S16x256.size a) (f : S16x256.Idx → F .f32) (k : Fin 16) :
    shapeCast S16 ((sB : Memref sig .scVector .vmem S16x256 .f32).view.readAt (Elt F) (Rect.unit (s := S16x256) off S1x16.size inb).toLoadRect f) shapeCasts_S1x16_S16 (lane k)
      = f (atB ⟨r, hr⟩ (n + k.val) (by omega)) := by
  subst ho
  have hl : lane k = ix1 k := funext fun a => Fin.ext (by rw [Fin.eq_zero a])
  rw [hl]
  refine (shapeCast_1a_a_apply (a := 16) _ _ k).trans ?_
  refine congrArg f (funext fun (a : Fin 2) => Fin.ext ?_)
  match a with
  | 0 => show r + 1 * 0 = r; rfl
  | 1 => show n + 1 * k.val = n + k.val; rw [Nat.one_mul]

/-- The columns summed so far. -/
def SumTo (sl : S16x256.Idx → F .f32) (n : ℕ) (f : S256.Idx → F .f32) : Prop :=
  ∀ i : S256.Idx, (i 0).val < n → f i = colSum fun r => sl (ix2 r (i 0))

/-- The sixteen rows' words added up, lane by lane. -/
def sumPay (v : Fin 16 → Vec F S1x16 .f32) : FVec F S16 .f32 :=
  k3_pay6 (k3_pay53 (v 0) (v 1) (v 2) (v 3) (v 4) (v 5) (v 6) (v 7) (v 8)) (v 9) (v 10) (v 11) (v 12) (v 13) (v 14) (v 15)

theorem sumPay_apply (v : Fin 16 → Vec F S1x16 .f32) (l : S16.Idx) : sumPay v l = colSum fun r => shapeCast S16 (v r) shapeCasts_S1x16_S16 l := rfl

/-- The words of row `r` at trip `k`. -/
def rowRd (sl : S16x256.Idx → F .f32) (k : Fin k3_t3_loop.trips) : Fin 16 → Vec F S1x16 .f32
  | ⟨0, _⟩ => ((sB : Memref sig .scVector .vmem S16x256 .f32).view.readAt (Elt F) (Rect.unit (s := S16x256) (k3_off19 k) S1x16.size (k3_off19_inb k)).toLoadRect sl)
  | ⟨1, _⟩ => ((sB : Memref sig .scVector .vmem S16x256 .f32).view.readAt (Elt F) (Rect.unit (s := S16x256) (k3_off20 k) S1x16.size (k3_off20_inb k)).toLoadRect sl)
  | ⟨2, _⟩ => ((sB : Memref sig .scVector .vmem S16x256 .f32).view.readAt (Elt F) (Rect.unit (s := S16x256) (k3_off21 k) S1x16.size (k3_off21_inb k)).toLoadRect sl)
  | ⟨3, _⟩ => ((sB : Memref sig .scVector .vmem S16x256 .f32).view.readAt (Elt F) (Rect.unit (s := S16x256) (k3_off22 k) S1x16.size (k3_off22_inb k)).toLoadRect sl)
  | ⟨4, _⟩ => ((sB : Memref sig .scVector .vmem S16x256 .f32).view.readAt (Elt F) (Rect.unit (s := S16x256) (k3_off23 k) S1x16.size (k3_off23_inb k)).toLoadRect sl)
  | ⟨5, _⟩ => ((sB : Memref sig .scVector .vmem S16x256 .f32).view.readAt (Elt F) (Rect.unit (s := S16x256) (k3_off24 k) S1x16.size (k3_off24_inb k)).toLoadRect sl)
  | ⟨6, _⟩ => ((sB : Memref sig .scVector .vmem S16x256 .f32).view.readAt (Elt F) (Rect.unit (s := S16x256) (k3_off25 k) S1x16.size (k3_off25_inb k)).toLoadRect sl)
  | ⟨7, _⟩ => ((sB : Memref sig .scVector .vmem S16x256 .f32).view.readAt (Elt F) (Rect.unit (s := S16x256) (k3_off26 k) S1x16.size (k3_off26_inb k)).toLoadRect sl)
  | ⟨8, _⟩ => ((sB : Memref sig .scVector .vmem S16x256 .f32).view.readAt (Elt F) (Rect.unit (s := S16x256) (k3_off27 k) S1x16.size (k3_off27_inb k)).toLoadRect sl)
  | ⟨9, _⟩ => ((sB : Memref sig .scVector .vmem S16x256 .f32).view.readAt (Elt F) (Rect.unit (s := S16x256) (k3_off28 k) S1x16.size (k3_off28_inb k)).toLoadRect sl)
  | ⟨10, _⟩ => ((sB : Memref sig .scVector .vmem S16x256 .f32).view.readAt (Elt F) (Rect.unit (s := S16x256) (k3_off29 k) S1x16.size (k3_off29_inb k)).toLoadRect sl)
  | ⟨11, _⟩ => ((sB : Memref sig .scVector .vmem S16x256 .f32).view.readAt (Elt F) (Rect.unit (s := S16x256) (k3_off30 k) S1x16.size (k3_off30_inb k)).toLoadRect sl)
  | ⟨12, _⟩ => ((sB : Memref sig .scVector .vmem S16x256 .f32).view.readAt (Elt F) (Rect.unit (s := S16x256) (k3_off31 k) S1x16.size (k3_off31_inb k)).toLoadRect sl)
  | ⟨13, _⟩ => ((sB : Memref sig .scVector .vmem S16x256 .f32).view.readAt (Elt F) (Rect.unit (s := S16x256) (k3_off32 k) S1x16.size (k3_off32_inb k)).toLoadRect sl)
  | ⟨14, _⟩ => ((sB : Memref sig .scVector .vmem S16x256 .f32).view.readAt (Elt F) (Rect.unit (s := S16x256) (k3_off33 k) S1x16.size (k3_off33_inb k)).toLoadRect sl)
  | ⟨15, _⟩ => ((sB : Memref sig .scVector .vmem S16x256 .f32).view.readAt (Elt F) (Rect.unit (s := S16x256) (k3_off34 k) S1x16.size (k3_off34_inb k)).toLoadRect sl)
  | ⟨_ + 16, h⟩ => absurd h (by omega)

theorem rowRd_apply (sl : S16x256.Idx → F .f32) (k : Fin k3_t3_loop.trips) (r : Fin 16) (j : Fin 16) :
    shapeCast S16 (rowRd sl k r) shapeCasts_S1x16_S16 (lane j) = sl (atB r (16 * k.val + j.val) (by have : k.val < 16 := k.isLt; omega)) := by
  have hk : k.val < 16 := k.isLt
  match r with
  | ⟨0, _⟩ => exact readB 0 (by decide) (16 * k.val) (by omega) _ (k3_off19_eq k) _ sl j
  | ⟨1, _⟩ => exact readB 1 (by decide) (16 * k.val) (by omega) _ (k3_off20_eq k) _ sl j
  | ⟨2, _⟩ => exact readB 2 (by decide) (16 * k.val) (by omega) _ (k3_off21_eq k) _ sl j
  | ⟨3, _⟩ => exact readB 3 (by decide) (16 * k.val) (by omega) _ (k3_off22_eq k) _ sl j
  | ⟨4, _⟩ => exact readB 4 (by decide) (16 * k.val) (by omega) _ (k3_off23_eq k) _ sl j
  | ⟨5, _⟩ => exact readB 5 (by decide) (16 * k.val) (by omega) _ (k3_off24_eq k) _ sl j
  | ⟨6, _⟩ => exact readB 6 (by decide) (16 * k.val) (by omega) _ (k3_off25_eq k) _ sl j
  | ⟨7, _⟩ => exact readB 7 (by decide) (16 * k.val) (by omega) _ (k3_off26_eq k) _ sl j
  | ⟨8, _⟩ => exact readB 8 (by decide) (16 * k.val) (by omega) _ (k3_off27_eq k) _ sl j
  | ⟨9, _⟩ => exact readB 9 (by decide) (16 * k.val) (by omega) _ (k3_off28_eq k) _ sl j
  | ⟨10, _⟩ => exact readB 10 (by decide) (16 * k.val) (by omega) _ (k3_off29_eq k) _ sl j
  | ⟨11, _⟩ => exact readB 11 (by decide) (16 * k.val) (by omega) _ (k3_off30_eq k) _ sl j
  | ⟨12, _⟩ => exact readB 12 (by decide) (16 * k.val) (by omega) _ (k3_off31_eq k) _ sl j
  | ⟨13, _⟩ => exact readB 13 (by decide) (16 * k.val) (by omega) _ (k3_off32_eq k) _ sl j
  | ⟨14, _⟩ => exact readB 14 (by decide) (16 * k.val) (by omega) _ (k3_off33_eq k) _ sl j
  | ⟨15, _⟩ => exact readB 15 (by decide) (16 * k.val) (by omega) _ (k3_off34_eq k) _ sl j
  | ⟨_ + 16, h⟩ => exact absurd h (by omega)

theorem sumTo_write (sl : S16x256.Idx → F .f32) (k : Fin k3_t3_loop.trips) (f : S256.Idx → F .f32) (h : SumTo sl (16 * k.val) f) :
    SumTo sl (16 * (k.val + 1)) ((sR : Memref sig .scVector .vmem S256 .f32).view.writes (Elt F) f [⟨Rect.unit (s := S256) (k3_off35 k) S16.size (k3_off35_inb k), sumPay (rowRd sl k)⟩]) := by
  intro i hi
  have hk : k.val < 16 := k.isLt
  have ho : k3_off35 k 0 = 16 * k.val := by rw [k3_off35_eq]; rfl
  show (sR : Memref sig .scVector .vmem S256 .f32).view.read (Elt F) ((sR : Memref sig .scVector .vmem S256 .f32).view.writes (Elt F) f
    [⟨Rect.unit (s := S256) (k3_off35 k) S16.size (k3_off35_inb k), sumPay (rowRd sl k)⟩]) i = _
  by_cases hn : (i 0).val < 16 * k.val
  · refine (View.read_writes_cons_miss_of_axis (Val := Elt F) (e := .f32) _ _ _ [] i 0 (16 * k.val) 16 ho rfl rfl (.inl hn)).trans ?_
    exact h i hn
  · refine (View.read_writes_cons_hit_of_coords (Val := Elt F) (e := .f32) _ _ (Rect.unit (s := S256) (k3_off35 k) S16.size (k3_off35_inb k)) (sumPay (rowRd sl k)) []
      (lane ⟨(i 0).val - 16 * k.val, by omega⟩) i ?_).trans ?_
    · intro a
      obtain rfl : a = 0 := Subsingleton.elim _ _
      show (i 0).val = k3_off35 k 0 + 1 * ((i 0).val - 16 * k.val)
      rw [ho]; omega
    · rw [sumPay_apply]
      refine congrArg colSum (funext fun r => ?_)
      rw [rowRd_apply]
      refine congrArg sl (funext fun (a : Fin 2) => Fin.ext ?_)
      match a with
      | 0 => rfl
      | 1 => show 16 * k.val + ((i 0).val - 16 * k.val) = (i 0).val; omega

set_option maxRecDepth 65536 in
theorem t3_trip (L : grid3.Coords) (k : Fin k3_t3_loop.trips) (acc : BitVec 32) :
    k3_t3_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc3_scratch10 cc3_scoped0 cc3_scoped1 cc3_scoped2 k acc =
      .op (.load sB (Rect.unit (s := S16x256) (k3_off19 k) S1x16.size (k3_off19_inb k)).toLoadRect (View.loadsAt_vmem h_S1x16)) fun (v0 : Vec F S1x16 .f32) =>
      .op (.load sB (Rect.unit (s := S16x256) (k3_off20 k) S1x16.size (k3_off20_inb k)).toLoadRect (View.loadsAt_vmem h_S1x16)) fun (v1 : Vec F S1x16 .f32) =>
      .op (.load sB (Rect.unit (s := S16x256) (k3_off21 k) S1x16.size (k3_off21_inb k)).toLoadRect (View.loadsAt_vmem h_S1x16)) fun (v2 : Vec F S1x16 .f32) =>
      .op (.load sB (Rect.unit (s := S16x256) (k3_off22 k) S1x16.size (k3_off22_inb k)).toLoadRect (View.loadsAt_vmem h_S1x16)) fun (v3 : Vec F S1x16 .f32) =>
      .op (.load sB (Rect.unit (s := S16x256) (k3_off23 k) S1x16.size (k3_off23_inb k)).toLoadRect (View.loadsAt_vmem h_S1x16)) fun (v4 : Vec F S1x16 .f32) =>
      .op (.load sB (Rect.unit (s := S16x256) (k3_off24 k) S1x16.size (k3_off24_inb k)).toLoadRect (View.loadsAt_vmem h_S1x16)) fun (v5 : Vec F S1x16 .f32) =>
      .op (.load sB (Rect.unit (s := S16x256) (k3_off25 k) S1x16.size (k3_off25_inb k)).toLoadRect (View.loadsAt_vmem h_S1x16)) fun (v6 : Vec F S1x16 .f32) =>
      .op (.load sB (Rect.unit (s := S16x256) (k3_off26 k) S1x16.size (k3_off26_inb k)).toLoadRect (View.loadsAt_vmem h_S1x16)) fun (v7 : Vec F S1x16 .f32) =>
      .op (.load sB (Rect.unit (s := S16x256) (k3_off27 k) S1x16.size (k3_off27_inb k)).toLoadRect (View.loadsAt_vmem h_S1x16)) fun (v8 : Vec F S1x16 .f32) =>
      .op (.load sB (Rect.unit (s := S16x256) (k3_off28 k) S1x16.size (k3_off28_inb k)).toLoadRect (View.loadsAt_vmem h_S1x16)) fun (v9 : Vec F S1x16 .f32) =>
      .op (.load sB (Rect.unit (s := S16x256) (k3_off29 k) S1x16.size (k3_off29_inb k)).toLoadRect (View.loadsAt_vmem h_S1x16)) fun (v10 : Vec F S1x16 .f32) =>
      .op (.load sB (Rect.unit (s := S16x256) (k3_off30 k) S1x16.size (k3_off30_inb k)).toLoadRect (View.loadsAt_vmem h_S1x16)) fun (v11 : Vec F S1x16 .f32) =>
      .op (.load sB (Rect.unit (s := S16x256) (k3_off31 k) S1x16.size (k3_off31_inb k)).toLoadRect (View.loadsAt_vmem h_S1x16)) fun (v12 : Vec F S1x16 .f32) =>
      .op (.load sB (Rect.unit (s := S16x256) (k3_off32 k) S1x16.size (k3_off32_inb k)).toLoadRect (View.loadsAt_vmem h_S1x16)) fun (v13 : Vec F S1x16 .f32) =>
      .op (.load sB (Rect.unit (s := S16x256) (k3_off33 k) S1x16.size (k3_off33_inb k)).toLoadRect (View.loadsAt_vmem h_S1x16)) fun (v14 : Vec F S1x16 .f32) =>
      .op (.load sB (Rect.unit (s := S16x256) (k3_off34 k) S1x16.size (k3_off34_inb k)).toLoadRect (View.loadsAt_vmem h_S1x16)) fun (v15 : Vec F S1x16 .f32) =>
      .op (.load sR (Rect.unit (s := S256) (k3_off35 k) S16.size (k3_off35_inb k)).toLoadRect (View.loadsAt_vmem h_S16)) fun (_ : Vec F S16 .f32) =>
      .op (.store sR (Rect.unit (s := S256) (k3_off35 k) S16.size (k3_off35_inb k)) (k3_pay6 (k3_pay53 v0 v1 v2 v3 v4 v5 v6 v7 v8) v9 v10 v11 v12 v13 v14 v15) Finset.univ (View.stores_vmem_bits_univ h_S16 rfl) (.inl rfl)) fun _ =>
      .ret 0#32 := rfl

set_option maxHeartbeats 1000000 in
theorem wp_t3 (sl : S16x256.Idx → F .f32) (k : Fin k3_t3_loop.trips) (acc : BitVec 32) (Q : BitVec 32 → sProp (MM F)) :
    (iprop(((thr d L).loc cc3_scratch7 ↦{fullShare} sl) ∗ ∃ f, ⌜SumTo sl (16 * k.val) f⌝ ∗ (thr d L).loc cc3_scratch8 ↦{fullShare} f) : sProp (MM F))
      ⊢ iprop((iprop(((thr d L).loc cc3_scratch7 ↦{fullShare} sl) ∗ ∃ f, ⌜SumTo sl (16 * (k.val + 1)) f⌝ ∗ (thr d L).loc cc3_scratch8 ↦{fullShare} f)
          -∗ wp frame (wpE (defs₀ (F := F)) 𝒱₀ (thr d L) none) Set.univ (.ret 0#32) Q)
        -∗ wp frame (wpE (defs₀ (F := F)) 𝒱₀ (thr d L) none) Set.univ
          (k3_t3_body (F := F) L aI (Memref.isWhole_whole _) aQ (Memref.isWhole_whole _) aX (Memref.isWhole_whole _) aY (Memref.isWhole_whole _) aZ (Memref.isWhole_whole _) aO (Memref.isWhole_whole _) sI (Memref.isWhole_whole _) sQ (Memref.isWhole_whole _) sX (Memref.isWhole_whole _) sY (Memref.isWhole_whole _) sZ (Memref.isWhole_whole _) sE (Memref.isWhole_whole _) sA (Memref.isWhole_whole _) sB (Memref.isWhole_whole _) sR (Memref.isWhole_whole _) sS (Memref.isWhole_whole _) cc3_scratch10 cc3_scoped0 cc3_scoped1 cc3_scoped2 k acc) Q) := by
  rw [t3_trip]
  iintro ⟨Hs, %f, %hf, Hr⟩ Hk
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sB : Memref sig .scVector .vmem S16x256 .f32)) (S := Finset.univ) (Finset.subset_univ _)) $$ Hs; iintro Hs
  iapply (wp_load 𝒱₀ (thr d L) none Set.univ (m := (sR : Memref sig .scVector .vmem S256 .f32)) (S := Finset.univ) (Finset.subset_univ _)) $$ Hr; iintro Hr
  iapply (wp_store_writes₀ 𝒱₀ (thr d L) none Set.univ (m := (sR : Memref sig .scVector .vmem S256 .f32)) (r := Rect.unit (s := S256) (k3_off35 k) S16.size (k3_off35_inb k)) (w := sumPay (rowRd sl k)) (f := f) (S := Finset.univ) (Finset.subset_univ _)) $$ Hr; iintro Hr
  iapply Hk
  isplitl [Hs]; · iexact Hs
  iexists _
  isplitr
  · ipureintro; exact sumTo_write sl k f hf
  · iexact Hr

end Cert.Proof.Scatter.Two

end
-- ==== Proof.Two.Moves.lean ====
/-
  What a tile's copies leave, and how the barrier's rounds exchange the shared scratch: each tile
  hands out its row, one cell to each tile, and gets its columns, one cell from each tile.
-/
module

public import proofs.«01_k».proof.Proof.Two.Views
public import proofs.«01_k».proof.Proof.Two.Loops

@[expose] public section

noncomputable section

namespace Cert.Proof.Scatter.Two

open Cert.KernelIdeal Cert.KernelIdeal.Gen

open Idealize.ShloMosaic
open Idealize.ShloMosaic.ValueIdx
open Idealize.ShloMosaic.Rounds
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

variable [FloatOps F] (R : InRel F) (R' : ShRel F) (I : In F) (d : Dev nD) (L : grid3.Coords)

/-! ## The fetches -/

theorem holdsI_fetch (g : S62464.Idx → BitVec 32) (b : Buf (Elt F) (sIK.view.loc (thr d L))) :
    HoldsI g (wN L) (sIK.view.write (Elt F) b (fun i : S1952.Idx => g ((inR L).emb i)) Finset.univ) := by
  intro i h1 h2
  have hi : i = sIK.view.emb (fun (a : Fin 1) => (⟨(i 0).val - 16, by rw [Fin.eq_zero a]; show _ < 1952; omega⟩ : Fin (S1952.size a))) := by
    funext (a : Fin 1)
    obtain rfl : a = 0 := Subsingleton.elim _ _
    refine Fin.ext ?_
    show (i 0).val = 16 + 1 * ((i 0).val - 16)
    omega
  rw [hi, View.write_emb_of_mem _ _ (Finset.mem_univ _)]
  refine (fetch_holdsV L g _).trans (atN_congr g _ _ ?_)
  show (1952 * wN L + ((i 0).val - 16)) % 62464 = (1952 * wN L + (16 + 1 * ((i 0).val - 16) - 16)) % 62464
  congr 2; omega

theorem fetchI (b : Buf (Elt F) (sIK.view.loc (thr d L))) (w : S1952.Idx → BitVec 32) (hw : w = fun i => I.ids ((inR L).emb i)) :
    (sIK.view.loc (thr d L) ↦{fullShare} sIK.view.write (Elt F) b w Finset.univ : sProp (MM F))
      ⊢ iprop(∃ f, ⌜HoldsI I.ids (wN L) f⌝ ∗ (thr d L).loc cc3_scratch0 ↦{fullShare} f) := by
  subst hw
  iintro H
  iexists _
  isplitr
  swap; · iexact H
  ipureintro; exact holdsI_fetch d L _ b

/-- A copy over a whole scratch leaves what it brought. -/
theorem whole_write (r : Ref sig .scVector) (b w w' : Buf (Elt F) ((thr d L).loc r)) (hw : w = w') :
    ((View.whole r).loc (thr d L) ↦{fullShare} (View.whole r).write (Elt F) b w Finset.univ : sProp (MM F)) = (thr d L).loc r ↦{fullShare} w' := by
  rw [View.write_whole_univ, hw]

/-- One piece over the whole of a view writes as the view does. -/
theorem writes_whole_emb {κ : Kind} {sp : Space} {s : Shape} {e : EltTy} (v : View sig κ sp s e) (f : v.ty.Contents (Elt F)) (w : s.Idx → Elt F e) (x : s.Idx) :
    v.writes (Elt F) f [⟨Rect.whole s, w⟩] (v.emb x) = v.write (Elt F) f w Finset.univ (v.emb x) := by
  have he : (v.slice (Rect.whole s)).emb x = v.emb x := congrArg v.emb (Rect.emb_whole_apply _ x)
  have h := View.write_emb_of_mem (v := v.slice (Rect.whole s)) (Val := Elt F) f w (M := Finset.univ) (Finset.mem_univ x)
  rw [he] at h
  exact h.trans (View.write_emb_of_mem (v := v) (Val := Elt F) f w (M := Finset.univ) (Finset.mem_univ x)).symm

/-! ## The tile's row and columns of the shared scratch, its part of the result -/

theorem row_val (f : S16x4096.Idx → F .f32) (w : S4096.Idx → F .f32) (i : S16x4096.Idx) (hi : i ∈ (rowK L).view.set) :
    (rowK L).view.writes (Elt F) f [⟨Rect.whole S4096, w⟩] i = w (at4 (i 1).val (i 1).isLt) := by
  obtain ⟨x, -, rfl⟩ := Finset.mem_map.mp hi
  refine ((writes_whole_emb (F := F) (rowK L).view f w x).trans (View.write_emb_of_mem (v := (rowK L).view) _ _ (Finset.mem_univ x))).trans ?_
  refine congrArg w (funext fun (a : Fin 1) => Fin.ext ?_)
  obtain rfl : a = 0 := Subsingleton.elim _ _
  show (x 0).val = (k3_off17 L 1) + 1 * (Shape.reshapeEquiv squeezes_S1x4096_S4096.numel_eq x 1).val
  rw [Shape.reshapeEquiv_cons_one (n := 1) (d := ![4096]) squeezes_S1x4096_S4096.numel_eq x, k3_off17_eq]
  show (x 0).val = 0 + 1 * (x 0).val
  omega

theorem row_eq (f : Buf (Elt F) (shLoc d (cV L))) (w : S4096.Idx → F .f32)
    (hw : w = accT I.ids I.q I.x I.y I.z (wN L)) :
    ((rowK L).view.loc (thr d L) ↦[(rowK L).view.set]{fullShare} (rowK L).view.writes (Elt F) f [⟨Rect.whole S4096, w⟩] : sProp (MM F))
      = shLoc d (cV L) ↦[shRow (L 1).val]{fullShare} shI I (L 0).val := by
  subst hw
  rw [← pts_rowK]
  refine pointsTo_congr fun i hi => ?_
  refine (row_val L f _ i hi).trans ?_
  have h0 : (i 0).val = (L 1).val := by
    have hi' : i ∈ shRow (L 1).val := (set_rowK L) ▸ hi
    exact (Finset.mem_filter.mp hi').2
  show _ = accT I.ids I.q I.x I.y I.z (16 * (L 0).val + (i 0).val) (at4 (i 1).val (i 1).isLt)
  rw [h0]

/-- The slab: the sixteen rows' words of the tile's columns. -/
def slab (sh : S16x4096.Idx → F .f32) : S16x256.Idx → F .f32 := fun i =>
  sh (ix2 (i 0) (⟨256 * (L 1).val + (i 1).val, by have := L1_lt L; have : (i 1).val < 256 := (i 1).isLt; omega⟩ : Fin 4096))

theorem colRead (sh : S16x4096.Idx → F .f32) : (colK L).view.read (Elt F) sh = slab L sh := by
  funext i
  refine congrArg sh (funext fun (a : Fin 2) => Fin.ext ?_)
  match a with
  | 0 => show k3_off18 L 0 + 1 * (i 0).val = (i 0).val; rw [k3_off18_eq]; show 0 + 1 * (i 0).val = _; omega
  | 1 => show k3_off18 L 1 + 1 * (i 1).val = 256 * (L 1).val + (i 1).val; rw [k3_off18_eq]; show 256 * (L 1).val + 1 * (i 1).val = _; omega

theorem out_val (f : S2x4096.Idx → F .f32) (w : S256.Idx → F .f32) (i : S2x4096.Idx) (hi : i ∈ (oK L).view.set) :
    ∃ x : S256.Idx, (oK L).view.writes (Elt F) f [⟨Rect.whole S256, w⟩] i = w x ∧ (i 1).val = 256 * (L 1).val + (x 0).val := by
  obtain ⟨x, -, rfl⟩ := Finset.mem_map.mp hi
  refine ⟨x, (writes_whole_emb (F := F) (oK L).view f w x).trans (View.write_emb_of_mem (v := (oK L).view) _ _ (Finset.mem_univ x)), ?_⟩
  show (k3_off36 L 1) + 1 * (Shape.reshapeEquiv squeezes_S1x256_S256.numel_eq x 1).val = _
  rw [Shape.reshapeEquiv_cons_one (n := 1) (d := ![256]) squeezes_S1x256_S256.numel_eq x, k3_off36_eq]
  show 256 * (L 1).val + 1 * (x 0).val = _
  omega

theorem slab_out (sh : S16x4096.Idx → F .f32) (hsh : Rsh R d (cV L) sh) (t : Fin 256) (o : S2x4096.Idx → F .f32) (i : S2x4096.Idx)
    (h0 : (i 0).val = (L 0).val) (h1 : (i 1).val = 256 * (L 1).val + t.val) (ho : o i = colSum fun r => slab L sh (ix2 r t)) : Rout R d o i := by
  choose I hI hf using hsh
  refine ⟨fun r => I (ix2 r (⟨256 * (L 1).val + t.val, by have := L1_lt L; have := t.isLt; omega⟩ : Fin 4096)), fun r => hI _, ho.trans (congrArg colSum (funext fun r => ?_))⟩
  refine (hf _).trans ?_
  unfold shI shV
  rw [h0]
  refine congrArg (accT _ _ _ _ _ (16 * (L 0).val + r.val)) (funext fun a => Fin.ext ?_)
  exact h1.symm

theorem out_eq (f : S2x4096.Idx → F .f32) (w : S256.Idx → F .f32) (sh : S16x4096.Idx → F .f32) (hsh : Rsh R d (cV L) sh) (hw : SumTo (slab L sh) 256 w) :
    ((oK L).view.loc (thr d L) ↦[(oK L).view.set]{fullShare} (oK L).view.writes (Elt F) f [⟨Rect.whole S256, w⟩] : sProp (MM F))
      ⊢ outPart R d (L 0).val (L 1).val := by
  unfold outPart
  iintro H
  iexists _
  isplitr
  swap; · iapply (Entails.of_eq (pts_oK d L ((oK L).view.writes (Elt F) f [⟨Rect.whole S256, w⟩]))); iexact H
  ipureintro
  intro i hi'
  obtain ⟨x, hx, h1⟩ := out_val L f w i ((set_oK L) ▸ hi')
  have hx0 : (x 0).val < 256 := (x 0).isLt
  exact slab_out R d L sh hsh (x 0) _ i (Finset.mem_filter.mp hi').2.1 h1 (hx.trans (hw x hx0))

/-! ## The exchange -/

theorem shRow_cells (r : ℕ) : shRow r = (Finset.univ : Finset (Fin 16)).biUnion fun j => shCell r j.val := by
  ext i
  simp only [shRow, shCell, Finset.mem_biUnion, Finset.mem_filter, Finset.mem_univ, true_and]
  constructor
  · intro h
    exact ⟨⟨(i 1).val / 256, by have : (i 1).val < 4096 := (i 1).isLt; omega⟩, h, rfl⟩
  · rintro ⟨_, h, -⟩; exact h

theorem shCol_cells (j : ℕ) : shCol j = ((Finset.univ : Finset (Fin 16)).image Fin.val).biUnion fun r => shCell r j := by
  ext i
  simp only [shCol, shCell, Finset.mem_biUnion, Finset.mem_image, Finset.mem_filter, Finset.mem_univ, true_and]
  constructor
  · intro h
    exact ⟨(i 0).val, ⟨i 0, rfl⟩, rfl, h⟩
  · rintro ⟨_, -, -, h⟩; exact h

omit [FloatOps F] in
theorem cell_intro (c : Fin τ.nSC) (s : Finset S16x4096.Idx) (P : (S16x4096.Idx → F .f32) → Prop) (f : S16x4096.Idx → F .f32) (h : P f) :
    (shLoc d c ↦[s]{fullShare} f : sProp (MM F)) ⊢ iprop(∃ g : S16x4096.Idx → F .f32, ⌜P g⌝ ∗ shLoc d c ↦[s]{fullShare} g) := by
  iintro H
  iexists f
  isplitr
  · ipureintro; exact h
  iexact H

omit [FloatOps F] in
theorem cells_eq (c : Fin τ.nSC) (j : ℕ) (fs : ℕ → S16x4096.Idx → F .f32) :
    (bigSep ((Finset.univ : Finset (Fin 16)).image Fin.val) fun n => (shLoc d c ↦[shCell n j]{fullShare} fs n : sProp (MM F)))
      = shLoc d c ↦[shCol j]{fullShare} fun i : S16x4096.Idx => fs (i 0).val i := by
  rw [shCol_cells, pointsTo_biUnion]
  · refine bigSep_congr fun n _ => pointsTo_congr fun i hi => ?_
    have h : (i 0).val = n := (Finset.mem_filter.mp hi).2.1
    show fs n i = fs (i 0).val i
    rw [h]
  · intro t _ t' _ hne
    rw [Finset.disjoint_left]
    intro i hi hi'
    exact hne ((Finset.mem_filter.mp hi).2.1.symm.trans (Finset.mem_filter.mp hi').2.1)

omit [FloatOps F] in
theorem cells_join [Nonempty (F .f32)] (c : Fin τ.nSC) (j : ℕ) (P : (S16x4096.Idx → F .f32) → Prop)
    (hj : ∀ fs : ℕ → S16x4096.Idx → F .f32, (∀ r : Fin 16, P (fs r.val)) → P fun i => fs (i 0).val i) :
    (bigSep ((Finset.univ : Finset (Fin 16)).image Fin.val) fun n => iprop(∃ f : S16x4096.Idx → F .f32, ⌜P f⌝ ∗ shLoc d c ↦[shCell n j]{fullShare} f))
    ⊢ (iprop(∃ f : S16x4096.Idx → F .f32, ⌜P f⌝ ∗ shLoc d c ↦[shCol j]{fullShare} f) : sProp (MM F)) := by
  refine (bigSep_exists_pi _ (fun n (f : S16x4096.Idx → F .f32) => (iprop(⌜P f⌝ ∗ shLoc d c ↦[shCell n j]{fullShare} f) : sProp (MM F)))).trans ?_
  iintro ⟨%fs, H⟩
  ihave H := (bigSep_pure_sep ((Finset.univ : Finset (Fin 16)).image Fin.val) (fun n => P (fs n))
    (fun n => (shLoc d c ↦[shCell n j]{fullShare} fs n : sProp (MM F)))) $$ H
  icases H with ⟨%hfs, H⟩
  ihave H := (Entails.of_eq (cells_eq d c j fs)) $$ H
  iexists (fun i => fs (i 0).val i)
  isplitr
  · ipureintro
    exact hj fs fun r => hfs r.val (Finset.mem_image.mpr ⟨r, Finset.mem_univ _, rfl⟩)
  iexact H

theorem Rsh_join (c : Fin τ.nSC) (fs : ℕ → S16x4096.Idx → F .f32) (h : ∀ r : Fin 16, Rsh R d c (fs r.val)) : Rsh R d c (fun i => fs (i 0).val i) :=
  fun i => h (i 0) i

theorem pays_intro (hI : R d I) : (shLoc d (cV L) ↦[shRow (L 1).val]{fullShare} shI I (L 0).val : sProp (MM F))
    ⊢ bigSep Finset.univ fun j : Fin (grid3.bound 1) => (bR R R').payload (bcell d (cV L) (j.castLE hsub3)) rd (jV L).val := by
  have hR : Rsh R d (cV L) (shI I (L 0).val) := fun i => ⟨I, hI, rfl⟩
  generalize shI I (L 0).val = sh at hR
  simp only [bR, bRd_payload_1]
  rw [shRow_cells, pointsTo_biUnion]
  · exact bigSep_mono fun j _ => cell_intro d (cV L) _ (Rsh R d (cV L)) sh hR
  · intro t _ t' _ hne
    rw [Finset.disjoint_left]
    intro i hi hi'
    exact hne (Fin.ext ((Finset.mem_filter.mp hi).2.2.symm.trans (Finset.mem_filter.mp hi').2.2))

theorem pays_elim : (bigSep ((bR R R').duties (bcell d (cV L) (jV L)) rd \ ∅) fun n => (bR R R').payload (bcell d (cV L) (jV L)) rd n)
    ⊢ (iprop(∃ f : S16x4096.Idx → F .f32, ⌜Rsh R d (cV L) f⌝ ∗ shLoc d (cV L) ↦[shCol (L 1).val]{fullShare} f) : sProp (MM F)) := by
  have : Nonempty (F .f32) := ⟨Scalar.ofBits .f32 0x00000000#32⟩
  simp only [bR, bRd_payload_1]
  rw [Finset.sdiff_empty, bRd_duties _ _ _ _ _ _ (by decide)]
  exact cells_join d (cV L) (jV L).val (Rsh R d (cV L)) (Rsh_join R d (cV L))

end Cert.Proof.Scatter.Two

end
-- ==== Proof.Two.Tile.lean ====
/-
  The task of one tile, run once at a symbolic tile: the five fetches, the zeroing, the main loop,
  the exchange through the shared scratch, the row sums and the copy out.
-/
module

public import proofs.«01_k».proof.Proof.Two.Moves

@[expose] public section

noncomputable section

namespace Cert.Proof.Scatter.Two

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Tile

variable (R : InRel F) (R' : ShRel F) (I : In F) (d : Dev nD) (L : grid3.Coords)

omit [FloatOps F] in
theorem devRef_ne {b b' : Ref sig .scVector} (c : Fin τ.nSC) (j : Fin τ.nSub) (h : b ≠ b') :
    (Proc.scVector c j).devRef b ≠ (Proc.scVector c j).devRef b' := fun e => h (Proc.devRef_injective _ e)

omit [FloatOps F] in
theorem cell_ne {s s' : SemLoc sig} (t : Thread nD τ) (h : s ≠ s') : ((t, s) : GSem nD τ sig) ≠ (t, s') := fun e => h (congrArg Prod.snd e)

omit [FloatOps F] in
theorem ownSems0_V :
    (ownSems0 (thr d L) : sProp (MM F))
      = iprop(semVal ((thr d L, .dma cc3_scratch10.sem) : GSem nD τ sig) 0
          ∗ semVal ((thr d L, .dma cc3_scoped0.sem) : GSem nD τ sig) 0
          ∗ semVal ((thr d L, .dma cc3_scoped1.sem) : GSem nD τ sig) 0
          ∗ semVal ((thr d L, .dma cc3_scoped2.sem) : GSem nD τ sig) 0
          ∗ bigSep (((((ownCells (thr d L)).erase ((thr d L, .dma cc3_scratch10.sem) : GSem nD τ sig)).erase ((thr d L, .dma cc3_scoped0.sem) : GSem nD τ sig)).erase ((thr d L, .dma cc3_scoped1.sem) : GSem nD τ sig)).erase ((thr d L, .dma cc3_scoped2.sem) : GSem nD τ sig)) fun g => semVal g 0) := by
  unfold SparseCore.Cfg.ownSems0
  rw [SparseCore.bigSep_erase' ((mem_ownCells (g := ((thr d L, .dma cc3_scratch10.sem) : GSem nD τ sig))).mpr ⟨rfl, by show (SemLoc.dma cc3_scratch10.sem : SemLoc sig).isScoped .scVector = true; decide⟩),
    SparseCore.bigSep_erase' (Finset.mem_erase.mpr ⟨cell_ne _ (by decide), (mem_ownCells (g := ((thr d L, .dma cc3_scoped0.sem) : GSem nD τ sig))).mpr ⟨rfl, by show (SemLoc.dma cc3_scoped0.sem : SemLoc sig).isScoped .scVector = true; decide⟩⟩),
    SparseCore.bigSep_erase' (Finset.mem_erase.mpr ⟨cell_ne _ (by decide), Finset.mem_erase.mpr ⟨cell_ne _ (by decide), (mem_ownCells (g := ((thr d L, .dma cc3_scoped1.sem) : GSem nD τ sig))).mpr ⟨rfl, by show (SemLoc.dma cc3_scoped1.sem : SemLoc sig).isScoped .scVector = true; decide⟩⟩⟩),
    SparseCore.bigSep_erase' (Finset.mem_erase.mpr ⟨cell_ne _ (by decide), Finset.mem_erase.mpr ⟨cell_ne _ (by decide), Finset.mem_erase.mpr ⟨cell_ne _ (by decide), (mem_ownCells (g := ((thr d L, .dma cc3_scoped2.sem) : GSem nD τ sig))).mpr ⟨rfl, by show (SemLoc.dma cc3_scoped2.sem : SemLoc sig).isScoped .scVector = true; decide⟩⟩⟩⟩)]

set_option maxHeartbeats 1000000 in
omit [FloatOps F] in
theorem ownBufs_V :
    (ownBufs (thr d L) : sProp (MM F))
      = iprop((∃ f, (thr d L).loc cc3_scratch0 ↦{fullShare} f)
          ∗ (∃ f, (thr d L).loc cc3_scratch1 ↦{fullShare} f)
          ∗ (∃ f, (thr d L).loc cc3_scratch2 ↦{fullShare} f)
          ∗ (∃ f, (thr d L).loc cc3_scratch3 ↦{fullShare} f)
          ∗ (∃ f, (thr d L).loc cc3_scratch4 ↦{fullShare} f)
          ∗ (∃ f, (thr d L).loc cc3_scratch5 ↦{fullShare} f)
          ∗ (∃ f, (thr d L).loc cc3_scratch6 ↦{fullShare} f)
          ∗ (∃ f, (thr d L).loc cc3_scratch7 ↦{fullShare} f)
          ∗ (∃ f, (thr d L).loc cc3_scratch8 ↦{fullShare} f)
          ∗ bigSep ((((((((((ownRefs (τ := τ) (.scVector (cV L) (jV L))).erase ((Proc.scVector (cV L) (jV L)).devRef cc3_scratch0)).erase ((Proc.scVector (cV L) (jV L)).devRef cc3_scratch1)).erase ((Proc.scVector (cV L) (jV L)).devRef cc3_scratch2)).erase ((Proc.scVector (cV L) (jV L)).devRef cc3_scratch3)).erase ((Proc.scVector (cV L) (jV L)).devRef cc3_scratch4)).erase ((Proc.scVector (cV L) (jV L)).devRef cc3_scratch5)).erase ((Proc.scVector (cV L) (jV L)).devRef cc3_scratch6)).erase ((Proc.scVector (cV L) (jV L)).devRef cc3_scratch7)).erase ((Proc.scVector (cV L) (jV L)).devRef cc3_scratch8)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc3_scratch0) rfl),
    SparseCore.bigSep_erase' (Finset.mem_erase.mpr ⟨devRef_ne _ _ (by decide) , SparseCore.Cfg.mem_ownRefs_of_owner (p := Proc.scVector (cV L) (jV L)) (b := (Proc.scVector (cV L) (jV L)).devRef cc3_scratch1) rfl⟩),
    SparseCore.bigSep_erase' (Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc3_scratch2) rfl⟩⟩),
    SparseCore.bigSep_erase' (Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc3_scratch3) rfl⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc3_scratch4) rfl⟩⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc3_scratch5) rfl⟩⟩⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc3_scratch6) rfl⟩⟩⟩⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc3_scratch7) rfl⟩⟩⟩⟩⟩⟩⟩),
    SparseCore.bigSep_erase' (Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , Finset.mem_erase.mpr ⟨devRef_ne _ _ (by decide) , SparseCore.Cfg.mem_ownRefs_of_owner (p := Proc.scVector (cV L) (jV L)) (b := (Proc.scVector (cV L) (jV L)).devRef cc3_scratch8) rfl⟩⟩⟩⟩⟩⟩⟩⟩)]

/-- The zeroing loop: the first `128 k` elements are zero. -/
def invZ (k : ℕ) (_ : BitVec 32) : sProp (MM F) := iprop(∃ f, ⌜ZeroTo (128 * k) f⌝ ∗ (thr d L).loc cc3_scratch6 ↦{fullShare} f)

/-- The main loop: the tile's atoms, and the accumulator after `2 k` chunks. -/
def invM (fI : S1984.Idx → BitVec 32) (fQ fX fY fZ : S1952.Idx → F .f32) (k : ℕ) (_ : BitVec 32) : sProp (MM F) :=
  iprop(((thr d L).loc cc3_scratch0 ↦{fullShare} fI) ∗ ((thr d L).loc cc3_scratch1 ↦{fullShare} fQ) ∗ ((thr d L).loc cc3_scratch2 ↦{fullShare} fX)
        ∗ ((thr d L).loc cc3_scratch3 ↦{fullShare} fY) ∗ ((thr d L).loc cc3_scratch4 ↦{fullShare} fZ)
        ∗ (∃ e, (thr d L).loc cc3_scratch5 ↦{fullShare} e)
        ∗ (thr d L).loc cc3_scratch6 ↦{fullShare} accN I.ids I.q I.x I.y I.z (wN L) (2 * k))

/-- The summing loop: the first `16 k` columns are summed. -/
def invS (sl : S16x256.Idx → F .f32) (k : ℕ) (_ : BitVec 32) : sProp (MM F) :=
  iprop(((thr d L).loc cc3_scratch7 ↦{fullShare} sl) ∗ ∃ f, ⌜SumTo sl (16 * k) f⌝ ∗ (thr d L).loc cc3_scratch8 ↦{fullShare} f)

/-- What the task leaves. -/
def tilePost (O : CellTallies nD τ sig (HIx 2)) (W : Waits sig (HIx 2)) : sProp (MM F) :=
  iprop(((outPart R d (L 0).val (L 1).val ∗ shColPart d (cV L) (L 1).val) ∗ endAt d (cV L) (jV L))
            ∗ scopedBufs (thr d L) ∗ scopedSems0 (thr d L)
            ∗ ∃ W', ⌜∀ p ∈ W', p ∈ W ∨ p.2 = none ∨ p.2 = some (1 : Fin 2)⌝ ∗ owes (thr d L) O W')

/-- The accumulator after every trip, under a name. -/
theorem acc_pack : ((thr d L).loc cc3_scratch6 ↦{fullShare} accN I.ids I.q I.x I.y I.z (wN L) (2 * Scf.trips k3_t2_loop.lb k3_t2_loop.ub k3_t2_loop.st) : sProp (MM F))
    ⊢ iprop(∃ A : S4096.Idx → F .f32, ⌜A = accT I.ids I.q I.x I.y I.z (wN L)⌝
        ∗ (sA : Memref sig .scVector .vmem S4096 .f32).view.loc (thr d L) ↦{fullShare} A) := by
  iintro H
  iexists _
  isplitr
  swap; · iexact H
  ipureintro; rfl

/-- The slab the tile's columns land as, under a name. -/
theorem slab_pack (sh : S16x4096.Idx → F .f32) (b w : S16x256.Idx → F .f32) (hw : w = (colK L).view.read (Elt F) sh) :
    ((sB : Memref sig .scVector .vmem S16x256 .f32).view.loc (thr d L) ↦{fullShare} (sB : Memref sig .scVector .vmem S16x256 .f32).view.write (Elt F) b w Finset.univ : sProp (MM F))
    ⊢ iprop(∃ B : S16x256.Idx → F .f32, ⌜B = slab L sh⌝ ∗ (thr d L).loc cc3_scratch7 ↦{fullShare} B) := by
  have hw' : w = slab L sh := hw.trans (colRead L _)
  iintro H
  iexists w
  isplitr
  · ipureintro; exact hw'
  ihave H' := (Entails.of_eq (whole_write (F := F) d L cc3_scratch7 b w w rfl)) $$ [H]
  · iexact H
  iexact H'

set_option maxHeartbeats 1000000 in
/-- The task on vector subcore `(L 0, L 1)` of device `d`. -/
theorem tile_body (hF : (K (F := F)).Facts) (hpre : PreOK R) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ (kit R R' d (cV L) (jV L) ∗ bAt rd d (cV L) (jV L))
        ∗ (stPart R d (L 0).val (L 1).val ∗ shRowPart d (cV L) (L 1).val)
        ∗ scopedBufs (thr d L) ∗ scopedSems0 (thr d L) ∗ owes (thr d L) (O + oxV 1 d (cV L)) W)
      ⊢ wp frame (wpE (defs₀ (F := F)) 𝒱₀ (thr d L) none) Set.univ
          (cc3_sc_scatter L aI (Memref.isWhole_whole _) aQ (Memref.isWhole_whole _) aX (Memref.isWhole_whole _) aY (Memref.isWhole_whole _) aZ (Memref.isWhole_whole _)
            aO (Memref.isWhole_whole _) sI (Memref.isWhole_whole _) sQ (Memref.isWhole_whole _) sX (Memref.isWhole_whole _) sY (Memref.isWhole_whole _) sZ (Memref.isWhole_whole _)
            sE (Memref.isWhole_whole _) sA (Memref.isWhole_whole _) sB (Memref.isWhole_whole _) sR (Memref.isWhole_whole _) sS (Memref.isWhole_whole _)
            cc3_scratch10 cc3_scoped0 cc3_scoped1 cc3_scoped2)
          fun _ => tilePost R d L O W := by
  simp only [cc3_sc_scatter_eq_skeleton]; unfold cc3_sc_scatter_skel
  simp only [k3_part8_eq_skeleton]; unfold k3_part8_skel
  simp only [bind_assoc, pure_bind]
  rw [(K (F := F)).scopedBufs_V hF d (cV L) (jV L), SparseCore.Cfg.scopedSems0_V (Val := Elt F) d (cV L) (jV L), ownSems0_V, ownBufs_V]
  unfold kit bkit bAt stPart shRowPart inPts
  iintro ⟨#Hlv, ⟨⟨⟨%κ, #Hinv⟩, Htoks, Hcred⟩, Hat, #Hrch⟩, ⟨⟨⟨%I, %hR, Hi, Hq, Hx, Hy, Hz⟩, %fo, Ho⟩, %fsh, Hsh⟩,
    ⟨⟨%b0, Hb0⟩, ⟨%b1, Hb1⟩, ⟨%b2, Hb2⟩, ⟨%b3, Hb3⟩, ⟨%b4, Hb4⟩, ⟨%b5, Hb5⟩, ⟨%b6, Hb6⟩, ⟨%b7, Hb7⟩, ⟨%b8, Hb8⟩, Hbufs⟩,
    ⟨HsemG, HsemA, HsemB, HsemC, Hsems⟩, HO⟩
  have hO' : ∀ g, (O + oxV 1 d (cV L)) g none = 0 := fun g => by rw [Pi.add_apply, Finsupp.add_apply, hO g, oxV_none]
  ihave Hmw1 := (show levAts (K (F := F)).L (K (F := F)).lev ⊢ Transfers.MayWaits (thr d L) (default : HIx 2) (O + oxV 1 d (cV L)) from
    (K (F := F)).mayWaits_none (thr := thr d L) hO') $$ Hlv
  ihave Hmw2 := (show levAts (K (F := F)).L (K (F := F)).lev ⊢ Transfers.MayWaits (thr d L) (default : HIx 2) O from
    (K (F := F)).mayWaits_none (thr := thr d L) hO) $$ Hlv
  have hbatch : Transfers.BatchOf (thr d L) (.dma cc3_scratch10.sem) 5 := trivial
  ihave Hi' := (Entails.of_eq (pts_iK (F := F) d L _).symm) $$ Hi
  ihave Hq' := (Entails.of_eq (pts_qK (F := F) d L _).symm) $$ Hq
  ihave Hx' := (Entails.of_eq (pts_xK (F := F) d L _).symm) $$ Hx
  ihave Hy' := (Entails.of_eq (pts_yK (F := F) d L _).symm) $$ Hy
  ihave Hz' := (Entails.of_eq (pts_zK (F := F) d L _).symm) $$ Hz
  ihave Ho' := (Entails.of_eq (pts_oK (F := F) d L _).symm) $$ Ho
  ihave Hsh' := (Entails.of_eq (pts_rowK (F := F) d L _).symm) $$ Hsh
  ihave HI := (show ((thr d L).loc cc3_scratch0 ↦{fullShare} b0 : sProp (MM F)) ⊢ sIK.view.loc (thr d L) ↦{fullShare} b0 from Entails.refl _) $$ Hb0
  ihave HQ := (show ((thr d L).loc cc3_scratch1 ↦{fullShare} b1 : sProp (MM F)) ⊢ (sQ : Memref sig .scVector .vmem S1952 .f32).view.loc (thr d L) ↦{fullShare} b1 from Entails.refl _) $$ Hb1
  ihave HX := (show ((thr d L).loc cc3_scratch2 ↦{fullShare} b2 : sProp (MM F)) ⊢ (sX : Memref sig .scVector .vmem S1952 .f32).view.loc (thr d L) ↦{fullShare} b2 from Entails.refl _) $$ Hb2
  ihave HY := (show ((thr d L).loc cc3_scratch3 ↦{fullShare} b3 : sProp (MM F)) ⊢ (sY : Memref sig .scVector .vmem S1952 .f32).view.loc (thr d L) ↦{fullShare} b3 from Entails.refl _) $$ Hb3
  ihave HZ := (show ((thr d L).loc cc3_scratch4 ↦{fullShare} b4 : sProp (MM F)) ⊢ (sZ : Memref sig .scVector .vmem S1952 .f32).view.loc (thr d L) ↦{fullShare} b4 from Entails.refl _) $$ Hb4
  sl_exec
  sl_for (invZ d L) $$ [Hb6]
  case region =>
    intro k acc
    unfold invZ
    iintro Ha
    iapply (wp_t1 (F := F) d L k acc _) $$ Ha
    iintro Ha
    sl_step
    iexact Ha
  · unfold invZ
    iexists _
    isplitr
    swap; · iexact Hb6
    ipureintro; intro i hi; exact absurd hi (by omega)
  iintro %_ Ha
  unfold invZ
  icases Ha with ⟨%fz, %hz, Ha⟩
  sl_exec
  -- the atoms fetched
  ihave HI := (fetchI (F := F) I d L b0 _ rfl) $$ [HI]
  · iexact HI
  icases HI with ⟨%fI, %hI, HI⟩
  ihave HQ := (Entails.of_eq (whole_write (F := F) d L cc3_scratch1 b1 _ (fun i : S1952.Idx => I.q ((inR L).emb i)) rfl)) $$ [HQ]
  · iexact HQ
  ihave HX := (Entails.of_eq (whole_write (F := F) d L cc3_scratch2 b2 _ (fun i : S1952.Idx => I.x ((inR L).emb i)) rfl)) $$ [HX]
  · iexact HX
  ihave HY := (Entails.of_eq (whole_write (F := F) d L cc3_scratch3 b3 _ (fun i : S1952.Idx => I.y ((inR L).emb i)) rfl)) $$ [HY]
  · iexact HY
  ihave HZ := (Entails.of_eq (whole_write (F := F) d L cc3_scratch4 b4 _ (fun i : S1952.Idx => I.z ((inR L).emb i)) rfl)) $$ [HZ]
  · iexact HZ
  have hz' : fz = accN I.ids I.q I.x I.y I.z (wN L) (2 * 0) := funext fun i => hz i (i 0).isLt
  rw [hz']
  sl_for (invM I d L fI (fun i : S1952.Idx => I.q ((inR L).emb i)) (fun i : S1952.Idx => I.x ((inR L).emb i))
    (fun i : S1952.Idx => I.y ((inR L).emb i)) (fun i : S1952.Idx => I.z ((inR L).emb i))) $$ [HI HQ HX HY HZ Hb5 Ha]
  case region =>
    intro k acc
    unfold invM
    iintro H
    iapply (wp_trip (F := F) d L I.ids I.q I.x I.y I.z (hpre d I hR) (wN L) fI _ _ _ _ hI (fetch_holdsV L _) (fetch_holdsV L _) (fetch_holdsV L _) (fetch_holdsV L _) k acc _) $$ H
    iintro H
    sl_step
    iexact H
  · unfold invM
    isplitl [HI]; · iexact HI
    isplitl [HQ]; · iexact HQ
    isplitl [HX]; · iexact HX
    isplitl [HY]; · iexact HY
    isplitl [HZ]; · iexact HZ
    isplitl [Hb5]; · iexists _; iexact Hb5
    iexact Ha
  iintro %_ HM
  unfold invM
  icases HM with ⟨HI, HQ, HX, HY, HZ, ⟨%e5, Hb5⟩, Ha⟩
  ihave Ha := (acc_pack (F := F) I d L) $$ Ha
  icases Ha with ⟨%A, %hA, Ha⟩
  sl_exec
  -- the row handed out, the columns received
  ihave Hrow := (Entails.of_eq (row_eq (F := F) I d L fsh A hA)) $$ [Hsh']
  · iexact Hsh'
  ihave Hpays := (pays_intro (F := F) R R' I d L hR) $$ Hrow
  iapply (SparseCore.wp_subcoreBarrier 𝒱₀ none EB (bR R R') d (sc := cV L) (i := jV L) sc_bar0 (grid3.bound 1) hsub3 (L 1) rfl κ (fun _ => rd) (jV L).val
      (fun j => bRd_mem _ _ d _ _ _ rd (by decide)) (fun _ => rfl) (bRd_expect _ _ d _ _ rd (by decide)) (some 1) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) (8 * rd + 3) (fun p hp => by
        rw [Finset.mem_singleton] at hp; subst hp
        show (K (F := F)).lev (bcell d (cV L) (jV L)) (some 1) ≤ 8 * rd + 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hreach, Hgot⟩
  imod (endAt_intro R R' κ d (cV L) (jV L)) $$ [Hat Hreach] with Hbar
  · isplitr
    · iapply (SparseCore.ent (bigSep_elim (Φ := fun j : Fin (grid3.bound 1) =>
        (cellInv EB (bR R R') (κ (bcell d (cV L) (j.castLE hsub3))) (bcell d (cV L) (j.castLE hsub3)) : sProp (MM F))) (Finset.mem_univ (L 1)))); iexact Hinv
    isplitl [Hat] <;> iassumption
  ihave Hcol := (pays_elim (F := F) R R' d L) $$ Hgot
  icases Hcol with ⟨%sh, %hsh, Hcol⟩
  ihave Hcol' := (Entails.of_eq (pts_colK (F := F) d L _).symm) $$ Hcol
  ihave HB := (show ((thr d L).loc cc3_scratch7 ↦{fullShare} b7 : sProp (MM F)) ⊢ (sB : Memref sig .scVector .vmem S16x256 .f32).view.loc (thr d L) ↦{fullShare} b7 from Entails.refl _) $$ Hb7
  sl_exec
  ihave HB := (slab_pack (F := F) d L sh b7 _ rfl) $$ [HB]
  · iexact HB
  icases HB with ⟨%B, %hB, HB⟩
  sl_for (invS d L B) $$ [HB Hb8]
  case region =>
    intro k acc
    unfold invS
    iintro H
    iapply (wp_t3 (F := F) d L B k acc _) $$ H
    iintro H
    sl_step
    iexact H
  · unfold invS
    isplitl [HB]; · iexact HB
    iexists _
    isplitr
    swap; · iexact Hb8
    ipureintro; intro i hi; exact absurd hi (by omega)
  iintro %_ HS
  unfold invS
  icases HS with ⟨HB, ⟨%fr, %hr, Hb8⟩⟩
  ihave HR := (show ((thr d L).loc cc3_scratch8 ↦{fullShare} fr : sProp (MM F)) ⊢ (sR : Memref sig .scVector .vmem S256 .f32).view.loc (thr d L) ↦{fullShare} fr from Entails.refl _) $$ Hb8
  sl_exec
  ihave Hout := (out_eq (F := F) R d L fo fr sh hsh (hB ▸ hr)) $$ [Ho']
  · iexact Ho'
  sl_step
  unfold tilePost
  rw [(K (F := F)).scopedBufs_V hF d (cV L) (jV L), SparseCore.Cfg.scopedSems0_V (Val := Elt F) d (cV L) (jV L), ownSems0_V, ownBufs_V]
  isplitl [Hout Hcol' Hbar]
  · isplitr [Hbar]; swap; · iexact Hbar
    isplitl [Hout]; · iexact Hout
    unfold shColPart; iexists _
    iapply (Entails.of_eq (pts_colK (F := F) d L _)); iexact Hcol'
  isplitl [HI HQ HX HY HZ Hb5 Ha HB HR Hbufs]
  · isplitl [HI]; · iexists _; iexact HI
    isplitl [HQ]; · iexists _; iexact HQ
    isplitl [HX]; · iexists _; iexact HX
    isplitl [HY]; · iexists _; iexact HY
    isplitl [HZ]; · iexists _; iexact HZ
    isplitl [Hb5]; · iexists _; iexact Hb5
    isplitl [Ha]; · iexists A; iexact Ha
    isplitl [HB]; · iexists _; iexact HB
    isplitl [HR]; · iexists fr; iexact HR
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact .inl hp

end Tile

end Cert.Proof.Scatter.Two

end
-- ==== Proof.Two.Split.lean ====
/-
  How the call's arrays split over the tasks and come back, and how a core's shared scratch goes
  out by rows and comes back by columns.
-/
module

public import proofs.«01_k».proof.Proof.Parts
public import proofs.«01_k».proof.Proof.Two.Tile

@[expose] public section

noncomputable section

namespace Cert.Proof.Scatter.Two

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_sc_scatter (coordsV c s) aI (Memref.isWhole_whole _) aQ (Memref.isWhole_whole _) aX (Memref.isWhole_whole _)
          aY (Memref.isWhole_whole _) aZ (Memref.isWhole_whole _) aO (Memref.isWhole_whole _) sI (Memref.isWhole_whole _) sQ (Memref.isWhole_whole _)
          sX (Memref.isWhole_whole _) sY (Memref.isWhole_whole _) sZ (Memref.isWhole_whole _) sE (Memref.isWhole_whole _) sA (Memref.isWhole_whole _)
          sB (Memref.isWhole_whole _) sR (Memref.isWhole_whole _) sS (Memref.isWhole_whole _) cc3_scratch10 cc3_scoped0 cc3_scoped1 cc3_scoped2) ⟨⟩ c s := rfl

theorem inSet_disj (c c' : Fin 2) (j j' : Fin 16) (h : (c, j) ≠ (c', j')) : Disjoint (inSet (16 * c.val + j.val)) (inSet (16 * c'.val + j'.val)) := by
  refine Finset.disjoint_left.mpr fun i hi hi' => h ?_
  have h1 := (Finset.mem_filter.mp hi).2
  have h2 := (Finset.mem_filter.mp hi').2
  refine Prod.ext (Fin.ext ?_) (Fin.ext ?_)
  · show c.val = c'.val; omega
  · show j.val = j'.val; omega

theorem inSet_cov (i : S62464.Idx) : ∃ (c : Fin 2) (j : Fin 16), i ∈ inSet (16 * c.val + j.val) := by
  have hi : (i 0).val < 62464 := (i 0).isLt
  refine ⟨⟨(i 0).val / 1952 / 16, by omega⟩, ⟨(i 0).val / 1952 % 16, by omega⟩, Finset.mem_filter.mpr ⟨Finset.mem_univ _, ?_⟩⟩
  show (i 0).val / 1952 = 16 * ((i 0).val / 1952 / 16) + (i 0).val / 1952 % 16
  omega

variable (R : InRel F)

/-- The five vectors, whole. -/
def wholeIn (I : In F) (d : Dev nD) : sProp (MM F) :=
  iprop((iLoc d ↦{fullShare} I.ids) ∗ (qLoc d ↦{fullShare} I.q) ∗ (xLoc d ↦{fullShare} I.x) ∗ (yLoc d ↦{fullShare} I.y) ∗ (zLoc d ↦{fullShare} I.z))

omit [FloatOps F] in
theorem all_in_eq (I : In F) (d : Dev nD) :
    (bigSep Finset.univ fun c : Fin 2 => bigSep Finset.univ fun j : Fin 16 => (inPts I d c.val j.val : sProp (MM F))) = wholeIn I d := by
  unfold inPts wholeIn
  simp only [bigSep_sep']
  rw [pts_parts (ℓ := iLoc d) I.ids (fun c j => inSet (16 * c + j)) inSet_disj inSet_cov, pts_parts (ℓ := qLoc d) I.q (fun c j => inSet (16 * c + j)) inSet_disj inSet_cov,
    pts_parts (ℓ := xLoc d) I.x (fun c j => inSet (16 * c + j)) inSet_disj inSet_cov, pts_parts (ℓ := yLoc d) I.y (fun c j => inSet (16 * c + j)) inSet_disj inSet_cov,
    pts_parts (ℓ := zLoc d) I.z (fun c j => inSet (16 * c + j)) inSet_disj inSet_cov]

omit [FloatOps F] in
theorem all_out_eq (d : Dev nD) (f : S2x4096.Idx → F .f32) :
    (bigSep Finset.univ fun c : Fin 2 => bigSep Finset.univ fun j : Fin 16 => (outPts d c.val j.val f : sProp (MM F))) = oLoc d ↦{fullShare} f := by
  unfold outPts
  rw [pts_parts (ℓ := oLoc d) f outSet outSet_disj outSet_cov]

omit [FloatOps F] in
theorem stPart_intro (I : In F) (d : Dev nD) (hI : R d I) (f : S2x4096.Idx → F .f32) (c j : ℕ) :
    iprop(inPts I d c j ∗ outPts d c j f) ⊢ (stPart R d c j : sProp (MM F)) := by
  unfold stPart
  iintro ⟨Hi, Ho⟩
  isplitl [Hi]
  · iexists I
    isplitr
    · ipureintro; exact hI
    iexact Hi
  iexists f; iexact Ho

omit [FloatOps F] in
/-- The arrays whole are every tile's pieces. -/
theorem all_in (I : In F) (d : Dev nD) (hI : R d I) (f : S2x4096.Idx → F .f32) :
    iprop(wholeIn I d ∗ oLoc d ↦{fullShare} f)
      ⊢ (bigSep Finset.univ fun c : Fin 2 => bigSep Finset.univ fun j : Fin 16 => stPart R d c.val j.val : sProp (MM F)) := by
  rw [← all_in_eq, ← all_out_eq, ← bigSep_sep']
  refine bigSep_mono fun c _ => ?_
  rw [← bigSep_sep']
  exact bigSep_mono fun j _ => stPart_intro R I d hI f c.val j.val

/-- What the tiles bring back is the result whole. -/
theorem all_out (d : Dev nD) :
    (bigSep Finset.univ fun c : Fin 2 => bigSep Finset.univ fun j : Fin 16 => (outPart R d c.val j.val : sProp (MM F)))
      ⊢ iprop(∃ o : S2x4096.Idx → F .f32, ⌜∀ i, Rout R d o i⌝ ∗ oLoc d ↦{fullShare} o) := by
  unfold outPart outPts
  refine (pts_parts_join (ℓ := oLoc d) (fun _ => (Scalar.ofBits .f32 0x00000000#32 : F .f32)) outSet (fun c j f => ∀ i ∈ outSet c j, Rout R d f i)
    (fun c j f g h hf i hi => by
      obtain ⟨I, hI, he⟩ := hf i hi
      exact ⟨I, hI, (h i hi).symm.trans he⟩) outSet_disj outSet_cov).trans ?_
  iintro ⟨%o, %h, H⟩
  iexists o
  isplitr
  · ipureintro
    intro i
    obtain ⟨c, j, hi⟩ := outSet_cov i
    exact h c j i hi
  iexact H

omit [FloatOps F] in
/-- The shared scratch is among the sequencer's own buffers. -/
theorem ownBufs_S (d : Dev nD) (c : Fin τ.nSC) :
    (ownBufs (S d c) : sProp (MM F))
      = iprop((∃ f, shLoc d c ↦{fullShare} f) ∗ bigSep ((ownRefs (τ := τ) (.scScalar c)).erase (shRefOf 1 c)) fun b => iprop(∃ f, ((d, b) : Loc nD τ sig) ↦{fullShare} f)) := by
  unfold SparseCore.Cfg.ownBufs
  have h : shRefOf 1 c ∈ ownRefs (τ := τ) (sig := sig) (.scScalar c) := (mem_ownRefs (p := Proc.scScalar c) (b := shRefOf 1 c)).mpr rfl
  exact SparseCore.bigSep_erase' h

omit [FloatOps F] in
theorem split_go (d : Dev nD) (c : Fin τ.nSC) (Φ : Fin 16 → sProp (MM F)) (fsh : Buf (Elt F) (shLoc d c)) :
    iprop((bigSep Finset.univ Φ) ∗ shLoc d c ↦{fullShare} fsh)
      ⊢ (bigSep Finset.univ fun j : Fin 16 => iprop(Φ j ∗ shRowPart d c j.val) : sProp (MM F)) := by
  rw [← pts_tiles fsh shRow shRow_disj shRow_cov, ← bigSep_sep']
  unfold shRowPart
  exact bigSep_mono fun j _ => sep_mono_right (BI.BIClass.exists_intro (Φ := fun f => (shLoc d c ↦[shRow j.val]{fullShare} f : sProp (MM F))) fsh)

theorem join_td (d : Dev nD) (c : Fin τ.nSC) (Φ Ψ : Fin 16 → sProp (MM F)) :
    (bigSep Finset.univ fun j : Fin 16 => iprop((Φ j ∗ shColPart d c j.val) ∗ Ψ j))
      ⊢ (iprop((bigSep Finset.univ fun j : Fin 16 => iprop(Φ j ∗ Ψ j)) ∗ ∃ f, shLoc d c ↦{fullShare} f) : sProp (MM F)) := by
  rw [bigSep_sep', bigSep_sep', bigSep_sep']
  unfold shColPart
  iintro ⟨⟨HΦ, Hsh⟩, HΨ⟩
  isplitl [HΦ HΨ]
  · isplitl [HΦ] <;> iassumption
  iapply (pts_tiles_join (ℓ := shLoc d c) (fun _ => (Scalar.ofBits .f32 0x00000000#32 : F .f32)) shCol shCol_disj shCol_cov)
  iexact Hsh

end Cert.Proof.Scatter.Two

end
-- ==== Proof.Pay.lean ====
/-
  What the handshakes of both calls carry, and what each task holds and owes of the barriers.
-/
module

public import proofs.«01_k».proof.Proof.One.Split
public import proofs.«01_k».proof.Proof.Two.Split
public import Idealize.ShloMosaic.Lib.Pipeline.Frame

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

instance bAt_storable (q : ℕ) (d : Dev nD) (c : Fin τ.nSC) (i : Fin τ.nSub) : BI.Storable (upEmb : UEmb _ (MM F)) (bAt q d c i) := by
  unfold bAt; infer_instance

variable (R₁ : One.InRel F) (R₂ : Two.InRel F)

/-! ## What the handshakes carry -/

/-- The second call's hand-over to a tile: its part of the arrays, and where the first call left its barrier cells. -/
def stTwo (d : Dev nD) (c : Fin ((K (F := F)).nCore 1)) (i : Fin ((K (F := F)).nSub 1)) : sProp (MM F) :=
  iprop(Two.stPart R₂ d c.val i.val ∗ bAt 1 d (Two.coreOf (F := F) c) ((K (F := F)).sub 1 i))

instance stTwo_storable (d : Dev nD) (c : Fin ((K (F := F)).nCore 1)) (i : Fin ((K (F := F)).nSub 1)) : BI.Storable (upEmb : UEmb _ (MM F)) (stTwo R₂ d c i) := by
  unfold stTwo; infer_instance

def P : (K (F := F)).Pay (nD := nD) (Val := Elt F) (Name := ℕ) (U := UU) where
  st := fun q d c => match q with
    | 0 => bigSep Finset.univ fun i : Fin ((K (F := F)).nSub 0) => One.stPart R₁ d c.val i.val
    | 1 => bigSep Finset.univ fun i : Fin ((K (F := F)).nSub 1) => stTwo R₂ d c i
  dn := fun q d c => match q with
    | 0 => bigSep Finset.univ fun i : Fin ((K (F := F)).nSub 0) => iprop(One.outPart R₁ d c.val i.val ∗ One.endAt d (One.coreOf (F := F) c) ((K (F := F)).sub 0 i))
    | 1 => bigSep Finset.univ fun i : Fin ((K (F := F)).nSub 1) => iprop(Two.outPart R₂ d c.val i.val ∗ Two.endAt d (Two.coreOf (F := F) c) ((K (F := F)).sub 1 i))
  go := fun q d c i => match q with
    | 0 => iprop(One.stPart R₁ d c.val i.val ∗ One.shRowPart d (One.coreOf (F := F) c) i.val)
    | 1 => iprop(stTwo R₂ d c i ∗ Two.shRowPart d (Two.coreOf (F := F) c) i.val)
  td := fun q d c i => match q with
    | 0 => iprop((One.outPart R₁ d c.val i.val ∗ One.shColPart d (One.coreOf (F := F) c) i.val) ∗ One.endAt d (One.coreOf (F := F) c) ((K (F := F)).sub 0 i))
    | 1 => iprop((Two.outPart R₂ d c.val i.val ∗ Two.shColPart d (Two.coreOf (F := F) c) i.val) ∗ Two.endAt d (Two.coreOf (F := F) c) ((K (F := F)).sub 1 i))
  x := fun q thr => match q, thr with
    | 0, (d, .scVector c i) => iprop(bkit (One.Rsh R₁) (Two.Rsh R₂) 0 d c i ∗ bAt 0 d c i)
    | 1, (d, .scVector c i) => bkit (One.Rsh R₁) (Two.Rsh R₂) 1 d c i
    | _, _ => iprop(emp)
  ox := fun q thr => match thr with
    | (d, .scVector c _) => oxV q d c
    | _ => 0
  ox_band := by
    intro q thr g ι h
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (tileOf j) (show (sc_bar0 : Sem sig) ≠ (K (F := F)).go from sc_bar0_ne_go)]
      show 8 * q.val + 3 ≤ 8 * q.val + 3 ∧ 8 * q.val + 3 ≤ 8 * q.val + 5
      exact ⟨le_rfl, by omega⟩
  ox_tc := fun _ _ => rfl
  ox_sc := fun _ _ _ h => absurd rfl h
  ox_vc := by
    intro q d c i h
    match q with
    | 0 => exact ⟨rfl, c.isLt, i.isLt⟩
    | 1 => exact ⟨rfl, c.isLt, i.isLt⟩

instance P_storable : (P R₁ R₂).IsStorable where
  st q d c := match q with
    | 0 => (inferInstance : BI.Storable (upEmb : UEmb _ (MM F)) (bigSep Finset.univ fun i : Fin ((K (F := F)).nSub 0) => One.stPart R₁ d c.val i.val))
    | 1 => (inferInstance : BI.Storable (upEmb : UEmb _ (MM F)) (bigSep Finset.univ fun i : Fin ((K (F := F)).nSub 1) => stTwo R₂ d c i))
  dn q d c := match q with
    | 0 => (inferInstance : BI.Storable (upEmb : UEmb _ (MM F))
      (bigSep Finset.univ fun i : Fin ((K (F := F)).nSub 0) => iprop(One.outPart R₁ d c.val i.val ∗ One.endAt d (One.coreOf (F := F) c) ((K (F := F)).sub 0 i))))
    | 1 => (inferInstance : BI.Storable (upEmb : UEmb _ (MM F))
      (bigSep Finset.univ fun i : Fin ((K (F := F)).nSub 1) => iprop(Two.outPart R₂ d c.val i.val ∗ Two.endAt d (Two.coreOf (F := F) c) ((K (F := F)).sub 1 i))))
  go q d c i := match q with
    | 0 => (inferInstance : BI.Storable (upEmb : UEmb _ (MM F)) iprop(One.stPart R₁ d c.val i.val ∗ One.shRowPart d (One.coreOf (F := F) c) i.val))
    | 1 => (inferInstance : BI.Storable (upEmb : UEmb _ (MM F)) iprop(stTwo R₂ d c i ∗ Two.shRowPart d (Two.coreOf (F := F) c) i.val))
  td q d c i := match q with
    | 0 => (inferInstance : BI.Storable (upEmb : UEmb _ (MM F))
      iprop((One.outPart R₁ d c.val i.val ∗ One.shColPart d (One.coreOf (F := F) c) i.val) ∗ One.endAt d (One.coreOf (F := F) c) ((K (F := F)).sub 0 i)))
    | 1 => (inferInstance : BI.Storable (upEmb : UEmb _ (MM F))
      iprop((Two.outPart R₂ d c.val i.val ∗ Two.shColPart d (Two.coreOf (F := F) c) i.val) ∗ Two.endAt d (Two.coreOf (F := F) c) ((K (F := F)).sub 1 i)))

end Cert.Proof.Scatter

end
-- ==== Proof.Launch.lean ====
/-
  What the launch deals out of the certificate's ghost state: to each task its barrier kits, to each
  TensorCore the state of its pipelines' staging cells.
-/
module

public import proofs.«01_k».proof.Proof.Pay
public import proofs.«01_k».proof.Proof.Gen.KernelIdeal.Launch

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (R₁ : One.InRel F) (R₂ : Two.InRel F)

/-! ## The certificate's ghost state at the launch, and what each task is dealt of it -/

abbrev DCI : Type := Dev nD × Fin τ.nSC × Fin τ.nSub
abbrev bcell₃ (x : DCI) : GSem nD τ sig := bcell x.1 x.2.1 x.2.2

/-- The tiles' barrier cells. -/
def bCells : Finset (GSem nD τ sig) := (Finset.univ : Finset DCI).image bcell₃
/-- Tile `i`'s token in tile `j`'s cell, for every pair of tiles of a core and each of the two rounds. -/
def bToks : Finset (GSem nD τ sig × ℕ × ℕ) :=
  ((Finset.univ : Finset DCI) ×ˢ Finset.univ).image fun x : DCI × (Fin 2 × Fin 16) => (bcell x.1.1 x.1.2.1 (tileOf x.2.2), x.2.1.val, x.1.2.2.val)

/-- Every pipeline on every core: no two staging buffers share a semaphore. -/
theorem pcell_inj : Function.Injective (Pipeline.cellOf (nD := nD) (τ := τ) (Pipeline.pin (pcfgs (F := F)) fun p => (cfgs p).toPCfg_adm)) := cellOf_inj
/-- The pipelines, each at its one configuration. -/
abbrev pins : Fin 2 → Pipeline.Cfg sig Λ₀ := Pipeline.pin (pcfgs (F := F)) fun p => (cfgs p).toPCfg_adm

def u₀ : UU := (initOf (K (F := F)).hsCells (K (F := F)).hsToks, (initOf bCells bToks,
  (initOf (Pipeline.cells (pins (F := F)) pcell_inj) (Pipeline.launchToks (pins (F := F)) pcell_inj), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (c : UP) : (ownU ((a, (b, (c, 1))) : UU) : sProp (MM F)) ⊢ iprop(BI.own (EH a) ∗ BI.own (EB b) ∗ BI.own (EP c)) := by
  have h1 : (ownU ((a, (b, (c, 1))) : UU) : sProp (MM F)) ⊢ iprop(BI.own (EH a) ∗ ownU ((1, (b, (c, 1))) : UU)) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, (c, (1 : Counters))))))
  have h2 : (ownU ((1, (b, (c, 1))) : UU) : sProp (MM F)) ⊢ iprop(BI.own (EB b) ∗ BI.own (EP c)) :=
    BI.own_op_elim ((uEmb (nD := nD) (sig := sig) (Ix := HIx 2) (Val := Elt F) (Name := ℕ) (U := UU) (Lvl := ℕ)).toEmb.op_of_mem
      (Prod.mk_mem_op (URA.mem_op_one 1) (Prod.mk_mem_op (URA.mem_op_one b) (URA.mem_one_op (c, (1 : Counters))))))
  exact h1.trans (sep_mono_right h2)

omit [FloatOps F] in
theorem bCells_eq (Φ : GSem nD τ sig → sProp (MM F)) : bigSep bCells Φ = bigSep Finset.univ fun x : DCI => Φ (bcell₃ x) := by
  unfold bCells; exact SparseCore.bigSep_image_of_injOn (fun a _ b _ e => bcell₃_injective e) Φ

/-- Every barrier semaphore at zero, out of the free semaphores the launch hands over. -/
theorem sems_b : ((K (F := F)).freeOn (· ∈ bCells) : sProp (MM F)) ⊢ bigSep bCells fun g => semVal g 0 := by
  rw [bCells_eq]
  unfold SparseCore.Cfg.freeOn
  refine sep_elim_right.trans (bigSep_mono fun dci _ => ?_)
  exact bigSep_elim (Φ := fun sm : SemLoc sig => (semVal (V dci.1 dci.2.1 dci.2.2, sm) 0 : sProp (MM F))) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ _)⟩)

/-- The barrier cells' invariants, allocated at once. -/
theorem invs_b : iprop((bigSep bCells fun g => (semVal g 0 : sProp (MM F))) ∗ bigSep bCells fun g => roundState EB (bRd (One.Rsh R₁) (Two.Rsh R₂)) g 0)
    ⊢ |={Set.univ}=> iprop(∃ κ : GSem nD τ sig → ℕ, bigSep bCells fun g => cellInv EB (bRd (One.Rsh R₁) (Two.Rsh R₂)) (κ g) g) := by
  refine (Rounds.bodies_intro EB (bRd (One.Rsh R₁) (Two.Rsh R₂)) bCells).trans ((inv_alloc_family bCells (Rounds.body EB (bRd (One.Rsh R₁) (Two.Rsh R₂))) ∅ (E := Set.univ)).trans ?_)
  iintro H
  imod H with ⟨%κ, -, Hinv⟩
  imodintro; iexists κ; iexact Hinv

theorem sum_tallyAt_one (g : GSem nD τ sig) (ι : HIx 2) (n : ℕ) : ∑ _ : Fin n, tallyAt g ι 1 = (tallyAt g ι n : CellTallies nD τ sig (HIx 2)) := by
  induction n with
  | zero => rw [Finset.univ_eq_empty, Finset.sum_empty, tallyAt_zero]
  | succ n ih => rw [Fin.sum_univ_castSucc, ih, tallyAt_add]

/-- One tile's debts for both calls, regrouped: each tile the sixteen units of its own cell, of each call. -/
theorem creds_core (d : Dev nD) (c : Fin τ.nSC) (q : Fin 2) :
    (bigSep Finset.univ fun _ : Fin τ.nSub => (cred (oxV q d c) : sProp (MM F)))
      = bigSep Finset.univ fun i : Fin τ.nSub => (cred (tallyAt (bcell d c i) (some q) 16) : sProp (MM F)) := by
  unfold oxV
  simp only [SparseCore.Cfg.cred_finsum]
  rw [bigSep_univ_comm]
  refine bigSep_congr fun j _ => ?_
  rw [← SparseCore.Cfg.cred_finsum, sum_tallyAt_one]; rfl

theorem oxFrom_V (d : Dev nD) (c : Fin τ.nSC) (i : Fin τ.nSub) : (P R₁ R₂).oxFrom 0 (V d c i) = oxV 0 d c + oxV 1 d c := by
  rw [show (0 : ℕ) = (0 : Fin 2).val from rfl, (P R₁ R₂).oxFrom_step, show (0 : Fin 2).val + 1 = (1 : Fin 2).val from rfl, (P R₁ R₂).oxFrom_step,
    (P R₁ R₂).oxFrom_end _ (n := (1 : Fin 2).val + 1) le_rfl, add_zero]; rfl

theorem creds_two (d : Dev nD) (c : Fin τ.nSC) :
    (bigSep Finset.univ fun i : Fin τ.nSub => (cred ((P R₁ R₂).oxFrom 0 (V d c i)) : sProp (MM F)))
      ⊢ bigSep Finset.univ fun _ : Fin τ.nSub => iprop(cred (oxV 0 d c) ∗ cred (oxV 1 d c)) := by
  refine bigSep_mono fun i _ => ?_
  rw [oxFrom_V]
  exact (cred_add _ _).1

/-- The credit for the tasks' own debts. -/
theorem creds_b : ((P R₁ R₂).oxCred : sProp (MM F)) ⊢ iprop((bigSep Finset.univ fun dci : DCI => cred (tallyAt (bcell₃ dci) (some 0) 16))
    ∗ bigSep Finset.univ fun dci : DCI => cred (tallyAt (bcell₃ dci) (some 1) 16)) := by
  unfold SparseCore.Cfg.Pay.oxCred
  rw [SparseCore.Cfg.bigSep_threads (fun thr : Thread nD τ => (cred ((P R₁ R₂).oxFrom 0 thr) : sProp (MM F)))]
  refine sep_elim_right.trans (sep_elim_right.trans ?_)
  rw [← bigSep_sep', bigSep_univ_prod, bigSep_univ_prod (fun dci : DCI => (iprop(cred (tallyAt (bcell₃ dci) (some 0) 16) ∗ cred (tallyAt (bcell₃ dci) (some 1) 16)) : sProp (MM F)))]
  refine bigSep_mono fun d _ => ?_
  rw [bigSep_univ_prod, bigSep_univ_prod (fun ci : Fin τ.nSC × Fin τ.nSub =>
    (iprop(cred (tallyAt (bcell₃ (d, ci)) (some 0) 16) ∗ cred (tallyAt (bcell₃ (d, ci)) (some 1) 16)) : sProp (MM F)))]
  refine bigSep_mono fun c _ => ?_
  rw [bigSep_sep']
  refine (creds_two R₁ R₂ d c).trans ?_
  rw [bigSep_sep', creds_core, creds_core]

omit [FloatOps F] in
/-- A persistent resource beside a big separating conjunction goes to each conjunct. -/
theorem bigSep_frame {I : Type} [DecidableEq I] {R : sProp (MM F)} [BI.Persistent R] {s : Finset I} {Φ Ψ : I → sProp (MM F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp (MM F)))
    = iprop((bigSep Finset.univ fun dci : DCI => bigSep Finset.univ fun j : Fin 16 => dutyTok EB (bcell dci.1 dci.2.1 (tileOf j)) 0 dci.2.2.val)
      ∗ bigSep Finset.univ fun dci : DCI => bigSep Finset.univ fun j : Fin 16 => dutyTok EB (bcell dci.1 dci.2.1 (tileOf j)) 1 dci.2.2.val) := by
  unfold bToks
  rw [SparseCore.bigSep_image_of_injOn, SparseCore.bigSep_product, ← bigSep_sep']
  · refine bigSep_congr fun dci _ => ?_
    rw [bigSep_univ_prod, show (Finset.univ : Finset (Fin 2)) = {0, 1} from rfl, SparseCore.bigSep_insert' (by decide), bigSep_singleton]; rfl
  rintro ⟨⟨d, c, i⟩, r, j⟩ - ⟨⟨d', c', i'⟩, r', j'⟩ - e
  have e1 := (Prod.mk.inj (Prod.mk.inj e).1).1
  have er : r = r' := Fin.ext (Prod.mk.inj (Prod.mk.inj e).2).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  subst er
  rfl

omit [FloatOps F] in
theorem bigSep_calls (Φ : Fin 2 → sProp (MM F)) : bigSep Finset.univ Φ = iprop(Φ 0 ∗ Φ 1) := by
  rw [show (Finset.univ : Finset (Fin 2)) = {0, 1} from rfl, SparseCore.bigSep_insert' (by decide), bigSep_singleton]

theorem Px_T (d : Dev nD) : (bigSep Finset.univ fun q : Fin 2 => (P R₁ R₂).x q (SparseCore.T d)) = iprop(emp ∗ emp) := bigSep_calls _
theorem Px_S (d : Dev nD) (c : Fin τ.nSC) : (bigSep Finset.univ fun q : Fin 2 => (P R₁ R₂).x q (S d c)) = iprop(emp ∗ emp) := bigSep_calls _
theorem Px_V (d : Dev nD) (c : Fin τ.nSC) (i : Fin τ.nSub) : (bigSep Finset.univ fun q : Fin 2 => (P R₁ R₂).x q (V d c i))
    = iprop((bkit (One.Rsh R₁) (Two.Rsh R₂) 0 d c i ∗ bAt 0 d c i) ∗ bkit (One.Rsh R₁) (Two.Rsh R₂) 1 d c i) := bigSep_calls _

/-- What every tile is handed alike: every barrier cell's invariant, and that each has reached round 0. -/
abbrev sharedKit : sProp (MM F) :=
  iprop((∃ κ : GSem nD τ sig → ℕ, bigSep Finset.univ fun x : DCI => cellInv EB (bRd (One.Rsh R₁) (Two.Rsh R₂)) (κ (bcell₃ x)) (bcell₃ x))
    ∗ bigSep Finset.univ fun x : DCI => reached EB (bcell₃ x) 0)
/-- A tile's tokens and credit for one call. -/
abbrev ownKit (q : Fin 2) (dci : DCI) : sProp (MM F) :=
  iprop((bigSep Finset.univ fun j : Fin 16 => dutyTok EB (bcell dci.1 dci.2.1 (tileOf j)) q.val dci.2.2.val)
    ∗ cred (tallyAt (bcell₃ dci) (some q) 16))
abbrev ownKits (dci : DCI) : sProp (MM F) := iprop(atPos EB (bcell₃ dci) 0 ∅ 0 ∗ ownKit 0 dci ∗ ownKit 1 dci)

/-- One tile's kit for one call out of those. -/
theorem kit_intro (q : Fin 2) (dci : DCI) :
    iprop(sharedKit R₁ R₂ ∗ ownKit q dci) ⊢ (bkit (One.Rsh R₁) (Two.Rsh R₂) q dci.1 dci.2.1 dci.2.2 : sProp (MM F)) := by
  obtain ⟨d, c, i⟩ := dci
  iintro ⟨⟨#Hinv, -⟩, Htok, Hcred⟩
  unfold bkit
  isplitr
  · icases Hinv with ⟨%κ, Hinv⟩
    iexists κ
    iapply (SparseCore.ent (bigSep_frame (s := (Finset.univ : Finset (Fin 16))) (Φ := fun _ => iprop(emp))
      (R := bigSep Finset.univ fun x : DCI => cellInv EB (bRd (One.Rsh R₁) (Two.Rsh R₂)) (κ (bcell₃ x)) (bcell₃ x)) fun j _ =>
        sep_elim_left.trans (bigSep_elim (Φ := fun x : DCI => (cellInv EB (bRd (One.Rsh R₁) (Two.Rsh R₂)) (κ (bcell₃ x)) (bcell₃ x) : sProp (MM F)))
          (Finset.mem_univ ((d, c, tileOf j) : DCI)))))
    isplitl; · iexact Hinv
    rw [bigSep_emp']; iempintro
  isplitl [Htok]; · iexact Htok
  iexact Hcred

theorem at_intro (dci : DCI) :
    iprop(sharedKit R₁ R₂ ∗ atPos EB (bcell₃ dci) 0 ∅ 0) ⊢ (bAt 0 dci.1 dci.2.1 dci.2.2 : sProp (MM F)) := by
  obtain ⟨d, c, i⟩ := dci
  iintro ⟨⟨-, #Hr⟩, Hat⟩
  unfold bAt
  isplitl [Hat]; · iexact Hat
  iapply (SparseCore.ent (bigSep_frame (s := (Finset.univ : Finset (Fin 16))) (Φ := fun _ => iprop(emp))
    (R := bigSep Finset.univ fun x : DCI => reached EB (bcell₃ x) 0) fun j _ =>
      sep_elim_left.trans (bigSep_elim (Φ := fun x : DCI => (reached EB (bcell₃ x) 0 : sProp (MM F))) (Finset.mem_univ ((d, c, tileOf j) : DCI)))))
  isplitl; · iexact Hr
  rw [bigSep_emp']; iempintro

theorem kits_intro (dci : DCI) : iprop(sharedKit R₁ R₂ ∗ ownKits dci)
    ⊢ (iprop((bkit (One.Rsh R₁) (Two.Rsh R₂) 0 dci.1 dci.2.1 dci.2.2 ∗ bAt 0 dci.1 dci.2.1 dci.2.2) ∗ bkit (One.Rsh R₁) (Two.Rsh R₂) 1 dci.1 dci.2.1 dci.2.2) : sProp (MM F)) := by
  iintro ⟨#Hsh, Hat, H0, H1⟩
  isplitl [Hat H0]
  · isplitl [H0]
    · iapply (kit_intro R₁ R₂ 0 dci)
      isplitr; · iexact Hsh
      iexact H0
    iapply (at_intro R₁ R₂ dci)
    isplitr; · iexact Hsh
    iexact Hat
  iapply (kit_intro R₁ R₂ 1 dci)
  isplitr; · iexact Hsh
  iexact H1

/-- Each tile its kits. -/
theorem kits_deal :
    iprop(sharedKit R₁ R₂ ∗ bigSep Finset.univ fun dci : DCI => ownKits dci)
      ⊢ (bigSep Finset.univ fun thr : Thread nD τ => bigSep Finset.univ fun q : Fin 2 => (P R₁ R₂).x q thr : sProp (MM F)) := by
  rw [SparseCore.Cfg.bigSep_threads (fun thr : Thread nD τ => bigSep Finset.univ fun q : Fin 2 => (P R₁ R₂).x q thr)]
  simp only [Px_T, Px_S, Px_V, bigSep_sep', bigSep_emp']
  simp only [← bigSep_sep']
  iintro ⟨#Hsh, H⟩
  isplitr; · isplitr <;> iempintro
  isplitr; · isplitr <;> iempintro
  iapply (bigSep_frame (R := sharedKit R₁ R₂) (Φ := ownKits (F := F)) fun dci _ => kits_intro R₁ R₂ dci)
  isplitr; · iexact Hsh
  iexact H

/-- What the launch deals each TensorCore: the ghost state of its pipelines' staging cells, before either region. -/
def G (d : Dev nD) : sProp (MM F) :=
  iprop((bigSep Finset.univ fun p : Fin 2 => Pipeline.cellsGhost (pins (F := F)) EP p d) ∗ bigSep Finset.univ fun p : Fin 2 => Pipeline.toksInit (pins (F := F)) EP p d)

theorem hu₀ : iprop(ownU (u₀ (F := F)) ∗ (P R₁ R₂).oxCred ∗ (K (F := F)).freeOn (· ∈ bCells))
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 2 => (P R₁ R₂).x q thr) : sProp (MM F)) := by
  unfold u₀
  iintro ⟨Hu, Hcred, Hfree⟩
  ihave H := (ownU_split _ _ _) $$ Hu
  icases H with ⟨HH, HB, HP⟩
  imod (Rounds.fund EB (bRd (One.Rsh R₁) (Two.Rsh R₂)) bCells bToks) $$ HB with ⟨Hst, #Hr, Hat, Htok⟩
  imod (Pipeline.fund_ghost (pins (F := F)) EP pcell_inj) $$ HP with ⟨Hpg, Hpt⟩
  ihave Hsems := (sems_b (F := F)) $$ Hfree
  imod (invs_b R₁ R₂) $$ [Hsems Hst] with ⟨%κ, #Hinv⟩
  · isplitl [Hsems] <;> iassumption
  ihave Hcred' := (creds_b R₁ R₂) $$ Hcred
  icases Hcred' with ⟨Hc0, Hc1⟩
  ihave Hinv' := (Entails.of_eq (bCells_eq (F := F) fun g => cellInv EB (bRd (One.Rsh R₁) (Two.Rsh R₂)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  icases Htok' with ⟨Ht0, Ht1⟩
  imodintro
  isplitl [HH]; · iexact HH
  isplitl [Hpg Hpt]
  · unfold G
    rw [bigSep_sep']
    isplitl [Hpg] <;> iassumption
  iapply (kits_deal R₁ R₂)
  isplitr
  · isplitl; · iexists κ; iexact Hinv'
    iexact Hr'
  unfold ownKits ownKit
  simp only [bigSep_sep']
  isplitl [Hat']; · iexact Hat'
  isplitl [Ht0 Hc0]
  · isplitl [Ht0]; · iexact Ht0
    iexact Hc0
  isplitl [Ht1]; · iexact Ht1
  iexact Hc1

end Cert.Proof.Scatter

end
-- ==== Proof.One.Region.lean ====
/-
  The region that computes the charges and the charge-weighted positions, block by block: what its
  arrays may hold when it ends, and the region as a step of `@main`.
-/
module

public import proofs.«01_k».proof.Proof.One.Body
public import proofs.«01_k».proof.Proof.Launch
public import Idealize.ShloMosaic.Lib.Pipeline.RegionArraysF

@[expose] public section

noncomputable section

namespace Cert.Proof.Scatter.One

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

/-- The buffers as the region finds them. -/
abbrev Val₀ (F : FTy → Type) : Type := Dev nD → Valuation τ sig (Elt F)

variable (V : Val₀ F) (O : Dev nD → CellTallies nD τ sig (HIx 2)) (B : Dev nD → Set (SemLoc sig × HIx 2))

/-- Window `w`'s array as the region finds it. -/
abbrev arrV (c : Dev nD) (w : Fin cfg0.W) : Buf (Elt F) ((cfg0.win w).arr.view.loc (c.tc : Thread nD τ)) :=
  V c (Proc.devRef .tc (Pipeline.arrRef spec0 w))

/-- What a fetch of window `w`'s block at point `t` leaves in a staging buffer: the block where the array has it,
    anything past the array's end. -/
def blockAt (c : Dev nD) (w : Fin cfg0.W) (t : Fin cfg0.N) (Y : (cfg0.win w).block.Idx → Elt F (cfg0.win w).elt) : Prop :=
  ∃ d, Y = (cfg0.win w).fill (cfg0.grid.coords t) d (((cfg0.win w).blk t).view.read (Elt F) (arrV V c w))

/-- The charges of block `t`. -/
def outQ (c : Dev nD) (t : Fin cfg0.N) (X : S8192.Idx → F .f32) : Prop :=
  ∃ Y0 Y2 Y3, blockAt V c 0 t Y0 ∧ blockAt V c 2 t Y2 ∧ blockAt V c 3 t Y3 ∧ X = k0_pay4 (cfg0.grid.coords t) Y2 Y0 Y3
/-- The charges times a coordinate, of block `t`. -/
def outX (c : Dev nD) (t : Fin cfg0.N) (X : S8192.Idx → F .f32) : Prop :=
  ∃ Y0 Y1 Y2 Y3, blockAt V c 0 t Y0 ∧ blockAt V c 1 t Y1 ∧ blockAt V c 2 t Y2 ∧ blockAt V c 3 t Y3 ∧ X = k0_pay5 (cfg0.grid.coords t) Y2 Y0 Y3 Y1
def outY (c : Dev nD) (t : Fin cfg0.N) (X : S8192.Idx → F .f32) : Prop :=
  ∃ Y0 Y1 Y2 Y3, blockAt V c 0 t Y0 ∧ blockAt V c 1 t Y1 ∧ blockAt V c 2 t Y2 ∧ blockAt V c 3 t Y3 ∧ X = k0_pay6 (cfg0.grid.coords t) Y2 Y0 Y3 Y1
def outZ (c : Dev nD) (t : Fin cfg0.N) (X : S8192.Idx → F .f32) : Prop :=
  ∃ Y0 Y1 Y2 Y3, blockAt V c 0 t Y0 ∧ blockAt V c 1 t Y1 ∧ blockAt V c 2 t Y2 ∧ blockAt V c 3 t Y3 ∧ X = k0_pay7 (cfg0.grid.coords t) Y2 Y0 Y3 Y1

/-- The region's proof data: inputs left as found, outputs as the body computes them; what the core owes and the waits
    it has recorded stay as they are. -/
def rdat (c : Dev nD) : RDat τ (Elt F) (HIx 2) ℕ UU ℕ cfg0 c where
  A w := arrV V c w
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => outQ V c t X
    | ⟨5, _⟩ => fun _ X => outX V c t X
    | ⟨6, _⟩ => fun _ X => outY V c t X
    | ⟨7, _⟩ => fun _ X => outZ V c t X
    | ⟨_ + 8, h⟩ => absurd h (Nat.not_lt.2 (Nat.le_add_left _ _))
  Φ _ := Pipeline.scopedRest (Ix := HIx 2) (Name := ℕ) (U := UU) (Lvl := ℕ) (Val := Elt F) spec0 c
  q _ := fullShare
  owed _ := O c
  recorded _ := B c

theorem finds_0 (c : Dev nD) (t : Fin cfg0.N) (Y) (h : (rdat V O B c).Finds 0 t Y) : blockAt V c 0 t Y :=
  ((rdat V O B c).finds_of_fetch (fetch0_0 t) Y).mp h
theorem finds_1 (c : Dev nD) (t : Fin cfg0.N) (Y) (h : (rdat V O B c).Finds 1 t Y) : blockAt V c 1 t Y :=
  ((rdat V O B c).finds_of_fetch (fetch0_1 t) Y).mp h
theorem finds_2 (c : Dev nD) (t : Fin cfg0.N) (Y) (h : (rdat V O B c).Finds 2 t Y) : blockAt V c 2 t Y :=
  (rdat V O B c).finds_in_eq_fetched 2 rfl (fun _ _ _ => rfl) (fun _ _ _ h => h) t Y h
theorem finds_3 (c : Dev nD) (t : Fin cfg0.N) (Y) (h : (rdat V O B c).Finds 3 t Y) : blockAt V c 3 t Y :=
  (rdat V O B c).finds_in_eq_fetched 3 rfl (fun _ _ _ => rfl) (fun _ _ _ h => h) t Y h

/-- The body table's row at point `t`'s slots is the body there. -/
theorem defs₀_row (t : Fin cfg0.N) :
    defs₀ (F := F) .tc cfg0.body (cfg0.bodyArgs t (cfg0.slots t)) = bodyAt0 t := rfl

theorem body_at (c : Dev nD) (t : Fin cfg0.N) (Y : (w : Fin cfg0.W) → (cfg0.win w).block.Idx → Elt F (cfg0.win w).elt)
    (h0 : blockAt V c 0 t (Y 0)) (h1 : blockAt V c 1 t (Y 1)) (h2 : blockAt V c 2 t (Y 2)) (h3 : blockAt V c 3 t (Y 3)) (Φ Ω : sProp (MM F)) :
    iprop(Φ ∗ Ω ∗ owns (c : Thread nD τ) (st0_0 t) fullShare (Y 0) ∗ owns (c : Thread nD τ) (st0_1 t) fullShare (Y 1) ∗ owns (c : Thread nD τ) (st0_2 t) fullShare (Y 2)
        ∗ owns (c : Thread nD τ) (st0_3 t) fullShare (Y 3) ∗ owns (c : Thread nD τ) (st0_4 t) fullShare (Y 4) ∗ owns (c : Thread nD τ) (st0_5 t) fullShare (Y 5)
        ∗ owns (c : Thread nD τ) (st0_6 t) fullShare (Y 6) ∗ owns (c : Thread nD τ) (st0_7 t) fullShare (Y 7))
      ⊢ wp frame (wpE (defs₀ (F := F)) 𝒱₀ (c : Thread nD τ) none) Set.univ (bodyAt0 t) fun _ =>
        iprop(Φ ∗ Ω ∗ (∃ X, ⌜X = Y 0⌝ ∗ owns (c : Thread nD τ) (st0_0 t) fullShare X) ∗ (∃ X, ⌜X = Y 1⌝ ∗ owns (c : Thread nD τ) (st0_1 t) fullShare X)
          ∗ (∃ X, ⌜X = Y 2⌝ ∗ owns (c : Thread nD τ) (st0_2 t) fullShare X) ∗ (∃ X, ⌜X = Y 3⌝ ∗ owns (c : Thread nD τ) (st0_3 t) fullShare X)
          ∗ (∃ X, ⌜outQ V c t X⌝ ∗ owns (c : Thread nD τ) (st0_4 t) fullShare X) ∗ (∃ X, ⌜outX V c t X⌝ ∗ owns (c : Thread nD τ) (st0_5 t) fullShare X)
          ∗ (∃ X, ⌜outY V c t X⌝ ∗ owns (c : Thread nD τ) (st0_6 t) fullShare X) ∗ (∃ X, ⌜outZ V c t X⌝ ∗ owns (c : Thread nD τ) (st0_7 t) fullShare X)) := by
  unfold bodyAt0
  iintro ⟨HΦ, HΩ, H0, H1, H2, H3, H4, H5, H6, H7⟩
  iapply (body_run c Set.univ (grid0.coords t) _ _ _ _ _ _ _ _ _ _ _ _ _ _ _ _ (Y 0) (Y 1) (Y 2) (Y 3) (Y 4) (Y 5) (Y 6) (Y 7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HΩ]; · iexact HΩ
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; exact ⟨Y 0, Y 2, Y 3, h0, h2, h3, rfl⟩
  isplitl [H5]
  · iexists _; isplitr; swap; (· iexact H5); ipureintro; exact ⟨Y 0, Y 1, Y 2, Y 3, h0, h1, h2, h3, rfl⟩
  isplitl [H6]
  · iexists _; isplitr; swap; (· iexact H6); ipureintro; exact ⟨Y 0, Y 1, Y 2, Y 3, h0, h1, h2, h3, rfl⟩
  · iexists _; isplitr; swap; (· iexact H7); ipureintro; exact ⟨Y 0, Y 1, Y 2, Y 3, h0, h1, h2, h3, rfl⟩

theorem body_obligation (c : Dev nD) : (rdat V O B c).BodyObligation (defs₀ (F := F)) 𝒱₀ none Set.univ := fun t Y hY => by
  rw [bigSep_W0, bigSep_W0, defs₀_row]
  exact triple_restated (body_at V c t Y (finds_0 V O B c t _ (hY 0)) (finds_1 V O B c t _ (hY 1)) (finds_2 V O B c t _ (hY 2)) (finds_3 V O B c t _ (hY 3)) _ _)
    rfl .rfl fun _ => .rfl

/-! ## The region as a step of `@main` -/

/-- Proof data for a pipeline this step does not run. -/
def junk (cfg : Pipeline.Cfg sig Λ₀) (c : Dev nD) : RDat τ (Elt F) (HIx 2) ℕ UU ℕ cfg c where
  A _ := Classical.arbitrary _
  after _ _ _ _ := True
  Φ _ := BI.emp
  q _ := fullShare
  owed _ := 0

abbrev adm : (p : Fin 2) → (pcfgs (F := F) p).Adm := fun p => (cfgs p).toPCfg_adm

/-- The proof data of both pipelines, this one's as above. -/
def rdats : (p : Fin 2) → (c : Dev nD) → RDat τ (Elt F) (HIx 2) ℕ UU ℕ (pins (F := F) p) c
  | 0 => rdat V O B
  | 1 => junk cfg2

theorem arrays_held (c : Dev nD) (G : (w : Fin cfg0.W) → Buf (Elt F) ((cfg0.win w).arr.view.loc (c.tc : Thread nD τ))) (W : Valuation τ sig (Elt F))
    (hG : ∀ w, G w = W (Proc.devRef .tc (Pipeline.arrRef spec0 w))) :
    ((rdat V O B c).arrays G : sProp (MM F)) = StableHlo.held (c.tc : Thread nD τ) (Pipeline.arrRefs spec0) W := by
  refine (Pipeline.RDat.arrays_eq (pcfgs (F := F)) adm (rdats V O B) 0 c launch0.arr_whole (fun w => ?_) G).trans ?_
  · show (rdat V O B c).share w = fullShare
    unfold RDat.share; split <;> rfl
  unfold StableHlo.held Pipeline.arrRefs
  rw [bigSep_map, show Finset.univ.image (Pipeline.arrRef spec0) = Finset.univ.map ⟨Pipeline.arrRef spec0, launch0.win.arr_inj⟩ from
    (Finset.map_eq_image ⟨Pipeline.arrRef spec0, launch0.win.arr_inj⟩ Finset.univ).symm, bigSep_map]
  exact bigSep_congr fun w _ => by rw [hG]; rfl

/-- What the arrays may hold when the region ends, against what they held when it began. -/
def After (c : Dev nD) (W : Valuation τ sig (Elt F)) : Prop :=
  (∀ b, b ∉ ({Proc.devRef .tc main_v4_0, Proc.devRef .tc main_v4_1, Proc.devRef .tc main_v4_2, Proc.devRef .tc main_v4_3} : Finset (DevRef τ sig)) → W b = V c b)
    ∧ (rdat V O B c).ArrAt 4 cfg0.N (W (Proc.devRef .tc main_v4_0)) ∧ (rdat V O B c).ArrAt 5 cfg0.N (W (Proc.devRef .tc main_v4_1))
    ∧ (rdat V O B c).ArrAt 6 cfg0.N (W (Proc.devRef .tc main_v4_2)) ∧ (rdat V O B c).ArrAt 7 cfg0.N (W (Proc.devRef .tc main_v4_3))

theorem arraysAt_held (c : Dev nD) :
    ((rdat V O B c).arraysAt cfg0.N : sProp (MM F)) ⊢ iprop(∃ W, ⌜After V O B c W⌝ ∗ StableHlo.held (c.tc : Thread nD τ) (Pipeline.arrRefs spec0) W) := by
  have h1 : ((rdat V O B c).arraysAt cfg0.N : sProp (MM F)) ⊢ iprop(∃ A : (w : Fin cfg0.W) → Buf (Elt F) ((cfg0.win w).arr.view.loc (c.tc : Thread nD τ)),
      ⌜∀ w, (rdat V O B c).ArrAt w cfg0.N (A w)⌝ ∗ (rdat V O B c).arrays A) := by
    unfold RDat.arraysAt RDat.arrays
    refine (BI.bigSep_exists_pi Finset.univ _).trans ?_
    iintro ⟨%A, H⟩
    ihave H' := (BI.bigSep_pure_sep Finset.univ (fun w => (rdat V O B c).ArrAt w cfg0.N (A w)) _) $$ H
    icases H' with ⟨%hA, H⟩
    iexists A
    isplitr
    · ipureintro; exact fun w => hA w (Finset.mem_univ w)
    iexact H
  refine h1.trans ?_
  iintro ⟨%A, %hA, H⟩
  have hin : ∀ w : Fin cfg0.W, (cfg0.win w).isOut = false → A w = arrV V c w := fun w hw => by
    have h := hA w
    rw [(rdat V O B c).ArrAt_in w hw] at h
    exact h
  let W : Valuation τ sig (Elt F) := Function.update (Function.update (Function.update (Function.update (V c)
    (Proc.devRef .tc main_v4_0) (A 4)) (Proc.devRef .tc main_v4_1) (A 5)) (Proc.devRef .tc main_v4_2) (A 6)) (Proc.devRef .tc main_v4_3) (A 7)
  have w4 : W (Proc.devRef .tc main_v4_0) = A 4 := by
    dsimp only [W]
    rw [Function.update_of_ne (by decide), Function.update_of_ne (by decide), Function.update_of_ne (by decide), Function.update_self]
  have w5 : W (Proc.devRef .tc main_v4_1) = A 5 := by
    dsimp only [W]
    rw [Function.update_of_ne (by decide), Function.update_of_ne (by decide), Function.update_self]
  have w6 : W (Proc.devRef .tc main_v4_2) = A 6 := by
    dsimp only [W]
    rw [Function.update_of_ne (by decide), Function.update_self]
  have w7 : W (Proc.devRef .tc main_v4_3) = A 7 := by
    dsimp only [W]
    rw [Function.update_self]
  have wo : ∀ b, b ∉ ({Proc.devRef .tc main_v4_0, Proc.devRef .tc main_v4_1, Proc.devRef .tc main_v4_2, Proc.devRef .tc main_v4_3} : Finset (DevRef τ sig)) → W b = V c b := fun b hb => by
    simp only [Finset.mem_insert, Finset.mem_singleton, not_or] at hb
    dsimp only [W]
    rw [Function.update_of_ne hb.2.2.2, Function.update_of_ne hb.2.2.1, Function.update_of_ne hb.2.1, Function.update_of_ne hb.1]
  have hG : ∀ w, A w = W (Proc.devRef .tc (Pipeline.arrRef spec0 w)) := fun w => match w with
    | ⟨0, _⟩ => (hin 0 rfl).trans (wo _ (by decide)).symm
    | ⟨1, _⟩ => (hin 1 rfl).trans (wo _ (by decide)).symm
    | ⟨2, _⟩ => (hin 2 rfl).trans (wo _ (by decide)).symm
    | ⟨3, _⟩ => (hin 3 rfl).trans (wo _ (by decide)).symm
    | ⟨4, _⟩ => w4.symm
    | ⟨5, _⟩ => w5.symm
    | ⟨6, _⟩ => w6.symm
    | ⟨7, _⟩ => w7.symm
  iexists W
  isplitr
  · ipureintro; exact ⟨wo, w4 ▸ hA 4, w5 ▸ hA 5, w6 ▸ hA 6, w7 ▸ hA 7⟩
  iapply (Entails.of_eq (arrays_held V O B c A W hG))
  iexact H

/-- The region's record: entered with its arrays held and the core owing `O c`, its recorded waits among `B c`; left with
    the arrays at contents they may then hold, the core owing the same. -/
def seg (hO : ∀ c g, O c g none = 0) (hB : ∀ c p, p.2 = none → p ∈ B c) :
    Pipeline.RDat.RegionSeg (pcfgs (F := F)) adm (rdats V O B) (none : HIx 2) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation V O B c
  hwaits c := Pipeline.RDat.cellsWaits_intro (Pipeline.pin (pcfgs (F := F)) adm) (rdats V O B) none 0 c fun w s t => (K (F := F)).mayWait_none _ (hO c)
  pre c := iprop(StableHlo.held (c.tc : Thread nD τ) (Pipeline.arrRefs spec0) (V c) ∗ ∃ W : Finset (SemLoc sig × HIx 2), ⌜(↑W : Set _) ⊆ B c⌝ ∗ owes (c : Thread nD τ) (O c) W)
  post c := iprop((∃ W, ⌜After V O B c W⌝ ∗ StableHlo.held (c.tc : Thread nD τ) (Pipeline.arrRefs spec0) W)
    ∗ ∃ W : Finset (SemLoc sig × HIx 2), ⌜(↑W : Set _) ⊆ B c⌝ ∗ owes (c : Thread nD τ) (O c) W)
  X _ := BI.emp
  Y _ := BI.emp
  Z _ := BI.emp
  hentry c := by
    show _ ⊢ |={Set.univ}=> iprop((rdat V O B c).arrays (rdat V O B c).A ∗ _ ∗ (rdat V O B c).owesAt none 0 ∗ _ ∗ _)
    rw [Pipeline.ownSems0_none, Pipeline.prefHeld_of_none _ rfl,
      show (rdat V O B c).arrays (rdat V O B c).A = (StableHlo.held (c.tc : Thread nD τ) (Pipeline.arrRefs spec0) (V c) : sProp (MM F)) from
        arrays_held V O B c _ (V c) fun _ => rfl]
    iintro ⟨⟨Ha, HO⟩, -, -⟩
    imodintro
    isplitl [Ha]; · iexact Ha
    isplitr; · iempintro
    isplitl [HO]
    · unfold RDat.owesAt Pipeline.owesWithin RDat.bound
      icases HO with ⟨%W, %hW, HO⟩; iexists W; isplitr; · ipureintro; exact fun _ h => Or.inl (hW h)
      iexact HO
    isplitr <;> iempintro
  hin c := by
    show iprop(_ ∗ _ ∗ Pipeline.scopedRest spec0 c) ⊢ Pipeline.scopedRest spec0 c
    iintro ⟨-, -, Hr⟩
    iexact Hr
  hout c := by
    show Pipeline.scopedRest spec0 c ⊢ iprop(_ ∗ _ ∗ Pipeline.scopedRest spec0 c)
    rw [Pipeline.ownSems0_none]
    iintro Hr
    isplitr; · iempintro
    isplitr; · iempintro
    iexact Hr
  hexit c := by
    show iprop((rdat V O B c).arraysAt cfg0.N ∗ (rdat V O B c).owesAt none (Fin.last _) ∗ _ ∗ _) ⊢ _
    iintro ⟨Ha, HO, -, -⟩
    imodintro
    isplitl [Ha]; · iapply (arraysAt_held V O B c); iexact Ha
    unfold RDat.owesAt Pipeline.owesWithin RDat.bound
    icases HO with ⟨%W, %hW, HO⟩; iexists W; isplitr
    · ipureintro
      intro p hp
      rcases hW hp with h | ⟨w, s, rfl⟩
      · exact h
      · exact hB c _ rfl
    iexact HO

/-- The region as a step: its arrays among the buffers `S` held, it changes only its four results. -/
theorem region_wp (hO : ∀ c g, O c g none = 0) (hB : ∀ c p, p.2 = none → p ∈ B c) (c : Dev nD) (S : Finset (DevRef τ sig)) (hS : Pipeline.arrRefs spec0 ⊆ S)
    (W₀ : Valuation τ sig (Elt F)) (hW₀ : ∀ b ∈ Pipeline.arrRefs spec0, W₀ b = V c b)
    {α : Type} (k : PUnit → Prog (TpuEff nD τ sig (Elt F) ΛP .tc) α) (Q : α → sProp (MM F)) :
    iprop(((boundary (c.tc : Thread nD τ) ∗ (∃ W, ⌜After V O B c W⌝ ∗ StableHlo.held (c.tc : Thread nD τ) S
              (fun b => if b ∈ Pipeline.arrRefs spec0 then W b else W₀ b))
            ∗ ∃ W : Finset (SemLoc sig × HIx 2), ⌜(↑W : Set _) ⊆ B c⌝ ∗ owes (c : Thread nD τ) (O c) W)
          -∗ wp frame (wpE (D (F := F)) 𝒱 (c.tc : Thread nD τ) none) Set.univ (k ⟨⟩) Q)
        ∗ boundary (c.tc : Thread nD τ) ∗ StableHlo.held (c.tc : Thread nD τ) S W₀
        ∗ (∃ W : Finset (SemLoc sig × HIx 2), ⌜(↑W : Set _) ⊆ B c⌝ ∗ owes (c : Thread nD τ) (O c) W)
        ∗ levAts (K (F := F)).L (K (F := F)).lev
        ∗ Pipeline.cellsGhost (pins (F := F)) EP 0 c ∗ Pipeline.toksInit (pins (F := F)) EP 0 c)
      ⊢ wp frame (wpE (D (F := F)) 𝒱 (c.tc : Thread nD τ) none) Set.univ (.op (.customCall (Pipeline.entry 0) ()) k) Q := by
  have h := Pipeline.RDat.RegionSeg.wp (pcfgs (F := F)) adm (rdats V O B) none pcell_inj EP defs₀ 𝒱₀ (K (F := F)).L (K (F := F)).lev
    (seg V O B hO hB) c none (fun u hu => nomatch hu) k Q
  refine (show _ ⊢ _ from ?_).trans h
  rw [StableHlo.held_sub_split (c.tc : Thread nD τ) hS W₀]
  have e1 : (StableHlo.held (c.tc : Thread nD τ) (Pipeline.arrRefs spec0) W₀ : sProp (MM F)) = StableHlo.held (c.tc : Thread nD τ) (Pipeline.arrRefs spec0) (V c) :=
    StableHlo.held_congr _ hW₀
  rw [e1]
  iintro ⟨Hk, Hb, ⟨Ha, Hr⟩, HO, HL, Hg, Ht⟩
  isplitl [Hk Hr]
  · iintro ⟨Hb, HP⟩
    ihave HP := (Entails.of_eq (show (seg V O B hO hB).post c = iprop((∃ W, ⌜After V O B c W⌝ ∗ StableHlo.held (c.tc : Thread nD τ) (Pipeline.arrRefs spec0) W)
      ∗ ∃ W : Finset (SemLoc sig × HIx 2), ⌜(↑W : Set _) ⊆ B c⌝ ∗ owes (c : Thread nD τ) (O c) W) from rfl)) $$ HP
    icases HP with ⟨⟨%W, %hW, Ha⟩, HO⟩
    iapply Hk
    isplitl [Hb]; · iexact Hb
    isplitl [Ha Hr]
    · iexists W
      isplitr; · ipureintro; exact hW
      rw [StableHlo.held_sub_split (c.tc : Thread nD τ) hS]
      isplitl [Ha]
      · iapply (Entails.of_eq (StableHlo.held_congr (c.tc : Thread nD τ) fun b hb => (if_pos hb).symm)); iexact Ha
      · iapply (Entails.of_eq (StableHlo.held_congr (c.tc : Thread nD τ) fun b hb => (if_neg (Finset.mem_sdiff.mp hb).2).symm)); iexact Hr
    iexact HO
  isplitl [Hb]; · iexact Hb
  isplitl [Ha HO]
  · iapply (Entails.of_eq (show iprop(StableHlo.held (c.tc : Thread nD τ) (Pipeline.arrRefs spec0) (V c)
      ∗ ∃ W : Finset (SemLoc sig × HIx 2), ⌜(↑W : Set _) ⊆ B c⌝ ∗ owes (c : Thread nD τ) (O c) W) = (seg V O B hO hB).pre c from rfl))
    isplitl [Ha]; · iexact Ha
    iexact HO
  isplitl [HL]; · iexact HL
  isplitl [Hg]; · iexact Hg
  iexact Ht

end Cert.Proof.Scatter.One

end
-- ==== Proof.Two.Body.lean ====
/-
  The body that computes a block of charges and charge-weighted positions: what it leaves in its
  four output blocks, from its input blocks.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit.Basic

@[expose] public section

noncomputable section

namespace Cert.Proof.Scatter.Two

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- One store over the whole of a vector covers it. -/
theorem cover_all (p : Vec F S8192 .f32) (y : S8192.Idx) :
    ∃ pc ∈ ([⟨Rect.unit (s := S8192) ![0] S8192.size inb_S8192_S8192_0, p⟩] : List (View.Piece (Elt F) S8192 .f32)), y ∈ pc.1.set :=
  View.cover_of_tiled [⟨Rect.unit (s := S8192) ![0] S8192.size inb_S8192_S8192_0, p⟩] S8192.size (by rfl) y

theorem left_eq {sp : Space} (M : Memref sig .tc sp S8192 .f32) (f : M.view.ty.Contents (Elt F)) (p : Vec F S8192 .f32) :
    M.view.read (Elt F) (M.view.writes (Elt F) f [⟨Rect.unit (s := S8192) ![0] S8192.size inb_S8192_S8192_0, p⟩]) = p :=
  (View.read_writes_eq_canon _ _ _ (cover_all p)).trans (View.canon_cons_unit_lit _ _ _ (by decide))

set_option maxHeartbeats 1000000 in
theorem body_run (c : Dev nD) (E : Set ℕ) (i : grid2.Coords) (arg1 : Memref sig .tc .vmem S8192x256 .f32) (harg1 : arg1.IsWhole) (arg2 : Memref sig .tc .vmem S3x8192 .f32) (harg2 : arg2.IsWhole)
    (arg3 : Memref sig .tc .vmem S1x256 .f32) (harg3 : arg3.IsWhole) (arg4 : Memref sig .tc .vmem S1x1 .f32) (harg4 : arg4.IsWhole) (arg5 : Memref sig .tc .vmem S8192 .f32) (harg5 : arg5.IsWhole)
    (arg6 : Memref sig .tc .vmem S8192 .f32) (harg6 : arg6.IsWhole) (arg7 : Memref sig .tc .vmem S8192 .f32) (harg7 : arg7.IsWhole) (arg8 : Memref sig .tc .vmem S8192 .f32) (harg8 : arg8.IsWhole)
    (x1 : Vec F S8192x256 .f32) (x2 : Vec F S3x8192 .f32) (x3 : Vec F S1x256 .f32) (x4 : Vec F S1x1 .f32) (x5 x6 x7 x8 : Vec F S8192 .f32) (Q : PUnit → sProp (MM F)) :
    iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7 ∗ owns (c : Thread nD τ) arg8 fullShare x8
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (k2_pay4 i x3 x1 x4) ∗ owns (c : Thread nD τ) arg6 fullShare (k2_pay5 i x3 x1 x4 x2)
            ∗ owns (c : Thread nD τ) arg7 fullShare (k2_pay6 i x3 x1 x4 x2) ∗ owns (c : Thread nD τ) arg8 fullShare (k2_pay7 i x3 x1 x4 x2)) -∗ Q ⟨⟩))
      ⊢ wp frame (wpE (defs₀ (F := F)) 𝒱₀ (c : Thread nD τ) none) E
          (cc2__tc_half_body i arg1 harg1 arg2 harg2 arg3 harg3 arg4 harg4 arg5 harg5 arg6 harg6 arg7 harg7 arg8 harg8) Q := by
  rw [cc2__tc_half_body_eq_skeleton]; unfold cc2__tc_half_body_skel
  unfold owns
  iintro ⟨⟨%f1, %h1, H1⟩, ⟨%f2, %h2, H2⟩, ⟨%f3, %h3, H3⟩, ⟨%f4, %h4, H4⟩, ⟨%f5, -, H5⟩, ⟨%f6, -, H6⟩, ⟨%f7, -, H7⟩, ⟨%f8, -, H8⟩, Hk⟩
  have e1 : arg1.view.readAt (Elt F) (Rect.unit (s := S8192x256) ![0, 0] S8192x256.size inb_S8192x256_S8192x256_0_0).toLoadRect f1 = x1 :=
    (View.ld_unit_lit (S := S8192x256) (off := ![0, 0]) inb_S8192x256_S8192x256_0_0 _ (by decide)).trans h1
  have e2 : arg2.view.readAt (Elt F) (Rect.unit (s := S3x8192) ![0, 0] S3x8192.size inb_S3x8192_S3x8192_0_0).toLoadRect f2 = x2 :=
    (View.ld_unit_lit (S := S3x8192) (off := ![0, 0]) inb_S3x8192_S3x8192_0_0 _ (by decide)).trans h2
  have e3 : arg3.view.readAt (Elt F) (Rect.unit (s := S1x256) ![0, 0] S1x256.size inb_S1x256_S1x256_0_0).toLoadRect f3 = x3 :=
    (View.ld_unit_lit (S := S1x256) (off := ![0, 0]) inb_S1x256_S1x256_0_0 _ (by decide)).trans h3
  have e4 : arg4.view.readAt (Elt F) (Rect.unit (s := S1x1) ![0, 0] S1x1.size inb_S1x1_S1x1_0_0).toLoadRect f4 = x4 :=
    (View.ld_unit_lit (S := S1x1) (off := ![0, 0]) inb_S1x1_S1x1_0_0 _ (by decide)).trans h4
  sl_exec
  sl_step
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists _; isplitr; swap; (· iexact H5)
    ipureintro; rw [← e1, ← e3, ← e4]; exact left_eq _ _ _
  isplitl [H6]
  · iexists _; isplitr; swap; (· iexact H6)
    ipureintro; rw [← e1, ← e2, ← e3, ← e4]; exact left_eq _ _ _
  isplitl [H7]
  · iexists _; isplitr; swap; (· iexact H7)
    ipureintro; rw [← e1, ← e2, ← e3, ← e4]; exact left_eq _ _ _
  · iexists _; isplitr; swap; (· iexact H8)
    ipureintro; rw [← e1, ← e2, ← e3, ← e4]; exact left_eq _ _ _

end Cert.Proof.Scatter.Two

end
-- ==== Proof.Two.Region.lean ====
/-
  The region that computes the charges and the charge-weighted positions, block by block: what its
  arrays may hold when it ends, and the region as a step of `@main`.
-/
module

public import proofs.«01_k».proof.Proof.Two.Body
public import proofs.«01_k».proof.Proof.Launch
public import Idealize.ShloMosaic.Lib.Pipeline.RegionArraysF

@[expose] public section

noncomputable section

namespace Cert.Proof.Scatter.Two

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

/-- The buffers as the region finds them. -/
abbrev Val₀ (F : FTy → Type) : Type := Dev nD → Valuation τ sig (Elt F)

variable (V : Val₀ F) (O : Dev nD → CellTallies nD τ sig (HIx 2)) (B : Dev nD → Set (SemLoc sig × HIx 2))

/-- Window `w`'s array as the region finds it. -/
abbrev arrV (c : Dev nD) (w : Fin cfg2.W) : Buf (Elt F) ((cfg2.win w).arr.view.loc (c.tc : Thread nD τ)) :=
  V c (Proc.devRef .tc (Pipeline.arrRef spec2 w))

/-- What a fetch of window `w`'s block at point `t` leaves in a staging buffer: the block where the array has it,
    anything past the array's end. -/
def blockAt (c : Dev nD) (w : Fin cfg2.W) (t : Fin cfg2.N) (Y : (cfg2.win w).block.Idx → Elt F (cfg2.win w).elt) : Prop :=
  ∃ d, Y = (cfg2.win w).fill (cfg2.grid.coords t) d (((cfg2.win w).blk t).view.read (Elt F) (arrV V c w))

/-- The charges of block `t`. -/
def outQ (c : Dev nD) (t : Fin cfg2.N) (X : S8192.Idx → F .f32) : Prop :=
  ∃ Y0 Y2 Y3, blockAt V c 0 t Y0 ∧ blockAt V c 2 t Y2 ∧ blockAt V c 3 t Y3 ∧ X = k2_pay4 (cfg2.grid.coords t) Y2 Y0 Y3
/-- The charges times a coordinate, of block `t`. -/
def outX (c : Dev nD) (t : Fin cfg2.N) (X : S8192.Idx → F .f32) : Prop :=
  ∃ Y0 Y1 Y2 Y3, blockAt V c 0 t Y0 ∧ blockAt V c 1 t Y1 ∧ blockAt V c 2 t Y2 ∧ blockAt V c 3 t Y3 ∧ X = k2_pay5 (cfg2.grid.coords t) Y2 Y0 Y3 Y1
def outY (c : Dev nD) (t : Fin cfg2.N) (X : S8192.Idx → F .f32) : Prop :=
  ∃ Y0 Y1 Y2 Y3, blockAt V c 0 t Y0 ∧ blockAt V c 1 t Y1 ∧ blockAt V c 2 t Y2 ∧ blockAt V c 3 t Y3 ∧ X = k2_pay6 (cfg2.grid.coords t) Y2 Y0 Y3 Y1
def outZ (c : Dev nD) (t : Fin cfg2.N) (X : S8192.Idx → F .f32) : Prop :=
  ∃ Y0 Y1 Y2 Y3, blockAt V c 0 t Y0 ∧ blockAt V c 1 t Y1 ∧ blockAt V c 2 t Y2 ∧ blockAt V c 3 t Y3 ∧ X = k2_pay7 (cfg2.grid.coords t) Y2 Y0 Y3 Y1

/-- The region's proof data: inputs left as found, outputs as the body computes them; what the core owes and the waits
    it has recorded stay as they are. -/
def rdat (c : Dev nD) : RDat τ (Elt F) (HIx 2) ℕ UU ℕ cfg2 c where
  A w := arrV V c w
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => outQ V c t X
    | ⟨5, _⟩ => fun _ X => outX V c t X
    | ⟨6, _⟩ => fun _ X => outY V c t X
    | ⟨7, _⟩ => fun _ X => outZ V c t X
    | ⟨_ + 8, h⟩ => absurd h (Nat.not_lt.2 (Nat.le_add_left _ _))
  Φ _ := Pipeline.scopedRest (Ix := HIx 2) (Name := ℕ) (U := UU) (Lvl := ℕ) (Val := Elt F) spec2 c
  q _ := fullShare
  owed _ := O c
  recorded _ := B c

theorem finds_0 (c : Dev nD) (t : Fin cfg2.N) (Y) (h : (rdat V O B c).Finds 0 t Y) : blockAt V c 0 t Y :=
  ((rdat V O B c).finds_of_fetch (fetch2_0 t) Y).mp h
theorem finds_1 (c : Dev nD) (t : Fin cfg2.N) (Y) (h : (rdat V O B c).Finds 1 t Y) : blockAt V c 1 t Y :=
  ((rdat V O B c).finds_of_fetch (fetch2_1 t) Y).mp h
theorem finds_2 (c : Dev nD) (t : Fin cfg2.N) (Y) (h : (rdat V O B c).Finds 2 t Y) : blockAt V c 2 t Y :=
  (rdat V O B c).finds_in_eq_fetched 2 rfl (fun _ _ _ => rfl) (fun _ _ _ h => h) t Y h
theorem finds_3 (c : Dev nD) (t : Fin cfg2.N) (Y) (h : (rdat V O B c).Finds 3 t Y) : blockAt V c 3 t Y :=
  (rdat V O B c).finds_in_eq_fetched 3 rfl (fun _ _ _ => rfl) (fun _ _ _ h => h) t Y h

/-- The body table's row at point `t`'s slots is the body there. -/
theorem defs₀_row (t : Fin cfg2.N) :
    defs₀ (F := F) .tc cfg2.body (cfg2.bodyArgs t (cfg2.slots t)) = bodyAt2 t := rfl

theorem body_at (c : Dev nD) (t : Fin cfg2.N) (Y : (w : Fin cfg2.W) → (cfg2.win w).block.Idx → Elt F (cfg2.win w).elt)
    (h0 : blockAt V c 0 t (Y 0)) (h1 : blockAt V c 1 t (Y 1)) (h2 : blockAt V c 2 t (Y 2)) (h3 : blockAt V c 3 t (Y 3)) (Φ Ω : sProp (MM F)) :
    iprop(Φ ∗ Ω ∗ owns (c : Thread nD τ) (st2_0 t) fullShare (Y 0) ∗ owns (c : Thread nD τ) (st2_1 t) fullShare (Y 1) ∗ owns (c : Thread nD τ) (st2_2 t) fullShare (Y 2)
        ∗ owns (c : Thread nD τ) (st2_3 t) fullShare (Y 3) ∗ owns (c : Thread nD τ) (st2_4 t) fullShare (Y 4) ∗ owns (c : Thread nD τ) (st2_5 t) fullShare (Y 5)
        ∗ owns (c : Thread nD τ) (st2_6 t) fullShare (Y 6) ∗ owns (c : Thread nD τ) (st2_7 t) fullShare (Y 7))
      ⊢ wp frame (wpE (defs₀ (F := F)) 𝒱₀ (c : Thread nD τ) none) Set.univ (bodyAt2 t) fun _ =>
        iprop(Φ ∗ Ω ∗ (∃ X, ⌜X = Y 0⌝ ∗ owns (c : Thread nD τ) (st2_0 t) fullShare X) ∗ (∃ X, ⌜X = Y 1⌝ ∗ owns (c : Thread nD τ) (st2_1 t) fullShare X)
          ∗ (∃ X, ⌜X = Y 2⌝ ∗ owns (c : Thread nD τ) (st2_2 t) fullShare X) ∗ (∃ X, ⌜X = Y 3⌝ ∗ owns (c : Thread nD τ) (st2_3 t) fullShare X)
          ∗ (∃ X, ⌜outQ V c t X⌝ ∗ owns (c : Thread nD τ) (st2_4 t) fullShare X) ∗ (∃ X, ⌜outX V c t X⌝ ∗ owns (c : Thread nD τ) (st2_5 t) fullShare X)
          ∗ (∃ X, ⌜outY V c t X⌝ ∗ owns (c : Thread nD τ) (st2_6 t) fullShare X) ∗ (∃ X, ⌜outZ V c t X⌝ ∗ owns (c : Thread nD τ) (st2_7 t) fullShare X)) := by
  unfold bodyAt2
  iintro ⟨HΦ, HΩ, H0, H1, H2, H3, H4, H5, H6, H7⟩
  iapply (body_run c Set.univ (grid2.coords t) _ _ _ _ _ _ _ _ _ _ _ _ _ _ _ _ (Y 0) (Y 1) (Y 2) (Y 3) (Y 4) (Y 5) (Y 6) (Y 7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [HΩ]; · iexact HΩ
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; exact ⟨Y 0, Y 2, Y 3, h0, h2, h3, rfl⟩
  isplitl [H5]
  · iexists _; isplitr; swap; (· iexact H5); ipureintro; exact ⟨Y 0, Y 1, Y 2, Y 3, h0, h1, h2, h3, rfl⟩
  isplitl [H6]
  · iexists _; isplitr; swap; (· iexact H6); ipureintro; exact ⟨Y 0, Y 1, Y 2, Y 3, h0, h1, h2, h3, rfl⟩
  · iexists _; isplitr; swap; (· iexact H7); ipureintro; exact ⟨Y 0, Y 1, Y 2, Y 3, h0, h1, h2, h3, rfl⟩

theorem body_obligation (c : Dev nD) : (rdat V O B c).BodyObligation (defs₀ (F := F)) 𝒱₀ none Set.univ := fun t Y hY => by
  rw [bigSep_W2, bigSep_W2, defs₀_row]
  exact triple_restated (body_at V c t Y (finds_0 V O B c t _ (hY 0)) (finds_1 V O B c t _ (hY 1)) (finds_2 V O B c t _ (hY 2)) (finds_3 V O B c t _ (hY 3)) _ _)
    rfl .rfl fun _ => .rfl

/-! ## The region as a step of `@main` -/

/-- Proof data for a pipeline this step does not run. -/
def junk (cfg : Pipeline.Cfg sig Λ₀) (c : Dev nD) : RDat τ (Elt F) (HIx 2) ℕ UU ℕ cfg c where
  A _ := Classical.arbitrary _
  after _ _ _ _ := True
  Φ _ := BI.emp
  q _ := fullShare
  owed _ := 0

abbrev adm : (p : Fin 2) → (pcfgs (F := F) p).Adm := fun p => (cfgs p).toPCfg_adm

/-- The proof data of both pipelines, this one's as above. -/
def rdats : (p : Fin 2) → (c : Dev nD) → RDat τ (Elt F) (HIx 2) ℕ UU ℕ (pins (F := F) p) c
  | 0 => junk cfg0
  | 1 => rdat V O B

theorem arrays_held (c : Dev nD) (G : (w : Fin cfg2.W) → Buf (Elt F) ((cfg2.win w).arr.view.loc (c.tc : Thread nD τ))) (W : Valuation τ sig (Elt F))
    (hG : ∀ w, G w = W (Proc.devRef .tc (Pipeline.arrRef spec2 w))) :
    ((rdat V O B c).arrays G : sProp (MM F)) = StableHlo.held (c.tc : Thread nD τ) (Pipeline.arrRefs spec2) W := by
  refine (Pipeline.RDat.arrays_eq (pcfgs (F := F)) adm (rdats V O B) 1 c launch2.arr_whole (fun w => ?_) G).trans ?_
  · show (rdat V O B c).share w = fullShare
    unfold RDat.share; split <;> rfl
  unfold StableHlo.held Pipeline.arrRefs
  rw [bigSep_map, show Finset.univ.image (Pipeline.arrRef spec2) = Finset.univ.map ⟨Pipeline.arrRef spec2, launch2.win.arr_inj⟩ from
    (Finset.map_eq_image ⟨Pipeline.arrRef spec2, launch2.win.arr_inj⟩ Finset.univ).symm, bigSep_map]
  exact bigSep_congr fun w _ => by rw [hG]; rfl

/-- What the arrays may hold when the region ends, against what they held when it began. -/
def After (c : Dev nD) (W : Valuation τ sig (Elt F)) : Prop :=
  (∀ b, b ∉ ({Proc.devRef .tc main_v7_0, Proc.devRef .tc main_v7_1, Proc.devRef .tc main_v7_2, Proc.devRef .tc main_v7_3} : Finset (DevRef τ sig)) → W b = V c b)
    ∧ (rdat V O B c).ArrAt 4 cfg2.N (W (Proc.devRef .tc main_v7_0)) ∧ (rdat V O B c).ArrAt 5 cfg2.N (W (Proc.devRef .tc main_v7_1))
    ∧ (rdat V O B c).ArrAt 6 cfg2.N (W (Proc.devRef .tc main_v7_2)) ∧ (rdat V O B c).ArrAt 7 cfg2.N (W (Proc.devRef .tc main_v7_3))

theorem arraysAt_held (c : Dev nD) :
    ((rdat V O B c).arraysAt cfg2.N : sProp (MM F)) ⊢ iprop(∃ W, ⌜After V O B c W⌝ ∗ StableHlo.held (c.tc : Thread nD τ) (Pipeline.arrRefs spec2) W) := by
  have h1 : ((rdat V O B c).arraysAt cfg2.N : sProp (MM F)) ⊢ iprop(∃ A : (w : Fin cfg2.W) → Buf (Elt F) ((cfg2.win w).arr.view.loc (c.tc : Thread nD τ)),
      ⌜∀ w, (rdat V O B c).ArrAt w cfg2.N (A w)⌝ ∗ (rdat V O B c).arrays A) := by
    unfold RDat.arraysAt RDat.arrays
    refine (BI.bigSep_exists_pi Finset.univ _).trans ?_
    iintro ⟨%A, H⟩
    ihave H' := (BI.bigSep_pure_sep Finset.univ (fun w => (rdat V O B c).ArrAt w cfg2.N (A w)) _) $$ H
    icases H' with ⟨%hA, H⟩
    iexists A
    isplitr
    · ipureintro; exact fun w => hA w (Finset.mem_univ w)
    iexact H
  refine h1.trans ?_
  iintro ⟨%A, %hA, H⟩
  have hin : ∀ w : Fin cfg2.W, (cfg2.win w).isOut = false → A w = arrV V c w := fun w hw => by
    have h := hA w
    rw [(rdat V O B c).ArrAt_in w hw] at h
    exact h
  let W : Valuation τ sig (Elt F) := Function.update (Function.update (Function.update (Function.update (V c)
    (Proc.devRef .tc main_v7_0) (A 4)) (Proc.devRef .tc main_v7_1) (A 5)) (Proc.devRef .tc main_v7_2) (A 6)) (Proc.devRef .tc main_v7_3) (A 7)
  have w4 : W (Proc.devRef .tc main_v7_0) = A 4 := by
    dsimp only [W]
    rw [Function.update_of_ne (by decide), Function.update_of_ne (by decide), Function.update_of_ne (by decide), Function.update_self]
  have w5 : W (Proc.devRef .tc main_v7_1) = A 5 := by
    dsimp only [W]
    rw [Function.update_of_ne (by decide), Function.update_of_ne (by decide), Function.update_self]
  have w6 : W (Proc.devRef .tc main_v7_2) = A 6 := by
    dsimp only [W]
    rw [Function.update_of_ne (by decide), Function.update_self]
  have w7 : W (Proc.devRef .tc main_v7_3) = A 7 := by
    dsimp only [W]
    rw [Function.update_self]
  have wo : ∀ b, b ∉ ({Proc.devRef .tc main_v7_0, Proc.devRef .tc main_v7_1, Proc.devRef .tc main_v7_2, Proc.devRef .tc main_v7_3} : Finset (DevRef τ sig)) → W b = V c b := fun b hb => by
    simp only [Finset.mem_insert, Finset.mem_singleton, not_or] at hb
    dsimp only [W]
    rw [Function.update_of_ne hb.2.2.2, Function.update_of_ne hb.2.2.1, Function.update_of_ne hb.2.1, Function.update_of_ne hb.1]
  have hG : ∀ w, A w = W (Proc.devRef .tc (Pipeline.arrRef spec2 w)) := fun w => match w with
    | ⟨0, _⟩ => (hin 0 rfl).trans (wo _ (by decide)).symm
    | ⟨1, _⟩ => (hin 1 rfl).trans (wo _ (by decide)).symm
    | ⟨2, _⟩ => (hin 2 rfl).trans (wo _ (by decide)).symm
    | ⟨3, _⟩ => (hin 3 rfl).trans (wo _ (by decide)).symm
    | ⟨4, _⟩ => w4.symm
    | ⟨5, _⟩ => w5.symm
    | ⟨6, _⟩ => w6.symm
    | ⟨7, _⟩ => w7.symm
  iexists W
  isplitr
  · ipureintro; exact ⟨wo, w4 ▸ hA 4, w5 ▸ hA 5, w6 ▸ hA 6, w7 ▸ hA 7⟩
  iapply (Entails.of_eq (arrays_held V O B c A W hG))
  iexact H

/-- The region's record: entered with its arrays held and the core owing `O c`, its recorded waits among `B c`; left with
    the arrays at contents they may then hold, the core owing the same. -/
def seg (hO : ∀ c g, O c g none = 0) (hB : ∀ c p, p.2 = none → p ∈ B c) :
    Pipeline.RDat.RegionSeg (pcfgs (F := F)) adm (rdats V O B) (none : HIx 2) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body_obligation V O B c
  hwaits c := Pipeline.RDat.cellsWaits_intro (Pipeline.pin (pcfgs (F := F)) adm) (rdats V O B) none 1 c fun w s t => (K (F := F)).mayWait_none _ (hO c)
  pre c := iprop(StableHlo.held (c.tc : Thread nD τ) (Pipeline.arrRefs spec2) (V c) ∗ ∃ W : Finset (SemLoc sig × HIx 2), ⌜(↑W : Set _) ⊆ B c⌝ ∗ owes (c : Thread nD τ) (O c) W)
  post c := iprop((∃ W, ⌜After V O B c W⌝ ∗ StableHlo.held (c.tc : Thread nD τ) (Pipeline.arrRefs spec2) W)
    ∗ ∃ W : Finset (SemLoc sig × HIx 2), ⌜(↑W : Set _) ⊆ B c⌝ ∗ owes (c : Thread nD τ) (O c) W)
  X _ := BI.emp
  Y _ := BI.emp
  Z _ := BI.emp
  hentry c := by
    show _ ⊢ |={Set.univ}=> iprop((rdat V O B c).arrays (rdat V O B c).A ∗ _ ∗ (rdat V O B c).owesAt none 0 ∗ _ ∗ _)
    rw [Pipeline.ownSems0_none, Pipeline.prefHeld_of_none _ rfl,
      show (rdat V O B c).arrays (rdat V O B c).A = (StableHlo.held (c.tc : Thread nD τ) (Pipeline.arrRefs spec2) (V c) : sProp (MM F)) from
        arrays_held V O B c _ (V c) fun _ => rfl]
    iintro ⟨⟨Ha, HO⟩, -, -⟩
    imodintro
    isplitl [Ha]; · iexact Ha
    isplitr; · iempintro
    isplitl [HO]
    · unfold RDat.owesAt Pipeline.owesWithin RDat.bound
      icases HO with ⟨%W, %hW, HO⟩; iexists W; isplitr; · ipureintro; exact fun _ h => Or.inl (hW h)
      iexact HO
    isplitr <;> iempintro
  hin c := by
    show iprop(_ ∗ _ ∗ Pipeline.scopedRest spec2 c) ⊢ Pipeline.scopedRest spec2 c
    iintro ⟨-, -, Hr⟩
    iexact Hr
  hout c := by
    show Pipeline.scopedRest spec2 c ⊢ iprop(_ ∗ _ ∗ Pipeline.scopedRest spec2 c)
    rw [Pipeline.ownSems0_none]
    iintro Hr
    isplitr; · iempintro
    isplitr; · iempintro
    iexact Hr
  hexit c := by
    show iprop((rdat V O B c).arraysAt cfg2.N ∗ (rdat V O B c).owesAt none (Fin.last _) ∗ _ ∗ _) ⊢ _
    iintro ⟨Ha, HO, -, -⟩
    imodintro
    isplitl [Ha]; · iapply (arraysAt_held V O B c); iexact Ha
    unfold RDat.owesAt Pipeline.owesWithin RDat.bound
    icases HO with ⟨%W, %hW, HO⟩; iexists W; isplitr
    · ipureintro
      intro p hp
      rcases hW hp with h | ⟨w, s, rfl⟩
      · exact h
      · exact hB c _ rfl
    iexact HO

/-- The region as a step: its arrays among the buffers `S` held, it changes only its four results. -/
theorem region_wp (hO : ∀ c g, O c g none = 0) (hB : ∀ c p, p.2 = none → p ∈ B c) (c : Dev nD) (S : Finset (DevRef τ sig)) (hS : Pipeline.arrRefs spec2 ⊆ S)
    (W₀ : Valuation τ sig (Elt F)) (hW₀ : ∀ b ∈ Pipeline.arrRefs spec2, W₀ b = V c b)
    {α : Type} (k : PUnit → Prog (TpuEff nD τ sig (Elt F) ΛP .tc) α) (Q : α → sProp (MM F)) :
    iprop(((boundary (c.tc : Thread nD τ) ∗ (∃ W, ⌜After V O B c W⌝ ∗ StableHlo.held (c.tc : Thread nD τ) S
              (fun b => if b ∈ Pipeline.arrRefs spec2 then W b else W₀ b))
            ∗ ∃ W : Finset (SemLoc sig × HIx 2), ⌜(↑W : Set _) ⊆ B c⌝ ∗ owes (c : Thread nD τ) (O c) W)
          -∗ wp frame (wpE (D (F := F)) 𝒱 (c.tc : Thread nD τ) none) Set.univ (k ⟨⟩) Q)
        ∗ boundary (c.tc : Thread nD τ) ∗ StableHlo.held (c.tc : Thread nD τ) S W₀
        ∗ (∃ W : Finset (SemLoc sig × HIx 2), ⌜(↑W : Set _) ⊆ B c⌝ ∗ owes (c : Thread nD τ) (O c) W)
        ∗ levAts (K (F := F)).L (K (F := F)).lev
        ∗ Pipeline.cellsGhost (pins (F := F)) EP 1 c ∗ Pipeline.toksInit (pins (F := F)) EP 1 c)
      ⊢ wp frame (wpE (D (F := F)) 𝒱 (c.tc : Thread nD τ) none) Set.univ (.op (.customCall (Pipeline.entry 1) ()) k) Q := by
  have h := Pipeline.RDat.RegionSeg.wp (pcfgs (F := F)) adm (rdats V O B) none pcell_inj EP defs₀ 𝒱₀ (K (F := F)).L (K (F := F)).lev
    (seg V O B hO hB) c none (fun u hu => nomatch hu) k Q
  refine (show _ ⊢ _ from ?_).trans h
  rw [StableHlo.held_sub_split (c.tc : Thread nD τ) hS W₀]
  have e1 : (StableHlo.held (c.tc : Thread nD τ) (Pipeline.arrRefs spec2) W₀ : sProp (MM F)) = StableHlo.held (c.tc : Thread nD τ) (Pipeline.arrRefs spec2) (V c) :=
    StableHlo.held_congr _ hW₀
  rw [e1]
  iintro ⟨Hk, Hb, ⟨Ha, Hr⟩, HO, HL, Hg, Ht⟩
  isplitl [Hk Hr]
  · iintro ⟨Hb, HP⟩
    ihave HP := (Entails.of_eq (show (seg V O B hO hB).post c = iprop((∃ W, ⌜After V O B c W⌝ ∗ StableHlo.held (c.tc : Thread nD τ) (Pipeline.arrRefs spec2) W)
      ∗ ∃ W : Finset (SemLoc sig × HIx 2), ⌜(↑W : Set _) ⊆ B c⌝ ∗ owes (c : Thread nD τ) (O c) W) from rfl)) $$ HP
    icases HP with ⟨⟨%W, %hW, Ha⟩, HO⟩
    iapply Hk
    isplitl [Hb]; · iexact Hb
    isplitl [Ha Hr]
    · iexists W
      isplitr; · ipureintro; exact hW
      rw [StableHlo.held_sub_split (c.tc : Thread nD τ) hS]
      isplitl [Ha]
      · iapply (Entails.of_eq (StableHlo.held_congr (c.tc : Thread nD τ) fun b hb => (if_pos hb).symm)); iexact Ha
      · iapply (Entails.of_eq (StableHlo.held_congr (c.tc : Thread nD τ) fun b hb => (if_neg (Finset.mem_sdiff.mp hb).2).symm)); iexact Hr
    iexact HO
  isplitl [Hb]; · iexact Hb
  isplitl [Ha HO]
  · iapply (Entails.of_eq (show iprop(StableHlo.held (c.tc : Thread nD τ) (Pipeline.arrRefs spec2) (V c)
      ∗ ∃ W : Finset (SemLoc sig × HIx 2), ⌜(↑W : Set _) ⊆ B c⌝ ∗ owes (c : Thread nD τ) (O c) W) = (seg V O B hO hB).pre c from rfl))
    isplitl [Ha]; · iexact Ha
    iexact HO
  isplitl [HL]; · iexact HL
  isplitl [Hg]; · iexact Hg
  iexact Ht

end Cert.Proof.Scatter.Two

end
-- ==== Proof.Tasks.lean ====
/-
  Each task's obligation, and how a core's pieces split over its tasks and come back.
-/
module

public import proofs.«01_k».proof.Proof.Pay

@[expose] public section

noncomputable section

namespace Cert.Proof.Scatter

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (R₁ : One.InRel F) (R₂ : Two.InRel F)

/-! ## The obligation of a task -/

set_option maxRecDepth 16384 in
theorem tileObl_0 (hF : (K (F := F)).Facts) (hpre : One.PreOK R₁) : (K (F := F)).TileObl (D (F := F)) 𝒱 (P R₁ R₂) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [One.defs₀_vector]; simp only [SparseCore.onTile, hci, and_self, ↓reduceDIte]
  exact One.tile_body R₁ (Two.Rsh R₂) d (One.coordsV ⟨_, hci.1⟩ ⟨_, hci.2⟩) hF hpre O W hO hOlev

/-- What the second call's launch hands a tile, in the order its body takes it. -/
theorem go_two (d : Dev nD) (c : Fin ((K (F := F)).nCore 1)) (i : Fin ((K (F := F)).nSub 1)) (X B S W : sProp (MM F)) :
    iprop(X ∗ bkit (One.Rsh R₁) (Two.Rsh R₂) 1 d (Two.coreOf (F := F) c) ((K (F := F)).sub 1 i) ∗ (stTwo R₂ d c i ∗ Two.shRowPart d (Two.coreOf (F := F) c) i.val) ∗ B ∗ S ∗ W)
      ⊢ iprop(X ∗ (Two.kit R₂ (One.Rsh R₁) d (Two.coreOf (F := F) c) ((K (F := F)).sub 1 i) ∗ bAt Two.rd d (Two.coreOf (F := F) c) ((K (F := F)).sub 1 i))
          ∗ (Two.stPart R₂ d c.val i.val ∗ Two.shRowPart d (Two.coreOf (F := F) c) i.val) ∗ B ∗ S ∗ W) := by
  unfold stTwo
  iintro ⟨HX, Hk, ⟨⟨Hst, Hat⟩, Hsh⟩, HB, HS, HW⟩
  isplitl [HX]; · iexact HX
  isplitl [Hk Hat]
  · isplitl [Hk]; · iexact Hk
    iexact Hat
  isplitl [Hst Hsh]
  · isplitl [Hst]; · iexact Hst
    iexact Hsh
  isplitl [HB]; · iexact HB
  isplitl [HS]; · iexact HS
  iexact HW

set_option maxRecDepth 16384 in
theorem tileObl_1 (hF : (K (F := F)).Facts) (hpre : Two.PreOK R₂) : (K (F := F)).TileObl (D (F := F)) 𝒱 (P R₁ R₂) v₀ 1 := by
  intro d c i O W hO hOlev _
  have hci : ((K (F := F)).core 1 c).val < grid3.bound 0 ∧ ((K (F := F)).sub 1 i).val < grid3.bound 1 := ⟨c.isLt, i.isLt⟩
  refine BI.Entails.trans (go_two R₁ R₂ d c i _ _ _ _) ?_
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [Two.defs₀_vector]; simp only [SparseCore.onTile, hci, and_self, ↓reduceDIte]
  exact Two.tile_body R₂ (One.Rsh R₁) d (Two.coordsV ⟨_, hci.1⟩ ⟨_, hci.2⟩) hF hpre O W hO hOlev

/-! ## The arrays split over the tasks -/

theorem vecSplit_0 : (K (F := F)).VecSplit (P R₁ R₂) 0 := by
  intro d c
  show iprop((bigSep Finset.univ fun j : Fin 16 => One.stPart R₁ d c.val j.val) ∗ ownBufs (S d (One.coreOf (F := F) c))) ⊢ |={Set.univ}=> iprop(
      (bigSep Finset.univ fun j : Fin 16 => iprop(One.stPart R₁ d c.val j.val ∗ One.shRowPart d (One.coreOf (F := F) c) j.val))
      ∗ ((bigSep Finset.univ fun j : Fin 16 => iprop((One.outPart R₁ d c.val j.val ∗ One.shColPart d (One.coreOf (F := F) c) j.val) ∗ One.endAt d (One.coreOf (F := F) c) ((K (F := F)).sub 0 j)))
          -∗ iprop((bigSep Finset.univ fun j : Fin 16 => iprop(One.outPart R₁ d c.val j.val ∗ One.endAt d (One.coreOf (F := F) c) ((K (F := F)).sub 0 j))) ∗ ownBufs (S d (One.coreOf (F := F) c)))))
  rw [One.ownBufs_S]
  iintro ⟨Hp, ⟨%fsh, Hsh⟩, Hrest⟩; imodintro
  isplitl [Hp Hsh]
  · iapply (One.split_go d (One.coreOf (F := F) c) (fun j : Fin 16 => One.stPart R₁ d c.val j.val) fsh)
    isplitl [Hp] <;> iassumption
  iintro H
  ihave H' := (One.join_td d (One.coreOf (F := F) c) (fun j : Fin 16 => One.outPart R₁ d c.val j.val) (fun j : Fin 16 => One.endAt d (One.coreOf (F := F) c) ((K (F := F)).sub 0 j))) $$ H
  icases H' with ⟨Hp, Hsh⟩
  isplitl [Hp]; · iexact Hp
  isplitl [Hsh]; · iexact Hsh
  iexact Hrest

theorem vecSplit_1 : (K (F := F)).VecSplit (P R₁ R₂) 1 := by
  intro d c
  show iprop((bigSep Finset.univ fun j : Fin 16 => stTwo R₂ d c j) ∗ ownBufs (S d (Two.coreOf (F := F) c))) ⊢ |={Set.univ}=> iprop(
      (bigSep Finset.univ fun j : Fin 16 => iprop(stTwo R₂ d c j ∗ Two.shRowPart d (Two.coreOf (F := F) c) j.val))
      ∗ ((bigSep Finset.univ fun j : Fin 16 => iprop((Two.outPart R₂ d c.val j.val ∗ Two.shColPart d (Two.coreOf (F := F) c) j.val) ∗ Two.endAt d (Two.coreOf (F := F) c) ((K (F := F)).sub 1 j)))
          -∗ iprop((bigSep Finset.univ fun j : Fin 16 => iprop(Two.outPart R₂ d c.val j.val ∗ Two.endAt d (Two.coreOf (F := F) c) ((K (F := F)).sub 1 j))) ∗ ownBufs (S d (Two.coreOf (F := F) c)))))
  rw [Two.ownBufs_S]
  iintro ⟨Hp, ⟨%fsh, Hsh⟩, Hrest⟩; imodintro
  isplitl [Hp Hsh]
  · iapply (Two.split_go d (Two.coreOf (F := F) c) (fun j : Fin 16 => stTwo R₂ d c j) fsh)
    isplitl [Hp] <;> iassumption
  iintro H
  ihave H' := (Two.join_td d (Two.coreOf (F := F) c) (fun j : Fin 16 => Two.outPart R₂ d c.val j.val) (fun j : Fin 16 => Two.endAt d (Two.coreOf (F := F) c) ((K (F := F)).sub 1 j))) $$ H
  icases H' with ⟨Hp, Hsh⟩
  isplitl [Hp]; · iexact Hp
  isplitl [Hsh]; · iexact Hsh
  iexact Hrest

end Cert.Proof.Scatter

end
-- ==== Proof.Steps.lean ====
/-
  The two regions as steps of the TensorCore's program between the SparseCore calls, and where the
  first call leaves the barrier cells for the second.
-/
module

public import proofs.«01_k».proof.Proof.One.Region
public import proofs.«01_k».proof.Proof.Two.Region
public import proofs.«01_k».proof.Proof.Tasks

@[expose] public section

noncomputable section

namespace Cert.Proof.Scatter

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- What the TensorCore owes before call `n`. -/
abbrev owedTc (n : ℕ) : Dev nD → CellTallies nD τ sig (HIx 2) := fun c => (K (F := F)).Otc c n
/-- The pairs it may have recorded before call `n`: those below the call's levels. -/
def recTc (n : ℕ) : Dev nD → Set (SemLoc sig × HIx 2) := fun c => {p | (K (F := F)).lev (T c, p.1) p.2 ≤ 8 * n}

theorem owedTc_none (n : ℕ) (c : Dev nD) (g : GSem nD τ sig) : owedTc (F := F) n c g none = 0 := by
  by_contra h
  have := SparseCore.Cfg.lev_of_Otc_pos (K := K (F := F)) (Nat.pos_of_ne_zero h)
  have e : (K (F := F)).lev g none = 0 := rfl
  omega

theorem recTc_none (n : ℕ) (c : Dev nD) (p : SemLoc sig × HIx 2) (h : p.2 = none) : p ∈ recTc (F := F) n c := by
  show (K (F := F)).lev (T c, p.1) p.2 ≤ 8 * n
  rw [h]; exact Nat.zero_le _

/-- What the TensorCore holds before call `n` besides what it owes. -/
def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp (MM F))
    = iprop((∃ W : Finset (SemLoc sig × HIx 2), ⌜(↑W : Set _) ⊆ recTc (F := F) n d⌝ ∗ owes (d : Thread nD τ) (owedTc (F := F) n d) W) ∗ tcRest d n) := rfl

section Regions

variable (W₁ : One.Val₀ F) (κ : GSem nD τ sig → ℕ) (d : Dev nD) (S : Finset (DevRef τ sig))
  (W₀ : Valuation τ sig (Elt F)) (Φ : PUnit → sProp (MM F))

/-- The first region before the first call. -/
theorem region_0 (hS : Pipeline.arrRefs spec0 ⊆ S) (hW₀ : ∀ b ∈ Pipeline.arrRefs spec0, W₀ b = W₁ d b) :
    iprop(levAts (K (F := F)).L (K (F := F)).lev ∗ (K (F := F)).tcSt EH d 0 ∗ boundary (d : Thread nD τ) ∗ StableHlo.held (d : Thread nD τ) S W₀
        ∗ Pipeline.cellsGhost (pins (F := F)) EP 0 d ∗ Pipeline.toksInit (pins (F := F)) EP 0 d
        ∗ (((K (F := F)).tcSt EH d 0 ∗ boundary (d : Thread nD τ) ∗ ∃ W, ⌜One.After W₁ (owedTc (F := F) 0) (recTc (F := F) 0) d W⌝
            ∗ StableHlo.held (d : Thread nD τ) S fun b => if b ∈ Pipeline.arrRefs spec0 then W b else W₀ b) -∗ Φ ⟨⟩))
      ⊢ wp frame (wpE ((K (F := F)).defs (D (F := F))) 𝒱 (d : Thread nD τ) none) Set.univ
          (SparseCore.liftProg (.op (.customCall (Pipeline.entry 0) ()) .ret)) Φ := by
  have hl := (K (F := F)).wp_liftProg (D (F := F)) 𝒱 (d : Thread nD τ) Set.univ none
    (.op (.customCall (Pipeline.entry 0) ()) .ret : Prog (TpuEff nD τ sig (Elt F) ΛP .tc) PUnit) Φ
  have hr := One.region_wp W₁ (owedTc (F := F) 0) (recTc (F := F) 0) (owedTc_none 0) (recTc_none 0) d S hS W₀ hW₀ .ret Φ
  refine (show _ ⊢ _ from ?_).trans (hr.trans hl)
  rw [tcSt_eq]
  iintro ⟨HL, ⟨HO, Hr⟩, Hb, Hh, Hg, Ht, Hk⟩
  isplitl [Hr Hk]
  · iintro ⟨Hb, Hh, HO⟩
    rw [wp_ret]
    imodintro
    iapply Hk
    isplitl [HO Hr]
    · isplitl [HO] <;> iassumption
    isplitl [Hb] <;> iassumption
  isplitl [Hb]; · iexact Hb
  isplitl [Hh]; · iexact Hh
  isplitl [HO]; · iexact HO
  isplitl [HL]; · iexact HL
  isplitl [Hg] <;> iassumption

/-- The second region, between the calls. -/
theorem region_1 (hS : Pipeline.arrRefs spec2 ⊆ S) (hW₀ : ∀ b ∈ Pipeline.arrRefs spec2, W₀ b = W₁ d b) :
    iprop(levAts (K (F := F)).L (K (F := F)).lev ∗ (K (F := F)).tcSt EH d 1 ∗ boundary (d : Thread nD τ) ∗ StableHlo.held (d : Thread nD τ) S W₀
        ∗ Pipeline.cellsGhost (pins (F := F)) EP 1 d ∗ Pipeline.toksInit (pins (F := F)) EP 1 d
        ∗ (((K (F := F)).tcSt EH d 1 ∗ boundary (d : Thread nD τ) ∗ ∃ W, ⌜Two.After W₁ (owedTc (F := F) 1) (recTc (F := F) 1) d W⌝
            ∗ StableHlo.held (d : Thread nD τ) S fun b => if b ∈ Pipeline.arrRefs spec2 then W b else W₀ b) -∗ Φ ⟨⟩))
      ⊢ wp frame (wpE ((K (F := F)).defs (D (F := F))) 𝒱 (d : Thread nD τ) none) Set.univ
          (SparseCore.liftProg (.op (.customCall (Pipeline.entry 1) ()) .ret)) Φ := by
  have hl := (K (F := F)).wp_liftProg (D (F := F)) 𝒱 (d : Thread nD τ) Set.univ none
    (.op (.customCall (Pipeline.entry 1) ()) .ret : Prog (TpuEff nD τ sig (Elt F) ΛP .tc) PUnit) Φ
  have hr := Two.region_wp W₁ (owedTc (F := F) 1) (recTc (F := F) 1) (owedTc_none 1) (recTc_none 1) d S hS W₀ hW₀ .ret Φ
  refine (show _ ⊢ _ from ?_).trans (hr.trans hl)
  rw [tcSt_eq]
  iintro ⟨HL, ⟨HO, Hr⟩, Hb, Hh, Hg, Ht, Hk⟩
  isplitl [Hr Hk]
  · iintro ⟨Hb, Hh, HO⟩
    rw [wp_ret]
    imodintro
    iapply Hk
    isplitl [HO Hr]
    · isplitl [HO] <;> iassumption
    isplitl [Hb] <;> iassumption
  isplitl [Hb]; · iexact Hb
  isplitl [Hh]; · iexact Hh
  isplitl [HO]; · iexact HO
  isplitl [HL]; · iexact HL
  isplitl [Hg] <;> iassumption

end Regions

/-! ## The barrier cells between the calls -/

omit [FloatOps F] in
theorem bAt_of (d : Dev nD) (c : Fin τ.nSC) (i : Fin 16) :
    iprop((bigSep Finset.univ fun j : Fin 16 => reached EB (bcell d c (tileOf j)) 1) ∗ atPos EB (bcell d c (tileOf i)) 1 ∅ 0)
      ⊢ (bAt 1 d c (tileOf i) : sProp (MM F)) := by
  unfold bAt
  iintro ⟨Hr, Ha⟩
  isplitl [Ha] <;> iassumption

/-- Every tile of a core stands where the second call starts. -/
theorem ends_bAt (d : Dev nD) (c : Fin τ.nSC) :
    (bigSep Finset.univ fun i : Fin 16 => One.endAt d c (tileOf i) : sProp (MM F)) ⊢ bigSep Finset.univ fun i : Fin 16 => bAt 1 d c (tileOf i) := by
  unfold One.endAt
  rw [bigSep_sep']
  iintro ⟨Ha, #Hr⟩
  iapply (bigSep_with_persistent (R := (bigSep Finset.univ fun j : Fin 16 => reached EB (bcell d c (tileOf j)) 1 : sProp (MM F))) (fun i _ => bAt_of d c i))
  isplitr
  · iexact Hr
  iexact Ha

end Cert.Proof.Scatter

end
-- ==== Proof.Main.lean ====
/-
  `@main` on the TensorCore: host operations, a region, a SparseCore call, a region, a SparseCore call
  and the host operations after them; and the run of the whole program.
-/
module

public import proofs.«01_k».proof.Proof.Steps
public import Idealize.ShloMosaic.Lib.StableHlo.ReadAt
public import Idealize.ShloMosaic.Lib.Pointwise

@[expose] public section

noncomputable section

namespace Cert.Proof.Scatter

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-- The host operations before the first region. -/
def opsA : List (HloOp τ sig (Elt F)) :=
  [StableHlo.nullary main_c (constantI S_ 32 1023#32),
   StableHlo.unary main_c main_v0 (broadcastInDim S768 ![] bcast_S_S768 : (⟨S_, .i32⟩ : BufTy).Contents (Elt F) → (⟨S768, .i32⟩ : BufTy).Contents (Elt F)),
   StableHlo.binary main_arg0 main_v0 main_v1 ((fun a b => concatenate S160768 0 [⟨S160000, a⟩, ⟨S768, b⟩] concatenates_S160000_S768_S160768_d0) : (⟨S160000, .i32⟩ : BufTy).Contents (Elt F) → (⟨S768, .i32⟩ : BufTy).Contents (Elt F) → (⟨S160768, .i32⟩ : BufTy).Contents (Elt F)),
   StableHlo.unary main_arg2 main_v2 ((transpose S3x160000 [1, 0] · transposes_S160000x3_S3x160000_1_0) : (⟨S160000x3, .f32⟩ : BufTy).Contents (Elt F) → (⟨S3x160000, .f32⟩ : BufTy).Contents (Elt F)),
   StableHlo.reshape main_arg4 main_v3 (rfl : (.f32 : EltTy) = .f32) shapeCasts_S1_S1x1]
/-- The first call's segment numbers, sliced out. -/
def opsB : List (HloOp τ sig (Elt F)) :=
  [StableHlo.unary main_v1 main_v5 ((extractStridedSlice S98304 ![0] · slices_S160768_S98304_0) : (⟨S160768, .i32⟩ : BufTy).Contents (Elt F) → (⟨S98304, .i32⟩ : BufTy).Contents (Elt F))]
/-- The second call's. -/
def opsB' : List (HloOp τ sig (Elt F)) :=
  [StableHlo.unary main_v1 main_v8 ((extractStridedSlice S62464 ![98304] · slices_S160768_S62464_98304) : (⟨S160768, .i32⟩ : BufTy).Contents (Elt F) → (⟨S62464, .i32⟩ : BufTy).Contents (Elt F))]
/-- The host operations after the second call. -/
def opsC : List (HloOp τ sig (Elt F)) :=
  [StableHlo.nullary main_cst (constant S_ .f32 0x00000000#32),
   StableHlo.unary main_cst main_v10 (broadcastInDim S4096 ![] bcast_S_S4096 : (⟨S_, .f32⟩ : BufTy).Contents (Elt F) → (⟨S4096, .f32⟩ : BufTy).Contents (Elt F)),
   StableHlo.unary main_v6 main_v11 ((extractStridedSlice S1x4096 ![0, 0] · slices_S2x4096_S1x4096_0_0) : (⟨S2x4096, .f32⟩ : BufTy).Contents (Elt F) → (⟨S1x4096, .f32⟩ : BufTy).Contents (Elt F)),
   StableHlo.reshape main_v11 main_v12 (rfl : (.f32 : EltTy) = .f32) shapeCasts_S1x4096_S4096,
   StableHlo.binary main_v10 main_v12 main_v13 (addf : (⟨S4096, .f32⟩ : BufTy).Contents (Elt F) → (⟨S4096, .f32⟩ : BufTy).Contents (Elt F) → (⟨S4096, .f32⟩ : BufTy).Contents (Elt F)),
   StableHlo.unary main_v6 main_v14 ((extractStridedSlice S1x4096 ![1, 0] · slices_S2x4096_S1x4096_1_0) : (⟨S2x4096, .f32⟩ : BufTy).Contents (Elt F) → (⟨S1x4096, .f32⟩ : BufTy).Contents (Elt F)),
   StableHlo.reshape main_v14 main_v15 (rfl : (.f32 : EltTy) = .f32) shapeCasts_S1x4096_S4096,
   StableHlo.binary main_v13 main_v15 main_v16 (addf : (⟨S4096, .f32⟩ : BufTy).Contents (Elt F) → (⟨S4096, .f32⟩ : BufTy).Contents (Elt F) → (⟨S4096, .f32⟩ : BufTy).Contents (Elt F)),
   StableHlo.unary main_v9 main_v17 ((extractStridedSlice S1x4096 ![0, 0] · slices_S2x4096_S1x4096_0_0) : (⟨S2x4096, .f32⟩ : BufTy).Contents (Elt F) → (⟨S1x4096, .f32⟩ : BufTy).Contents (Elt F)),
   StableHlo.reshape main_v17 main_v18 (rfl : (.f32 : EltTy) = .f32) shapeCasts_S1x4096_S4096,
   StableHlo.binary main_v16 main_v18 main_v19 (addf : (⟨S4096, .f32⟩ : BufTy).Contents (Elt F) → (⟨S4096, .f32⟩ : BufTy).Contents (Elt F) → (⟨S4096, .f32⟩ : BufTy).Contents (Elt F)),
   StableHlo.unary main_v9 main_v20 ((extractStridedSlice S1x4096 ![1, 0] · slices_S2x4096_S1x4096_1_0) : (⟨S2x4096, .f32⟩ : BufTy).Contents (Elt F) → (⟨S1x4096, .f32⟩ : BufTy).Contents (Elt F)),
   StableHlo.reshape main_v20 main_v21 (rfl : (.f32 : EltTy) = .f32) shapeCasts_S1x4096_S4096,
   StableHlo.binary main_v19 main_v21 main_v22 (addf : (⟨S4096, .f32⟩ : BufTy).Contents (Elt F) → (⟨S4096, .f32⟩ : BufTy).Contents (Elt F) → (⟨S4096, .f32⟩ : BufTy).Contents (Elt F)),
   StableHlo.reshape main_v22 main_v23 (rfl : (.f32 : EltTy) = .f32) shapeCasts_S4096_S1024x4,
   StableHlo.unary main_v23 main_v24 ((extractStridedSlice S1024x1 ![0, 0] · slices_S1024x4_S1024x1_0_0) : (⟨S1024x4, .f32⟩ : BufTy).Contents (Elt F) → (⟨S1024x1, .f32⟩ : BufTy).Contents (Elt F)),
   StableHlo.reshape main_v24 main_v25 (rfl : (.f32 : EltTy) = .f32) shapeCasts_S1024x1_S1024,
   StableHlo.unary main_v23 main_v26 ((extractStridedSlice S1024x3 ![0, 1] · slices_S1024x4_S1024x3_0_1) : (⟨S1024x4, .f32⟩ : BufTy).Contents (Elt F) → (⟨S1024x3, .f32⟩ : BufTy).Contents (Elt F))]

/-- The regions, as `@main` calls them. -/
abbrev rgn (p : Fin 2) : Prog (TpuEff nD τ sig (Elt F) (ΛP (F := F)) .tc) PUnit := .op (.customCall (Pipeline.entry p) ()) .ret

theorem main_eq (d : Dev nD) : main (F := F) d
    = (StableHlo.seq opsA >>= fun _ => SparseCore.liftProg (rgn 0) >>= fun _ => StableHlo.seq opsB >>= fun _ => (K (F := F)).run d 0 >>= fun _ =>
        SparseCore.liftProg (rgn 1) >>= fun _ => StableHlo.seq opsB' >>= fun _ => (K (F := F)).run d 1 >>= fun _ => StableHlo.seq opsC) := rfl

theorem opsA_uc : ∀ op ∈ opsA (F := F), op.bufs ⊆ Pipeline.ucRefs τ sig := by
  intro op hop
  refine Pipeline.sub_ucRefs op ?_
  revert op
  refine List.forall_iff_forall_mem.mp ?_
  simp only [opsA, List.Forall, StableHlo.nullary_bufs_sub, StableHlo.unary_bufs_sub, StableHlo.binary_bufs_sub, StableHlo.reshape_bufs_sub, and_self]
theorem opsA_fresh : ∀ op ∈ opsA (F := F), op.fresh = ∅ :=
  List.forall_iff_forall_mem.mp (StableHlo.forall_fresh_of_map rfl)
theorem opsB_uc : ∀ op ∈ opsB (F := F), op.bufs ⊆ Pipeline.ucRefs τ sig := by
  intro op hop
  refine Pipeline.sub_ucRefs op ?_
  revert op
  refine List.forall_iff_forall_mem.mp ?_
  simp only [opsB, List.Forall, StableHlo.nullary_bufs_sub, StableHlo.unary_bufs_sub, StableHlo.binary_bufs_sub, StableHlo.reshape_bufs_sub, and_self]
theorem opsB_fresh : ∀ op ∈ opsB (F := F), op.fresh = ∅ :=
  List.forall_iff_forall_mem.mp (StableHlo.forall_fresh_of_map rfl)
theorem opsB'_uc : ∀ op ∈ opsB' (F := F), op.bufs ⊆ Pipeline.ucRefs τ sig := by
  intro op hop
  refine Pipeline.sub_ucRefs op ?_
  revert op
  refine List.forall_iff_forall_mem.mp ?_
  simp only [opsB', List.Forall, StableHlo.nullary_bufs_sub, StableHlo.unary_bufs_sub, StableHlo.binary_bufs_sub, StableHlo.reshape_bufs_sub, and_self]
theorem opsB'_fresh : ∀ op ∈ opsB' (F := F), op.fresh = ∅ :=
  List.forall_iff_forall_mem.mp (StableHlo.forall_fresh_of_map rfl)
theorem opsC_uc : ∀ op ∈ opsC (F := F), op.bufs ⊆ Pipeline.ucRefs τ sig := by
  intro op hop
  refine Pipeline.sub_ucRefs op ?_
  revert op
  refine List.forall_iff_forall_mem.mp ?_
  simp only [opsC, List.Forall, StableHlo.nullary_bufs_sub, StableHlo.unary_bufs_sub, StableHlo.binary_bufs_sub, StableHlo.reshape_bufs_sub, and_self]
theorem opsC_fresh : ∀ op ∈ opsC (F := F), op.fresh = ∅ :=
  List.forall_iff_forall_mem.mp (StableHlo.forall_fresh_of_map rfl)

/-- The second call's inputs and the first's, gone when the host operations after them run. -/
def five : Finset (DevRef τ sig) :=
  {Proc.devRef .tc main_v5, Proc.devRef .tc main_v4_0, Proc.devRef .tc main_v4_1, Proc.devRef .tc main_v4_2, Proc.devRef .tc main_v4_3}
def five' : Finset (DevRef τ sig) :=
  {Proc.devRef .tc main_v8, Proc.devRef .tc main_v7_0, Proc.devRef .tc main_v7_1, Proc.devRef .tc main_v7_2, Proc.devRef .tc main_v7_3}
/-- The unscoped buffers the TensorCore holds after the first call, and after the second. -/
abbrev S₁ : Finset (DevRef τ sig) := Pipeline.ucRefs τ sig \ five
abbrev S₂ : Finset (DevRef τ sig) := S₁ \ five'

theorem mem_uc (r : Ref sig .tc) (h : r.isScoped = false) : Proc.devRef (τ := τ) .tc r ∈ Pipeline.ucRefs τ sig :=
  Finset.mem_filter.mpr ⟨StableHlo.devRef_mem_tcRefs _, fun h' => Bool.false_ne_true (h.symm.trans h')⟩
theorem mem_S₁ (r : Ref sig .tc) (h : r.isScoped = false) (h5 : Proc.devRef (τ := τ) .tc r ∉ five) : Proc.devRef (τ := τ) .tc r ∈ S₁ :=
  Finset.mem_sdiff.mpr ⟨mem_uc r h, h5⟩
theorem mem_S₂ (r : Ref sig .tc) (h : r.isScoped = false) (h5 : Proc.devRef (τ := τ) .tc r ∉ five) (h5' : Proc.devRef (τ := τ) .tc r ∉ five') :
    Proc.devRef (τ := τ) .tc r ∈ S₂ :=
  Finset.mem_sdiff.mpr ⟨mem_S₁ r h h5, h5'⟩

theorem opsB'_S₁ : ∀ op ∈ opsB' (F := F), op.bufs ⊆ S₁ := fun op hop b hb =>
  Finset.mem_sdiff.mpr ⟨opsB'_uc op hop hb, (Finset.disjoint_left.mp (by
    obtain rfl := List.mem_singleton.mp hop
    show Disjoint ({Proc.devRef .tc main_v1, Proc.devRef .tc main_v8} : Finset (DevRef τ sig)) five
    decide)) hb⟩

/-- The buffers `opsC` touches are none of the calls' inputs. -/
theorem opsC_off : ∀ op ∈ opsC (F := F), Disjoint op.bufs (five ∪ five') := by
  refine List.forall_iff_forall_mem.mp ?_
  simp only [opsC, List.Forall]
  refine ⟨?_, ?_, ?_, ?_, ?_, ?_, ?_, ?_, ?_, ?_, ?_, ?_, ?_, ?_, ?_, ?_, ?_, ?_⟩
  · show Disjoint ({Proc.devRef .tc main_cst} : Finset (DevRef τ sig)) (five ∪ five'); decide
  · show Disjoint ({Proc.devRef .tc main_cst, Proc.devRef .tc main_v10} : Finset (DevRef τ sig)) (five ∪ five'); decide
  · show Disjoint ({Proc.devRef .tc main_v6, Proc.devRef .tc main_v11} : Finset (DevRef τ sig)) (five ∪ five'); decide
  · show Disjoint ({Proc.devRef .tc main_v11, Proc.devRef .tc main_v12} : Finset (DevRef τ sig)) (five ∪ five'); decide
  · show Disjoint ({Proc.devRef .tc main_v10, Proc.devRef .tc main_v12, Proc.devRef .tc main_v13} : Finset (DevRef τ sig)) (five ∪ five'); decide
  · show Disjoint ({Proc.devRef .tc main_v6, Proc.devRef .tc main_v14} : Finset (DevRef τ sig)) (five ∪ five'); decide
  · show Disjoint ({Proc.devRef .tc main_v14, Proc.devRef .tc main_v15} : Finset (DevRef τ sig)) (five ∪ five'); decide
  · show Disjoint ({Proc.devRef .tc main_v13, Proc.devRef .tc main_v15, Proc.devRef .tc main_v16} : Finset (DevRef τ sig)) (five ∪ five'); decide
  · show Disjoint ({Proc.devRef .tc main_v9, Proc.devRef .tc main_v17} : Finset (DevRef τ sig)) (five ∪ five'); decide
  · show Disjoint ({Proc.devRef .tc main_v17, Proc.devRef .tc main_v18} : Finset (DevRef τ sig)) (five ∪ five'); decide
  · show Disjoint ({Proc.devRef .tc main_v16, Proc.devRef .tc main_v18, Proc.devRef .tc main_v19} : Finset (DevRef τ sig)) (five ∪ five'); decide
  · show Disjoint ({Proc.devRef .tc main_v9, Proc.devRef .tc main_v20} : Finset (DevRef τ sig)) (five ∪ five'); decide
  · show Disjoint ({Proc.devRef .tc main_v20, Proc.devRef .tc main_v21} : Finset (DevRef τ sig)) (five ∪ five'); decide
  · show Disjoint ({Proc.devRef .tc main_v19, Proc.devRef .tc main_v21, Proc.devRef .tc main_v22} : Finset (DevRef τ sig)) (five ∪ five'); decide
  · show Disjoint ({Proc.devRef .tc main_v22, Proc.devRef .tc main_v23} : Finset (DevRef τ sig)) (five ∪ five'); decide
  · show Disjoint ({Proc.devRef .tc main_v23, Proc.devRef .tc main_v24} : Finset (DevRef τ sig)) (five ∪ five'); decide
  · show Disjoint ({Proc.devRef .tc main_v24, Proc.devRef .tc main_v25} : Finset (DevRef τ sig)) (five ∪ five'); decide
  · show Disjoint ({Proc.devRef .tc main_v23, Proc.devRef .tc main_v26} : Finset (DevRef τ sig)) (five ∪ five'); decide
theorem opsC_S₂ : ∀ op ∈ opsC (F := F), op.bufs ⊆ S₂ := fun op hop b hb => by
  have h := Finset.disjoint_left.mp (opsC_off op hop) hb
  rw [Finset.mem_union, not_or] at h
  exact Finset.mem_sdiff.mpr ⟨Finset.mem_sdiff.mpr ⟨opsC_uc op hop hb, h.1⟩, h.2⟩

/-! ## The calls as steps -/

omit [FloatOps F] in
/-- One buffer of a set held, written. -/
theorem held_take (d : Dev nD) {S : Finset (DevRef τ sig)} {b : DevRef τ sig} (hb : b ∈ S) (V : Valuation τ sig (Elt F)) :
    (StableHlo.held (d : Thread nD τ) S V : sProp (MM F)) = iprop((((d, b) : Loc nD τ sig) ↦{fullShare} V b) ∗ StableHlo.held (d : Thread nD τ) (S.erase b) V) :=
  SparseCore.bigSep_erase' hb

omit [FloatOps F] in
theorem held_put (d : Dev nD) {S : Finset (DevRef τ sig)} {b : DevRef τ sig} (hb : b ∈ S) (V : Valuation τ sig (Elt F)) (o : Buf (Elt F) ((d, b) : Loc nD τ sig)) :
    iprop((((d, b) : Loc nD τ sig) ↦{fullShare} o) ∗ StableHlo.held (d : Thread nD τ) (S.erase b) V)
      ⊢ (StableHlo.held (d : Thread nD τ) S (Function.update V b o) : sProp (MM F)) := by
  rw [held_take d hb (Function.update V b o), Function.update_self]
  refine sep_mono_right (Entails.of_eq (StableHlo.held_congr _ fun b' hb' => (Function.update_of_ne (Finset.mem_erase.mp hb').1 _ _).symm))

/-- The first call's inputs, as a valuation has them. -/
def inOne (V : Valuation τ sig (Elt F)) : One.In F :=
  ⟨V (Proc.devRef .tc main_v5), V (Proc.devRef .tc main_v4_0), V (Proc.devRef .tc main_v4_1), V (Proc.devRef .tc main_v4_2), V (Proc.devRef .tc main_v4_3)⟩
def inTwo (V : Valuation τ sig (Elt F)) : Two.In F :=
  ⟨V (Proc.devRef .tc main_v8), V (Proc.devRef .tc main_v7_0), V (Proc.devRef .tc main_v7_1), V (Proc.devRef .tc main_v7_2), V (Proc.devRef .tc main_v7_3)⟩

theorem five_sub : five ⊆ Pipeline.ucRefs τ sig := by
  intro b hb
  simp only [five, Finset.mem_insert, Finset.mem_singleton] at hb
  rcases hb with rfl | rfl | rfl | rfl | rfl <;> exact mem_uc _ (by decide)
theorem five'_sub : five' ⊆ S₁ := by
  intro b hb
  simp only [five', Finset.mem_insert, Finset.mem_singleton] at hb
  rcases hb with rfl | rfl | rfl | rfl | rfl <;> exact mem_S₁ _ (by decide) (by decide)

omit [FloatOps F] in
theorem held_five (d : Dev nD) (V : Valuation τ sig (Elt F)) :
    (StableHlo.held (d : Thread nD τ) five V : sProp (MM F)) = One.wholeIn (inOne V) d := by
  unfold StableHlo.held five
  rw [SparseCore.bigSep_insert' (by decide), SparseCore.bigSep_insert' (by decide), SparseCore.bigSep_insert' (by decide), SparseCore.bigSep_insert' (by decide), bigSep_singleton]
  rfl
omit [FloatOps F] in
theorem held_five' (d : Dev nD) (V : Valuation τ sig (Elt F)) :
    (StableHlo.held (d : Thread nD τ) five' V : sProp (MM F)) = Two.wholeIn (inTwo V) d := by
  unfold StableHlo.held five'
  rw [SparseCore.bigSep_insert' (by decide), SparseCore.bigSep_insert' (by decide), SparseCore.bigSep_insert' (by decide), SparseCore.bigSep_insert' (by decide), bigSep_singleton]
  rfl

/-- Every tile's barrier cell between the calls. -/
def mids (d : Dev nD) : sProp (MM F) :=
  bigSep Finset.univ fun c : Fin 2 => bigSep Finset.univ fun i : Fin 16 => bAt 1 d (One.coreOf (F := F) c) (tileOf i)
/-- And after the second. -/
def ends (d : Dev nD) : sProp (MM F) :=
  bigSep Finset.univ fun c : Fin 2 => bigSep Finset.univ fun i : Fin 16 => Two.endAt d (Two.coreOf (F := F) c) ((K (F := F)).sub 1 i)

theorem ends_mids (d : Dev nD) :
    (bigSep Finset.univ fun c : Fin 2 => bigSep Finset.univ fun i : Fin 16 => One.endAt d (One.coreOf (F := F) c) (tileOf i) : sProp (MM F)) ⊢ mids d := by
  unfold mids
  exact bigSep_mono fun c _ => ends_bAt d (One.coreOf (F := F) c)

variable (R₁ : One.InRel F) (R₂ : Two.InRel F)

theorem st_0 (d : Dev nD) : (bigSep Finset.univ fun c : Fin ((K (F := F)).nCore 0) => (P R₁ R₂).st 0 d c)
    = (bigSep Finset.univ fun c : Fin 2 => bigSep Finset.univ fun i : Fin 16 => One.stPart R₁ d c.val i.val : sProp (MM F)) := rfl
theorem dn_0 (d : Dev nD) : (bigSep Finset.univ fun c : Fin ((K (F := F)).nCore 0) => (P R₁ R₂).dn 0 d c)
    = (iprop((bigSep Finset.univ fun c : Fin 2 => bigSep Finset.univ fun i : Fin 16 => One.outPart R₁ d c.val i.val)
        ∗ bigSep Finset.univ fun c : Fin 2 => bigSep Finset.univ fun i : Fin 16 => One.endAt d (One.coreOf (F := F) c) (tileOf i)) : sProp (MM F)) := by
  rw [← bigSep_sep']
  refine bigSep_congr fun c _ => ?_
  exact bigSep_sep' (Finset.univ : Finset (Fin 16)) (fun i => (One.outPart R₁ d c.val i.val : sProp (MM F))) fun i => One.endAt d (One.coreOf (F := F) c) (tileOf i)
theorem st_1 (d : Dev nD) : (bigSep Finset.univ fun c : Fin ((K (F := F)).nCore 1) => (P R₁ R₂).st 1 d c)
    = (iprop((bigSep Finset.univ fun c : Fin 2 => bigSep Finset.univ fun i : Fin 16 => Two.stPart R₂ d c.val i.val) ∗ mids d) : sProp (MM F)) := by
  unfold mids
  rw [← bigSep_sep']
  refine bigSep_congr fun c _ => ?_
  exact bigSep_sep' (Finset.univ : Finset (Fin 16)) (fun i => (Two.stPart R₂ d c.val i.val : sProp (MM F))) fun i => bAt 1 d (One.coreOf (F := F) c) (tileOf i)
theorem dn_1 (d : Dev nD) : (bigSep Finset.univ fun c : Fin ((K (F := F)).nCore 1) => (P R₁ R₂).dn 1 d c)
    = (iprop((bigSep Finset.univ fun c : Fin 2 => bigSep Finset.univ fun i : Fin 16 => Two.outPart R₂ d c.val i.val) ∗ ends d) : sProp (MM F)) := by
  unfold ends
  rw [← bigSep_sep']
  refine bigSep_congr fun c _ => ?_
  exact bigSep_sep' (Finset.univ : Finset (Fin 16)) (fun i => (Two.outPart R₂ d c.val i.val : sProp (MM F))) fun i => Two.endAt d (Two.coreOf (F := F) c) ((K (F := F)).sub 1 i)

theorem v6_mem : (Proc.devRef .tc main_v6 : DevRef τ sig) ∈ S₁ := mem_S₁ _ (by decide) (by decide)
theorem v9_mem : (Proc.devRef .tc main_v9 : DevRef τ sig) ∈ S₂ := mem_S₂ _ (by decide) (by decide) (by decide)

variable (κ : GSem nD τ sig → ℕ) (d : Dev nD) (V : Valuation τ sig (Elt F)) (Φ : PUnit → sProp (MM F))

theorem call_0 (hR : R₁ d (inOne V)) :
    iprop((K (F := F)).ctx EH (P R₁ R₂) κ ∗ (K (F := F)).tcSt EH d 0 ∗ StableHlo.held (d : Thread nD τ) (Pipeline.ucRefs τ sig) V
        ∗ (((K (F := F)).tcSt EH d 1 ∗ (∃ o : S2x4096.Idx → F .f32, ⌜∀ i, One.Rout R₁ d o i⌝
            ∗ StableHlo.held (d : Thread nD τ) S₁ (Function.update V (Proc.devRef .tc main_v6) o)) ∗ mids d) -∗ Φ ⟨⟩))
      ⊢ wp frame (wpE ((K (F := F)).defs (D (F := F))) 𝒱 (d : Thread nD τ) none) Set.univ ((K (F := F)).run d 0) Φ := by
  have hrun := (K (F := F)).wp_run (D (F := F)) 𝒱 (EH := EH) (P := P R₁ R₂) κ d 0 (Φ := Φ)
  refine (show _ ⊢ _ from ?_).trans hrun
  rw [StableHlo.held_sub_split (d : Thread nD τ) five_sub V, held_five, held_take d v6_mem V, st_0, dn_0]
  iintro ⟨Hctx, Hst, ⟨Hin, Ho, Hrest⟩, Hk⟩
  isplitl [Hctx]; · iexact Hctx
  isplitl [Hst]; · iexact Hst
  isplitl [Hin Ho]
  · iapply (One.all_in R₁ (inOne V) d hR (V (Proc.devRef .tc main_v6)))
    isplitl [Hin]; · iexact Hin
    iexact Ho
  iintro ⟨Hst, Hout, He⟩
  ihave Hout := (One.all_out R₁ d) $$ Hout
  icases Hout with ⟨%o, %ho, Ho⟩
  iapply Hk
  isplitl [Hst]; · iexact Hst
  isplitl [Ho Hrest]
  · iexists o
    isplitr; · ipureintro; exact ho
    iapply (held_put d v6_mem V o)
    isplitl [Ho]; · iexact Ho
    iexact Hrest
  iapply (ends_mids d)
  iexact He

theorem call_1 (hR : R₂ d (inTwo V)) :
    iprop((K (F := F)).ctx EH (P R₁ R₂) κ ∗ (K (F := F)).tcSt EH d 1 ∗ StableHlo.held (d : Thread nD τ) S₁ V ∗ mids d
        ∗ (((K (F := F)).tcSt EH d 2 ∗ (∃ o : S2x4096.Idx → F .f32, ⌜∀ i, Two.Rout R₂ d o i⌝
            ∗ StableHlo.held (d : Thread nD τ) S₂ (Function.update V (Proc.devRef .tc main_v9) o)) ∗ ends d) -∗ Φ ⟨⟩))
      ⊢ wp frame (wpE ((K (F := F)).defs (D (F := F))) 𝒱 (d : Thread nD τ) none) Set.univ ((K (F := F)).run d 1) Φ := by
  have hrun := (K (F := F)).wp_run (D (F := F)) 𝒱 (EH := EH) (P := P R₁ R₂) κ d 1 (Φ := Φ)
  refine (show _ ⊢ _ from ?_).trans hrun
  rw [StableHlo.held_sub_split (d : Thread nD τ) five'_sub V, held_five', held_take d v9_mem V, st_1, dn_1]
  iintro ⟨Hctx, Hst, ⟨Hin, Ho, Hrest⟩, Hm, Hk⟩
  isplitl [Hctx]; · iexact Hctx
  isplitl [Hst]; · iexact Hst
  isplitl [Hin Ho Hm]
  · isplitl [Hin Ho]
    · iapply (Two.all_in R₂ (inTwo V) d hR (V (Proc.devRef .tc main_v9)))
      isplitl [Hin]; · iexact Hin
      iexact Ho
    iexact Hm
  iintro ⟨Hst, Hout, He⟩
  ihave Hout := (Two.all_out R₂ d) $$ Hout
  icases Hout with ⟨%o, %ho, Ho⟩
  iapply Hk
  isplitl [Hst]; · iexact Hst
  isplitl [Ho Hrest]
  · iexists o
    isplitr; · ipureintro; exact ho
    iapply (held_put d v9_mem V o)
    isplitl [Ho]; · iexact Ho
    iexact Hrest
  iexact He

end Cert.Proof.Scatter

end
-- ==== Proof.Run.lean ====
/-
  The run of the whole program: `@main` step by step, and what its end says of the results.
-/
module

public import proofs.«01_k».proof.Proof.Main

@[expose] public section

noncomputable section

namespace Cert.Proof.Scatter

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (m : (ℓ : Loc nD τ sig) → Buf (Elt F) ℓ) (ρ : Dev nD → PrngReg)

/-- The device's buffers at the launch. -/
abbrev V₀ (d : Dev nD) : Valuation τ sig (Elt F) := fun b => m (d, b)
/-- The buffers when the first region starts. -/
def V₁ : One.Val₀ F := fun d => StableHlo.after opsA (V₀ m d)

/-- The segment numbers with the padding's behind them. -/
abbrev idsAll (d : Dev nD) : S160768.Idx → BitVec 32 := V₁ m d (Proc.devRef .tc main_v1)

abbrev rdOne (d : Dev nD) := One.rdat (V₁ m) (owedTc (F := F) 0) (recTc (F := F) 0) d
abbrev rdTwo (d : Dev nD) := Two.rdat (V₁ m) (owedTc (F := F) 1) (recTc (F := F) 1) d

/-- What the first call may be handed. -/
def R1 : One.InRel F := fun d I =>
  I.ids = extractStridedSlice S98304 ![0] (idsAll m d) slices_S160768_S98304_0
    ∧ (rdOne m d).ArrAt 4 cfg0.N I.q ∧ (rdOne m d).ArrAt 5 cfg0.N I.x ∧ (rdOne m d).ArrAt 6 cfg0.N I.y ∧ (rdOne m d).ArrAt 7 cfg0.N I.z
/-- What the second call may be handed. -/
def R2 : Two.InRel F := fun d I =>
  I.ids = extractStridedSlice S62464 ![98304] (idsAll m d) slices_S160768_S62464_98304
    ∧ (rdTwo m d).ArrAt 4 cfg2.N I.q ∧ (rdTwo m d).ArrAt 5 cfg2.N I.x ∧ (rdTwo m d).ArrAt 6 cfg2.N I.y ∧ (rdTwo m d).ArrAt 7 cfg2.N I.z

/-- What the buffers satisfy when the last host operations start. -/
def Rel (d : Dev nD) (W : Valuation τ sig (Elt F)) : Prop :=
  (∀ i, One.Rout (R1 m) d (W (Proc.devRef .tc main_v6)) i) ∧ (∀ i, Two.Rout (R2 m) d (W (Proc.devRef .tc main_v9)) i)
    ∧ ∀ r ∈ [main_arg0, main_arg1, main_arg2, main_arg3, main_arg4], W (Proc.devRef .tc r) = m (d, Proc.devRef .tc r)

/-! ## The valuations between the steps -/

section Vals

variable (d : Dev nD) (W W' : Valuation τ sig (Elt F)) (o o' : S2x4096.Idx → F .f32)

def Wa : Valuation τ sig (Elt F) := fun b => if b ∈ Pipeline.arrRefs spec0 then W b else V₁ m d b
abbrev Wb : Valuation τ sig (Elt F) := StableHlo.after opsB (Wa m d W)
abbrev Wc : Valuation τ sig (Elt F) := Function.update (Wb m d W) (Proc.devRef .tc main_v6) o
def Wd : Valuation τ sig (Elt F) := fun b => if b ∈ Pipeline.arrRefs spec2 then W' b else Wc m d W o b
abbrev We : Valuation τ sig (Elt F) := StableHlo.after opsB' (Wd m d W W' o)
abbrev Wf : Valuation τ sig (Elt F) := Function.update (We m d W W' o) (Proc.devRef .tc main_v9) o'

theorem Wb_keep (r : Ref sig .tc) (h : r ∉ [main_v5]) : Wb m d W (Proc.devRef .tc r) = Wa m d W (Proc.devRef .tc r) :=
  StableHlo.after_of_writes_sub (W := [main_v5]) opsB _ (StableHlo.forall_writes_sub_of_map rfl) h
theorem We_keep (r : Ref sig .tc) (h : r ∉ [main_v8]) : We m d W W' o (Proc.devRef .tc r) = Wd m d W W' o (Proc.devRef .tc r) :=
  StableHlo.after_of_writes_sub (W := [main_v8]) opsB' _ (StableHlo.forall_writes_sub_of_map rfl) h

variable {W W'}
variable (hW : One.After (V₁ m) (owedTc (F := F) 0) (recTc (F := F) 0) d W) (hW' : Two.After (V₁ m) (owedTc (F := F) 1) (recTc (F := F) 1) d W')

include hW in
theorem Wa_keep (b : DevRef τ sig) (h : b ∉ ({Proc.devRef .tc main_v4_0, Proc.devRef .tc main_v4_1, Proc.devRef .tc main_v4_2, Proc.devRef .tc main_v4_3} : Finset (DevRef τ sig))) :
    Wa m d W b = V₁ m d b := by
  unfold Wa; split
  · exact hW.1 b h
  · rfl
include hW in
theorem Wc_keep (r : Ref sig .tc) (h : r ∉ [main_v4_0, main_v4_1, main_v4_2, main_v4_3, main_v5, main_v6]) :
    Wc m d W o (Proc.devRef .tc r) = V₁ m d (Proc.devRef .tc r) := by
  simp only [List.mem_cons, List.not_mem_nil, or_false, not_or] at h
  obtain ⟨h0, h1, h2, h3, h5, h6⟩ := h
  unfold Wc
  rw [Function.update_of_ne (StableHlo.devRef_ne_of_ne h6), Wb_keep m d W r (by simpa using h5)]
  refine Wa_keep m d hW _ ?_
  simp only [Finset.mem_insert, Finset.mem_singleton, not_or]
  exact ⟨StableHlo.devRef_ne_of_ne h0, StableHlo.devRef_ne_of_ne h1, StableHlo.devRef_ne_of_ne h2, StableHlo.devRef_ne_of_ne h3⟩
include hW hW' in
theorem Wd_keep (r : Ref sig .tc) (h : r ∉ [main_v4_0, main_v4_1, main_v4_2, main_v4_3, main_v5, main_v6, main_v7_0, main_v7_1, main_v7_2, main_v7_3]) :
    Wd m d W W' o (Proc.devRef .tc r) = V₁ m d (Proc.devRef .tc r) := by
  simp only [List.mem_cons, List.not_mem_nil, or_false, not_or] at h
  obtain ⟨h0, h1, h2, h3, h5, h6, h7, h8, h9, h10⟩ := h
  unfold Wd; split
  · refine hW'.1 _ ?_
    simp only [Finset.mem_insert, Finset.mem_singleton, not_or]
    exact ⟨StableHlo.devRef_ne_of_ne h7, StableHlo.devRef_ne_of_ne h8, StableHlo.devRef_ne_of_ne h9, StableHlo.devRef_ne_of_ne h10⟩
  · exact Wc_keep m d o hW r (by simp only [List.mem_cons, List.not_mem_nil, or_false, not_or]; exact ⟨h0, h1, h2, h3, h5, h6⟩)

theorem arr_mem0 (w : Fin 8) : (Proc.devRef .tc (Pipeline.arrRef spec0 w) : DevRef τ sig) ∈ Pipeline.arrRefs spec0 :=
  Finset.mem_map.mpr ⟨_, Finset.mem_image.mpr ⟨w, Finset.mem_univ _, rfl⟩, rfl⟩
theorem arr_mem2 (w : Fin 8) : (Proc.devRef .tc (Pipeline.arrRef spec2 w) : DevRef τ sig) ∈ Pipeline.arrRefs spec2 :=
  Finset.mem_map.mpr ⟨_, Finset.mem_image.mpr ⟨w, Finset.mem_univ _, rfl⟩, rfl⟩

include hW in
theorem R1_in : R1 m d (inOne (Wb m d W)) := by
  have k4 : ∀ w : Fin 8, Pipeline.arrRef spec0 w ∉ [main_v5] → Wb m d W (Proc.devRef .tc (Pipeline.arrRef spec0 w)) = W (Proc.devRef .tc (Pipeline.arrRef spec0 w)) := fun w h =>
    (Wb_keep m d W _ h).trans (if_pos (arr_mem0 w))
  refine ⟨?_, ?_, ?_, ?_, ?_⟩
  · show Wb m d W (Proc.devRef .tc main_v5) = _
    unfold Wb opsB
    after_results
    rw [Wa_keep m d hW _ (by decide)]
  · have e := k4 4 (by decide)
    show (rdOne m d).ArrAt 4 cfg0.N (Wb m d W (Proc.devRef .tc (Pipeline.arrRef spec0 4)))
    rw [e]; exact hW.2.1
  · have e := k4 5 (by decide)
    show (rdOne m d).ArrAt 5 cfg0.N (Wb m d W (Proc.devRef .tc (Pipeline.arrRef spec0 5)))
    rw [e]; exact hW.2.2.1
  · have e := k4 6 (by decide)
    show (rdOne m d).ArrAt 6 cfg0.N (Wb m d W (Proc.devRef .tc (Pipeline.arrRef spec0 6)))
    rw [e]; exact hW.2.2.2.1
  · have e := k4 7 (by decide)
    show (rdOne m d).ArrAt 7 cfg0.N (Wb m d W (Proc.devRef .tc (Pipeline.arrRef spec0 7)))
    rw [e]; exact hW.2.2.2.2

include hW hW' in
theorem R2_in : R2 m d (inTwo (We m d W W' o)) := by
  have k4 : ∀ w : Fin 8, Pipeline.arrRef spec2 w ∉ [main_v8] → We m d W W' o (Proc.devRef .tc (Pipeline.arrRef spec2 w)) = W' (Proc.devRef .tc (Pipeline.arrRef spec2 w)) := fun w h =>
    (We_keep m d W W' o _ h).trans (if_pos (arr_mem2 w))
  refine ⟨?_, ?_, ?_, ?_, ?_⟩
  · show We m d W W' o (Proc.devRef .tc main_v8) = _
    unfold We opsB'
    after_results
    rw [Wd_keep m d o hW hW' _ (by decide)]
  · have e := k4 4 (by decide)
    show (rdTwo m d).ArrAt 4 cfg2.N (We m d W W' o (Proc.devRef .tc (Pipeline.arrRef spec2 4)))
    rw [e]; exact hW'.2.1
  · have e := k4 5 (by decide)
    show (rdTwo m d).ArrAt 5 cfg2.N (We m d W W' o (Proc.devRef .tc (Pipeline.arrRef spec2 5)))
    rw [e]; exact hW'.2.2.1
  · have e := k4 6 (by decide)
    show (rdTwo m d).ArrAt 6 cfg2.N (We m d W W' o (Proc.devRef .tc (Pipeline.arrRef spec2 6)))
    rw [e]; exact hW'.2.2.2.1
  · have e := k4 7 (by decide)
    show (rdTwo m d).ArrAt 7 cfg2.N (We m d W W' o (Proc.devRef .tc (Pipeline.arrRef spec2 7)))
    rw [e]; exact hW'.2.2.2.2

theorem V₁_keep (r : Ref sig .tc) (h : r ∉ [main_c, main_v0, main_v1, main_v2, main_v3]) : V₁ m d (Proc.devRef .tc r) = m (d, Proc.devRef .tc r) :=
  StableHlo.after_of_writes_sub (W := [main_c, main_v0, main_v1, main_v2, main_v3]) opsA _ (StableHlo.forall_writes_sub_of_map rfl) h

include hW hW' in
theorem Rel_Wf (ho : ∀ i, One.Rout (R1 m) d o i) (ho' : ∀ i, Two.Rout (R2 m) d o' i) : Rel m d (Wf m d W W' o o') := by
  refine ⟨?_, ?_, ?_⟩
  · have e : Wf m d W W' o o' (Proc.devRef .tc main_v6) = o := by
      unfold Wf
      rw [Function.update_of_ne (StableHlo.devRef_ne_of_ne (by decide)), We_keep m d W W' o _ (by decide)]
      unfold Wd
      rw [if_neg (by decide)]
      exact Function.update_self ..
    rw [e]; exact ho
  · have e : Wf m d W W' o o' (Proc.devRef .tc main_v9) = o' := Function.update_self ..
    rw [e]; exact ho'
  · intro r hr
    have h9 : r ≠ main_v9 := by rintro rfl; exact absurd hr (by decide)
    have h8 : r ∉ [main_v8] := by intro h; obtain rfl := List.mem_singleton.mp h; exact absurd hr (by decide)
    unfold Wf
    rw [Function.update_of_ne (StableHlo.devRef_ne_of_ne h9), We_keep m d W W' o _ h8,
      Wd_keep m d o hW hW' r (by intro h; revert hr; fin_cases h <;> decide), V₁_keep m d r (by intro h; revert hr; fin_cases h <;> decide)]

end Vals

/-! ## The program's steps -/

theorem spec0_uc : Pipeline.arrRefs (τ := τ) spec0 ⊆ Pipeline.ucRefs τ sig := Pipeline.arrRefs_sub_ucRefs spec0 (by decide)
theorem spec2_S₁ : Pipeline.arrRefs (τ := τ) spec2 ⊆ S₁ := fun b hb => by
  obtain ⟨r, hr, rfl⟩ := Finset.mem_map.mp hb
  obtain ⟨w, -, rfl⟩ := Finset.mem_image.mp hr
  exact mem_S₁ _ ((by decide : ∀ w : Fin 8, (Pipeline.arrRef spec2 w).isScoped = false) w)
    ((by decide : ∀ w : Fin 8, (Proc.devRef .tc (Pipeline.arrRef spec2 w) : DevRef τ sig) ∉ five) w)

/-- What @main ends with: the buffers left at what the last operations make of some contents satisfying `Rel`, and the
    barrier semaphores at zero. -/
abbrev FIN (d : Dev nD) : sProp (MM F) :=
  iprop((∃ W, ⌜Rel m d W⌝ ∗ StableHlo.held (d : Thread nD τ) S₂ (StableHlo.after opsC W)) ∗ ends d)

theorem hmain (κ : GSem nD τ sig → ℕ) (d : Dev nD) :
    iprop((K (F := F)).ctx EH (P (R1 m) (R2 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd G
  rw [show (unscopedBufs d (fun b => m ((SparseCore.T d : Thread nD τ).loc b)) : sProp (MM F)) = StableHlo.held (SparseCore.T d : Thread nD τ) (Pipeline.ucRefs τ sig) (V₀ m d)
      from Pipeline.unscopedBufs_held (Ix := HIx 2) (Name := ℕ) (U := UU) (Lvl := ℕ) d (V₀ m d), main_eq, bigSep_calls, bigSep_calls]
  iintro ⟨#Hctx, Hst, ⟨Hb, Hh, Hts, -⟩, ⟨Hg0, Hg1⟩, Ht0, Ht1⟩
  ihave #HL := (SparseCore.Cfg.ctx_levAts κ) $$ Hctx
  iapply (StableHlo.wp_seq 𝒱 none Set.univ d (Pipeline.ucRefs τ sig) _ opsA opsA_uc opsA_fresh (V₀ m d)) $$ [Hb Hh]
  · isplitl [Hb] <;> iassumption
  iintro ⟨Hb, Hh⟩
  rw [wp_bind]
  iapply (region_0 (V₁ m) d (Pipeline.ucRefs τ sig) (V₁ m d) _ spec0_uc fun _ _ => rfl)
  isplitr; · iexact HL
  isplitl [Hst]; · iexact Hst
  isplitl [Hb]; · iexact Hb
  isplitl [Hh]; · iexact Hh
  isplitl [Hg0]; · iexact Hg0
  isplitl [Ht0]; · iexact Ht0
  iintro ⟨Hst, Hb, %W, %hW, Hh⟩
  iapply (StableHlo.wp_seq 𝒱 none Set.univ d (Pipeline.ucRefs τ sig) _ opsB opsB_uc opsB_fresh (Wa m d W)) $$ [Hb Hh]
  · isplitl [Hb]; · iexact Hb
    iexact Hh
  iintro ⟨Hb, Hh⟩
  rw [wp_bind]
  iapply (call_0 (R1 m) (R2 m) κ d (Wb m d W) _ (R1_in m d hW))
  isplitr; · iexact Hctx
  isplitl [Hst]; · iexact Hst
  isplitl [Hh]; · iexact Hh
  iintro ⟨Hst, ⟨%o, %ho, Hh⟩, Hm⟩
  rw [wp_bind]
  iapply (region_1 (V₁ m) d S₁ (Wc m d W o) _ spec2_S₁ (fun b hb => by
    obtain ⟨r, hr, rfl⟩ := Finset.mem_map.mp hb
    obtain ⟨w, -, rfl⟩ := Finset.mem_image.mp hr
    exact Wc_keep m d o hW _ ((by decide : ∀ w : Fin 8, Pipeline.arrRef spec2 w ∉ [main_v4_0, main_v4_1, main_v4_2, main_v4_3, main_v5, main_v6]) w)))
  isplitr; · iexact HL
  isplitl [Hst]; · iexact Hst
  isplitl [Hb]; · iexact Hb
  isplitl [Hh]; · iexact Hh
  isplitl [Hg1]; · iexact Hg1
  isplitl [Ht1]; · iexact Ht1
  iintro ⟨Hst, Hb, %W', %hW', Hh⟩
  iapply (StableHlo.wp_seq 𝒱 none Set.univ d S₁ _ opsB' opsB'_S₁ opsB'_fresh (Wd m d W W' o)) $$ [Hb Hh]
  · isplitl [Hb]; · iexact Hb
    iexact Hh
  iintro ⟨Hb, Hh⟩
  rw [wp_bind]
  iapply (call_1 (R1 m) (R2 m) κ d (We m d W W' o) _ (R2_in m d o hW hW'))
  isplitr; · iexact Hctx
  isplitl [Hst]; · iexact Hst
  isplitl [Hh]; · iexact Hh
  isplitl [Hm]; · iexact Hm
  iintro ⟨Hst, ⟨%o', %ho', Hh⟩, He⟩
  rw [show (StableHlo.seq (opsC (F := F)) : Prog (TpuEff nD τ sig (Elt F) _ .tc) PUnit) = StableHlo.seq opsC >>= fun _ => pure ⟨⟩ from (bind_pure _).symm]
  iapply (StableHlo.wp_seq 𝒱 none Set.univ d S₂ _ opsC opsC_S₂ opsC_fresh (Wf m d W W' o o')) $$ [Hb Hh]
  · isplitl [Hb] <;> iassumption
  iintro ⟨Hb, Hh⟩
  rw [wp_pure]
  imodintro
  isplitl [Hst]; · iexact Hst
  isplitr [Hb Hts]
  · isplitl [Hh]
    · iexists _
      isplitr
      · ipureintro; exact Rel_Wf m d o o' hW hW' ho ho'
      iexact Hh
    iexact He
  isplitl [Hb] <;> iassumption

/-! ## The end of the run -/

def fq (d : Dev nD) (s' : Phys nD τ sig (Elt F)) : Prop :=
  (∃ W, Rel m d W ∧ ∀ b ∈ S₂, s'.mem.mem (d, b) = StableHlo.after opsC W b)
    ∧ ∀ (c : Fin 2) (i : Fin 16), s'.mem.sem (bcell d (Two.coreOf (F := F) c) ((K (F := F)).sub 1 i)) = 0

theorem read_buf (d : Dev nD) (W : Valuation τ sig (Elt F)) (s' : Phys nD τ sig (Elt F)) (b : DevRef τ sig) (hb : b ∈ S₂) :
    iprop(StableHlo.held (d : Thread nD τ) S₂ W ∗ SI s') ⊢ (⌜s'.mem.mem (d, b) = W b⌝ : sProp (MM F)) := by
  refine (sep_mono_left (SparseCore.ent (bigSep_elim (Φ := fun b => (((d, b) : Loc nD τ sig) ↦{fullShare} W b : sProp (MM F))) hb))).trans ?_
  iintro ⟨Hx, HSI⟩
  ihave H := (SI_pointsTo_agree (st := s') (ℓ := ((d, b) : Loc nD τ sig)) (I := Finset.univ) (q := fullShare) (f := W b)) $$ [HSI Hx]
  · isplitl [HSI] <;> iassumption
  icases H with %hx
  ipureintro; exact funext fun i => hx i (Finset.mem_univ i)

theorem read_all (d : Dev nD) (s' : Phys nD τ sig (Elt F)) :
    iprop((∃ W, ⌜Rel m d W⌝ ∗ StableHlo.held (d : Thread nD τ) S₂ (StableHlo.after opsC W)) ∗ SI s')
      ⊢ (⌜∃ W, Rel m d W ∧ ∀ b ∈ S₂, s'.mem.mem (d, b) = StableHlo.after opsC W b⌝ : sProp (MM F)) := by
  iintro ⟨⟨%W, %hW, Hh⟩, HSI⟩
  ihave H := (show iprop(StableHlo.held (d : Thread nD τ) S₂ (StableHlo.after opsC W) ∗ SI s')
      ⊢ (⌜∀ b ∈ S₂, s'.mem.mem (d, b) = StableHlo.after opsC W b⌝ : sProp (MM F)) from
    fun x hx b hb => read_buf d (StableHlo.after opsC W) s' b hb x hx) $$ [Hh HSI]
  · isplitl [Hh] <;> iassumption
  icases H with %h
  ipureintro; exact ⟨W, hW, h⟩

theorem hfin (d : Dev nD) (s' : Phys nD τ sig (Elt F)) : iprop(FIN m d ∗ SI s') ⊢ (⌜fq m d s'⌝ : sProp (MM F)) :=
  fun x hx => ⟨((sep_mono_left sep_elim_left).trans (read_all m d s')) x hx, fun c i =>
    ((sep_mono_left (sep_elim_right.trans ((SparseCore.ent (bigSep_elim (Finset.mem_univ c))).trans (SparseCore.ent (bigSep_elim (Finset.mem_univ i)))))).trans
      (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-- The end of a run: the buffers left as the last operations make them of contents satisfying `Rel`, every semaphore at zero. -/
def QC : PUnit × MemSt nD τ sig (Elt F) → Prop := fun r =>
  (∀ d : Dev nD, ∃ W, Rel m d W ∧ ∀ b ∈ S₂, r.2.mem (d, b) = StableHlo.after opsC W b) ∧ r.2.sem = fun _ => 0

theorem run_main [∀ e, Nonempty (Elt F e)] (h₁ : One.PreOK (R1 m)) (h₂ : Two.PreOK (R2 m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (R1 m) (R2 m)) (hA := hA m) facts v₀
    (fun q hq => match q with | 0 => nomatch hq | 1 => nomatch hq)
    (fun q _ => match q with | 0 => tileObl_0 (R1 m) (R2 m) facts h₁ | 1 => tileObl_1 (R1 m) (R2 m) facts h₂)
    (fun q _ => match q with | 0 => vecSplit_0 (R1 m) (R2 m) | 1 => vecSplit_1 (R1 m) (R2 m))
    m ρ main (G (F := F)) (FIN m) (u₀ (F := F)) (hu₀ (R1 m) (R2 m)) (hmain m ρ) (fq m) (hfin m) (QC m) (fun _ h hz => ⟨fun d => (h d).1, hz⟩)

/-- An argument ends as it began. -/
theorem end_arg (d : Dev nD) (W : Valuation τ sig (Elt F)) (hW : Rel m d W) (r : Ref sig .tc) (hr : r ∈ [main_arg0, main_arg1, main_arg2, main_arg3, main_arg4]) :
    StableHlo.after opsC W (Proc.devRef .tc r) = m (d, Proc.devRef .tc r) :=
  (StableHlo.after_of_writes_sub (W := [main_cst, main_v10, main_v11, main_v12, main_v13, main_v14, main_v15, main_v16, main_v17, main_v18, main_v19, main_v20,
      main_v21, main_v22, main_v23, main_v24, main_v25, main_v26]) opsC W
      (StableHlo.forall_writes_sub_of_map rfl) (by intro h; revert hr; fin_cases h <;> decide)).trans (hW.2.2 r hr)

/-- The two calls' halves of the table added, at entry `n`. -/
def total (o o' : S2x4096.Idx → F .f32) (n : Fin 4096) : F .f32 :=
  FloatOps.addf (FloatOps.addf (FloatOps.addf (FloatOps.addf (Scalar.ofBits .f32 0x00000000#32) (o (ix2 0 n))) (o (ix2 1 n))) (o' (ix2 0 n))) (o' (ix2 1 n))

theorem end_v25 (W : Valuation τ sig (Elt F)) (i : S1024.Idx) :
    (StableHlo.after opsC W (Proc.devRef .tc main_v25) : S1024.Idx → F .f32) i
      = total (W (Proc.devRef .tc main_v6)) (W (Proc.devRef .tc main_v9)) ⟨(i 0).val * 4, by have h : (i 0).val < 1024 := (i 0).isLt; omega⟩ := by
  unfold opsC
  after_results
  pointwise
  rfl

theorem end_v26 (W : Valuation τ sig (Elt F)) (i : S1024x3.Idx) :
    (StableHlo.after opsC W (Proc.devRef .tc main_v26) : S1024x3.Idx → F .f32) i
      = total (W (Proc.devRef .tc main_v6)) (W (Proc.devRef .tc main_v9)) ⟨(i 0).val * 4 + (1 + (i 1).val),
          by have h : (i 0).val < 1024 := (i 0).isLt; have h' : (i 1).val < 3 := (i 1).isLt; omega⟩ := by
  unfold opsC
  after_results
  pointwise
  rfl

end Cert.Proof.Scatter

end
-- ==== Proof.Charge.lean ====
/-
  The charges over the extended reals, at an index: the product of a block of features with the
  weights, the mask past the last atom, what a fetched block holds inside its array, and what an
  array holds after the write-backs if every block written has a property.
-/
module

public import proofs.«01_k».proof.Proof.Base
public import Idealize.ShloMosaic.PureOps.Ideal
public import Idealize.ShloMosaic.PureOps.Ideal.Laws
public import Idealize.ShloMosaic.Lib.MatmulPlain
public import Idealize.ShloMosaic.Lib.Pointwise
public import Idealize.ShloMosaic.Lib.Pipeline.Value

@[expose] public section

noncomputable section

namespace Cert.Proof.Charge

open Cert.KernelIdeal Cert.KernelIdeal.Gen
open Idealize.ShloMosaic Idealize.SL.Sem Idealize.SL.RA
open Idealize.ShloMosaic.Pipeline (RDat Cfg Window)

/-- One row of weights against a block of features. -/
theorem dot_apply (w : FVec Ideal S1x256 .f32) (p : FVec Ideal S8192x256 .f32) (j : Fin 8192) :
    matmul (F := Ideal) dot_S1x256_S8192x256_S1x8192_1_1_0_0_n_n none w p (constant S1x8192 .f32 0x00000000#32) (ix2 0 j)
      = ∑ k : Fin 256, (w (ix2 0 k) : EReal) * p (ix2 j k) := by
  refine (Ideal.matmul_transposedRhs_apply (M := 1) (K := 256) (N := 8192) none w p _ 0 j).trans ?_
  show Ideal.ofBits .f32 0x00000000#32 + _ = _
  rw [Ideal.ofBits_zero_f32, zero_add]
  rfl

/-- The mask: which columns of a block are atoms. -/
theorem mask_iff (o : BitVec 32) (a : ℕ) (ho : o.toNat = a) (j : ℕ) (hj : a + j < 2 ^ 31) :
    IntOp.cmpi .slt (IntOp.addi o (BitVec.ofNat 32 j)) 160000#32 = 1#1 ↔ a + j < 160000 := by
  rw [IntOp.cmpi_slt]
  have h1 : (160000#32 : BitVec 32).toInt = 160000 := by decide
  have h2 : (IntOp.addi o (BitVec.ofNat 32 j)).toNat = a + j := by
    show (o + BitVec.ofNat 32 j).toNat = _
    rw [BitVec.toNat_add, BitVec.toNat_ofNat, ho]; omega
  have h3 : (IntOp.addi o (BitVec.ofNat 32 j)).toInt = ((a + j : ℕ) : ℤ) := by
    rw [BitVec.toInt_eq_toNat_cond, h2, if_pos (by omega)]
  rw [h1, h3]; omega

section

variable {sig : RefSig} {G : Pipeline.Grid} (w : Window sig G)

/-- A coordinate of a block that lies inside the array is moved. -/
theorem lt_xsize (hk : w.kind = .blocked) (t : Fin G.N) (j : w.block.Idx) (h : ∀ a, w.index t a * w.size a + (j a).val < w.shape.size a) :
    ∀ a, (j a).val < w.xsize (G.coords t) a := fun a => by
  have h1 := w.hclip (G.coords t) a
  have h2 := h a
  have h3 := (j a).isLt
  rw [hk] at h1
  show (j a).val < (w.clip (G.coords t) a).extent (w.size a)
  cases hc : w.clip (G.coords t) a with
  | none => exact h3
  | some n =>
    rw [hc] at h1
    have h4 : w.index t a * w.size a + n = w.shape.size a := h1.2.2
    show (j a).val < n
    omega

/-- Inside its array a fetched block is the array's. -/
theorem fill_apply {α : Type} (hk : w.kind = .blocked) (t : Fin G.N) (d : w.block.Idx → α) (g : (w.xblock (G.coords t)).Idx → α) (j : w.block.Idx)
    (h : ∀ a, w.index t a * w.size a + (j a).val < w.shape.size a) :
    ∃ hj : ∀ a, (j a).val < w.xsize (G.coords t) a, w.fill (G.coords t) d g j = g fun a => ⟨(j a).val, hj a⟩ := by
  have hj := lt_xsize w hk t j h
  exact ⟨hj, by unfold Window.fill; rw [dif_pos ((w.moved_iff _ j).mpr hj)]⟩

end

section

variable {nD : ℕ} {τ : Topo} {sig : RefSig} {Val : EltTy → Type} {Λ₀ : Labels} {Ix : Type} [DecidableEq Ix] {Name : Type} [DecidableEq Name] {U : Type} [URA U] {Lvl : Type} [Preorder Lvl]
  {cfg : Cfg sig Λ₀} {c : Dev nD} (rd : RDat τ Val Ix Name U Lvl cfg c) (w : Fin cfg.W)

theorem arrAt_forall
    (P : ((cfg.win w).arr.view.loc (c.tc : Thread nD τ)).2.ty.Idx → Val ((cfg.win w).arr.view.loc (c.tc : Thread nD τ)).2.ty.elt → Prop)
    (hP : ∀ t X, rd.Leaves w t X → ∀ y : ((cfg.win w).xblock (cfg.grid.coords t)).Idx,
      P (((cfg.win w).blk t).view.emb y) (_root_.cast (congrArg Val ((cfg.win w).blk t).view.elt_eq.symm) ((cfg.win w).cut (cfg.grid.coords t) X y))) :
    ∀ (n : ℕ) (G : Buf Val ((cfg.win w).arr.view.loc (c.tc : Thread nD τ))), rd.ArrAt w n G →
      ∀ (t : Fin cfg.N) (i : ((cfg.win w).arr.view.loc (c.tc : Thread nD τ)).2.ty.Idx),
        t.val < n → (cfg.win w).flush t = true → i ∈ ((cfg.win w).blk t).view.set → P i (G i) := by
  intro n
  induction n with
  | zero => intro _ _ _ _ h; exact absurd h (Nat.not_lt_zero _)
  | succ n ih =>
    intro G hG t i ht hf hi
    unfold RDat.ArrAt at hG
    by_cases hn : n < cfg.N
    · rw [dif_pos hn] at hG
      by_cases hfn : (cfg.win w).flush ⟨n, hn⟩ = true
      · rw [if_pos hfn] at hG
        obtain ⟨G₀, X, hG₀, hX, rfl⟩ := hG
        by_cases hin : i ∈ ((cfg.win w).blk ⟨n, hn⟩).view.set
        · obtain ⟨y, -, rfl⟩ := Finset.mem_map.mp hin
          rw [View.write_emb_of_mem _ _ (Finset.mem_univ y)]
          exact hP _ _ hX y
        · rw [View.write_of_not_mem _ _ _ (by rwa [View.setOn_univ])]
          have htn : t.val ≠ n := fun e => hin (by have : t = ⟨n, hn⟩ := Fin.ext e; exact this ▸ hi)
          exact ih G₀ hG₀ t i (by omega) hf hi
      · rw [if_neg hfn] at hG
        have htn : t.val ≠ n := fun e => hfn (by have : t = ⟨n, hn⟩ := Fin.ext e; exact this ▸ hf)
        exact ih G hG t i (by omega) hf hi
    · rw [dif_neg hn] at hG
      exact ih G hG t i (by have := t.isLt; omega) hf hi

end

end Cert.Proof.Charge

end
-- ==== Proof.One.Block.lean ====
/-
  What the first region leaves, over the extended reals: atom by atom the charge and the charge
  times each coordinate.
-/
module

public import proofs.«01_k».proof.Proof.One.Region
public import proofs.«01_k».proof.Proof.Charge

@[expose] public section

noncomputable section

namespace Cert.Proof.Scatter.One

open Cert.KernelIdeal Cert.KernelIdeal.Gen
open Idealize.ShloMosaic Idealize.SL.Sem
open Idealize.ShloMosaic.SparseCore.Cfg (HIx)
open Cert.Proof.Charge

/-! ## A block -/

/-- The number of the block's column `j` among all atoms. -/
abbrev atomOf (i : grid0.Coords) (j : ℕ) : ℕ := 0 + 8192 * (i 0).val + j

theorem mask_apply (i : grid0.Coords) (j : Fin 8192) : k0_pay1 i (ix2 0 j) = 1#1 ↔ atomOf i j.val < 160000 := by
  have hi : (i 0).val < 12 := (i 0).isLt
  have hj := j.isLt
  have ho : (Scalar.addi 0#32 (Scalar.muli (BitVec.ofNat 32 (i 0).val) 8192#32) : BitVec 32).toNat = 0 + 8192 * (i 0).val := by
    show ((0#32 : BitVec 32) + BitVec.ofNat 32 (i 0).val * 8192#32).toNat = _
    rw [BitVec.toNat_add, BitVec.toNat_mul, BitVec.toNat_ofNat, BitVec.toNat_ofNat, BitVec.toNat_ofNat]; omega
  refine Iff.trans ?_ (mask_iff _ (0 + 8192 * (i 0).val) ho j.val (by omega))
  unfold k0_pay1
  pointwise

theorem charge_apply (i : grid0.Coords) (w : Vec Ideal S1x256 .f32) (p : Vec Ideal S8192x256 .f32) (b : Vec Ideal S1x1 .f32) (j : Fin 8192) :
    k0_pay2 (F := Ideal) i w p b (ix2 0 j)
      = if atomOf i j.val < 160000 then (∑ k : Fin 256, (w (ix2 0 k) : EReal) * p (ix2 j k)) + b (ix2 0 0) else (0 : EReal) := by
  have e : k0_pay2 (F := Ideal) i w p b (ix2 0 j)
      = if k0_pay1 i (ix2 0 j) = 1#1 then (matmul (F := Ideal) (φ₁ := .f32) (φ₂ := .f32) dot_S1x256_S8192x256_S1x8192_1_1_0_0_n_n none w p (constant S1x8192 .f32 0x00000000#32) (ix2 0 j) : EReal) + b (ix2 0 0)
        else Ideal.ofBits .f32 0x00000000#32 := by
    have hb : extractAt ![0, 0] b inpos_S1x1_p0_0 = b (ix2 0 0) := congrArg b (funext fun a => match a with | ⟨0, _⟩ => rfl | ⟨1, _⟩ => rfl)
    rw [← hb]; rfl
  rw [e, dot_apply, Ideal.ofBits_zero_f32]
  exact if_congr (mask_apply i j) rfl rfl

theorem part_apply (i : grid0.Coords) (w : Vec Ideal S1x256 .f32) (p : Vec Ideal S8192x256 .f32) (b : Vec Ideal S1x1 .f32) (x : Vec Ideal S3x8192 .f32) (c : Fin 3) (j : Fin 8192) :
    k0_pay3 (F := Ideal) i w p b x (ix2 c j)
      = if atomOf i j.val < 160000 then (x (ix2 c j) : EReal) * ((∑ k : Fin 256, (w (ix2 0 k) : EReal) * p (ix2 j k)) + b (ix2 0 0)) else (0 : EReal) := by
  have e : k0_pay3 (F := Ideal) i w p b x (ix2 c j)
      = if k0_pay1 i (ix2 0 j) = 1#1 then (x (ix2 c j) : EReal) * k0_pay2 (F := Ideal) i w p b (ix2 0 j) else Ideal.ofBits .f32 0x00000000#32 := by
    unfold k0_pay3
    pointwise
    rfl
  rw [e, charge_apply, Ideal.ofBits_zero_f32]
  by_cases h : atomOf i j.val < 160000
  · rw [if_pos ((mask_apply i j).mpr h), if_pos h, if_pos h]
  · rw [if_neg fun h' => h ((mask_apply i j).mp h'), if_neg h]

theorem pay4_apply (i : grid0.Coords) (w : Vec Ideal S1x256 .f32) (p : Vec Ideal S8192x256 .f32) (b : Vec Ideal S1x1 .f32) (j : Fin 8192) :
    k0_pay4 (F := Ideal) i w p b (ix1 j) = k0_pay2 (F := Ideal) i w p b (ix2 0 j) := by
  unfold k0_pay4
  pointwise
theorem pay5_apply (i : grid0.Coords) (w : Vec Ideal S1x256 .f32) (p : Vec Ideal S8192x256 .f32) (b : Vec Ideal S1x1 .f32) (x : Vec Ideal S3x8192 .f32) (j : Fin 8192) :
    k0_pay5 (F := Ideal) i w p b x (ix1 j) = k0_pay3 (F := Ideal) i w p b x (ix2 0 j) := by
  unfold k0_pay5
  pointwise
theorem pay6_apply (i : grid0.Coords) (w : Vec Ideal S1x256 .f32) (p : Vec Ideal S8192x256 .f32) (b : Vec Ideal S1x1 .f32) (x : Vec Ideal S3x8192 .f32) (j : Fin 8192) :
    k0_pay6 (F := Ideal) i w p b x (ix1 j) = k0_pay3 (F := Ideal) i w p b x (ix2 1 j) := by
  unfold k0_pay6
  pointwise
theorem pay7_apply (i : grid0.Coords) (w : Vec Ideal S1x256 .f32) (p : Vec Ideal S8192x256 .f32) (b : Vec Ideal S1x1 .f32) (x : Vec Ideal S3x8192 .f32) (j : Fin 8192) :
    k0_pay7 (F := Ideal) i w p b x (ix1 j) = k0_pay3 (F := Ideal) i w p b x (ix2 2 j) := by
  unfold k0_pay7
  pointwise

/-! ## The blocks fetched -/

theorem coord_val (t : Fin cfg0.N) : (cfg0.grid.coords t 0).val = t.val := by
  have ht : t.val < 12 := lt_of_lt_of_eq t.isLt N_0
  rw [Pipeline.Grid.coords_val t 0 (S := 1) (B := 12) (by decide) rfl]; omega

variable (V : Val₀ Ideal) (c : Dev nD) (t : Fin cfg0.N)

/-- The features, coordinates, weights and bias as the region finds them. -/
abbrev featV : S160000x256.Idx → EReal := V c (Proc.devRef .tc main_arg1)
abbrev posV : S3x160000.Idx → EReal := V c (Proc.devRef .tc main_v2)
abbrev wV : S1x256.Idx → EReal := V c (Proc.devRef .tc main_arg3)
abbrev biasV : S1x1.Idx → EReal := V c (Proc.devRef .tc main_v3)

theorem index_0 : (cfg0.win 0).index t = ![t.val + 0, 0] := by
  have ht : t.val < 12 := lt_of_lt_of_eq t.isLt N_0
  show cc0_transform_0 (cfg0.grid.coords t) = _
  unfold cc0_transform_0
  have e : (Scalar.addi (BitVec.ofNat 32 (cfg0.grid.coords t 0).val) 0#32 : BitVec 32).toNat = t.val + 0 := by
    rw [coord_val]
    show (BitVec.ofNat 32 t.val + 0#32).toNat = _
    rw [BitVec.toNat_add, BitVec.toNat_ofNat, BitVec.toNat_ofNat]; omega
  show ![(Scalar.addi (BitVec.ofNat 32 (cfg0.grid.coords t 0).val) 0#32 : BitVec 32).toNat, _] = _
  rw [e]; rfl
theorem index_1 : (cfg0.win 1).index t = ![0, t.val + 0] := by
  have ht : t.val < 12 := lt_of_lt_of_eq t.isLt N_0
  show cc0_transform_1 (cfg0.grid.coords t) = _
  unfold cc0_transform_1
  have e : (Scalar.addi (BitVec.ofNat 32 (cfg0.grid.coords t 0).val) 0#32 : BitVec 32).toNat = t.val + 0 := by
    rw [coord_val]
    show (BitVec.ofNat 32 t.val + 0#32).toNat = _
    rw [BitVec.toNat_add, BitVec.toNat_ofNat, BitVec.toNat_ofNat]; omega
  show ![_, (Scalar.addi (BitVec.ofNat 32 (cfg0.grid.coords t 0).val) 0#32 : BitVec 32).toNat] = _
  rw [e]; rfl
theorem index_2 : (cfg0.win 2).index t = ![0, 0] := rfl
theorem index_3 : (cfg0.win 3).index t = ![0, 0] := rfl
theorem index_4 : (cfg0.win 4).index t = ![t.val] := by
  have ht : t.val < 12 := lt_of_lt_of_eq t.isLt N_0
  show ![(BitVec.ofNat 32 (cfg0.grid.coords t 0).val).toNat] = _
  rw [coord_val, BitVec.toNat_ofNat, Nat.mod_eq_of_lt (by omega)]
theorem index_5 : (cfg0.win 5).index t = ![t.val] := index_4 t
theorem index_6 : (cfg0.win 6).index t = ![t.val] := index_4 t
theorem index_7 : (cfg0.win 7).index t = ![t.val] := index_4 t

theorem block_0 (Y : S8192x256.Idx → EReal) (h : blockAt V c 0 t Y) (j : Fin 8192) (k : Fin 256) (n : Fin 160000) (hn : n.val = 0 + 8192 * t.val + j.val) :
    (Y (ix2 j k) : EReal) = featV V c (ix2 n k) := by
  obtain ⟨d, rfl⟩ := h
  obtain ⟨hj, e⟩ := fill_apply (cfg0.win 0) rfl t d (((cfg0.win 0).blk t).view.read (Elt Ideal) (arrV V c 0)) (ix2 j k) (fun a => by
    rw [index_0 t]
    match a with
    | ⟨0, _⟩ => show (t.val + 0) * 8192 + j.val < 160000; have := n.isLt; omega
    | ⟨1, _⟩ => show 0 * 256 + k.val < 256; have := k.isLt; omega)
  rw [e]
  refine congrArg (V c (Proc.devRef .tc main_arg1)) (funext fun a => Fin.ext ?_)
  refine (Pipeline.Window.rect_emb_val (cfg0.win 0) t _ a).trans ?_
  rw [index_0 t]
  match a with
  | ⟨0, _⟩ => show (t.val + 0) * 8192 + j.val = n.val; omega
  | ⟨1, _⟩ => show 0 * 256 + k.val = k.val; omega

theorem block_1 (Y : S3x8192.Idx → EReal) (h : blockAt V c 1 t Y) (j : Fin 8192) (k : Fin 3) (n : Fin 160000) (hn : n.val = 0 + 8192 * t.val + j.val) :
    (Y (ix2 k j) : EReal) = posV V c (ix2 k n) := by
  obtain ⟨d, rfl⟩ := h
  obtain ⟨hj, e⟩ := fill_apply (cfg0.win 1) rfl t d (((cfg0.win 1).blk t).view.read (Elt Ideal) (arrV V c 1)) (ix2 k j) (fun a => by
    rw [index_1 t]
    match a with
    | ⟨0, _⟩ => show 0 * 3 + k.val < 3; have := k.isLt; omega
    | ⟨1, _⟩ => show (t.val + 0) * 8192 + j.val < 160000; have := n.isLt; omega)
  rw [e]
  refine congrArg (V c (Proc.devRef .tc main_v2)) (funext fun a => Fin.ext ?_)
  refine (Pipeline.Window.rect_emb_val (cfg0.win 1) t _ a).trans ?_
  rw [index_1 t]
  match a with
  | ⟨0, _⟩ => show 0 * 3 + k.val = k.val; omega
  | ⟨1, _⟩ => show (t.val + 0) * 8192 + j.val = n.val; omega

theorem block_2 (Y : S1x256.Idx → EReal) (h : blockAt V c 2 t Y) (k : Fin 256) : (Y (ix2 0 k) : EReal) = wV V c (ix2 0 k) := by
  obtain ⟨d, rfl⟩ := h
  obtain ⟨hj, e⟩ := fill_apply (cfg0.win 2) rfl t d (((cfg0.win 2).blk t).view.read (Elt Ideal) (arrV V c 2)) (ix2 0 k) (fun a => by
    rw [index_2 t]
    match a with
    | ⟨0, _⟩ => show 0 * 1 + 0 < 1; omega
    | ⟨1, _⟩ => show 0 * 256 + k.val < 256; have := k.isLt; omega)
  rw [e]
  refine congrArg (V c (Proc.devRef .tc main_arg3)) (funext fun a => Fin.ext ?_)
  refine (Pipeline.Window.rect_emb_val (cfg0.win 2) t _ a).trans ?_
  rw [index_2 t]
  match a with
  | ⟨0, _⟩ => show 0 * 1 + 0 = 0; omega
  | ⟨1, _⟩ => show 0 * 256 + k.val = k.val; omega

theorem block_3 (Y : S1x1.Idx → EReal) (h : blockAt V c 3 t Y) : (Y (ix2 0 0) : EReal) = biasV V c (ix2 0 0) := by
  obtain ⟨d, rfl⟩ := h
  obtain ⟨hj, e⟩ := fill_apply (cfg0.win 3) rfl t d (((cfg0.win 3).blk t).view.read (Elt Ideal) (arrV V c 3)) (ix2 0 0) (fun a => by
    rw [index_3 t]
    match a with
    | ⟨0, _⟩ => show 0 * 1 + 0 < 1; omega
    | ⟨1, _⟩ => show 0 * 1 + 0 < 1; omega)
  rw [e]
  refine congrArg (V c (Proc.devRef .tc main_v3)) (funext fun a => Fin.ext ?_)
  refine (Pipeline.Window.rect_emb_val (cfg0.win 3) t _ a).trans ?_
  rw [index_3 t]
  match a with
  | ⟨0, _⟩ => show 0 * 1 + 0 = 0; omega
  | ⟨1, _⟩ => show 0 * 1 + 0 = 0; omega

/-! ## The arrays at the end -/

/-- Atom `n`'s charge. -/
def chargeV (n : Fin 160000) : EReal := (∑ k : Fin 256, wV V c (ix2 0 k) * featV V c (ix2 n k)) + biasV V c (ix2 0 0)

/-- What the call's array `e` holds for its atom `n`: the charge or the charge times a coordinate, nothing past the last atom. -/
def atomV (e : Fin 4) (n : ℕ) : EReal :=
  if h : 0 + n < 160000 then
    match e with
    | ⟨0, _⟩ => chargeV V c ⟨0 + n, h⟩
    | ⟨k + 1, hk⟩ => posV V c (ix2 ⟨k, by omega⟩ ⟨0 + n, h⟩) * chargeV V c ⟨0 + n, h⟩
  else 0

theorem charge_block (Y0 : S8192x256.Idx → EReal) (Y2 : S1x256.Idx → EReal) (Y3 : S1x1.Idx → EReal) (h0 : blockAt V c 0 t Y0) (h2 : blockAt V c 2 t Y2) (h3 : blockAt V c 3 t Y3) (j : Fin 8192)
    (n : Fin 160000) (hn : n.val = 0 + 8192 * t.val + j.val) :
    (∑ k : Fin 256, (Y2 (ix2 0 k) : EReal) * Y0 (ix2 j k)) + Y3 (ix2 0 0) = chargeV V c n := by
  unfold chargeV
  rw [block_3 V c t Y3 h3]
  congr 1
  exact Finset.sum_congr rfl fun k _ => by rw [block_2 V c t Y2 h2, block_0 V c t Y0 h0 j k n hn]

theorem outQ_apply (X) (h : outQ V c t X) (j : Fin 8192) : (X (ix1 j) : EReal) = atomV V c 0 (8192 * t.val + j.val) := by
  obtain ⟨Y0, Y2, Y3, h0, h2, h3, rfl⟩ := h
  rw [pay4_apply, charge_apply]
  unfold atomOf atomV
  rw [coord_val]
  by_cases hn : 0 + 8192 * t.val + j.val < 160000
  · rw [if_pos hn, dif_pos (by omega)]
    exact charge_block V c t Y0 Y2 Y3 h0 h2 h3 j ⟨0 + (8192 * t.val + j.val), by omega⟩ (by show 0 + (8192 * t.val + j.val) = _; omega)
  · rw [if_neg hn, dif_neg (by omega)]

theorem out_apply (Y0 : S8192x256.Idx → EReal) (Y1 : S3x8192.Idx → EReal) (Y2 : S1x256.Idx → EReal) (Y3 : S1x1.Idx → EReal) (h0 : blockAt V c 0 t Y0) (h1 : blockAt V c 1 t Y1) (h2 : blockAt V c 2 t Y2) (h3 : blockAt V c 3 t Y3) (k : Fin 3) (j : Fin 8192) :
    k0_pay3 (F := Ideal) (cfg0.grid.coords t) Y2 Y0 Y3 Y1 (ix2 k j) = atomV V c k.succ (8192 * t.val + j.val) := by
  rw [part_apply]
  unfold atomOf atomV
  rw [coord_val]
  by_cases hn : 0 + 8192 * t.val + j.val < 160000
  · rw [if_pos hn, dif_pos (by omega), block_1 V c t Y1 h1 j k ⟨0 + (8192 * t.val + j.val), by omega⟩ (by show 0 + (8192 * t.val + j.val) = _; omega),
      charge_block V c t Y0 Y2 Y3 h0 h2 h3 j ⟨0 + (8192 * t.val + j.val), by omega⟩ (by show 0 + (8192 * t.val + j.val) = _; omega)]
    rfl
  · rw [if_neg hn, dif_neg (by omega)]

theorem outX_apply (X) (h : outX V c t X) (j : Fin 8192) : (X (ix1 j) : EReal) = atomV V c 1 (8192 * t.val + j.val) := by
  obtain ⟨Y0, Y1, Y2, Y3, h0, h1, h2, h3, rfl⟩ := h
  rw [pay5_apply]; exact out_apply V c t Y0 Y1 Y2 Y3 h0 h1 h2 h3 0 j
theorem outY_apply (X) (h : outY V c t X) (j : Fin 8192) : (X (ix1 j) : EReal) = atomV V c 2 (8192 * t.val + j.val) := by
  obtain ⟨Y0, Y1, Y2, Y3, h0, h1, h2, h3, rfl⟩ := h
  rw [pay6_apply]; exact out_apply V c t Y0 Y1 Y2 Y3 h0 h1 h2 h3 1 j
theorem outZ_apply (X) (h : outZ V c t X) (j : Fin 8192) : (X (ix1 j) : EReal) = atomV V c 3 (8192 * t.val + j.val) := by
  obtain ⟨Y0, Y1, Y2, Y3, h0, h1, h2, h3, rfl⟩ := h
  rw [pay7_apply]; exact out_apply V c t Y0 Y1 Y2 Y3 h0 h1 h2 h3 2 j

variable (O : Dev nD → CellTallies nD τ sig (HIx 2)) (B : Dev nD → Set (SemLoc sig × HIx 2))

theorem in_block_4 (n : Fin 98304) : ∃ t : Fin cfg0.N, (ix1 n : S98304.Idx) ∈ ((cfg0.win 4).blk t).view.set := by
  have hn := n.isLt
  have ht : n.val / 8192 < cfg0.N := lt_of_lt_of_eq (show n.val / 8192 < 12 by omega) N_0.symm
  have hj := lt_xsize (cfg0.win 4) rfl ⟨n.val / 8192, ht⟩ (ix1 ⟨n.val % 8192, Nat.mod_lt _ (by decide)⟩) (fun a => by
    rw [index_4]
    match a with
    | ⟨0, _⟩ => show n.val / 8192 * 8192 + n.val % 8192 < 98304; omega)
  refine ⟨⟨n.val / 8192, ht⟩, Finset.mem_map.mpr ⟨fun a => ⟨_, hj a⟩, Finset.mem_univ _, ?_⟩⟩
  · funext a
    refine Fin.ext ((Pipeline.Window.rect_emb_val (cfg0.win 4) _ _ a).trans ?_)
    rw [index_4]
    match a with
    | ⟨0, _⟩ => show n.val / 8192 * 8192 + n.val % 8192 = n.val; omega

theorem arr_4 (G) (h : (rdat V O B c).ArrAt 4 cfg0.N G) (n : Fin 98304) : (G (ix1 n) : EReal) = atomV V c 0 n.val := by
  obtain ⟨t, ht⟩ := in_block_4 n
  refine arrAt_forall (rdat V O B c) 4 (fun i v => (v : EReal) = atomV V c 0 (i 0).val) ?_ cfg0.N G h t (ix1 n) t.isLt (flush0_4 t) ht
  rintro t X ⟨Y, -, hX⟩ y
  have hy : (y 0).val < 8192 := lt_of_lt_of_le (y 0).isLt ((cfg0.win 4).xsize_le (cfg0.grid.coords t) 0)
  have hx : (X ((cfg0.win 4).xinj (cfg0.grid.coords t) y) : EReal) = atomV V c 0 (8192 * t.val + (y 0).val) :=
    (congrArg (X : S8192.Idx → EReal) (show ((cfg0.win 4).xinj (cfg0.grid.coords t) y : S8192.Idx) = ix1 ⟨(y 0).val, hy⟩ from funext fun a => match a with | ⟨0, _⟩ => rfl)).trans (outQ_apply V c t X hX ⟨(y 0).val, hy⟩)
  refine hx.trans (congrArg (atomV V c 0) ?_)
  refine ((Pipeline.Window.rect_emb_val (cfg0.win 4) t y 0).trans ?_).symm
  rw [index_4]
  show t.val * 8192 + (y 0).val = _
  omega

theorem in_block_5 (n : Fin 98304) : ∃ t : Fin cfg0.N, (ix1 n : S98304.Idx) ∈ ((cfg0.win 5).blk t).view.set := by
  have hn := n.isLt
  have ht : n.val / 8192 < cfg0.N := lt_of_lt_of_eq (show n.val / 8192 < 12 by omega) N_0.symm
  have hj := lt_xsize (cfg0.win 5) rfl ⟨n.val / 8192, ht⟩ (ix1 ⟨n.val % 8192, Nat.mod_lt _ (by decide)⟩) (fun a => by
    rw [index_5]
    match a with
    | ⟨0, _⟩ => show n.val / 8192 * 8192 + n.val % 8192 < 98304; omega)
  refine ⟨⟨n.val / 8192, ht⟩, Finset.mem_map.mpr ⟨fun a => ⟨_, hj a⟩, Finset.mem_univ _, ?_⟩⟩
  · funext a
    refine Fin.ext ((Pipeline.Window.rect_emb_val (cfg0.win 5) _ _ a).trans ?_)
    rw [index_5]
    match a with
    | ⟨0, _⟩ => show n.val / 8192 * 8192 + n.val % 8192 = n.val; omega

theorem arr_5 (G) (h : (rdat V O B c).ArrAt 5 cfg0.N G) (n : Fin 98304) : (G (ix1 n) : EReal) = atomV V c 1 n.val := by
  obtain ⟨t, ht⟩ := in_block_5 n
  refine arrAt_forall (rdat V O B c) 5 (fun i v => (v : EReal) = atomV V c 1 (i 0).val) ?_ cfg0.N G h t (ix1 n) t.isLt (flush0_5 t) ht
  rintro t X ⟨Y, -, hX⟩ y
  have hy : (y 0).val < 8192 := lt_of_lt_of_le (y 0).isLt ((cfg0.win 5).xsize_le (cfg0.grid.coords t) 0)
  have hx : (X ((cfg0.win 5).xinj (cfg0.grid.coords t) y) : EReal) = atomV V c 1 (8192 * t.val + (y 0).val) :=
    (congrArg (X : S8192.Idx → EReal) (show ((cfg0.win 5).xinj (cfg0.grid.coords t) y : S8192.Idx) = ix1 ⟨(y 0).val, hy⟩ from funext fun a => match a with | ⟨0, _⟩ => rfl)).trans (outX_apply V c t X hX ⟨(y 0).val, hy⟩)
  refine hx.trans (congrArg (atomV V c 1) ?_)
  refine ((Pipeline.Window.rect_emb_val (cfg0.win 5) t y 0).trans ?_).symm
  rw [index_5]
  show t.val * 8192 + (y 0).val = _
  omega

theorem in_block_6 (n : Fin 98304) : ∃ t : Fin cfg0.N, (ix1 n : S98304.Idx) ∈ ((cfg0.win 6).blk t).view.set := by
  have hn := n.isLt
  have ht : n.val / 8192 < cfg0.N := lt_of_lt_of_eq (show n.val / 8192 < 12 by omega) N_0.symm
  have hj := lt_xsize (cfg0.win 6) rfl ⟨n.val / 8192, ht⟩ (ix1 ⟨n.val % 8192, Nat.mod_lt _ (by decide)⟩) (fun a => by
    rw [index_6]
    match a with
    | ⟨0, _⟩ => show n.val / 8192 * 8192 + n.val % 8192 < 98304; omega)
  refine ⟨⟨n.val / 8192, ht⟩, Finset.mem_map.mpr ⟨fun a => ⟨_, hj a⟩, Finset.mem_univ _, ?_⟩⟩
  · funext a
    refine Fin.ext ((Pipeline.Window.rect_emb_val (cfg0.win 6) _ _ a).trans ?_)
    rw [index_6]
    match a with
    | ⟨0, _⟩ => show n.val / 8192 * 8192 + n.val % 8192 = n.val; omega

theorem arr_6 (G) (h : (rdat V O B c).ArrAt 6 cfg0.N G) (n : Fin 98304) : (G (ix1 n) : EReal) = atomV V c 2 n.val := by
  obtain ⟨t, ht⟩ := in_block_6 n
  refine arrAt_forall (rdat V O B c) 6 (fun i v => (v : EReal) = atomV V c 2 (i 0).val) ?_ cfg0.N G h t (ix1 n) t.isLt (flush0_6 t) ht
  rintro t X ⟨Y, -, hX⟩ y
  have hy : (y 0).val < 8192 := lt_of_lt_of_le (y 0).isLt ((cfg0.win 6).xsize_le (cfg0.grid.coords t) 0)
  have hx : (X ((cfg0.win 6).xinj (cfg0.grid.coords t) y) : EReal) = atomV V c 2 (8192 * t.val + (y 0).val) :=
    (congrArg (X : S8192.Idx → EReal) (show ((cfg0.win 6).xinj (cfg0.grid.coords t) y : S8192.Idx) = ix1 ⟨(y 0).val, hy⟩ from funext fun a => match a with | ⟨0, _⟩ => rfl)).trans (outY_apply V c t X hX ⟨(y 0).val, hy⟩)
  refine hx.trans (congrArg (atomV V c 2) ?_)
  refine ((Pipeline.Window.rect_emb_val (cfg0.win 6) t y 0).trans ?_).symm
  rw [index_6]
  show t.val * 8192 + (y 0).val = _
  omega

theorem in_block_7 (n : Fin 98304) : ∃ t : Fin cfg0.N, (ix1 n : S98304.Idx) ∈ ((cfg0.win 7).blk t).view.set := by
  have hn := n.isLt
  have ht : n.val / 8192 < cfg0.N := lt_of_lt_of_eq (show n.val / 8192 < 12 by omega) N_0.symm
  have hj := lt_xsize (cfg0.win 7) rfl ⟨n.val / 8192, ht⟩ (ix1 ⟨n.val % 8192, Nat.mod_lt _ (by decide)⟩) (fun a => by
    rw [index_7]
    match a with
    | ⟨0, _⟩ => show n.val / 8192 * 8192 + n.val % 8192 < 98304; omega)
  refine ⟨⟨n.val / 8192, ht⟩, Finset.mem_map.mpr ⟨fun a => ⟨_, hj a⟩, Finset.mem_univ _, ?_⟩⟩
  · funext a
    refine Fin.ext ((Pipeline.Window.rect_emb_val (cfg0.win 7) _ _ a).trans ?_)
    rw [index_7]
    match a with
    | ⟨0, _⟩ => show n.val / 8192 * 8192 + n.val % 8192 = n.val; omega

theorem arr_7 (G) (h : (rdat V O B c).ArrAt 7 cfg0.N G) (n : Fin 98304) : (G (ix1 n) : EReal) = atomV V c 3 n.val := by
  obtain ⟨t, ht⟩ := in_block_7 n
  refine arrAt_forall (rdat V O B c) 7 (fun i v => (v : EReal) = atomV V c 3 (i 0).val) ?_ cfg0.N G h t (ix1 n) t.isLt (flush0_7 t) ht
  rintro t X ⟨Y, -, hX⟩ y
  have hy : (y 0).val < 8192 := lt_of_lt_of_le (y 0).isLt ((cfg0.win 7).xsize_le (cfg0.grid.coords t) 0)
  have hx : (X ((cfg0.win 7).xinj (cfg0.grid.coords t) y) : EReal) = atomV V c 3 (8192 * t.val + (y 0).val) :=
    (congrArg (X : S8192.Idx → EReal) (show ((cfg0.win 7).xinj (cfg0.grid.coords t) y : S8192.Idx) = ix1 ⟨(y 0).val, hy⟩ from funext fun a => match a with | ⟨0, _⟩ => rfl)).trans (outZ_apply V c t X hX ⟨(y 0).val, hy⟩)
  refine hx.trans (congrArg (atomV V c 3) ?_)
  refine ((Pipeline.Window.rect_emb_val (cfg0.win 7) t y 0).trans ?_).symm
  rw [index_7]
  show t.val * 8192 + (y 0).val = _
  omega

end Cert.Proof.Scatter.One

end
-- ==== Proof.Two.Block.lean ====
/-
  What the second region leaves, over the extended reals: atom by atom the charge and the charge
  times each coordinate.
-/
module

public import proofs.«01_k».proof.Proof.Two.Region
public import proofs.«01_k».proof.Proof.Charge

@[expose] public section

noncomputable section

namespace Cert.Proof.Scatter.Two

open Cert.KernelIdeal Cert.KernelIdeal.Gen
open Idealize.ShloMosaic Idealize.SL.Sem
open Idealize.ShloMosaic.SparseCore.Cfg (HIx)
open Cert.Proof.Charge

/-! ## A block -/

/-- The number of the block's column `j` among all atoms. -/
abbrev atomOf (i : grid2.Coords) (j : ℕ) : ℕ := 98304 + 8192 * (i 0).val + j

theorem mask_apply (i : grid2.Coords) (j : Fin 8192) : k2_pay1 i (ix2 0 j) = 1#1 ↔ atomOf i j.val < 160000 := by
  have hi : (i 0).val < 8 := (i 0).isLt
  have hj := j.isLt
  have ho : (Scalar.addi 98304#32 (Scalar.muli (BitVec.ofNat 32 (i 0).val) 8192#32) : BitVec 32).toNat = 98304 + 8192 * (i 0).val := by
    show ((98304#32 : BitVec 32) + BitVec.ofNat 32 (i 0).val * 8192#32).toNat = _
    rw [BitVec.toNat_add, BitVec.toNat_mul, BitVec.toNat_ofNat, BitVec.toNat_ofNat, BitVec.toNat_ofNat]; omega
  refine Iff.trans ?_ (mask_iff _ (98304 + 8192 * (i 0).val) ho j.val (by omega))
  unfold k2_pay1
  pointwise

theorem charge_apply (i : grid2.Coords) (w : Vec Ideal S1x256 .f32) (p : Vec Ideal S8192x256 .f32) (b : Vec Ideal S1x1 .f32) (j : Fin 8192) :
    k2_pay2 (F := Ideal) i w p b (ix2 0 j)
      = if atomOf i j.val < 160000 then (∑ k : Fin 256, (w (ix2 0 k) : EReal) * p (ix2 j k)) + b (ix2 0 0) else (0 : EReal) := by
  have e : k2_pay2 (F := Ideal) i w p b (ix2 0 j)
      = if k2_pay1 i (ix2 0 j) = 1#1 then (matmul (F := Ideal) (φ₁ := .f32) (φ₂ := .f32) dot_S1x256_S8192x256_S1x8192_1_1_0_0_n_n none w p (constant S1x8192 .f32 0x00000000#32) (ix2 0 j) : EReal) + b (ix2 0 0)
        else Ideal.ofBits .f32 0x00000000#32 := by
    have hb : extractAt ![0, 0] b inpos_S1x1_p0_0 = b (ix2 0 0) := congrArg b (funext fun a => match a with | ⟨0, _⟩ => rfl | ⟨1, _⟩ => rfl)
    rw [← hb]; rfl
  rw [e, dot_apply, Ideal.ofBits_zero_f32]
  exact if_congr (mask_apply i j) rfl rfl

theorem part_apply (i : grid2.Coords) (w : Vec Ideal S1x256 .f32) (p : Vec Ideal S8192x256 .f32) (b : Vec Ideal S1x1 .f32) (x : Vec Ideal S3x8192 .f32) (c : Fin 3) (j : Fin 8192) :
    k2_pay3 (F := Ideal) i w p b x (ix2 c j)
      = if atomOf i j.val < 160000 then (x (ix2 c j) : EReal) * ((∑ k : Fin 256, (w (ix2 0 k) : EReal) * p (ix2 j k)) + b (ix2 0 0)) else (0 : EReal) := by
  have e : k2_pay3 (F := Ideal) i w p b x (ix2 c j)
      = if k2_pay1 i (ix2 0 j) = 1#1 then (x (ix2 c j) : EReal) * k2_pay2 (F := Ideal) i w p b (ix2 0 j) else Ideal.ofBits .f32 0x00000000#32 := by
    unfold k2_pay3
    pointwise
    rfl
  rw [e, charge_apply, Ideal.ofBits_zero_f32]
  by_cases h : atomOf i j.val < 160000
  · rw [if_pos ((mask_apply i j).mpr h), if_pos h, if_pos h]
  · rw [if_neg fun h' => h ((mask_apply i j).mp h'), if_neg h]

theorem pay4_apply (i : grid2.Coords) (w : Vec Ideal S1x256 .f32) (p : Vec Ideal S8192x256 .f32) (b : Vec Ideal S1x1 .f32) (j : Fin 8192) :
    k2_pay4 (F := Ideal) i w p b (ix1 j) = k2_pay2 (F := Ideal) i w p b (ix2 0 j) := by
  unfold k2_pay4
  pointwise
theorem pay5_apply (i : grid2.Coords) (w : Vec Ideal S1x256 .f32) (p : Vec Ideal S8192x256 .f32) (b : Vec Ideal S1x1 .f32) (x : Vec Ideal S3x8192 .f32) (j : Fin 8192) :
    k2_pay5 (F := Ideal) i w p b x (ix1 j) = k2_pay3 (F := Ideal) i w p b x (ix2 0 j) := by
  unfold k2_pay5
  pointwise
theorem pay6_apply (i : grid2.Coords) (w : Vec Ideal S1x256 .f32) (p : Vec Ideal S8192x256 .f32) (b : Vec Ideal S1x1 .f32) (x : Vec Ideal S3x8192 .f32) (j : Fin 8192) :
    k2_pay6 (F := Ideal) i w p b x (ix1 j) = k2_pay3 (F := Ideal) i w p b x (ix2 1 j) := by
  unfold k2_pay6
  pointwise
theorem pay7_apply (i : grid2.Coords) (w : Vec Ideal S1x256 .f32) (p : Vec Ideal S8192x256 .f32) (b : Vec Ideal S1x1 .f32) (x : Vec Ideal S3x8192 .f32) (j : Fin 8192) :
    k2_pay7 (F := Ideal) i w p b x (ix1 j) = k2_pay3 (F := Ideal) i w p b x (ix2 2 j) := by
  unfold k2_pay7
  pointwise

/-! ## The blocks fetched -/

theorem coord_val (t : Fin cfg2.N) : (cfg2.grid.coords t 0).val = t.val := by
  have ht : t.val < 8 := lt_of_lt_of_eq t.isLt N_2
  rw [Pipeline.Grid.coords_val t 0 (S := 1) (B := 8) (by decide) rfl]; omega

variable (V : Val₀ Ideal) (c : Dev nD) (t : Fin cfg2.N)

/-- The features, coordinates, weights and bias as the region finds them. -/
abbrev featV : S160000x256.Idx → EReal := V c (Proc.devRef .tc main_arg1)
abbrev posV : S3x160000.Idx → EReal := V c (Proc.devRef .tc main_v2)
abbrev wV : S1x256.Idx → EReal := V c (Proc.devRef .tc main_arg3)
abbrev biasV : S1x1.Idx → EReal := V c (Proc.devRef .tc main_v3)

theorem index_0 : (cfg2.win 0).index t = ![t.val + 12, 0] := by
  have ht : t.val < 8 := lt_of_lt_of_eq t.isLt N_2
  show cc2_transform_0 (cfg2.grid.coords t) = _
  unfold cc2_transform_0
  have e : (Scalar.addi (BitVec.ofNat 32 (cfg2.grid.coords t 0).val) 12#32 : BitVec 32).toNat = t.val + 12 := by
    rw [coord_val]
    show (BitVec.ofNat 32 t.val + 12#32).toNat = _
    rw [BitVec.toNat_add, BitVec.toNat_ofNat, BitVec.toNat_ofNat]; omega
  show ![(Scalar.addi (BitVec.ofNat 32 (cfg2.grid.coords t 0).val) 12#32 : BitVec 32).toNat, _] = _
  rw [e]; rfl
theorem index_1 : (cfg2.win 1).index t = ![0, t.val + 12] := by
  have ht : t.val < 8 := lt_of_lt_of_eq t.isLt N_2
  show cc2_transform_1 (cfg2.grid.coords t) = _
  unfold cc2_transform_1
  have e : (Scalar.addi (BitVec.ofNat 32 (cfg2.grid.coords t 0).val) 12#32 : BitVec 32).toNat = t.val + 12 := by
    rw [coord_val]
    show (BitVec.ofNat 32 t.val + 12#32).toNat = _
    rw [BitVec.toNat_add, BitVec.toNat_ofNat, BitVec.toNat_ofNat]; omega
  show ![_, (Scalar.addi (BitVec.ofNat 32 (cfg2.grid.coords t 0).val) 12#32 : BitVec 32).toNat] = _
  rw [e]; rfl
theorem index_2 : (cfg2.win 2).index t = ![0, 0] := rfl
theorem index_3 : (cfg2.win 3).index t = ![0, 0] := rfl
theorem index_4 : (cfg2.win 4).index t = ![t.val] := by
  have ht : t.val < 8 := lt_of_lt_of_eq t.isLt N_2
  show ![(BitVec.ofNat 32 (cfg2.grid.coords t 0).val).toNat] = _
  rw [coord_val, BitVec.toNat_ofNat, Nat.mod_eq_of_lt (by omega)]
theorem index_5 : (cfg2.win 5).index t = ![t.val] := index_4 t
theorem index_6 : (cfg2.win 6).index t = ![t.val] := index_4 t
theorem index_7 : (cfg2.win 7).index t = ![t.val] := index_4 t

theorem block_0 (Y : S8192x256.Idx → EReal) (h : blockAt V c 0 t Y) (j : Fin 8192) (k : Fin 256) (n : Fin 160000) (hn : n.val = 98304 + 8192 * t.val + j.val) :
    (Y (ix2 j k) : EReal) = featV V c (ix2 n k) := by
  obtain ⟨d, rfl⟩ := h
  obtain ⟨hj, e⟩ := fill_apply (cfg2.win 0) rfl t d (((cfg2.win 0).blk t).view.read (Elt Ideal) (arrV V c 0)) (ix2 j k) (fun a => by
    rw [index_0 t]
    match a with
    | ⟨0, _⟩ => show (t.val + 12) * 8192 + j.val < 160000; have := n.isLt; omega
    | ⟨1, _⟩ => show 0 * 256 + k.val < 256; have := k.isLt; omega)
  rw [e]
  refine congrArg (V c (Proc.devRef .tc main_arg1)) (funext fun a => Fin.ext ?_)
  refine (Pipeline.Window.rect_emb_val (cfg2.win 0) t _ a).trans ?_
  rw [index_0 t]
  match a with
  | ⟨0, _⟩ => show (t.val + 12) * 8192 + j.val = n.val; omega
  | ⟨1, _⟩ => show 0 * 256 + k.val = k.val; omega

theorem block_1 (Y : S3x8192.Idx → EReal) (h : blockAt V c 1 t Y) (j : Fin 8192) (k : Fin 3) (n : Fin 160000) (hn : n.val = 98304 + 8192 * t.val + j.val) :
    (Y (ix2 k j) : EReal) = posV V c (ix2 k n) := by
  obtain ⟨d, rfl⟩ := h
  obtain ⟨hj, e⟩ := fill_apply (cfg2.win 1) rfl t d (((cfg2.win 1).blk t).view.read (Elt Ideal) (arrV V c 1)) (ix2 k j) (fun a => by
    rw [index_1 t]
    match a with
    | ⟨0, _⟩ => show 0 * 3 + k.val < 3; have := k.isLt; omega
    | ⟨1, _⟩ => show (t.val + 12) * 8192 + j.val < 160000; have := n.isLt; omega)
  rw [e]
  refine congrArg (V c (Proc.devRef .tc main_v2)) (funext fun a => Fin.ext ?_)
  refine (Pipeline.Window.rect_emb_val (cfg2.win 1) t _ a).trans ?_
  rw [index_1 t]
  match a with
  | ⟨0, _⟩ => show 0 * 3 + k.val = k.val; omega
  | ⟨1, _⟩ => show (t.val + 12) * 8192 + j.val = n.val; omega

theorem block_2 (Y : S1x256.Idx → EReal) (h : blockAt V c 2 t Y) (k : Fin 256) : (Y (ix2 0 k) : EReal) = wV V c (ix2 0 k) := by
  obtain ⟨d, rfl⟩ := h
  obtain ⟨hj, e⟩ := fill_apply (cfg2.win 2) rfl t d (((cfg2.win 2).blk t).view.read (Elt Ideal) (arrV V c 2)) (ix2 0 k) (fun a => by
    rw [index_2 t]
    match a with
    | ⟨0, _⟩ => show 0 * 1 + 0 < 1; omega
    | ⟨1, _⟩ => show 0 * 256 + k.val < 256; have := k.isLt; omega)
  rw [e]
  refine congrArg (V c (Proc.devRef .tc main_arg3)) (funext fun a => Fin.ext ?_)
  refine (Pipeline.Window.rect_emb_val (cfg2.win 2) t _ a).trans ?_
  rw [index_2 t]
  match a with
  | ⟨0, _⟩ => show 0 * 1 + 0 = 0; omega
  | ⟨1, _⟩ => show 0 * 256 + k.val = k.val; omega

theorem block_3 (Y : S1x1.Idx → EReal) (h : blockAt V c 3 t Y) : (Y (ix2 0 0) : EReal) = biasV V c (ix2 0 0) := by
  obtain ⟨d, rfl⟩ := h
  obtain ⟨hj, e⟩ := fill_apply (cfg2.win 3) rfl t d (((cfg2.win 3).blk t).view.read (Elt Ideal) (arrV V c 3)) (ix2 0 0) (fun a => by
    rw [index_3 t]
    match a with
    | ⟨0, _⟩ => show 0 * 1 + 0 < 1; omega
    | ⟨1, _⟩ => show 0 * 1 + 0 < 1; omega)
  rw [e]
  refine congrArg (V c (Proc.devRef .tc main_v3)) (funext fun a => Fin.ext ?_)
  refine (Pipeline.Window.rect_emb_val (cfg2.win 3) t _ a).trans ?_
  rw [index_3 t]
  match a with
  | ⟨0, _⟩ => show 0 * 1 + 0 = 0; omega
  | ⟨1, _⟩ => show 0 * 1 + 0 = 0; omega

/-! ## The arrays at the end -/

/-- Atom `n`'s charge. -/
def chargeV (n : Fin 160000) : EReal := (∑ k : Fin 256, wV V c (ix2 0 k) * featV V c (ix2 n k)) + biasV V c (ix2 0 0)

/-- What the call's array `e` holds for its atom `n`: the charge or the charge times a coordinate, nothing past the last atom. -/
def atomV (e : Fin 4) (n : ℕ) : EReal :=
  if h : 98304 + n < 160000 then
    match e with
    | ⟨0, _⟩ => chargeV V c ⟨98304 + n, h⟩
    | ⟨k + 1, hk⟩ => posV V c (ix2 ⟨k, by omega⟩ ⟨98304 + n, h⟩) * chargeV V c ⟨98304 + n, h⟩
  else 0

theorem charge_block (Y0 : S8192x256.Idx → EReal) (Y2 : S1x256.Idx → EReal) (Y3 : S1x1.Idx → EReal) (h0 : blockAt V c 0 t Y0) (h2 : blockAt V c 2 t Y2) (h3 : blockAt V c 3 t Y3) (j : Fin 8192)
    (n : Fin 160000) (hn : n.val = 98304 + 8192 * t.val + j.val) :
    (∑ k : Fin 256, (Y2 (ix2 0 k) : EReal) * Y0 (ix2 j k)) + Y3 (ix2 0 0) = chargeV V c n := by
  unfold chargeV
  rw [block_3 V c t Y3 h3]
  congr 1
  exact Finset.sum_congr rfl fun k _ => by rw [block_2 V c t Y2 h2, block_0 V c t Y0 h0 j k n hn]

theorem outQ_apply (X) (h : outQ V c t X) (j : Fin 8192) : (X (ix1 j) : EReal) = atomV V c 0 (8192 * t.val + j.val) := by
  obtain ⟨Y0, Y2, Y3, h0, h2, h3, rfl⟩ := h
  rw [pay4_apply, charge_apply]
  unfold atomOf atomV
  rw [coord_val]
  by_cases hn : 98304 + 8192 * t.val + j.val < 160000
  · rw [if_pos hn, dif_pos (by omega)]
    exact charge_block V c t Y0 Y2 Y3 h0 h2 h3 j ⟨98304 + (8192 * t.val + j.val), by omega⟩ (by show 98304 + (8192 * t.val + j.val) = _; omega)
  · rw [if_neg hn, dif_neg (by omega)]

theorem out_apply (Y0 : S8192x256.Idx → EReal) (Y1 : S3x8192.Idx → EReal) (Y2 : S1x256.Idx → EReal) (Y3 : S1x1.Idx → EReal) (h0 : blockAt V c 0 t Y0) (h1 : blockAt V c 1 t Y1) (h2 : blockAt V c 2 t Y2) (h3 : blockAt V c 3 t Y3) (k : Fin 3) (j : Fin 8192) :
    k2_pay3 (F := Ideal) (cfg2.grid.coords t) Y2 Y0 Y3 Y1 (ix2 k j) = atomV V c k.succ (8192 * t.val + j.val) := by
  rw [part_apply]
  unfold atomOf atomV
  rw [coord_val]
  by_cases hn : 98304 + 8192 * t.val + j.val < 160000
  · rw [if_pos hn, dif_pos (by omega), block_1 V c t Y1 h1 j k ⟨98304 + (8192 * t.val + j.val), by omega⟩ (by show 98304 + (8192 * t.val + j.val) = _; omega),
      charge_block V c t Y0 Y2 Y3 h0 h2 h3 j ⟨98304 + (8192 * t.val + j.val), by omega⟩ (by show 98304 + (8192 * t.val + j.val) = _; omega)]
    rfl
  · rw [if_neg hn, dif_neg (by omega)]

theorem outX_apply (X) (h : outX V c t X) (j : Fin 8192) : (X (ix1 j) : EReal) = atomV V c 1 (8192 * t.val + j.val) := by
  obtain ⟨Y0, Y1, Y2, Y3, h0, h1, h2, h3, rfl⟩ := h
  rw [pay5_apply]; exact out_apply V c t Y0 Y1 Y2 Y3 h0 h1 h2 h3 0 j
theorem outY_apply (X) (h : outY V c t X) (j : Fin 8192) : (X (ix1 j) : EReal) = atomV V c 2 (8192 * t.val + j.val) := by
  obtain ⟨Y0, Y1, Y2, Y3, h0, h1, h2, h3, rfl⟩ := h
  rw [pay6_apply]; exact out_apply V c t Y0 Y1 Y2 Y3 h0 h1 h2 h3 1 j
theorem outZ_apply (X) (h : outZ V c t X) (j : Fin 8192) : (X (ix1 j) : EReal) = atomV V c 3 (8192 * t.val + j.val) := by
  obtain ⟨Y0, Y1, Y2, Y3, h0, h1, h2, h3, rfl⟩ := h
  rw [pay7_apply]; exact out_apply V c t Y0 Y1 Y2 Y3 h0 h1 h2 h3 2 j

variable (O : Dev nD → CellTallies nD τ sig (HIx 2)) (B : Dev nD → Set (SemLoc sig × HIx 2))

theorem in_block_4 (n : Fin 62464) : ∃ t : Fin cfg2.N, (ix1 n : S62464.Idx) ∈ ((cfg2.win 4).blk t).view.set := by
  have hn := n.isLt
  have ht : n.val / 8192 < cfg2.N := lt_of_lt_of_eq (show n.val / 8192 < 8 by omega) N_2.symm
  have hj := lt_xsize (cfg2.win 4) rfl ⟨n.val / 8192, ht⟩ (ix1 ⟨n.val % 8192, Nat.mod_lt _ (by decide)⟩) (fun a => by
    rw [index_4]
    match a with
    | ⟨0, _⟩ => show n.val / 8192 * 8192 + n.val % 8192 < 62464; omega)
  refine ⟨⟨n.val / 8192, ht⟩, Finset.mem_map.mpr ⟨fun a => ⟨_, hj a⟩, Finset.mem_univ _, ?_⟩⟩
  · funext a
    refine Fin.ext ((Pipeline.Window.rect_emb_val (cfg2.win 4) _ _ a).trans ?_)
    rw [index_4]
    match a with
    | ⟨0, _⟩ => show n.val / 8192 * 8192 + n.val % 8192 = n.val; omega

theorem arr_4 (G) (h : (rdat V O B c).ArrAt 4 cfg2.N G) (n : Fin 62464) : (G (ix1 n) : EReal) = atomV V c 0 n.val := by
  obtain ⟨t, ht⟩ := in_block_4 n
  refine arrAt_forall (rdat V O B c) 4 (fun i v => (v : EReal) = atomV V c 0 (i 0).val) ?_ cfg2.N G h t (ix1 n) t.isLt (flush2_4 t) ht
  rintro t X ⟨Y, -, hX⟩ y
  have hy : (y 0).val < 8192 := lt_of_lt_of_le (y 0).isLt ((cfg2.win 4).xsize_le (cfg2.grid.coords t) 0)
  have hx : (X ((cfg2.win 4).xinj (cfg2.grid.coords t) y) : EReal) = atomV V c 0 (8192 * t.val + (y 0).val) :=
    (congrArg (X : S8192.Idx → EReal) (show ((cfg2.win 4).xinj (cfg2.grid.coords t) y : S8192.Idx) = ix1 ⟨(y 0).val, hy⟩ from funext fun a => match a with | ⟨0, _⟩ => rfl)).trans (outQ_apply V c t X hX ⟨(y 0).val, hy⟩)
  refine hx.trans (congrArg (atomV V c 0) ?_)
  refine ((Pipeline.Window.rect_emb_val (cfg2.win 4) t y 0).trans ?_).symm
  rw [index_4]
  show t.val * 8192 + (y 0).val = _
  omega

theorem in_block_5 (n : Fin 62464) : ∃ t : Fin cfg2.N, (ix1 n : S62464.Idx) ∈ ((cfg2.win 5).blk t).view.set := by
  have hn := n.isLt
  have ht : n.val / 8192 < cfg2.N := lt_of_lt_of_eq (show n.val / 8192 < 8 by omega) N_2.symm
  have hj := lt_xsize (cfg2.win 5) rfl ⟨n.val / 8192, ht⟩ (ix1 ⟨n.val % 8192, Nat.mod_lt _ (by decide)⟩) (fun a => by
    rw [index_5]
    match a with
    | ⟨0, _⟩ => show n.val / 8192 * 8192 + n.val % 8192 < 62464; omega)
  refine ⟨⟨n.val / 8192, ht⟩, Finset.mem_map.mpr ⟨fun a => ⟨_, hj a⟩, Finset.mem_univ _, ?_⟩⟩
  · funext a
    refine Fin.ext ((Pipeline.Window.rect_emb_val (cfg2.win 5) _ _ a).trans ?_)
    rw [index_5]
    match a with
    | ⟨0, _⟩ => show n.val / 8192 * 8192 + n.val % 8192 = n.val; omega

theorem arr_5 (G) (h : (rdat V O B c).ArrAt 5 cfg2.N G) (n : Fin 62464) : (G (ix1 n) : EReal) = atomV V c 1 n.val := by
  obtain ⟨t, ht⟩ := in_block_5 n
  refine arrAt_forall (rdat V O B c) 5 (fun i v => (v : EReal) = atomV V c 1 (i 0).val) ?_ cfg2.N G h t (ix1 n) t.isLt (flush2_5 t) ht
  rintro t X ⟨Y, -, hX⟩ y
  have hy : (y 0).val < 8192 := lt_of_lt_of_le (y 0).isLt ((cfg2.win 5).xsize_le (cfg2.grid.coords t) 0)
  have hx : (X ((cfg2.win 5).xinj (cfg2.grid.coords t) y) : EReal) = atomV V c 1 (8192 * t.val + (y 0).val) :=
    (congrArg (X : S8192.Idx → EReal) (show ((cfg2.win 5).xinj (cfg2.grid.coords t) y : S8192.Idx) = ix1 ⟨(y 0).val, hy⟩ from funext fun a => match a with | ⟨0, _⟩ => rfl)).trans (outX_apply V c t X hX ⟨(y 0).val, hy⟩)
  refine hx.trans (congrArg (atomV V c 1) ?_)
  refine ((Pipeline.Window.rect_emb_val (cfg2.win 5) t y 0).trans ?_).symm
  rw [index_5]
  show t.val * 8192 + (y 0).val = _
  omega

theorem in_block_6 (n : Fin 62464) : ∃ t : Fin cfg2.N, (ix1 n : S62464.Idx) ∈ ((cfg2.win 6).blk t).view.set := by
  have hn := n.isLt
  have ht : n.val / 8192 < cfg2.N := lt_of_lt_of_eq (show n.val / 8192 < 8 by omega) N_2.symm
  have hj := lt_xsize (cfg2.win 6) rfl ⟨n.val / 8192, ht⟩ (ix1 ⟨n.val % 8192, Nat.mod_lt _ (by decide)⟩) (fun a => by
    rw [index_6]
    match a with
    | ⟨0, _⟩ => show n.val / 8192 * 8192 + n.val % 8192 < 62464; omega)
  refine ⟨⟨n.val / 8192, ht⟩, Finset.mem_map.mpr ⟨fun a => ⟨_, hj a⟩, Finset.mem_univ _, ?_⟩⟩
  · funext a
    refine Fin.ext ((Pipeline.Window.rect_emb_val (cfg2.win 6) _ _ a).trans ?_)
    rw [index_6]
    match a with
    | ⟨0, _⟩ => show n.val / 8192 * 8192 + n.val % 8192 = n.val; omega

theorem arr_6 (G) (h : (rdat V O B c).ArrAt 6 cfg2.N G) (n : Fin 62464) : (G (ix1 n) : EReal) = atomV V c 2 n.val := by
  obtain ⟨t, ht⟩ := in_block_6 n
  refine arrAt_forall (rdat V O B c) 6 (fun i v => (v : EReal) = atomV V c 2 (i 0).val) ?_ cfg2.N G h t (ix1 n) t.isLt (flush2_6 t) ht
  rintro t X ⟨Y, -, hX⟩ y
  have hy : (y 0).val < 8192 := lt_of_lt_of_le (y 0).isLt ((cfg2.win 6).xsize_le (cfg2.grid.coords t) 0)
  have hx : (X ((cfg2.win 6).xinj (cfg2.grid.coords t) y) : EReal) = atomV V c 2 (8192 * t.val + (y 0).val) :=
    (congrArg (X : S8192.Idx → EReal) (show ((cfg2.win 6).xinj (cfg2.grid.coords t) y : S8192.Idx) = ix1 ⟨(y 0).val, hy⟩ from funext fun a => match a with | ⟨0, _⟩ => rfl)).trans (outY_apply V c t X hX ⟨(y 0).val, hy⟩)
  refine hx.trans (congrArg (atomV V c 2) ?_)
  refine ((Pipeline.Window.rect_emb_val (cfg2.win 6) t y 0).trans ?_).symm
  rw [index_6]
  show t.val * 8192 + (y 0).val = _
  omega

theorem in_block_7 (n : Fin 62464) : ∃ t : Fin cfg2.N, (ix1 n : S62464.Idx) ∈ ((cfg2.win 7).blk t).view.set := by
  have hn := n.isLt
  have ht : n.val / 8192 < cfg2.N := lt_of_lt_of_eq (show n.val / 8192 < 8 by omega) N_2.symm
  have hj := lt_xsize (cfg2.win 7) rfl ⟨n.val / 8192, ht⟩ (ix1 ⟨n.val % 8192, Nat.mod_lt _ (by decide)⟩) (fun a => by
    rw [index_7]
    match a with
    | ⟨0, _⟩ => show n.val / 8192 * 8192 + n.val % 8192 < 62464; omega)
  refine ⟨⟨n.val / 8192, ht⟩, Finset.mem_map.mpr ⟨fun a => ⟨_, hj a⟩, Finset.mem_univ _, ?_⟩⟩
  · funext a
    refine Fin.ext ((Pipeline.Window.rect_emb_val (cfg2.win 7) _ _ a).trans ?_)
    rw [index_7]
    match a with
    | ⟨0, _⟩ => show n.val / 8192 * 8192 + n.val % 8192 = n.val; omega

theorem arr_7 (G) (h : (rdat V O B c).ArrAt 7 cfg2.N G) (n : Fin 62464) : (G (ix1 n) : EReal) = atomV V c 3 n.val := by
  obtain ⟨t, ht⟩ := in_block_7 n
  refine arrAt_forall (rdat V O B c) 7 (fun i v => (v : EReal) = atomV V c 3 (i 0).val) ?_ cfg2.N G h t (ix1 n) t.isLt (flush2_7 t) ht
  rintro t X ⟨Y, -, hX⟩ y
  have hy : (y 0).val < 8192 := lt_of_lt_of_le (y 0).isLt ((cfg2.win 7).xsize_le (cfg2.grid.coords t) 0)
  have hx : (X ((cfg2.win 7).xinj (cfg2.grid.coords t) y) : EReal) = atomV V c 3 (8192 * t.val + (y 0).val) :=
    (congrArg (X : S8192.Idx → EReal) (show ((cfg2.win 7).xinj (cfg2.grid.coords t) y : S8192.Idx) = ix1 ⟨(y 0).val, hy⟩ from funext fun a => match a with | ⟨0, _⟩ => rfl)).trans (outZ_apply V c t X hX ⟨(y 0).val, hy⟩)
  refine hx.trans (congrArg (atomV V c 3) ?_)
  refine ((Pipeline.Window.rect_emb_val (cfg2.win 7) t y 0).trans ?_).symm
  rw [index_7]
  show t.val * 8192 + (y 0).val = _
  omega

end Cert.Proof.Scatter.Two

end
-- ==== Proof.RunSums.lean ====
/-
  Sums over runs of equal numbers: each run's sum, taken at its last position, adds up to the sum
  over all positions. Everything here is about functions of natural numbers and real values.
-/
module

public import Mathlib.Data.EReal.Operations
public import Mathlib.Algebra.BigOperators.Intervals
public import Mathlib.Tactic.Abel

@[expose] public section

namespace Cert.Proof.RunSums

open Finset

/-- The first run end at or after `i`, below a position that is one. -/
theorem exists_end (E : ℕ → Prop) (N i : ℕ) (hi : i ≤ N) (hN : E N) : ∃ k, i ≤ k ∧ k ≤ N ∧ E k ∧ ∀ j, i ≤ j → j < k → ¬ E j := by
  classical
  have h : ∃ k, i ≤ k ∧ E k := ⟨N, hi, hN⟩
  refine ⟨Nat.find h, (Nat.find_spec h).1, Nat.find_min' h ⟨hi, hN⟩, (Nat.find_spec h).2, fun j hij hj hE => Nat.find_min h hj ⟨hij, hE⟩⟩

/-- Positions after a start, up to one with no start between, carry the start's number. -/
theorem same_number {α : Type} (id : ℕ → α) (s k : ℕ) (h : ∀ j, s < j → j ≤ k → id j = id (j - 1)) : ∀ i, s ≤ i → i ≤ k → id i = id s := by
  intro i
  induction i with
  | zero => intro hs _; rw [Nat.le_zero.mp hs]
  | succ i ih =>
    intro hs hk
    rcases Nat.eq_or_lt_of_le hs with e | hlt
    · rw [e]
    · rw [h (i + 1) hlt hk, Nat.add_sub_cancel]
      exact ih (Nat.lt_succ_iff.mp hlt) (Nat.le_of_succ_le hk)

/-- The runs' sums, each taken at its run's last position, are the sum over the positions. -/
theorem sum_runs (N : ℕ) (id : ℕ → ℕ) (st : ℕ → ℕ) (r : ℕ → ℝ) (t : ℕ)
    (hst : ∀ k ≤ N, st k ≤ k) (hs : ∀ k ≤ N, st k = 0 ∨ id (st k) ≠ id (st k - 1)) (hno : ∀ k ≤ N, ∀ j, st k < j → j ≤ k → id j = id (j - 1)) :
    (∑ k ∈ range (N + 1), if (k = N ∨ id k ≠ id (k + 1)) ∧ id k = t then (∑ i ∈ range (k + 1), r i) - ∑ i ∈ range (st k), r i else 0)
      = ∑ i ∈ range (N + 1), if id i = t then r i else 0 := by
  have key : ∀ k ∈ range (N + 1),
      (if (k = N ∨ id k ≠ id (k + 1)) ∧ id k = t then (∑ i ∈ range (k + 1), r i) - ∑ i ∈ range (st k), r i else 0)
        = ∑ i ∈ range (N + 1), if ((k = N ∨ id k ≠ id (k + 1)) ∧ id k = t) ∧ st k ≤ i ∧ i ≤ k then r i else 0 := by
    intro k hk
    have hkN : k ≤ N := Nat.lt_succ_iff.mp (mem_range.mp hk)
    by_cases h : (k = N ∨ id k ≠ id (k + 1)) ∧ id k = t
    · rw [if_pos h, ← sum_Ico_eq_sub _ ((hst k hkN).trans (Nat.le_succ k)), ← sum_filter]
      refine sum_congr ?_ fun _ _ => rfl
      ext i
      rw [mem_Ico, mem_filter, mem_range]
      constructor
      · intro hi; exact ⟨by omega, h, hi.1, by omega⟩
      · intro hi; exact ⟨hi.2.2.1, by have := hi.2.2.2; omega⟩
    · rw [if_neg h]
      exact (sum_eq_zero fun i _ => if_neg fun hh => h hh.1).symm
  rw [sum_congr rfl key, sum_comm]
  refine sum_congr rfl fun i hi => ?_
  have hiN : i ≤ N := Nat.lt_succ_iff.mp (mem_range.mp hi)
  obtain ⟨k₀, hik, hkN, hE, hmin⟩ := exists_end (fun k => k = N ∨ id k ≠ id (k + 1)) N i hiN (.inl rfl)
  -- the start of that end's run is not after `i`
  have hsi : st k₀ ≤ i := by
    by_contra hlt
    rcases hs k₀ hkN with h0 | hne
    · omega
    · have h1 := hst k₀ hkN
      refine hmin (st k₀ - 1) (by omega) (by omega) (.inr ?_)
      rw [show st k₀ - 1 + 1 = st k₀ by omega]; exact hne.symm
  have hid : id i = id k₀ := (same_number id _ _ (hno k₀ hkN) i hsi hik).trans (same_number id _ _ (hno k₀ hkN) k₀ (hst k₀ hkN) le_rfl).symm
  rw [sum_eq_single k₀]
  · by_cases ht : id i = t
    · rw [if_pos ht, if_pos ⟨⟨hE, hid.symm.trans ht⟩, hsi, hik⟩]
    · rw [if_neg ht, if_neg fun hh => ht (hid.trans hh.1.2)]
  · intro k hk hne
    have hkN' : k ≤ N := Nat.lt_succ_iff.mp (mem_range.mp hk)
    refine if_neg fun hh => ?_
    have hkE := hh.1.1
    rcases Nat.lt_or_gt_of_ne hne with hlt | hgt
    · exact hmin k hh.2.2 hlt hkE
    · -- `k₀` is an end strictly inside the run of `k`
      rcases hE with hE | hE
      · omega
      · exact hE (by have := hno k hkN' (k₀ + 1) (by have := hh.2.1; omega) (by omega); rw [this, Nat.add_sub_cancel])
  · intro h; exact absurd (mem_range.mpr (Nat.lt_succ_of_le hkN)) h

/-- A double sum over blocks is the sum over all. -/
theorem sum_blocks (f : ℕ → ℝ) (b : ℕ) : ∀ a : ℕ, (∑ w ∈ range a, ∑ i ∈ range b, f (b * w + i)) = ∑ i ∈ range (b * a), f i
  | 0 => by simp
  | a + 1 => by rw [sum_range_succ, sum_blocks f b a, Nat.mul_succ, sum_range_add]

theorem coe_sum (s : Finset ℕ) (f : ℕ → ℝ) : ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

end Cert.Proof.RunSums

end
-- ==== Proof.One.Values.lean ====
/-
  The kernel's values over the extended reals, at finite inputs: a chunk adds each run's sum to its
  segment, so a tile's accumulator is its atoms' segment sums, and the two cores' halves added are
  the segment sums of all atoms.
-/
module

public import proofs.«01_k».proof.Proof.One.Runs
public import proofs.«01_k».proof.Proof.RunSums
public import Idealize.ShloMosaic.PureOps.Ideal
public import Idealize.ShloMosaic.Lib.Pointwise

@[expose] public section

noncomputable section

namespace Cert.Proof.Scatter.One

open Cert.KernelIdeal Cert.KernelIdeal.Gen
open Idealize.ShloMosaic
open Cert.Proof.RunSums

/-! ## The masked scatter-add as a sum -/

theorem foldl_add {ι : Type} (l : List ι) (c : ι → S4096.Idx → EReal) (g : S4096.Idx → EReal) (j : S4096.Idx) :
    (l.foldl (fun g k => fun j => g j + c k j) g) j = g j + (l.map fun k => c k j).sum := by
  induction l generalizing g with
  | nil => simp
  | cons a l ih => rw [List.foldl_cons, ih, List.map_cons, List.sum_cons, add_assoc]

theorem scat_sum (a : S4096.Idx → EReal) (ix : IVec S16 32) (v : FVec Ideal S16 .f32) (mask : IVec S16 1) (j : S4096.Idx) :
    scat (F := Ideal) a ix v mask j = a j + ∑ k : Fin 16, if mask (lane k) = 1 ∧ (j 0).val = (ix (lane k)).toNat then v (lane k) else 0 := by
  have h : scat (F := Ideal) a ix v mask
      = (List.finRange 16).foldl (fun g k => fun j => g j + (if mask (lane k) = 1 ∧ (j 0).val = (ix (lane k)).toNat then v (lane k) else 0)) a := by
    unfold scat
    congr 1
    funext g k
    by_cases hm : mask (lane k) = 1
    · rw [if_pos hm]
      funext j
      by_cases hj : (j 0).val = (ix (lane k)).toNat
      · rw [if_pos hj, if_pos ⟨hm, hj⟩]; rfl
      · rw [if_neg hj, if_neg fun hh => hj hh.2, add_zero]
    · rw [if_neg hm]
      funext j
      rw [if_neg fun hh => hm hh.1, add_zero]
  rw [h, foldl_add (List.finRange 16) (fun k j => if mask (lane k) = 1 ∧ (j 0).val = (ix (lane k)).toNat then v (lane k) else 0), ← List.ofFn_eq_map, List.sum_ofFn]

/-! ## The prefix sums -/

theorem csum_apply (v : FVec Ideal S16 .f32) (f : ℕ → EReal) (hv : ∀ k : Fin 16, v (lane k) = f k.val) (k : Fin 16) :
    csum v (lane k) = ∑ i ∈ Finset.range (k.val + 1), f i := by
  have hix : ∀ k : Fin 16, v (ix1 k) = f k.val := fun k => (congrArg v (funext fun a => by rw [Fin.eq_zero a]; rfl)).trans (hv k)
  have h0 : v (ix1 0) = f 0 := hix 0
  have g0 : v (lane 0) = f 0 := hv 0
  have h1 : v (ix1 1) = f 1 := hix 1
  have g1 : v (lane 1) = f 1 := hv 1
  have h2 : v (ix1 2) = f 2 := hix 2
  have g2 : v (lane 2) = f 2 := hv 2
  have h3 : v (ix1 3) = f 3 := hix 3
  have g3 : v (lane 3) = f 3 := hv 3
  have h4 : v (ix1 4) = f 4 := hix 4
  have g4 : v (lane 4) = f 4 := hv 4
  have h5 : v (ix1 5) = f 5 := hix 5
  have g5 : v (lane 5) = f 5 := hv 5
  have h6 : v (ix1 6) = f 6 := hix 6
  have g6 : v (lane 6) = f 6 := hv 6
  have h7 : v (ix1 7) = f 7 := hix 7
  have g7 : v (lane 7) = f 7 := hv 7
  have h8 : v (ix1 8) = f 8 := hix 8
  have g8 : v (lane 8) = f 8 := hv 8
  have h9 : v (ix1 9) = f 9 := hix 9
  have g9 : v (lane 9) = f 9 := hv 9
  have h10 : v (ix1 10) = f 10 := hix 10
  have g10 : v (lane 10) = f 10 := hv 10
  have h11 : v (ix1 11) = f 11 := hix 11
  have g11 : v (lane 11) = f 11 := hv 11
  have h12 : v (ix1 12) = f 12 := hix 12
  have g12 : v (lane 12) = f 12 := hv 12
  have h13 : v (ix1 13) = f 13 := hix 13
  have g13 : v (lane 13) = f 13 := hv 13
  have h14 : v (ix1 14) = f 14 := hix 14
  have g14 : v (lane 14) = f 14 := hv 14
  have h15 : v (ix1 15) = f 15 := hix 15
  have g15 : v (lane 15) = f 15 := hv 15
  unfold csum k1_pay17
  fin_cases k
  all_goals
    pointwise
    simp only [Finset.sum_range_succ, Finset.sum_range_zero, zero_add, h0, g0, h1, g1, h2, g2, h3, g3, h4, g4, h5, g5, h6, g6, h7, g7, h8, g8, h9, g9, h10, g10, h11, g11, h12, g12, h13, g13, h14, g14, h15, g15]
    try abel

/-- Up to lane `k`, the part of its run: the prefix sum less the prefix sum before the run's start. -/
theorem runSum_apply (st : IVec S16 32) (v : FVec Ideal S16 .f32) (r : ℕ → ℝ) (hv : ∀ k : Fin 16, v (lane k) = ((r k.val : ℝ) : EReal)) (k : Fin 16)
    (s : ℕ) (hs : (st (lane k)).toNat = s) (hs' : s < 16) :
    runSum (F := Ideal) st v (lane k) = (((∑ i ∈ Finset.range (k.val + 1), r i) - ∑ i ∈ Finset.range s, r i : ℝ) : EReal) := by
  have hc := csum_apply v (fun i => ((r i : ℝ) : EReal)) hv
  have h1 : atStart (F := Ideal) st v (lane k) = ((∑ i ∈ Finset.range s, r i : ℝ) : EReal) := by
    have hm : (st (lane k)).toNat % 16 = s := by rw [hs]; exact Nat.mod_eq_of_lt hs'
    show esum (F := Ideal) v (lane ⟨(st (lane k)).toNat % 16, _⟩) = _
    rw [show (⟨(st (lane k)).toNat % 16, Nat.mod_lt _ (by decide)⟩ : Fin 16) = ⟨s, hs'⟩ from Fin.ext hm]
    show csum v (lane ⟨s, hs'⟩) - v (lane ⟨s, hs'⟩) = _
    rw [hc, hv, ← coe_sum, ← EReal.coe_sub, Finset.sum_range_succ, add_sub_cancel_right]
  show csum v (lane k) - atStart (F := Ideal) st v (lane k) = _
  rw [hc, h1, ← coe_sum, ← EReal.coe_sub]

/-! ## A chunk -/

/-- One component's scatter at its own slot: the sum of the chunk's atoms of that segment. -/
theorem scat_own (cur nxt prv : IVec S16 32) (id : ℕ → ℕ) (hcur : ∀ k : Fin 16, (cur (lane k)).toNat = id k.val) (hid : ∀ k : Fin 16, id k.val < 1024)
    (hnxt : ∀ k : Fin 16, k.val ≠ 15 → (nxt (lane k)).toNat = id (k.val + 1)) (hprv : ∀ k : Fin 16, k.val ≠ 0 → (prv (lane k)).toNat = id (k.val - 1))
    (v : FVec Ideal S16 .f32) (r : ℕ → ℝ) (hv : ∀ k : Fin 16, v (lane k) = ((r k.val : ℝ) : EReal)) (a : S4096.Idx → EReal)
    (c : ℕ) (hc : c < 4) (t : ℕ) (c' : ℕ) (hc' : c' < 4) (hn : 4 * t + c' < 4096) :
    scat (F := Ideal) a (slot (four (F := Ideal) cur) (BitVec.ofNat 32 c)) (runSum (F := Ideal) (runStart (F := Ideal) cur prv) v) (runEnd (F := Ideal) cur nxt) (at4 (4 * t + c') hn)
      = a (at4 (4 * t + c') hn) + ((if c' = c then ∑ i ∈ Finset.range 16, (if id i = t then r i else 0) else 0 : ℝ) : EReal) := by
  rw [scat_sum]
  congr 1
  have hslot : ∀ k : Fin 16, (slot (four (F := Ideal) cur) (BitVec.ofNat 32 c) (lane k)).toNat = 4 * id k.val + c := fun k => by
    rw [slot_toNat cur c hc (lane k) (by rw [hcur]; exact hid k), hcur]
  have hidx : ∀ k : Fin 16, ((at4 (4 * t + c') hn 0).val = (slot (four (F := Ideal) cur) (BitVec.ofNat 32 c) (lane k)).toNat) ↔ (c' = c ∧ id k.val = t) := fun k => by
    rw [hslot]; show 4 * t + c' = _ ↔ _; omega
  by_cases hcc : c' = c
  · rw [if_pos hcc]
    have hst := fun k : Fin 16 => startNat_spec cur prv k
    have hS : ∀ k : Fin 16, IsStart cur prv k ↔ (k.val = 0 ∨ id k.val ≠ id (k.val - 1)) := fun k => by
      unfold IsStart
      by_cases hk : k.val = 0
      · simp [hk]
      · rw [← hcur, ← hprv k hk, ne_eq, ne_eq, BitVec.toNat_inj]
    have hE : ∀ k : Fin 16, IsEnd cur nxt k ↔ (k.val = 15 ∨ id k.val ≠ id (k.val + 1)) := fun k => by
      unfold IsEnd
      by_cases hk : k.val = 15
      · simp [hk]
      · rw [← hcur, ← hnxt k hk, ne_eq, ne_eq, BitVec.toNat_inj]
    let st : ℕ → ℕ := fun k => if h : k < 16 then startNat cur prv ⟨k, h⟩ else 0
    have hstk : ∀ k : Fin 16, st k.val = startNat cur prv k := fun k => dif_pos k.isLt
    have hsum := sum_runs 15 id st r t
      (fun k hk => by rw [hstk ⟨k, by omega⟩]; exact startNat_le cur prv _)
      (fun k hk => by
        obtain ⟨s, h1, -, h2, -⟩ := hst ⟨k, by omega⟩
        rw [hstk ⟨k, by omega⟩, h1]; exact (hS s).mp h2)
      (fun k hk j hj hjk => by
        obtain ⟨s, h1, -, -, h3⟩ := hst ⟨k, by omega⟩
        rw [hstk ⟨k, by omega⟩, h1] at hj
        have := h3 ⟨j, by omega⟩ hj hjk
        rw [hS] at this
        by_contra hne
        exact this (.inr hne))
    rw [← hsum, coe_sum, ← Fin.sum_univ_eq_sum_range (fun k => (((if (k = 15 ∨ id k ≠ id (k + 1)) ∧ id k = t then (∑ i ∈ Finset.range (k + 1), r i) - ∑ i ∈ Finset.range (st k), r i else 0 : ℝ)) : EReal)) 16]
    refine Finset.sum_congr rfl fun k _ => ?_
    have hcond : (runEnd (F := Ideal) cur nxt (lane k) = 1 ∧ (at4 (4 * t + c') hn 0).val = (slot (four (F := Ideal) cur) (BitVec.ofNat 32 c) (lane k)).toNat)
        ↔ ((k.val = 15 ∨ id k.val ≠ id (k.val + 1)) ∧ id k.val = t) := by
      rw [runEnd_iff, hE, hidx]; exact and_congr_right fun _ => ⟨fun h => h.2, fun h => ⟨hcc, h⟩⟩
    by_cases h : (k.val = 15 ∨ id k.val ≠ id (k.val + 1)) ∧ id k.val = t
    · rw [if_pos (hcond.mpr h), if_pos h]
      exact runSum_apply _ v r hv k _ ((runStart_toNat cur prv k).trans (hstk k).symm) (by rw [hstk]; exact lt_of_le_of_lt (startNat_le cur prv k) k.isLt)
    · rw [if_neg fun hh => h (hcond.mp hh), if_neg h]; exact EReal.coe_zero.symm
  · rw [if_neg hcc, EReal.coe_zero]
    exact Finset.sum_eq_zero fun k _ => if_neg fun hh => hcc ((hidx k).mp hh.2).1

/-- A chunk adds to each entry its atoms of that segment. -/
theorem chunk_value (cur nxt prv : IVec S16 32) (id : ℕ → ℕ) (hcur : ∀ k : Fin 16, (cur (lane k)).toNat = id k.val) (hid : ∀ k : Fin 16, id k.val < 1024)
    (hnxt : ∀ k : Fin 16, k.val ≠ 15 → (nxt (lane k)).toNat = id (k.val + 1)) (hprv : ∀ k : Fin 16, k.val ≠ 0 → (prv (lane k)).toNat = id (k.val - 1))
    (v : Fin 4 → FVec Ideal S16 .f32) (r : Fin 4 → ℕ → ℝ) (hv : ∀ c, ∀ k : Fin 16, v c (lane k) = ((r c k.val : ℝ) : EReal)) (a : S4096.Idx → EReal)
    (t : ℕ) (c : Fin 4) (hn : 4 * t + c.val < 4096) :
    chunk (F := Ideal) (runEnd (F := Ideal) cur nxt) (runStart (F := Ideal) cur prv) (four (F := Ideal) cur) (v 0) (v 1) (v 2) (v 3) a (at4 (4 * t + c.val) hn)
      = a (at4 (4 * t + c.val) hn) + ((∑ i ∈ Finset.range 16, (if id i = t then r c i else 0) : ℝ) : EReal) := by
  unfold chunk
  rw [scat_own cur nxt prv id hcur hid hnxt hprv (v 3) (r 3) (hv 3) _ 3 (by decide) t c.val c.isLt hn,
    scat_own cur nxt prv id hcur hid hnxt hprv (v 2) (r 2) (hv 2) _ 2 (by decide) t c.val c.isLt hn,
    scat_own cur nxt prv id hcur hid hnxt hprv (v 1) (r 1) (hv 1) _ 1 (by decide) t c.val c.isLt hn,
    scat_own cur nxt prv id hcur hid hnxt hprv (v 0) (r 0) (hv 0) _ 0 (by decide) t c.val c.isLt hn]
  fin_cases c <;> simp

end Cert.Proof.Scatter.One

end
-- ==== Proof.One.Totals.lean ====
/-
  The sums the call computes, at the extended reals and for finite atoms: a tile's accumulator
  after each chunk, the sixteen tiles of a core, and the two cores — together the sum, per segment
  and component, over all the call's atoms of that segment.
-/
module

public import proofs.«01_k».proof.Proof.One.Values
public import proofs.«01_k».proof.Proof.One.Common

@[expose] public section

noncomputable section

namespace Cert.Proof.Scatter.One

open Cert.KernelIdeal Cert.KernelIdeal.Gen
open Idealize.ShloMosaic
open Cert.Proof.RunSums

theorem win_lane {α : Type} (g : S98304.Idx → α) (o : ℕ) (k : Fin 16) (n : ℕ) (h : n < 98304) (e : (o + k.val) % 98304 = n) :
    win g o (lane k) = g (atN n h) := by subst e; rfl

section

variable (ids : S98304.Idx → BitVec 32) (f : Fin 4 → S98304.Idx → EReal) (id : ℕ → ℕ) (r : Fin 4 → ℕ → ℝ)

/-- The arrays by number: `id n` is atom `n`'s segment, `r c n` its component `c`. -/
structure Atoms : Prop where
  lt : ∀ n, n < 98304 → id n < 1024
  ids_eq : ∀ n (h : n < 98304), (ids (atN n h)).toNat = id n
  f_eq : ∀ c n (h : n < 98304), f c (atN n h) = ((r c n : ℝ) : EReal)

variable {ids f id r}

/-- What atom `i` gives segment `t`'s component `c`. -/
abbrev part (id : ℕ → ℕ) (r : Fin 4 → ℕ → ℝ) (t : ℕ) (c : Fin 4) (i : ℕ) : ℝ := if id i = t then r c i else 0

theorem chunkAt_value (A : Atoms ids f id r) (C : ℕ) (hC : C < 6144) (a : S4096.Idx → EReal) (t : ℕ) (c : Fin 4) (hn : 4 * t + c.val < 4096) :
    chunkAt (F := Ideal) ids (f 0) (f 1) (f 2) (f 3) C a (at4 (4 * t + c.val) hn)
      = a (at4 (4 * t + c.val) hn) + ((∑ i ∈ Finset.range 16, part id r t c (16 * C + i) : ℝ) : EReal) := by
  have hb : ∀ k : Fin 16, 16 * C + k.val < 98304 := fun k => by have := k.isLt; omega
  refine chunk_value (win ids (16 * C)) (win ids (16 * C + 1)) (win ids (16 * C + 98303)) (fun i => id (16 * C + i)) ?_ ?_ ?_ ?_
    (fun c => win (f c) (16 * C)) (fun c i => r c (16 * C + i)) ?_ a t c hn
  · intro k
    rw [win_lane ids (16 * C) k (16 * C + k.val) (hb k) (Nat.mod_eq_of_lt (hb k)), A.ids_eq]
  · intro k; exact A.lt _ (hb k)
  · intro k hk
    have := k.isLt
    have h1 : 16 * C + (k.val + 1) < 98304 := by omega
    rw [win_lane ids (16 * C + 1) k (16 * C + (k.val + 1)) h1 (by omega), A.ids_eq]
  · intro k hk
    have := k.isLt
    have h1 : 16 * C + (k.val - 1) < 98304 := by omega
    rw [win_lane ids (16 * C + 98303) k (16 * C + (k.val - 1)) h1 (by omega), A.ids_eq]
  · intro c k
    rw [win_lane (f c) (16 * C) k (16 * C + k.val) (hb k) (Nat.mod_eq_of_lt (hb k)), A.f_eq]

theorem accN_value (A : Atoms ids f id r) (w : ℕ) (hw : w < 32) (t : ℕ) (c : Fin 4) (hn : 4 * t + c.val < 4096) (n : ℕ) (h : n ≤ 192) :
    accN (F := Ideal) ids (f 0) (f 1) (f 2) (f 3) w n (at4 (4 * t + c.val) hn)
      = ((∑ i ∈ Finset.range (16 * n), part id r t c (3072 * w + i) : ℝ) : EReal) := by
  induction n with
  | zero =>
    rw [Nat.mul_zero, Finset.sum_range_zero, EReal.coe_zero]
    show Ideal.ofBits .f32 0x00000000#32 = (0 : EReal)
    simp
  | succ n ih =>
    show chunkAt (F := Ideal) ids (f 0) (f 1) (f 2) (f 3) (192 * w + n) (accN (F := Ideal) ids (f 0) (f 1) (f 2) (f 3) w n) _ = _
    rw [chunkAt_value A _ (by omega), ih (by omega), ← EReal.coe_add, Nat.mul_succ, Finset.sum_range_add]
    have he : ∀ i, 16 * (192 * w + n) + i = 3072 * w + (16 * n + i) := fun i => by omega
    simp only [he]

theorem accT_value (A : Atoms ids f id r) (w : ℕ) (hw : w < 32) (t : ℕ) (c : Fin 4) (hn : 4 * t + c.val < 4096) :
    accT (F := Ideal) ids (f 0) (f 1) (f 2) (f 3) w (at4 (4 * t + c.val) hn)
      = ((∑ i ∈ Finset.range 3072, part id r t c (3072 * w + i) : ℝ) : EReal) :=
  accN_value A w hw t c hn 192 le_rfl

theorem colSum_coe (g : ℕ → ℝ) : colSum (F := Ideal) (fun k => ((g k.val : ℝ) : EReal)) = ((∑ k ∈ Finset.range 16, g k : ℝ) : EReal) := by
  rw [coe_sum]
  simp only [Finset.sum_range_succ, Finset.sum_range_zero, zero_add]
  rfl

end

variable {R : Dev nD → In Ideal → Prop} {id : ℕ → ℕ} {r : Fin 4 → ℕ → ℝ}

/-- A call's float arrays by component. -/
def comp (I : In Ideal) (c : Fin 4) : S98304.Idx → EReal :=
  match c with
  | ⟨0, _⟩ => I.q
  | ⟨1, _⟩ => I.x
  | ⟨2, _⟩ => I.y
  | ⟨3, _⟩ => I.z

/-- A core's row of the call's result, whenever every tile's arrays hold the same atoms. -/
theorem rout_value {d : Dev nD} (hA : ∀ I, R d I → Atoms I.ids (comp I) id r) (o : S2x4096.Idx → EReal) (co : Fin 2) (t : ℕ) (c : Fin 4) (hn : 4 * t + c.val < 4096)
    (h : Rout R d o (ix2 co ⟨4 * t + c.val, hn⟩)) :
    o (ix2 co ⟨4 * t + c.val, hn⟩)
      = ((∑ k ∈ Finset.range 16, ∑ i ∈ Finset.range 3072, part id r t c (3072 * (16 * co.val + k) + i) : ℝ) : EReal) := by
  obtain ⟨I, hI, e⟩ := h
  rw [e, ← colSum_coe]
  refine congrArg (colSum (F := Ideal)) (funext fun k => ?_)
  exact accT_value (hA (I k) (hI k)) (16 * co.val + k.val) (by have := k.isLt; have := co.isLt; omega) t c hn

/-- The two cores together: the sum over all the call's atoms of the segment. -/
theorem rows_value {d : Dev nD} (hA : ∀ I, R d I → Atoms I.ids (comp I) id r) (o : S2x4096.Idx → EReal) (h : ∀ i, Rout R d o i) (t : ℕ) (c : Fin 4) (hn : 4 * t + c.val < 4096) :
    o (ix2 0 ⟨4 * t + c.val, hn⟩) + o (ix2 1 ⟨4 * t + c.val, hn⟩) = ((∑ i ∈ Finset.range 98304, part id r t c i : ℝ) : EReal) := by
  rw [rout_value hA o 0 t c hn (h _), rout_value hA o 1 t c hn (h _), ← EReal.coe_add, ← sum_blocks (part id r t c) 3072 32,
    show (32 : ℕ) = 16 + 16 from rfl, Finset.sum_range_add]
  have e0 : ∀ k, 16 * (0 : Fin 2).val + k = k := fun k => by simp
  have e1 : ∀ k, 16 * (1 : Fin 2).val + k = 16 + k := fun k => by simp
  simp only [e0, e1]

end Cert.Proof.Scatter.One

end
-- ==== Proof.Two.Values.lean ====
/-
  The kernel's values over the extended reals, at finite inputs: a chunk adds each run's sum to its
  segment, so a tile's accumulator is its atoms' segment sums, and the two cores' halves added are
  the segment sums of all atoms.
-/
module

public import proofs.«01_k».proof.Proof.Two.Runs
public import proofs.«01_k».proof.Proof.RunSums
public import Idealize.ShloMosaic.PureOps.Ideal
public import Idealize.ShloMosaic.Lib.Pointwise

@[expose] public section

noncomputable section

namespace Cert.Proof.Scatter.Two

open Cert.KernelIdeal Cert.KernelIdeal.Gen
open Idealize.ShloMosaic
open Cert.Proof.RunSums

/-! ## The masked scatter-add as a sum -/

theorem foldl_add {ι : Type} (l : List ι) (c : ι → S4096.Idx → EReal) (g : S4096.Idx → EReal) (j : S4096.Idx) :
    (l.foldl (fun g k => fun j => g j + c k j) g) j = g j + (l.map fun k => c k j).sum := by
  induction l generalizing g with
  | nil => simp
  | cons a l ih => rw [List.foldl_cons, ih, List.map_cons, List.sum_cons, add_assoc]

theorem scat_sum (a : S4096.Idx → EReal) (ix : IVec S16 32) (v : FVec Ideal S16 .f32) (mask : IVec S16 1) (j : S4096.Idx) :
    scat (F := Ideal) a ix v mask j = a j + ∑ k : Fin 16, if mask (lane k) = 1 ∧ (j 0).val = (ix (lane k)).toNat then v (lane k) else 0 := by
  have h : scat (F := Ideal) a ix v mask
      = (List.finRange 16).foldl (fun g k => fun j => g j + (if mask (lane k) = 1 ∧ (j 0).val = (ix (lane k)).toNat then v (lane k) else 0)) a := by
    unfold scat
    congr 1
    funext g k
    by_cases hm : mask (lane k) = 1
    · rw [if_pos hm]
      funext j
      by_cases hj : (j 0).val = (ix (lane k)).toNat
      · rw [if_pos hj, if_pos ⟨hm, hj⟩]; rfl
      · rw [if_neg hj, if_neg fun hh => hj hh.2, add_zero]
    · rw [if_neg hm]
      funext j
      rw [if_neg fun hh => hm hh.1, add_zero]
  rw [h, foldl_add (List.finRange 16) (fun k j => if mask (lane k) = 1 ∧ (j 0).val = (ix (lane k)).toNat then v (lane k) else 0), ← List.ofFn_eq_map, List.sum_ofFn]

/-! ## The prefix sums -/

theorem csum_apply (v : FVec Ideal S16 .f32) (f : ℕ → EReal) (hv : ∀ k : Fin 16, v (lane k) = f k.val) (k : Fin 16) :
    csum v (lane k) = ∑ i ∈ Finset.range (k.val + 1), f i := by
  have hix : ∀ k : Fin 16, v (ix1 k) = f k.val := fun k => (congrArg v (funext fun a => by rw [Fin.eq_zero a]; rfl)).trans (hv k)
  have h0 : v (ix1 0) = f 0 := hix 0
  have g0 : v (lane 0) = f 0 := hv 0
  have h1 : v (ix1 1) = f 1 := hix 1
  have g1 : v (lane 1) = f 1 := hv 1
  have h2 : v (ix1 2) = f 2 := hix 2
  have g2 : v (lane 2) = f 2 := hv 2
  have h3 : v (ix1 3) = f 3 := hix 3
  have g3 : v (lane 3) = f 3 := hv 3
  have h4 : v (ix1 4) = f 4 := hix 4
  have g4 : v (lane 4) = f 4 := hv 4
  have h5 : v (ix1 5) = f 5 := hix 5
  have g5 : v (lane 5) = f 5 := hv 5
  have h6 : v (ix1 6) = f 6 := hix 6
  have g6 : v (lane 6) = f 6 := hv 6
  have h7 : v (ix1 7) = f 7 := hix 7
  have g7 : v (lane 7) = f 7 := hv 7
  have h8 : v (ix1 8) = f 8 := hix 8
  have g8 : v (lane 8) = f 8 := hv 8
  have h9 : v (ix1 9) = f 9 := hix 9
  have g9 : v (lane 9) = f 9 := hv 9
  have h10 : v (ix1 10) = f 10 := hix 10
  have g10 : v (lane 10) = f 10 := hv 10
  have h11 : v (ix1 11) = f 11 := hix 11
  have g11 : v (lane 11) = f 11 := hv 11
  have h12 : v (ix1 12) = f 12 := hix 12
  have g12 : v (lane 12) = f 12 := hv 12
  have h13 : v (ix1 13) = f 13 := hix 13
  have g13 : v (lane 13) = f 13 := hv 13
  have h14 : v (ix1 14) = f 14 := hix 14
  have g14 : v (lane 14) = f 14 := hv 14
  have h15 : v (ix1 15) = f 15 := hix 15
  have g15 : v (lane 15) = f 15 := hv 15
  unfold csum k3_pay17
  fin_cases k
  all_goals
    pointwise
    simp only [Finset.sum_range_succ, Finset.sum_range_zero, zero_add, h0, g0, h1, g1, h2, g2, h3, g3, h4, g4, h5, g5, h6, g6, h7, g7, h8, g8, h9, g9, h10, g10, h11, g11, h12, g12, h13, g13, h14, g14, h15, g15]
    try abel

/-- Up to lane `k`, the part of its run: the prefix sum less the prefix sum before the run's start. -/
theorem runSum_apply (st : IVec S16 32) (v : FVec Ideal S16 .f32) (r : ℕ → ℝ) (hv : ∀ k : Fin 16, v (lane k) = ((r k.val : ℝ) : EReal)) (k : Fin 16)
    (s : ℕ) (hs : (st (lane k)).toNat = s) (hs' : s < 16) :
    runSum (F := Ideal) st v (lane k) = (((∑ i ∈ Finset.range (k.val + 1), r i) - ∑ i ∈ Finset.range s, r i : ℝ) : EReal) := by
  have hc := csum_apply v (fun i => ((r i : ℝ) : EReal)) hv
  have h1 : atStart (F := Ideal) st v (lane k) = ((∑ i ∈ Finset.range s, r i : ℝ) : EReal) := by
    have hm : (st (lane k)).toNat % 16 = s := by rw [hs]; exact Nat.mod_eq_of_lt hs'
    show esum (F := Ideal) v (lane ⟨(st (lane k)).toNat % 16, _⟩) = _
    rw [show (⟨(st (lane k)).toNat % 16, Nat.mod_lt _ (by decide)⟩ : Fin 16) = ⟨s, hs'⟩ from Fin.ext hm]
    show csum v (lane ⟨s, hs'⟩) - v (lane ⟨s, hs'⟩) = _
    rw [hc, hv, ← coe_sum, ← EReal.coe_sub, Finset.sum_range_succ, add_sub_cancel_right]
  show csum v (lane k) - atStart (F := Ideal) st v (lane k) = _
  rw [hc, h1, ← coe_sum, ← EReal.coe_sub]

/-! ## A chunk -/

/-- One component's scatter at its own slot: the sum of the chunk's atoms of that segment. -/
theorem scat_own (cur nxt prv : IVec S16 32) (id : ℕ → ℕ) (hcur : ∀ k : Fin 16, (cur (lane k)).toNat = id k.val) (hid : ∀ k : Fin 16, id k.val < 1024)
    (hnxt : ∀ k : Fin 16, k.val ≠ 15 → (nxt (lane k)).toNat = id (k.val + 1)) (hprv : ∀ k : Fin 16, k.val ≠ 0 → (prv (lane k)).toNat = id (k.val - 1))
    (v : FVec Ideal S16 .f32) (r : ℕ → ℝ) (hv : ∀ k : Fin 16, v (lane k) = ((r k.val : ℝ) : EReal)) (a : S4096.Idx → EReal)
    (c : ℕ) (hc : c < 4) (t : ℕ) (c' : ℕ) (hc' : c' < 4) (hn : 4 * t + c' < 4096) :
    scat (F := Ideal) a (slot (four (F := Ideal) cur) (BitVec.ofNat 32 c)) (runSum (F := Ideal) (runStart (F := Ideal) cur prv) v) (runEnd (F := Ideal) cur nxt) (at4 (4 * t + c') hn)
      = a (at4 (4 * t + c') hn) + ((if c' = c then ∑ i ∈ Finset.range 16, (if id i = t then r i else 0) else 0 : ℝ) : EReal) := by
  rw [scat_sum]
  congr 1
  have hslot : ∀ k : Fin 16, (slot (four (F := Ideal) cur) (BitVec.ofNat 32 c) (lane k)).toNat = 4 * id k.val + c := fun k => by
    rw [slot_toNat cur c hc (lane k) (by rw [hcur]; exact hid k), hcur]
  have hidx : ∀ k : Fin 16, ((at4 (4 * t + c') hn 0).val = (slot (four (F := Ideal) cur) (BitVec.ofNat 32 c) (lane k)).toNat) ↔ (c' = c ∧ id k.val = t) := fun k => by
    rw [hslot]; show 4 * t + c' = _ ↔ _; omega
  by_cases hcc : c' = c
  · rw [if_pos hcc]
    have hst := fun k : Fin 16 => startNat_spec cur prv k
    have hS : ∀ k : Fin 16, IsStart cur prv k ↔ (k.val = 0 ∨ id k.val ≠ id (k.val - 1)) := fun k => by
      unfold IsStart
      by_cases hk : k.val = 0
      · simp [hk]
      · rw [← hcur, ← hprv k hk, ne_eq, ne_eq, BitVec.toNat_inj]
    have hE : ∀ k : Fin 16, IsEnd cur nxt k ↔ (k.val = 15 ∨ id k.val ≠ id (k.val + 1)) := fun k => by
      unfold IsEnd
      by_cases hk : k.val = 15
      · simp [hk]
      · rw [← hcur, ← hnxt k hk, ne_eq, ne_eq, BitVec.toNat_inj]
    let st : ℕ → ℕ := fun k => if h : k < 16 then startNat cur prv ⟨k, h⟩ else 0
    have hstk : ∀ k : Fin 16, st k.val = startNat cur prv k := fun k => dif_pos k.isLt
    have hsum := sum_runs 15 id st r t
      (fun k hk => by rw [hstk ⟨k, by omega⟩]; exact startNat_le cur prv _)
      (fun k hk => by
        obtain ⟨s, h1, -, h2, -⟩ := hst ⟨k, by omega⟩
        rw [hstk ⟨k, by omega⟩, h1]; exact (hS s).mp h2)
      (fun k hk j hj hjk => by
        obtain ⟨s, h1, -, -, h3⟩ := hst ⟨k, by omega⟩
        rw [hstk ⟨k, by omega⟩, h1] at hj
        have := h3 ⟨j, by omega⟩ hj hjk
        rw [hS] at this
        by_contra hne
        exact this (.inr hne))
    rw [← hsum, coe_sum, ← Fin.sum_univ_eq_sum_range (fun k => (((if (k = 15 ∨ id k ≠ id (k + 1)) ∧ id k = t then (∑ i ∈ Finset.range (k + 1), r i) - ∑ i ∈ Finset.range (st k), r i else 0 : ℝ)) : EReal)) 16]
    refine Finset.sum_congr rfl fun k _ => ?_
    have hcond : (runEnd (F := Ideal) cur nxt (lane k) = 1 ∧ (at4 (4 * t + c') hn 0).val = (slot (four (F := Ideal) cur) (BitVec.ofNat 32 c) (lane k)).toNat)
        ↔ ((k.val = 15 ∨ id k.val ≠ id (k.val + 1)) ∧ id k.val = t) := by
      rw [runEnd_iff, hE, hidx]; exact and_congr_right fun _ => ⟨fun h => h.2, fun h => ⟨hcc, h⟩⟩
    by_cases h : (k.val = 15 ∨ id k.val ≠ id (k.val + 1)) ∧ id k.val = t
    · rw [if_pos (hcond.mpr h), if_pos h]
      exact runSum_apply _ v r hv k _ ((runStart_toNat cur prv k).trans (hstk k).symm) (by rw [hstk]; exact lt_of_le_of_lt (startNat_le cur prv k) k.isLt)
    · rw [if_neg fun hh => h (hcond.mp hh), if_neg h]; exact EReal.coe_zero.symm
  · rw [if_neg hcc, EReal.coe_zero]
    exact Finset.sum_eq_zero fun k _ => if_neg fun hh => hcc ((hidx k).mp hh.2).1

/-- A chunk adds to each entry its atoms of that segment. -/
theorem chunk_value (cur nxt prv : IVec S16 32) (id : ℕ → ℕ) (hcur : ∀ k : Fin 16, (cur (lane k)).toNat = id k.val) (hid : ∀ k : Fin 16, id k.val < 1024)
    (hnxt : ∀ k : Fin 16, k.val ≠ 15 → (nxt (lane k)).toNat = id (k.val + 1)) (hprv : ∀ k : Fin 16, k.val ≠ 0 → (prv (lane k)).toNat = id (k.val - 1))
    (v : Fin 4 → FVec Ideal S16 .f32) (r : Fin 4 → ℕ → ℝ) (hv : ∀ c, ∀ k : Fin 16, v c (lane k) = ((r c k.val : ℝ) : EReal)) (a : S4096.Idx → EReal)
    (t : ℕ) (c : Fin 4) (hn : 4 * t + c.val < 4096) :
    chunk (F := Ideal) (runEnd (F := Ideal) cur nxt) (runStart (F := Ideal) cur prv) (four (F := Ideal) cur) (v 0) (v 1) (v 2) (v 3) a (at4 (4 * t + c.val) hn)
      = a (at4 (4 * t + c.val) hn) + ((∑ i ∈ Finset.range 16, (if id i = t then r c i else 0) : ℝ) : EReal) := by
  unfold chunk
  rw [scat_own cur nxt prv id hcur hid hnxt hprv (v 3) (r 3) (hv 3) _ 3 (by decide) t c.val c.isLt hn,
    scat_own cur nxt prv id hcur hid hnxt hprv (v 2) (r 2) (hv 2) _ 2 (by decide) t c.val c.isLt hn,
    scat_own cur nxt prv id hcur hid hnxt hprv (v 1) (r 1) (hv 1) _ 1 (by decide) t c.val c.isLt hn,
    scat_own cur nxt prv id hcur hid hnxt hprv (v 0) (r 0) (hv 0) _ 0 (by decide) t c.val c.isLt hn]
  fin_cases c <;> simp

end Cert.Proof.Scatter.Two

end
-- ==== Proof.Two.Totals.lean ====
/-
  The sums the call computes, at the extended reals and for finite atoms: a tile's accumulator
  after each chunk, the sixteen tiles of a core, and the two cores — together the sum, per segment
  and component, over all the call's atoms of that segment.
-/
module

public import proofs.«01_k».proof.Proof.Two.Values
public import proofs.«01_k».proof.Proof.Two.Common

@[expose] public section

noncomputable section

namespace Cert.Proof.Scatter.Two

open Cert.KernelIdeal Cert.KernelIdeal.Gen
open Idealize.ShloMosaic
open Cert.Proof.RunSums

theorem win_lane {α : Type} (g : S62464.Idx → α) (o : ℕ) (k : Fin 16) (n : ℕ) (h : n < 62464) (e : (o + k.val) % 62464 = n) :
    win g o (lane k) = g (atN n h) := by subst e; rfl

section

variable (ids : S62464.Idx → BitVec 32) (f : Fin 4 → S62464.Idx → EReal) (id : ℕ → ℕ) (r : Fin 4 → ℕ → ℝ)

/-- The arrays by number: `id n` is atom `n`'s segment, `r c n` its component `c`. -/
structure Atoms : Prop where
  lt : ∀ n, n < 62464 → id n < 1024
  ids_eq : ∀ n (h : n < 62464), (ids (atN n h)).toNat = id n
  f_eq : ∀ c n (h : n < 62464), f c (atN n h) = ((r c n : ℝ) : EReal)

variable {ids f id r}

/-- What atom `i` gives segment `t`'s component `c`. -/
abbrev part (id : ℕ → ℕ) (r : Fin 4 → ℕ → ℝ) (t : ℕ) (c : Fin 4) (i : ℕ) : ℝ := if id i = t then r c i else 0

theorem chunkAt_value (A : Atoms ids f id r) (C : ℕ) (hC : C < 3904) (a : S4096.Idx → EReal) (t : ℕ) (c : Fin 4) (hn : 4 * t + c.val < 4096) :
    chunkAt (F := Ideal) ids (f 0) (f 1) (f 2) (f 3) C a (at4 (4 * t + c.val) hn)
      = a (at4 (4 * t + c.val) hn) + ((∑ i ∈ Finset.range 16, part id r t c (16 * C + i) : ℝ) : EReal) := by
  have hb : ∀ k : Fin 16, 16 * C + k.val < 62464 := fun k => by have := k.isLt; omega
  refine chunk_value (win ids (16 * C)) (win ids (16 * C + 1)) (win ids (16 * C + 62463)) (fun i => id (16 * C + i)) ?_ ?_ ?_ ?_
    (fun c => win (f c) (16 * C)) (fun c i => r c (16 * C + i)) ?_ a t c hn
  · intro k
    rw [win_lane ids (16 * C) k (16 * C + k.val) (hb k) (Nat.mod_eq_of_lt (hb k)), A.ids_eq]
  · intro k; exact A.lt _ (hb k)
  · intro k hk
    have := k.isLt
    have h1 : 16 * C + (k.val + 1) < 62464 := by omega
    rw [win_lane ids (16 * C + 1) k (16 * C + (k.val + 1)) h1 (by omega), A.ids_eq]
  · intro k hk
    have := k.isLt
    have h1 : 16 * C + (k.val - 1) < 62464 := by omega
    rw [win_lane ids (16 * C + 62463) k (16 * C + (k.val - 1)) h1 (by omega), A.ids_eq]
  · intro c k
    rw [win_lane (f c) (16 * C) k (16 * C + k.val) (hb k) (Nat.mod_eq_of_lt (hb k)), A.f_eq]

theorem accN_value (A : Atoms ids f id r) (w : ℕ) (hw : w < 32) (t : ℕ) (c : Fin 4) (hn : 4 * t + c.val < 4096) (n : ℕ) (h : n ≤ 122) :
    accN (F := Ideal) ids (f 0) (f 1) (f 2) (f 3) w n (at4 (4 * t + c.val) hn)
      = ((∑ i ∈ Finset.range (16 * n), part id r t c (1952 * w + i) : ℝ) : EReal) := by
  induction n with
  | zero =>
    rw [Nat.mul_zero, Finset.sum_range_zero, EReal.coe_zero]
    show Ideal.ofBits .f32 0x00000000#32 = (0 : EReal)
    simp
  | succ n ih =>
    show chunkAt (F := Ideal) ids (f 0) (f 1) (f 2) (f 3) (122 * w + n) (accN (F := Ideal) ids (f 0) (f 1) (f 2) (f 3) w n) _ = _
    rw [chunkAt_value A _ (by omega), ih (by omega), ← EReal.coe_add, Nat.mul_succ, Finset.sum_range_add]
    have he : ∀ i, 16 * (122 * w + n) + i = 1952 * w + (16 * n + i) := fun i => by omega
    simp only [he]

theorem accT_value (A : Atoms ids f id r) (w : ℕ) (hw : w < 32) (t : ℕ) (c : Fin 4) (hn : 4 * t + c.val < 4096) :
    accT (F := Ideal) ids (f 0) (f 1) (f 2) (f 3) w (at4 (4 * t + c.val) hn)
      = ((∑ i ∈ Finset.range 1952, part id r t c (1952 * w + i) : ℝ) : EReal) :=
  accN_value A w hw t c hn 122 le_rfl

theorem colSum_coe (g : ℕ → ℝ) : colSum (F := Ideal) (fun k => ((g k.val : ℝ) : EReal)) = ((∑ k ∈ Finset.range 16, g k : ℝ) : EReal) := by
  rw [coe_sum]
  simp only [Finset.sum_range_succ, Finset.sum_range_zero, zero_add]
  rfl

end

variable {R : Dev nD → In Ideal → Prop} {id : ℕ → ℕ} {r : Fin 4 → ℕ → ℝ}

/-- A call's float arrays by component. -/
def comp (I : In Ideal) (c : Fin 4) : S62464.Idx → EReal :=
  match c with
  | ⟨0, _⟩ => I.q
  | ⟨1, _⟩ => I.x
  | ⟨2, _⟩ => I.y
  | ⟨3, _⟩ => I.z

/-- A core's row of the call's result, whenever every tile's arrays hold the same atoms. -/
theorem rout_value {d : Dev nD} (hA : ∀ I, R d I → Atoms I.ids (comp I) id r) (o : S2x4096.Idx → EReal) (co : Fin 2) (t : ℕ) (c : Fin 4) (hn : 4 * t + c.val < 4096)
    (h : Rout R d o (ix2 co ⟨4 * t + c.val, hn⟩)) :
    o (ix2 co ⟨4 * t + c.val, hn⟩)
      = ((∑ k ∈ Finset.range 16, ∑ i ∈ Finset.range 1952, part id r t c (1952 * (16 * co.val + k) + i) : ℝ) : EReal) := by
  obtain ⟨I, hI, e⟩ := h
  rw [e, ← colSum_coe]
  refine congrArg (colSum (F := Ideal)) (funext fun k => ?_)
  exact accT_value (hA (I k) (hI k)) (16 * co.val + k.val) (by have := k.isLt; have := co.isLt; omega) t c hn

/-- The two cores together: the sum over all the call's atoms of the segment. -/
theorem rows_value {d : Dev nD} (hA : ∀ I, R d I → Atoms I.ids (comp I) id r) (o : S2x4096.Idx → EReal) (h : ∀ i, Rout R d o i) (t : ℕ) (c : Fin 4) (hn : 4 * t + c.val < 4096) :
    o (ix2 0 ⟨4 * t + c.val, hn⟩) + o (ix2 1 ⟨4 * t + c.val, hn⟩) = ((∑ i ∈ Finset.range 62464, part id r t c i : ℝ) : EReal) := by
  rw [rout_value hA o 0 t c hn (h _), rout_value hA o 1 t c hn (h _), ← EReal.coe_add, ← sum_blocks (part id r t c) 1952 32,
    show (32 : ℕ) = 16 + 16 from rfl, Finset.sum_range_add]
  have e0 : ∀ k, 16 * (0 : Fin 2).val + k = k := fun k => by simp
  have e1 : ∀ k, 16 * (1 : Fin 2).val + k = 16 + k := fun k => by simp
  simp only [e0, e1]

end Cert.Proof.Scatter.Two

end
-- ==== Proof.Pre.lean ====
/-
  What the two preconditions say of the arrays: every segment number is below 1024 and, for the
  second, every float is the extended real of a real number.
-/
module

public import proofs.«01_k».proof.Proof.Gen.Pre_in_range
public import proofs.«01_k».proof.Proof.Gen.Pre_finite
public import Idealize.ShloMosaic.PureOps.Ideal
public import Idealize.ShloMosaic.Lib.ReduceAll
public import Idealize.ShloMosaic.Lib.Affine
public import Idealize.ShloMosaic.Lib.Pointwise

@[expose] public section

noncomputable section

namespace Cert.Proof.Pre

open Idealize.ShloMosaic

abbrev S160000 : Shape := ⟨1, ![160000]⟩
abbrev S160000x256 : Shape := ⟨2, ![160000, 256]⟩
abbrev S160000x3 : Shape := ⟨2, ![160000, 3]⟩
abbrev S1x256 : Shape := ⟨2, ![1, 256]⟩
abbrev S1 : Shape := ⟨1, ![1]⟩
abbrev S_ : Shape := ⟨0, ![]⟩

instance : Subsingleton S_.Idx := ⟨fun i j => funext fun a => a.elim0⟩

/-- A word between 0 and 1024, read signed, is below 1024 as a natural number. -/
theorem toNat_lt (x : BitVec 32) (h0 : IntOp.cmpi .sge x 0#32 = 1#1) (h1 : IntOp.cmpi .slt x 1024#32 = 1#1) : x.toNat < 1024 := by
  rw [IntOp.cmpi_sge] at h0
  rw [IntOp.cmpi_slt] at h1
  have e0 : (0#32 : BitVec 32).toInt = 0 := by decide
  have e1 : (1024#32 : BitVec 32).toInt = 1024 := by decide
  rw [e0] at h0
  rw [e1] at h1
  rw [BitVec.toInt_eq_toNat_cond] at h0 h1
  split at h0 <;> omega

theorem ids_lt (ids : S160000.Idx → BitVec 32) (hb : S_.BroadcastsInDim S160000 (![] : Fin 0 → Fin S160000.rank)) (hr : S160000.ReducesTo [0] S_) (h0 : 0 < S_.numel)
    (h : Host.reduce IntOp.andi (andi (cmpi .sge ids (broadcastInDim S160000 ![] hb (constantI S_ 32 0#32))) (cmpi .slt ids (broadcastInDim S160000 ![] hb (constantI S_ 32 1024#32))))
      (constantI S_ 1 1#1) hr h0 (fun a => a.elim0) = 1#1) (i : S160000.Idx) : (ids i).toNat < 1024 := by
  have hi := IntOp.andi_eq_one.mp (Host.reduce_andi_all _ _ hr h0 _ h i)
  exact toNat_lt _ hi.1 hi.2

theorem real_of_abs_lt (x : EReal) (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    by_contra hn
    have : Ideal.cmp .olt (max x (-x)) (⊤ : EReal) = 0#1 := by unfold Ideal.cmp; simp [hn]
    rw [this] at h
    exact absurd h (by decide)
  rw [max_lt_iff] at hlt
  refine ⟨x.toReal, (EReal.coe_toReal hlt.1.ne ?_).symm⟩
  rintro rfl
  exact absurd hlt.2 (by simp)

theorem real_of_all {s : Shape} {axes : List (Fin s.rank)} (x : s.Idx → EReal) (hb : S_.BroadcastsInDim s (![] : Fin 0 → Fin s.rank)) (hr : s.ReducesTo axes S_) (h0 : 0 < S_.numel)
    (h : Host.reduce IntOp.andi (cmpf (F := Ideal) .olt (Host.absf (F := Ideal) (φ := .f32) x) (broadcastInDim s ![] hb (constant (F := Ideal) S_ .f32 0x7F800000#32)))
      (constantI S_ 1 1#1) hr h0 (fun a => a.elim0) = 1#1) (i : s.Idx) : ∃ r : ℝ, x i = (r : EReal) :=
  real_of_abs_lt _ (Host.reduce_andi_all _ _ hr h0 _ h i)

theorem in_range_lt {F : FTy → Type} [FloatOps F] (ids : S160000.Idx → BitVec 32) (p : S160000x256.Idx → F .f32) (x : S160000x3.Idx → F .f32) (w : S1x256.Idx → F .f32) (b : S1.Idx → F .f32)
    (h : Cert.Pre_in_range.fn (F := F) ids p x w b = fun _ => 1#1) (i : S160000.Idx) : (ids i).toNat < 1024 := by
  have h' := congrFun h (fun a => a.elim0)
  dsimp only [Cert.Pre_in_range.fn] at h'
  exact ids_lt ids _ _ _ h' i

/-- Segment numbers in range and real floats. -/
structure Fine (ids : S160000.Idx → BitVec 32) (p : S160000x256.Idx → EReal) (x : S160000x3.Idx → EReal) (w : S1x256.Idx → EReal) (b : S1.Idx → EReal) : Prop where
  ids : ∀ i, (ids i).toNat < 1024
  p : ∀ i, ∃ r : ℝ, p i = (r : EReal)
  x : ∀ i, ∃ r : ℝ, x i = (r : EReal)
  w : ∀ i, ∃ r : ℝ, w i = (r : EReal)
  b : ∀ i, ∃ r : ℝ, b i = (r : EReal)

theorem finite_fine (ids : S160000.Idx → BitVec 32) (p : S160000x256.Idx → EReal) (x : S160000x3.Idx → EReal) (w : S1x256.Idx → EReal) (b : S1.Idx → EReal)
    (h : Cert.Pre_finite.fn (F := Ideal) ids p x w b = fun _ => 1#1) : Fine ids p x w b := by
  have h' := congrFun h (fun a => a.elim0)
  dsimp only [Cert.Pre_finite.fn, Cert.Pre_finite.fn_part1] at h'
  obtain ⟨h4, hb⟩ := IntOp.andi_eq_one.mp h'
  obtain ⟨h3, hw⟩ := IntOp.andi_eq_one.mp h4
  obtain ⟨h2, hx⟩ := IntOp.andi_eq_one.mp h3
  obtain ⟨hi, hp⟩ := IntOp.andi_eq_one.mp h2
  exact ⟨ids_lt ids _ _ _ hi, real_of_all p _ _ _ hp, real_of_all x _ _ _ hx, real_of_all w _ _ _ hw, real_of_all b _ _ _ hb⟩

end Cert.Proof.Pre

end
-- ==== Proof.Inputs.lean ====
/-
  What the two calls are handed, from the arguments: the segment numbers with the padding's behind
  them, and atom by atom the charge and the charge times each coordinate.
-/
module

public import proofs.«01_k».proof.Proof.Run
public import proofs.«01_k».proof.Proof.One.Block
public import proofs.«01_k».proof.Proof.Two.Block
public import proofs.«01_k».proof.Proof.One.Totals
public import proofs.«01_k».proof.Proof.Two.Totals
public import proofs.«01_k».proof.Proof.Pre

@[expose] public section

noncomputable section

namespace Cert.Proof.Scatter

open Cert.KernelIdeal Cert.KernelIdeal.Gen
open Idealize.ShloMosaic Idealize.SL.Sem

section Ids

variable {F : FTy → Type} [FloatOps F] (m : (ℓ : Loc nD τ sig) → Buf (Elt F) ℓ) (d : Dev nD)

/-- The segment numbers as given. -/
abbrev idsM : S160000.Idx → BitVec 32 := m (d, Proc.devRef .tc main_arg0)

theorem idsAll_eq : idsAll m d = concatenate S160768 0 [⟨S160000, idsM m d⟩, ⟨S768, broadcastInDim S768 ![] bcast_S_S768 (constantI S_ 32 1023#32)⟩] concatenates_S160000_S768_S160768_d0 := by
  show V₁ m d (Proc.devRef .tc main_v1) = _
  unfold V₁ opsA
  after_results

theorem idsAll_lt (n : Fin 160768) (h : n.val < 160000) : idsAll m d (ix1 n) = idsM m d (ix1 ⟨n.val, h⟩) := by
  rw [idsAll_eq]
  exact concatenate_pair_apply_left (t := S160768) (s₁ := S160000) (s₂ := S768) 0 _ _ _ (ix1 n) rfl (ix1 ⟨n.val, h⟩) (fun b => by match b with | ⟨0, _⟩ => rfl)

theorem idsAll_ge (n : Fin 160768) (h : 160000 ≤ n.val) : idsAll m d (ix1 n) = 1023#32 := by
  have hn := n.isLt
  rw [idsAll_eq]
  exact concatenate_pair_apply_right (t := S160768) (s₁ := S160000) (s₂ := S768) 0 _ _ _ (ix1 n) rfl rfl (ix1 (⟨n.val - 160000, by omega⟩ : Fin 768))
    (fun b hb => by match b with | ⟨0, _⟩ => exact absurd rfl hb) (by show n.val - 160000 + 160000 = n.val; omega)

/-- Atom `n`'s segment, the padding's for the numbers past the last atom. -/
def idN (n : ℕ) : ℕ := if h : n < 160000 then (idsM m d (ix1 ⟨n, h⟩)).toNat else 1023

theorem idsAll_toNat (n : Fin 160768) : (idsAll m d (ix1 n)).toNat = idN m d n.val := by
  unfold idN
  by_cases h : n.val < 160000
  · rw [dif_pos h, idsAll_lt m d n h]
  · rw [dif_neg h, idsAll_ge m d n (by omega)]; rfl

variable (hI : ∀ d i, (idsM m d i).toNat < 1024)

include hI in
theorem idN_lt (n : ℕ) : idN m d n < 1024 := by
  unfold idN
  by_cases h : n < 160000
  · rw [dif_pos h]; exact hI d _
  · rw [dif_neg h]; decide

theorem ids_one (I : One.In F) (h : R1 m d I) (n : Fin 98304) : (I.ids (ix1 n)).toNat = idN m d n.val := by
  have hn := n.isLt
  rw [h.1]
  refine Eq.trans (congrArg (fun i => (idsAll m d i).toNat) (?_ : _ = ix1 (⟨n.val, by omega⟩ : Fin 160768))) (idsAll_toNat m d _)
  exact funext fun a => Fin.ext (by match a with | ⟨0, _⟩ => show 0 + n.val = n.val; omega)

theorem ids_two (I : Two.In F) (h : R2 m d I) (n : Fin 62464) : (I.ids (ix1 n)).toNat = idN m d (98304 + n.val) := by
  have hn := n.isLt
  rw [h.1]
  refine Eq.trans (congrArg (fun i => (idsAll m d i).toNat) (?_ : _ = ix1 (⟨98304 + n.val, by omega⟩ : Fin 160768))) (idsAll_toNat m d _)
  exact funext fun a => Fin.ext (by match a with | ⟨0, _⟩ => show 98304 + n.val = 98304 + n.val; rfl)

include hI in
theorem preOK_one : One.PreOK (R1 m) := fun d I h i => by
  obtain ⟨n, rfl⟩ : ∃ n : Fin 98304, i = ix1 n := ⟨i 0, funext fun a => by rw [Fin.eq_zero a]; rfl⟩
  rw [ids_one m d I h n]; exact idN_lt m d hI _
include hI in
theorem preOK_two : Two.PreOK (R2 m) := fun d I h i => by
  obtain ⟨n, rfl⟩ : ∃ n : Fin 62464, i = ix1 n := ⟨i 0, funext fun a => by rw [Fin.eq_zero a]; rfl⟩
  rw [ids_two m d I h n]; exact idN_lt m d hI _

end Ids

section Atoms

variable (m : (ℓ : Loc nD τ sig) → Buf (Elt Ideal) ℓ) (d : Dev nD)

/-- The features, coordinates, weights and bias as given. -/
abbrev featM : S160000x256.Idx → EReal := m (d, Proc.devRef .tc main_arg1)
abbrev posM : S160000x3.Idx → EReal := m (d, Proc.devRef .tc main_arg2)
abbrev wM : S1x256.Idx → EReal := m (d, Proc.devRef .tc main_arg3)
abbrev biasM : S1.Idx → EReal := m (d, Proc.devRef .tc main_arg4)

theorem feat_eq : One.featV (V₁ m) d = featM m d := V₁_keep m d main_arg1 (by decide)
theorem w_eq : One.wV (V₁ m) d = wM m d := V₁_keep m d main_arg3 (by decide)
theorem pos_apply (n : Fin 160000) (k : Fin 3) : One.posV (V₁ m) d (ix2 k n) = posM m d (ix2 n k) := by
  have e : One.posV (V₁ m) d = transpose S3x160000 [1, 0] (posM m d) transposes_S160000x3_S3x160000_1_0 := by
    show V₁ m d (Proc.devRef .tc main_v2) = _
    unfold V₁ opsA
    after_results
  rw [e]
  pointwise
theorem bias_apply : One.biasV (V₁ m) d (ix2 0 0) = biasM m d (ix1 0) := by
  have e : One.biasV (V₁ m) d = shapeCast S1x1 (biasM m d) shapeCasts_S1_S1x1 := by
    show V₁ m d (Proc.devRef .tc main_v3) = _
    unfold V₁ opsA
    after_results
    rfl
  rw [e]
  pointwise

/-- Atom `n`'s charge from the arguments. -/
def chargeM (n : Fin 160000) : EReal := (∑ k : Fin 256, featM m d (ix2 n k) * wM m d (ix2 0 k)) + biasM m d (ix1 0)

theorem chargeV_eq (n : Fin 160000) : One.chargeV (V₁ m) d n = chargeM m d n := by
  unfold One.chargeV chargeM
  rw [bias_apply, feat_eq, w_eq]
  congr 1
  exact Finset.sum_congr rfl fun k _ => mul_comm _ _

theorem atom_charge (n : Fin 160000) : One.atomV (V₁ m) d 0 n.val = chargeM m d n := by
  have hn := n.isLt
  unfold One.atomV
  rw [dif_pos (by omega)]
  refine (chargeV_eq m d _).trans (congrArg (chargeM m d) (Fin.ext (by show 0 + n.val = n.val; omega)))

theorem atom_part (n : Fin 160000) (k : Fin 3) : One.atomV (V₁ m) d k.succ n.val = chargeM m d n * posM m d (ix2 n k) := by
  have hn := n.isLt
  have e : (⟨0 + n.val, by omega⟩ : Fin 160000) = n := Fin.ext (by show 0 + n.val = n.val; omega)
  unfold One.atomV
  rw [dif_pos (by omega)]
  show One.posV (V₁ m) d (ix2 k ⟨0 + n.val, _⟩) * One.chargeV (V₁ m) d ⟨0 + n.val, _⟩ = _
  rw [e, chargeV_eq, pos_apply, mul_comm]

theorem atom_past (c : Fin 4) (n : ℕ) (h : 160000 ≤ n) : One.atomV (V₁ m) d c n = 0 := by
  unfold One.atomV
  rw [dif_neg (by omega)]

theorem atom_two (c : Fin 4) (n : ℕ) : Two.atomV (V₁ m) d c n = One.atomV (V₁ m) d c (98304 + n) := by
  unfold One.atomV Two.atomV
  have e : 0 + (98304 + n) = 98304 + n := by omega
  by_cases h : 98304 + n < 160000
  · rw [dif_pos h, dif_pos (by omega)]
    simp only [e]
    rfl
  · rw [dif_neg h, dif_neg (by omega)]

/-- Real arguments, segment numbers in range. -/
abbrev Good : Prop := ∀ d, Pre.Fine (idsM m d) (featM m d) (posM m d) (wM m d) (biasM m d)

variable (hG : Good m)

include hG in
theorem charge_real (n : Fin 160000) : ∃ r : ℝ, chargeM m d n = (r : EReal) := by
  choose p hp using (hG d).p
  choose w hw using (hG d).w
  obtain ⟨b, hb⟩ := (hG d).b (ix1 0)
  refine ⟨(∑ k : Fin 256, p (ix2 n k) * w (ix2 0 k)) + b, ?_⟩
  unfold chargeM
  rw [hb, EReal.coe_add]
  congr 1
  have := fun k : Fin 256 => (congrArg₂ (· * ·) (hp (ix2 n k)) (hw (ix2 0 k))).trans (EReal.coe_mul _ _).symm
  rw [Finset.sum_congr rfl fun k _ => this k]
  exact (map_sum (⟨⟨Real.toEReal, EReal.coe_zero⟩, EReal.coe_add⟩ : ℝ →+ EReal) _ _).symm

/-- Component `c` of atom `n`, as a real number. -/
def rN (c : Fin 4) (n : ℕ) : ℝ := (One.atomV (V₁ m) d c n).toReal

include hG in
theorem atom_real (c : Fin 4) (n : ℕ) : One.atomV (V₁ m) d c n = ((rN m d c n : ℝ) : EReal) := by
  have : ∃ r : ℝ, One.atomV (V₁ m) d c n = (r : EReal) := by
    by_cases h : n < 160000
    · obtain ⟨q, hq⟩ := charge_real m d hG ⟨n, h⟩
      refine Fin.cases ?_ (fun k => ?_) c
      · exact ⟨q, (atom_charge m d ⟨n, h⟩).trans hq⟩
      · obtain ⟨x, hx⟩ := (hG d).x (ix2 ⟨n, h⟩ k)
        exact ⟨q * x, (atom_part m d ⟨n, h⟩ k).trans (by rw [hq, hx, EReal.coe_mul])⟩
    · exact ⟨0, (atom_past m d c n (by omega)).trans EReal.coe_zero.symm⟩
  obtain ⟨r, hr⟩ := this
  unfold rN
  rw [hr, EReal.toReal_coe]

theorem rN_past (c : Fin 4) (n : ℕ) (h : 160000 ≤ n) : rN m d c n = 0 := by
  unfold rN
  rw [atom_past m d c n h, EReal.toReal_zero]

theorem atN_one (n : ℕ) (h : n < 98304) : (One.atN n h : S98304.Idx) = ix1 ⟨n, h⟩ := funext fun a => Fin.ext (by rw [Fin.eq_zero a]; rfl)
theorem atN_two (n : ℕ) (h : n < 62464) : (Two.atN n h : S62464.Idx) = ix1 ⟨n, h⟩ := funext fun a => Fin.ext (by rw [Fin.eq_zero a]; rfl)

include hG in
theorem atoms_one (I : One.In Ideal) (h : R1 m d I) : One.Atoms I.ids (One.comp I) (idN m d) (rN m d) where
  lt n _ := idN_lt m d (fun d => (hG d).ids) n
  ids_eq n hn := by rw [atN_one]; exact ids_one m d I h ⟨n, hn⟩
  f_eq c n hn := by
    rw [atN_one, ← atom_real m d hG]
    match c with
    | ⟨0, _⟩ => exact One.arr_4 (V₁ m) d _ _ I.q h.2.1 ⟨n, hn⟩
    | ⟨1, _⟩ => exact One.arr_5 (V₁ m) d _ _ I.x h.2.2.1 ⟨n, hn⟩
    | ⟨2, _⟩ => exact One.arr_6 (V₁ m) d _ _ I.y h.2.2.2.1 ⟨n, hn⟩
    | ⟨3, _⟩ => exact One.arr_7 (V₁ m) d _ _ I.z h.2.2.2.2 ⟨n, hn⟩

include hG in
theorem atoms_two (I : Two.In Ideal) (h : R2 m d I) : Two.Atoms I.ids (Two.comp I) (fun n => idN m d (98304 + n)) (fun c n => rN m d c (98304 + n)) where
  lt n _ := idN_lt m d (fun d => (hG d).ids) _
  ids_eq n hn := by rw [atN_two]; exact ids_two m d I h ⟨n, hn⟩
  f_eq c n hn := by
    rw [atN_two, ← atom_real m d hG, ← atom_two]
    match c with
    | ⟨0, _⟩ => exact Two.arr_4 (V₁ m) d _ _ I.q h.2.1 ⟨n, hn⟩
    | ⟨1, _⟩ => exact Two.arr_5 (V₁ m) d _ _ I.x h.2.2.1 ⟨n, hn⟩
    | ⟨2, _⟩ => exact Two.arr_6 (V₁ m) d _ _ I.y h.2.2.2.1 ⟨n, hn⟩
    | ⟨3, _⟩ => exact Two.arr_7 (V₁ m) d _ _ I.z h.2.2.2.2 ⟨n, hn⟩

/-- What atom `n` gives segment `t`'s component `c`. -/
abbrev share (t : ℕ) (c : Fin 4) (n : ℕ) : ℝ := if idN m d n = t then rN m d c n else 0

include hG in
/-- The table's entry for a segment and component: the sum over all atoms. -/
theorem total_value (W : Valuation τ sig (Elt Ideal)) (hW : Rel m d W) (t : ℕ) (c : Fin 4) (hn : 4 * t + c.val < 4096) :
    (total (F := Ideal) (W (Proc.devRef .tc main_v6)) (W (Proc.devRef .tc main_v9)) ⟨4 * t + c.val, hn⟩ : EReal)
      = ((∑ n ∈ Finset.range 160000, share m d t c n : ℝ) : EReal) := by
  have e1 := One.rows_value (fun I h => atoms_one m d hG I h) (W (Proc.devRef .tc main_v6)) hW.1 t c hn
  have e2 := Two.rows_value (fun I h => atoms_two m d hG I h) (W (Proc.devRef .tc main_v9)) hW.2.1 t c hn
  have e0 : (Scalar.ofBits (F := Ideal) .f32 0x00000000#32 : EReal) = 0 := by
    show Ideal.ofBits .f32 0x00000000#32 = (0 : EReal)
    simp
  have ha : ∀ z a b a' b' : EReal, z = 0 → (((z + a) + b) + a') + b' = (a + b) + (a' + b') := fun z a b a' b' hz => by
    rw [hz, zero_add, add_assoc]
  refine (ha _ _ _ _ _ e0).trans ?_
  refine (congrArg₂ (· + ·) e1 e2).trans ?_
  rw [← EReal.coe_add]
  refine congrArg Real.toEReal ?_
  refine (Finset.sum_range_add (share m d t c) 98304 62464).symm.trans ?_
  refine (Finset.sum_range_add (share m d t c) 160000 768).trans ?_
  rw [Finset.sum_eq_zero (s := Finset.range 768) fun i _ => ?_, add_zero]
  show (if _ then rN m d c (160000 + i) else 0) = 0
  rw [rN_past m d c _ (by omega), ite_self]

end Atoms

end Cert.Proof.Scatter

end
-- ==== Proof.RefValue.lean ====
/-
  The reference's two results at an index, for segment numbers in range and real charges: the sum
  over all atoms of that segment. `Host.scatterAdd` at the extended reals is the operand plus the
  sum of the updates that land there.
-/
module

public import proofs.«01_k».proof.Proof.RunSums
public import Idealize.ShloMosaic.PureOps.Ideal
public import proofs.«01_k».proof.Proof.Gen.ReferenceIdeal.Run
public import Idealize.ShloMosaic.Lib.Routing.OpsPair
public import Idealize.ShloMosaic.Lib.Pointwise
public import Idealize.ShloMosaic.Lib.StackMember

@[expose] public section

noncomputable section

namespace Cert.Proof.RefValue

open Cert.ReferenceIdeal Cert.ReferenceIdeal.Gen
open Idealize.ShloMosaic
open Cert.Proof.RunSums
open Idealize.ShloMosaic.Routing (resultIdx?_ix1 resultIdx?_ix2)

/-- The segment numbers as the column the scatters read. -/
abbrev column (ids : S160000.Idx → BitVec 32) : IVec S160000x1 32 := broadcastInDim S160000x1 ![0] bcast_S160000_S160000x1_0 ids

theorem column_apply (ids : S160000.Idx → BitVec 32) (n : Fin 160000) (b : Fin 1) : column ids (ix2 n b) = ids (ix1 n) := by
  unfold column; pointwise

theorem toInt_of_lt (x : BitVec 32) (h : x.toNat < 1024) : x.toInt = (x.toNat : ℤ) := by
  rw [BitVec.toInt_eq_toNat_cond, if_pos (by omega)]

theorem lands1 (idx : IVec S160000x1 32) (n : Fin 160000) (t : Fin 1024) :
    scatter_S1024_S160000x1_S160000_n_0_0_1.resultIdx? (ix1 n) idx = some (ix1 t) ↔ (idx (ix2 n 0)).toInt = (t.val : ℤ) := by
  refine (resultIdx?_ix1 (N := 1024) _ (ix1 n) idx t).trans ?_
  have hw : scatter_S1024_S160000x1_S160000_n_0_0_1.window (ix1 n) (0 : Fin 1) = 0 := by
    unfold ScatterDims.window
    rw [dif_neg fun h => (of_decide_eq_true (List.mem_filter.1 h).2) List.mem_cons_self]
  have hi : ∀ c, scatter_S1024_S160000x1_S160000_n_0_0_1.siIdx (ix1 n) c = ix2 n 0 := fun c => by
    funext b
    match b with
    | ⟨0, _⟩ => rfl
    | ⟨1, _⟩ => exact Fin.ext (by have h := (scatter_S1024_S160000x1_S160000_n_0_0_1.siIdx (ix1 n) c ⟨1, by decide⟩).isLt; exact Nat.lt_one_iff.mp h)
  have hs : scatter_S1024_S160000x1_S160000_n_0_0_1.start (ix1 n) idx (0 : Fin 1) = (idx (ix2 n 0)).toInt := by
    unfold ScatterDims.start
    rw [dif_pos (show (0 : Fin 1) ∈ scatter_S1024_S160000x1_S160000_n_0_0_1.scatterDimsToOperandDims from List.mem_cons_self), hi]
  rw [hs, hw]; simp

theorem lands2 (idx : IVec S160000x1 32) (n : Fin 160000) (k : Fin 3) (t : Fin 1024) (c : Fin 3) :
    scatter_S1024x3_S160000x1_S160000x3_1_0_0_1.resultIdx? (ix2 n k) idx = some (ix2 t c) ↔ (idx (ix2 n 0)).toInt = (t.val : ℤ) ∧ k = c := by
  refine (resultIdx?_ix2 (R := 1024) (C := 3) _ (ix2 n k) idx t c).trans ?_
  have hw0 : scatter_S1024x3_S160000x1_S160000x3_1_0_0_1.window (ix2 n k) (0 : Fin 2) = 0 := by
    unfold ScatterDims.window
    rw [dif_neg fun h => (of_decide_eq_true (List.mem_filter.1 h).2) List.mem_cons_self]
  have hw1 : scatter_S1024x3_S160000x1_S160000x3_1_0_0_1.window (ix2 n k) (1 : Fin 2) = k.val := by
    unfold ScatterDims.window
    rw [dif_pos (show (1 : Fin 2) ∈ scatter_S1024x3_S160000x1_S160000x3_1_0_0_1.sKept by decide)]
    rfl
  have hi : ∀ c, scatter_S1024x3_S160000x1_S160000x3_1_0_0_1.siIdx (ix2 n k) c = ix2 n 0 := fun c => by
    funext b
    match b with
    | ⟨0, _⟩ => rfl
    | ⟨1, _⟩ => exact Fin.ext (by have h := (scatter_S1024x3_S160000x1_S160000x3_1_0_0_1.siIdx (ix2 n k) c ⟨1, by decide⟩).isLt; exact Nat.lt_one_iff.mp h)
  have hs0 : scatter_S1024x3_S160000x1_S160000x3_1_0_0_1.start (ix2 n k) idx (0 : Fin 2) = (idx (ix2 n 0)).toInt := by
    unfold ScatterDims.start
    rw [dif_pos (show (0 : Fin 2) ∈ scatter_S1024x3_S160000x1_S160000x3_1_0_0_1.scatterDimsToOperandDims from List.mem_cons_self), hi]
  have hs1 : scatter_S1024x3_S160000x1_S160000x3_1_0_0_1.start (ix2 n k) idx (1 : Fin 2) = 0 := by
    unfold ScatterDims.start
    rw [dif_neg (show (1 : Fin 2) ∉ scatter_S1024x3_S160000x1_S160000x3_1_0_0_1.scatterDimsToOperandDims by
      show (1 : Fin 2) ∉ [(0 : Fin 2)]
      decide)]
  rw [hs0, hs1, hw0, hw1]
  constructor
  · rintro ⟨h, h'⟩; exact ⟨by omega, Fin.ext (by omega)⟩
  · rintro ⟨h, rfl⟩; exact ⟨by omega, by omega⟩

/-- The host's scatter-add at an index: the operand's element and the updates that land there. -/
theorem scatterAdd_apply {s si u : Shape} (d : ScatterDims s si u) (x : FVec Ideal s .f32) (idx : IVec si 32) (upd : FVec Ideal u .f32) (i : s.Idx) :
    Host.scatterAdd (F := Ideal) d x idx upd i = (x i : EReal) + ∑ j : u.Idx, if d.resultIdx? j idx = some i then (upd j : EReal) else 0 := by
  rw [← Finset.sum_filter]; rfl

theorem zero_bits : (FloatOps.ofBits (F := Ideal) .f32 0x00000000#32 : EReal) = 0 := by
  show Ideal.ofBits .f32 0x00000000#32 = (0 : EReal)
  simp

theorem zeros1 (i : S1024.Idx) : (broadcastInDim S1024 ![] bcast_S_S1024 (constant (F := Ideal) S_ .f32 0x00000000#32) i : EReal) = 0 := zero_bits
theorem zeros2 (i : S1024x3.Idx) : (broadcastInDim S1024x3 ![] bcast_S_S1024x3 (constant (F := Ideal) S_ .f32 0x00000000#32) i : EReal) = 0 := zero_bits

section Sums

variable {ids : S160000.Idx → BitVec 32} {id : ℕ → ℕ} (hid : ∀ n : Fin 160000, (ids (ix1 n)).toNat = id n.val) (hlt : ∀ n : Fin 160000, (ids (ix1 n)).toNat < 1024)

include hid hlt in
theorem here (n : Fin 160000) (t : Fin 1024) : (column ids (ix2 n 0)).toInt = (t.val : ℤ) ↔ id n.val = t.val := by
  rw [column_apply, toInt_of_lt _ (hlt n), hid]; omega

/-- The sum over the atoms of a segment, as a sum over the atoms. -/
theorem sum_share (id : ℕ → ℕ) (r : ℕ → ℝ) (t : ℕ) :
    (∑ n : Fin 160000, if id n.val = t then ((r n.val : ℝ) : EReal) else 0) = ((∑ i ∈ Finset.range 160000, if id i = t then r i else 0 : ℝ) : EReal) := by
  rw [coe_sum, ← Fin.sum_univ_eq_sum_range (fun i => (((if id i = t then r i else 0 : ℝ)) : EReal)) 160000]
  refine Finset.sum_congr rfl fun n _ => ?_
  by_cases h : id n.val = t
  · rw [if_pos h, if_pos h]
  · rw [if_neg h, if_neg h, EReal.coe_zero]

include hid hlt in
theorem charge_sum (u : S160000.Idx → EReal) (r : ℕ → ℝ) (hu : ∀ n : Fin 160000, u (ix1 n) = ((r n.val : ℝ) : EReal)) (t : Fin 1024) :
    Host.scatterAdd (F := Ideal) scatter_S1024_S160000x1_S160000_n_0_0_1 (broadcastInDim S1024 ![] bcast_S_S1024 (constant S_ .f32 0x00000000#32)) (column ids) u (ix1 t)
      = ((∑ i ∈ Finset.range 160000, if id i = t.val then r i else 0 : ℝ) : EReal) := by
  rw [scatterAdd_apply, zeros1, zero_add, sum_idx1, ← sum_share]
  refine Finset.sum_congr rfl fun n _ => ?_
  rw [hu]
  exact if_congr ((lands1 _ n t).trans (here hid hlt n t)) rfl rfl

include hid hlt in
theorem dipole_sum (u : S160000x3.Idx → EReal) (c : Fin 3) (r : ℕ → ℝ) (hu : ∀ n : Fin 160000, u (ix2 n c) = ((r n.val : ℝ) : EReal)) (t : Fin 1024) :
    Host.scatterAdd (F := Ideal) scatter_S1024x3_S160000x1_S160000x3_1_0_0_1 (broadcastInDim S1024x3 ![] bcast_S_S1024x3 (constant S_ .f32 0x00000000#32)) (column ids) u (ix2 t c)
      = ((∑ i ∈ Finset.range 160000, if id i = t.val then r i else 0 : ℝ) : EReal) := by
  rw [scatterAdd_apply, zeros2, zero_add, sum_idx2, ← sum_share]
  refine Finset.sum_congr rfl fun n _ => ?_
  rw [Finset.sum_eq_single c]
  · rw [hu]
    exact if_congr ((lands2 _ n c t c).trans ⟨fun h => (here hid hlt n t).mp h.1, fun h => ⟨(here hid hlt n t).mpr h, rfl⟩⟩) rfl rfl
  · intro k _ hk
    exact if_neg fun h => hk ((lands2 _ n k t c).mp h).2
  · intro h; exact absurd (Finset.mem_univ c) h

end Sums

section Layer

variable (p : S160000x256.Idx → EReal) (w : S1x256.Idx → EReal) (b : S1.Idx → EReal) (x : S160000x3.Idx → EReal)

/-- The linear layer, a charge for each atom. -/
abbrev layer : S160000.Idx → EReal :=
  shapeCast _ (addf (F := Ideal) (φ := .f32) (Host.dotGeneral (F := Ideal) (φ₁ := .f32) (φ₂ := .f32) dot_S160000x256_S256x1_S160000x1_1_0_0_1_n_n none p (transpose S256x1 [1, 0] w transposes_S1x256_S256x1_1_0))
    (broadcastInDim S160000x1 ![0, 1] bcast_S1x1_S160000x1_0_1 (broadcastInDim S1x1 ![1] bcast_S1_S1x1_1 b))) shapeCasts_S160000x1_S160000
/-- Each charge times its atom's coordinates. -/
abbrev moments : S160000x3.Idx → EReal :=
  mulf (F := Ideal) (φ := .f32) (broadcastInDim S160000x3 ![0, 1] bcast_S160000x1_S160000x3_0_1 (broadcastInDim S160000x1 ![0] bcast_S160000_S160000x1_0 (layer p w b))) x

theorem dot_at (n : Fin 160000) (v : S256x1.Idx → EReal) :
    (Host.dotGeneral (F := Ideal) (φ₁ := .f32) (φ₂ := .f32) dot_S160000x256_S256x1_S160000x1_1_0_0_1_n_n none p v (ix2 n 0) : EReal) = ∑ k : Fin 256, p (ix2 n k) * v (ix2 k 0) :=
  StackMember.dotGeneral_plain_apply (m := 160000) (k := 256) (n := 1) (φ₁ := .f32) (φ₂ := .f32) none p v n 0

theorem layer_apply (n : Fin 160000) : layer p w b (ix1 n) = (∑ k : Fin 256, p (ix2 n k) * w (ix2 0 k)) + b (ix1 0) := by
  have e : layer p w b (ix1 n) = Host.dotGeneral (F := Ideal) (φ₁ := .f32) (φ₂ := .f32) dot_S160000x256_S256x1_S160000x1_1_0_0_1_n_n none p (transpose S256x1 [1, 0] w transposes_S1x256_S256x1_1_0) (ix2 n 0) + b (ix1 0) := by
    unfold layer
    pointwise
  rw [e, dot_at]
  congr 1
  refine Finset.sum_congr rfl fun k _ => ?_
  congr 1
  pointwise

theorem moments_apply (n : Fin 160000) (c : Fin 3) : moments p w b x (ix2 n c) = layer p w b (ix1 n) * x (ix2 n c) := by
  have e : (broadcastInDim S160000x3 ![0, 1] bcast_S160000x1_S160000x3_0_1 (broadcastInDim S160000x1 ![0] bcast_S160000_S160000x1_0 (layer p w b))) (ix2 n c) = layer p w b (ix1 n) := by
    generalize layer p w b = l
    pointwise
  rw [← e]; rfl

end Layer

end Cert.Proof.RefValue

end
-- ==== Proof.Value.lean ====
/-
  The kernel's two results are the reference's, for arguments in the second precondition.
-/
module

public import proofs.«01_k».proof.Proof.Inputs
public import proofs.«01_k».proof.Proof.RefValue

@[expose] public section

noncomputable section

namespace Cert.Proof.Value

open Idealize.ShloMosaic Idealize.SL.Sem
open Cert.Proof.Scatter Cert.Proof.RefValue

variable (m : (ℓ : Loc Cert.KernelIdeal.nD Cert.KernelIdeal.τ Cert.KernelIdeal.sig) → Buf (Elt Ideal) ℓ) (d : Dev Cert.KernelIdeal.nD) (hG : Good m)

/-- The segment sums of the charges and of the moments, from the arguments. -/
def charges : (⟨1, ![1024]⟩ : Shape).Idx → EReal := fun i => ((∑ n ∈ Finset.range 160000, share m d (i 0).val 0 n : ℝ) : EReal)
def dipoles : (⟨2, ![1024, 3]⟩ : Shape).Idx → EReal := fun i => ((∑ n ∈ Finset.range 160000, share m d (i 0).val (i 1).succ n : ℝ) : EReal)

include hG in
theorem kernel_charges (W : Valuation Cert.KernelIdeal.τ Cert.KernelIdeal.sig (Elt Ideal)) (hW : Rel m d W) :
    (StableHlo.after opsC W (Proc.devRef .tc Cert.KernelIdeal.main_v25) : (⟨1, ![1024]⟩ : Shape).Idx → EReal) = charges m d := by
  funext i
  have hi : (i 0).val < 1024 := (i 0).isLt
  refine (end_v25 (F := Ideal) W i).trans ?_
  refine Eq.trans ?_ (total_value m d hG W hW (i 0).val 0 (by show 4 * (i 0).val + 0 < 4096; omega))
  exact congrArg _ (Fin.ext (by show (i 0).val * 4 = 4 * (i 0).val + 0; omega))

include hG in
theorem kernel_dipoles (W : Valuation Cert.KernelIdeal.τ Cert.KernelIdeal.sig (Elt Ideal)) (hW : Rel m d W) :
    (StableHlo.after opsC W (Proc.devRef .tc Cert.KernelIdeal.main_v26) : (⟨2, ![1024, 3]⟩ : Shape).Idx → EReal) = dipoles m d := by
  funext i
  have hi : (i 0).val < 1024 := (i 0).isLt
  have hj : (i 1).val < 3 := (i 1).isLt
  refine (end_v26 (F := Ideal) W i).trans ?_
  refine Eq.trans ?_ (total_value m d hG W hW (i 0).val (i 1).succ (by show 4 * (i 0).val + ((i 1).val + 1) < 4096; omega))
  exact congrArg _ (Fin.ext (by show (i 0).val * 4 + (1 + (i 1).val) = 4 * (i 0).val + ((i 1).val + 1); omega))

theorem ids_at (n : Fin 160000) : (idsM m d (ix1 n)).toNat = idN m d n.val := by
  unfold idN
  rw [dif_pos n.isLt]

include hG in
theorem layer_real (n : Fin 160000) : layer (featM m d) (wM m d) (biasM m d) (ix1 n) = ((rN m d 0 n.val : ℝ) : EReal) := by
  rw [layer_apply, ← atom_real m d hG, atom_charge]
  rfl

include hG in
theorem moments_real (n : Fin 160000) (c : Fin 3) : moments (featM m d) (wM m d) (biasM m d) (posM m d) (ix2 n c) = ((rN m d c.succ n.val : ℝ) : EReal) := by
  rw [moments_apply, layer_apply, ← atom_real m d hG, atom_part]
  rfl

open Cert.ReferenceIdeal Cert.ReferenceIdeal.Gen in
include hG in
theorem ref_charges :
    Host.scatterAdd (F := Ideal) scatter_S1024_S160000x1_S160000_n_0_0_1 (broadcastInDim S1024 ![] bcast_S_S1024 (constant S_ .f32 0x00000000#32)) (column (idsM m d))
      (layer (featM m d) (wM m d) (biasM m d)) = charges m d := by
  funext i
  obtain ⟨t, rfl⟩ : ∃ t : Fin 1024, i = ix1 t := ⟨i 0, funext fun a => by rw [Fin.eq_zero a]; rfl⟩
  exact charge_sum (ids_at m d) (fun n => (hG d).ids _) _ (rN m d 0) (layer_real m d hG) t

open Cert.ReferenceIdeal Cert.ReferenceIdeal.Gen in
include hG in
theorem ref_dipoles :
    Host.scatterAdd (F := Ideal) scatter_S1024x3_S160000x1_S160000x3_1_0_0_1 (broadcastInDim S1024x3 ![] bcast_S_S1024x3 (constant S_ .f32 0x00000000#32)) (column (idsM m d))
      (moments (featM m d) (wM m d) (biasM m d) (posM m d)) = dipoles m d := by
  funext i
  obtain ⟨t, c, rfl⟩ : ∃ (t : Fin 1024) (c : Fin 3), i = ix2 t c := ⟨i 0, i 1, funext fun a => match a with | ⟨0, _⟩ => rfl | ⟨1, _⟩ => rfl⟩
  exact dipole_sum (ids_at m d) (fun n => (hG d).ids _) _ c (rN m d c.succ) (fun n => moments_real m d hG n c) t

end Cert.Proof.Value

end
-- ==== Proof.Same.lean ====
/-
  The procedures of the kernel as written, at the bits, are those of the kernel that the run is proved of.
-/
module

public import proofs.«01_k».proof.Proof.Gen.Kernel
public import proofs.«01_k».proof.Proof.Gen.KernelIdeal
public import Idealize.ShloMosaic.PureOps.BitExact

@[expose] public section

noncomputable section

namespace Cert.Proof.Scatter

open Idealize.ShloMosaic
open Cert.Kernel.Gen Cert.KernelIdeal.Gen

set_option maxHeartbeats 1000000 in
/-- The bodies of the calls, processor by processor and call by call, are the same in both. -/
theorem defs₀_eq : Cert.Kernel.defs₀ (F := Bits) = Cert.KernelIdeal.defs₀ (F := Bits) := by
  funext p ℓ a
  cases p with
  | tc =>
    match ℓ, a with
    | 0, (_, _) => rfl
    | 1, _ => rfl
    | 2, (_, _) => rfl
    | 3, _ => rfl
  | scScalar c =>
    match ℓ, a with
    | 0, _ => rfl
    | 1, _ => rfl
    | 2, _ => rfl
    | 3, _ => rfl
  | scVector c s =>
    match ℓ, a with
    | 0, _ => rfl
    | 1, _ => rfl
    | 2, _ => rfl
    | 3, _ => rfl

/-- So are the procedures with their pipelines and their launches. -/
theorem defs_eq : Cert.Kernel.defs (F := Bits) = Cert.KernelIdeal.defs (F := Bits) :=
  congrArg (fun D => Cert.KernelIdeal.sc.defs (Pipeline.defs Cert.KernelIdeal.pcfgs D)) defs₀_eq

end Cert.Proof.Scatter

end
-- ==== Proof.lean ====
/-
  The claims: the kernel's frame at the bits and at the extended reals, from one run
  (`Scatter.run_main`), the reference's frame, and the two results equal over the extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite
public import proofs.«01_k».proof.Proof.Value
public import proofs.«01_k».proof.Proof.Same
public import Idealize.ShloMosaic.Lib.QuiescentFlight
public import Idealize.ShloMosaic.Adequacy
public import Idealize.ShloMosaic.Init

@[expose] public section

noncomputable section

namespace Cert.Proof

open Idealize.ShloMosaic Idealize.SL.Sem
open Cert.Proof.Scatter

section

variable {F : FTy → Type} [FloatOps F] (m : (ℓ : Loc Cert.KernelIdeal.nD Cert.KernelIdeal.τ Cert.KernelIdeal.sig) → Buf (Elt F) ℓ)

/-- An argument ends as it began. -/
theorem arg_end {r : PUnit × MemSt Cert.KernelIdeal.nD Cert.KernelIdeal.τ Cert.KernelIdeal.sig (Elt F)} (h : QC m r) (d : Dev Cert.KernelIdeal.nD)
    (b : Ref Cert.KernelIdeal.sig .tc) (hb : Proc.devRef .tc b ∈ S₂)
    (ha : b ∈ [Cert.KernelIdeal.main_arg0, Cert.KernelIdeal.main_arg1, Cert.KernelIdeal.main_arg2, Cert.KernelIdeal.main_arg3, Cert.KernelIdeal.main_arg4]) :
    r.2.mem (d.tc.loc b) = m (d.tc.loc b) := by
  obtain ⟨W, hW, hm⟩ := h.1 d
  exact (hm (Proc.devRef .tc b) hb).trans (end_arg m d W hW b ha)

/-- All five. -/
theorem args_end {r : PUnit × MemSt Cert.KernelIdeal.nD Cert.KernelIdeal.τ Cert.KernelIdeal.sig (Elt F)} (h : QC m r) (d : Dev Cert.KernelIdeal.nD) :
    r.2.mem (d.tc.loc Cert.KernelIdeal.main_arg0) = m (d.tc.loc Cert.KernelIdeal.main_arg0)
      ∧ r.2.mem (d.tc.loc Cert.KernelIdeal.main_arg1) = m (d.tc.loc Cert.KernelIdeal.main_arg1)
      ∧ r.2.mem (d.tc.loc Cert.KernelIdeal.main_arg2) = m (d.tc.loc Cert.KernelIdeal.main_arg2)
      ∧ r.2.mem (d.tc.loc Cert.KernelIdeal.main_arg3) = m (d.tc.loc Cert.KernelIdeal.main_arg3)
      ∧ r.2.mem (d.tc.loc Cert.KernelIdeal.main_arg4) = m (d.tc.loc Cert.KernelIdeal.main_arg4) :=
  ⟨arg_end m h d _ (mem_S₂ _ (by decide) (by decide) (by decide)) (by decide), arg_end m h d _ (mem_S₂ _ (by decide) (by decide) (by decide)) (by decide),
    arg_end m h d _ (mem_S₂ _ (by decide) (by decide) (by decide)) (by decide), arg_end m h d _ (mem_S₂ _ (by decide) (by decide) (by decide)) (by decide),
    arg_end m h d _ (mem_S₂ _ (by decide) (by decide) (by decide)) (by decide)⟩

end

theorem frame_bits (m : (ℓ : Loc Cert.KernelIdeal.nD Cert.KernelIdeal.τ Cert.KernelIdeal.sig) → Buf (Elt Bits) ℓ) (ρ : Dev Cert.KernelIdeal.nD → PrngReg) (hI : ∀ d i, (idsM m d i).toNat < 1024) :
    θ_run (Cert.KernelIdeal.defs (F := Bits)) (Cert.KernelIdeal.threads (F := Bits)) ⟨m, fun _ => 0, ρ⟩ fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
      ∧ r.2.sem = fun _ => 0 :=
  (θ_run (Cert.KernelIdeal.defs (F := Bits)) _ _).mono (fun _ h => ⟨fun c => args_end m h c, h.2⟩)
    (run_main (F := Bits) m ρ (preOK_one m hI) (preOK_two m hI))

set_option maxHeartbeats 1000000 in
/-- The frame at the bits, as claimed. -/
theorem frame_kernel : Cert.quiescent_Kernel := fun m ρ hp => by
  rw [defs_eq]
  exact frame_bits m ρ fun d i => Pre.in_range_lt _ _ _ _ _ (hp d) i

/-- The frame at the extended reals, from segment numbers in range. -/
theorem frame_ideal (m : (ℓ : Loc Cert.KernelIdeal.nD Cert.KernelIdeal.τ Cert.KernelIdeal.sig) → Buf (Elt Ideal) ℓ) (ρ : Dev Cert.KernelIdeal.nD → PrngReg) (hI : ∀ d i, (idsM m d i).toNat < 1024) :
    θ_run (Cert.KernelIdeal.defs (F := Ideal)) (Cert.KernelIdeal.threads (F := Ideal)) ⟨m, fun _ => 0, ρ⟩ fun r =>
      (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4))
      ∧ r.2.sem = fun _ => 0 :=
  (θ_run (Cert.KernelIdeal.defs (F := Ideal)) _ _).mono (fun _ h => ⟨fun c => args_end m h c, h.2⟩)
    (run_main (F := Ideal) m ρ (preOK_one m hI) (preOK_two m hI))

theorem frame_kernelIdeal : Cert.quiescent_KernelIdeal := fun m ρ hp => frame_ideal m ρ fun d i => Pre.in_range_lt _ _ _ _ _ (hp d) i

theorem good (m : (ℓ : Loc Cert.KernelIdeal.nD Cert.KernelIdeal.τ Cert.KernelIdeal.sig) → Buf (Elt Ideal) ℓ) (hp : Cert.Pre_KernelIdeal_finite m) : Good m :=
  fun d => Pre.finite_fine _ _ _ _ _ (hp d)

theorem frame_kernelIdeal_finite : Cert.quiescent_KernelIdeal_pre_finite := fun m ρ hp => frame_ideal m ρ fun d => (good m hp d).ids

theorem frame_reference : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

theorem frame_reference_finite : Cert.quiescent_ReferenceIdeal_pre_finite := fun m ρ _ => frame_reference m ρ trivial

theorem value : Cert.algebraic_KernelIdeal_ReferenceIdeal_pre_finite := by
  intro m g m' g' hp hm
  have hG := good m hp
  refine ⟨fun c => Value.charges m c, fun c => Value.dipoles m c, ?_, ?_⟩
  · refine (θ_run (Cert.KernelIdeal.defs (F := Ideal)) _ _).mono (fun _ h c => ?_)
      (run_main (F := Ideal) m g (preOK_one m fun d => (hG d).ids) (preOK_two m fun d => (hG d).ids))
    obtain ⟨W, hW, hb⟩ := h.1 c
    exact ⟨(hb _ (mem_S₂ Cert.KernelIdeal.main_v25 (by decide) (by decide) (by decide))).trans (Value.kernel_charges m c hG W hW),
      (hb _ (mem_S₂ Cert.KernelIdeal.main_v26 (by decide) (by decide) (by decide))).trans (Value.kernel_dipoles m c hG W hW), args_end m h c⟩
  · refine (θ_run (Cert.ReferenceIdeal.defs (F := Ideal)) _ _).mono (fun r h c => ?_) (Cert.ReferenceIdeal.Value.run (F := Ideal) m' g')
    obtain ⟨h0, h1, ha⟩ := h c
    obtain ⟨e0, e1, e2, e3, e4⟩ := hm c
    refine ⟨h0.trans ?_, h1.trans ?_, ha⟩
    · rw [e0, e1, e3, e4]; exact Value.ref_charges m c hG
    · rw [e0, e1, e2, e3, e4]; exact Value.ref_dipoles m c hG

theorem claim : Cert.Claim := ⟨Cert.Kernel.Gen.facts, Cert.KernelIdeal.Gen.facts, Cert.ReferenceIdeal.Gen.facts, Cert.Pre_in_range.Gen.facts, Cert.Pre_finite.Gen.facts,
  frame_kernel, frame_kernelIdeal, frame_kernelIdeal_finite, frame_reference, frame_reference_finite, trivial, value⟩

end Cert.Proof

end
